-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_finite [hPre_gains_finite : Cert.Pre_gains_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gains_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_gains_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_finite [hPre_gains_finite : Cert.Pre_gains_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_gains_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_WtwoKernel (m : (ℓ : Loc Cert.WtwoKernel.nD Cert.WtwoKernel.τ Cert.WtwoKernel.sig) → Buf (Elt Bits) ℓ) : Prop :=
  True

def Pre_WtwoKernelIdeal (m : (ℓ : Loc Cert.WtwoKernelIdeal.nD Cert.WtwoKernelIdeal.τ Cert.WtwoKernelIdeal.sig) → Buf (Elt Ideal) ℓ) : Prop :=
  True

def Pre_WtwoReferenceIdeal (m : (ℓ : Loc Cert.WtwoReferenceIdeal.nD Cert.WtwoReferenceIdeal.τ Cert.WtwoReferenceIdeal.sig) → Buf (Elt Ideal) ℓ) : Prop :=
  True

def Pre_WoneKernel (m : (ℓ : Loc Cert.WoneKernel.nD Cert.WoneKernel.τ Cert.WoneKernel.sig) → Buf (Elt Bits) ℓ) : Prop :=
  True

def Pre_WoneKernelIdeal (m : (ℓ : Loc Cert.WoneKernelIdeal.nD Cert.WoneKernelIdeal.τ Cert.WoneKernelIdeal.sig) → Buf (Elt Ideal) ℓ) : Prop :=
  True

def Pre_WoneReferenceIdeal (m : (ℓ : Loc Cert.WoneReferenceIdeal.nD Cert.WoneReferenceIdeal.τ Cert.WoneReferenceIdeal.sig) → Buf (Elt Ideal) ℓ) : Prop :=
  True

def Pre_WcqKernel (m : (ℓ : Loc Cert.WcqKernel.nD Cert.WcqKernel.τ Cert.WcqKernel.sig) → Buf (Elt Bits) ℓ) : Prop :=
  True

def Pre_WcqKernelIdeal (m : (ℓ : Loc Cert.WcqKernelIdeal.nD Cert.WcqKernelIdeal.τ Cert.WcqKernelIdeal.sig) → Buf (Elt Ideal) ℓ) : Prop :=
  True

def Pre_WcqReferenceIdeal (m : (ℓ : Loc Cert.WcqReferenceIdeal.nD Cert.WcqReferenceIdeal.τ Cert.WcqReferenceIdeal.sig) → Buf (Elt Ideal) ℓ) : Prop :=
  True

def Pre_WcoKernel (m : (ℓ : Loc Cert.WcoKernel.nD Cert.WcoKernel.τ Cert.WcoKernel.sig) → Buf (Elt Bits) ℓ) : Prop :=
  True

def Pre_WcoKernelIdeal (m : (ℓ : Loc Cert.WcoKernelIdeal.nD Cert.WcoKernelIdeal.τ Cert.WcoKernelIdeal.sig) → Buf (Elt Ideal) ℓ) : Prop :=
  True

def Pre_WcoReferenceIdeal (m : (ℓ : Loc Cert.WcoReferenceIdeal.nD Cert.WcoReferenceIdeal.τ Cert.WcoReferenceIdeal.sig) → Buf (Elt Ideal) ℓ) : Prop :=
  True

def Pre_WckvKernel (m : (ℓ : Loc Cert.WckvKernel.nD Cert.WckvKernel.τ Cert.WckvKernel.sig) → Buf (Elt Bits) ℓ) : Prop :=
  True

def Pre_WckvKernelIdeal (m : (ℓ : Loc Cert.WckvKernelIdeal.nD Cert.WckvKernelIdeal.τ Cert.WckvKernelIdeal.sig) → Buf (Elt Ideal) ℓ) : Prop :=
  True

def Pre_WckvReferenceIdeal (m : (ℓ : Loc Cert.WckvReferenceIdeal.nD Cert.WckvReferenceIdeal.τ Cert.WckvReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_WoutKernel (m : (ℓ : Loc Cert.WoutKernel.nD Cert.WoutKernel.τ Cert.WoutKernel.sig) → Buf (Elt Bits) ℓ) : Prop :=
  True

def Pre_WoutKernelIdeal (m : (ℓ : Loc Cert.WoutKernelIdeal.nD Cert.WoutKernelIdeal.τ Cert.WoutKernelIdeal.sig) → Buf (Elt Ideal) ℓ) : Prop :=
  True

def Pre_WoutReferenceIdeal (m : (ℓ : Loc Cert.WoutReferenceIdeal.nD Cert.WoutReferenceIdeal.τ Cert.WoutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_gains_finite [hKernelIdeal : Cert.KernelIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_gains_finite [hReferenceIdeal : Cert.ReferenceIdeal.Facts] [hPre_gains_finite : Cert.Pre_gains_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4))
      ∧ r.2.sem = fun _ => 0)

def quiescent_WtwoKernel [hWtwoKernel : Cert.WtwoKernel.Facts] : Prop :=
  ∀ (m : (ℓ : Loc Cert.WtwoKernel.nD Cert.WtwoKernel.τ Cert.WtwoKernel.sig) → Buf (Elt Bits) ℓ) (g : Dev Cert.WtwoKernel.nD → PrngReg), Pre_WtwoKernel m →
    θ_run (Cert.WtwoKernel.defs (F := Bits)) (onTc (τ := Cert.WtwoKernel.τ) (Cert.WtwoKernel.main (F := Bits))) ⟨m, fun _ => 0, g⟩ (fun r => (∀ c : Dev Cert.WtwoKernel.nD,
      r.2.mem ((c.tc : Thread Cert.WtwoKernel.nD Cert.WtwoKernel.τ).loc Cert.WtwoKernel.main_arg0) = m ((c.tc : Thread Cert.WtwoKernel.nD Cert.WtwoKernel.τ).loc Cert.WtwoKernel.main_arg0)
      ∧ r.2.mem ((c.tc : Thread Cert.WtwoKernel.nD Cert.WtwoKernel.τ).loc Cert.WtwoKernel.main_arg1) = m ((c.tc : Thread Cert.WtwoKernel.nD Cert.WtwoKernel.τ).loc Cert.WtwoKernel.main_arg1))
      ∧ r.2.sem = fun _ => 0)

def quiescent_WtwoKernelIdeal [hWtwoKernelIdeal : Cert.WtwoKernelIdeal.Facts] : Prop :=
  ∀ (m : (ℓ : Loc Cert.WtwoKernelIdeal.nD Cert.WtwoKernelIdeal.τ Cert.WtwoKernelIdeal.sig) → Buf (Elt Ideal) ℓ) (g : Dev Cert.WtwoKernelIdeal.nD → PrngReg), Pre_WtwoKernelIdeal m →
    θ_run (Cert.WtwoKernelIdeal.defs (F := Ideal)) (onTc (τ := Cert.WtwoKernelIdeal.τ) (Cert.WtwoKernelIdeal.main (F := Ideal))) ⟨m, fun _ => 0, g⟩ (fun r => (∀ c : Dev Cert.WtwoKernelIdeal.nD,
      r.2.mem ((c.tc : Thread Cert.WtwoKernelIdeal.nD Cert.WtwoKernelIdeal.τ).loc Cert.WtwoKernelIdeal.main_arg0) = m ((c.tc : Thread Cert.WtwoKernelIdeal.nD Cert.WtwoKernelIdeal.τ).loc Cert.WtwoKernelIdeal.main_arg0)
      ∧ r.2.mem ((c.tc : Thread Cert.WtwoKernelIdeal.nD Cert.WtwoKernelIdeal.τ).loc Cert.WtwoKernelIdeal.main_arg1) = m ((c.tc : Thread Cert.WtwoKernelIdeal.nD Cert.WtwoKernelIdeal.τ).loc Cert.WtwoKernelIdeal.main_arg1))
      ∧ r.2.sem = fun _ => 0)

def quiescent_WtwoReferenceIdeal [hWtwoReferenceIdeal : Cert.WtwoReferenceIdeal.Facts] : Prop :=
  ∀ (m : (ℓ : Loc Cert.WtwoReferenceIdeal.nD Cert.WtwoReferenceIdeal.τ Cert.WtwoReferenceIdeal.sig) → Buf (Elt Ideal) ℓ) (g : Dev Cert.WtwoReferenceIdeal.nD → PrngReg), Pre_WtwoReferenceIdeal m →
    θ_run (Cert.WtwoReferenceIdeal.defs (F := Ideal)) (onTc (τ := Cert.WtwoReferenceIdeal.τ) (Cert.WtwoReferenceIdeal.main (F := Ideal))) ⟨m, fun _ => 0, g⟩ (fun r => (∀ c : Dev Cert.WtwoReferenceIdeal.nD,
      r.2.mem ((c.tc : Thread Cert.WtwoReferenceIdeal.nD Cert.WtwoReferenceIdeal.τ).loc Cert.WtwoReferenceIdeal.main_arg0) = m ((c.tc : Thread Cert.WtwoReferenceIdeal.nD Cert.WtwoReferenceIdeal.τ).loc Cert.WtwoReferenceIdeal.main_arg0)
      ∧ r.2.mem ((c.tc : Thread Cert.WtwoReferenceIdeal.nD Cert.WtwoReferenceIdeal.τ).loc Cert.WtwoReferenceIdeal.main_arg1) = m ((c.tc : Thread Cert.WtwoReferenceIdeal.nD Cert.WtwoReferenceIdeal.τ).loc Cert.WtwoReferenceIdeal.main_arg1))
      ∧ r.2.sem = fun _ => 0)

def quiescent_WoneKernel [hWoneKernel : Cert.WoneKernel.Facts] : Prop :=
  ∀ (m : (ℓ : Loc Cert.WoneKernel.nD Cert.WoneKernel.τ Cert.WoneKernel.sig) → Buf (Elt Bits) ℓ) (g : Dev Cert.WoneKernel.nD → PrngReg), Pre_WoneKernel m →
    θ_run (Cert.WoneKernel.defs (F := Bits)) (onTc (τ := Cert.WoneKernel.τ) (Cert.WoneKernel.main (F := Bits))) ⟨m, fun _ => 0, g⟩ (fun r => (∀ c : Dev Cert.WoneKernel.nD,
      r.2.mem ((c.tc : Thread Cert.WoneKernel.nD Cert.WoneKernel.τ).loc Cert.WoneKernel.main_arg0) = m ((c.tc : Thread Cert.WoneKernel.nD Cert.WoneKernel.τ).loc Cert.WoneKernel.main_arg0)
      ∧ r.2.mem ((c.tc : Thread Cert.WoneKernel.nD Cert.WoneKernel.τ).loc Cert.WoneKernel.main_arg1) = m ((c.tc : Thread Cert.WoneKernel.nD Cert.WoneKernel.τ).loc Cert.WoneKernel.main_arg1)
      ∧ r.2.mem ((c.tc : Thread Cert.WoneKernel.nD Cert.WoneKernel.τ).loc Cert.WoneKernel.main_arg2) = m ((c.tc : Thread Cert.WoneKernel.nD Cert.WoneKernel.τ).loc Cert.WoneKernel.main_arg2))
      ∧ r.2.sem = fun _ => 0)

def quiescent_WoneKernelIdeal [hWoneKernelIdeal : Cert.WoneKernelIdeal.Facts] : Prop :=
  ∀ (m : (ℓ : Loc Cert.WoneKernelIdeal.nD Cert.WoneKernelIdeal.τ Cert.WoneKernelIdeal.sig) → Buf (Elt Ideal) ℓ) (g : Dev Cert.WoneKernelIdeal.nD → PrngReg), Pre_WoneKernelIdeal m →
    θ_run (Cert.WoneKernelIdeal.defs (F := Ideal)) (onTc (τ := Cert.WoneKernelIdeal.τ) (Cert.WoneKernelIdeal.main (F := Ideal))) ⟨m, fun _ => 0, g⟩ (fun r => (∀ c : Dev Cert.WoneKernelIdeal.nD,
      r.2.mem ((c.tc : Thread Cert.WoneKernelIdeal.nD Cert.WoneKernelIdeal.τ).loc Cert.WoneKernelIdeal.main_arg0) = m ((c.tc : Thread Cert.WoneKernelIdeal.nD Cert.WoneKernelIdeal.τ).loc Cert.WoneKernelIdeal.main_arg0)
      ∧ r.2.mem ((c.tc : Thread Cert.WoneKernelIdeal.nD Cert.WoneKernelIdeal.τ).loc Cert.WoneKernelIdeal.main_arg1) = m ((c.tc : Thread Cert.WoneKernelIdeal.nD Cert.WoneKernelIdeal.τ).loc Cert.WoneKernelIdeal.main_arg1)
      ∧ r.2.mem ((c.tc : Thread Cert.WoneKernelIdeal.nD Cert.WoneKernelIdeal.τ).loc Cert.WoneKernelIdeal.main_arg2) = m ((c.tc : Thread Cert.WoneKernelIdeal.nD Cert.WoneKernelIdeal.τ).loc Cert.WoneKernelIdeal.main_arg2))
      ∧ r.2.sem = fun _ => 0)

def quiescent_WoneReferenceIdeal [hWoneReferenceIdeal : Cert.WoneReferenceIdeal.Facts] : Prop :=
  ∀ (m : (ℓ : Loc Cert.WoneReferenceIdeal.nD Cert.WoneReferenceIdeal.τ Cert.WoneReferenceIdeal.sig) → Buf (Elt Ideal) ℓ) (g : Dev Cert.WoneReferenceIdeal.nD → PrngReg), Pre_WoneReferenceIdeal m →
    θ_run (Cert.WoneReferenceIdeal.defs (F := Ideal)) (onTc (τ := Cert.WoneReferenceIdeal.τ) (Cert.WoneReferenceIdeal.main (F := Ideal))) ⟨m, fun _ => 0, g⟩ (fun r => (∀ c : Dev Cert.WoneReferenceIdeal.nD,
      r.2.mem ((c.tc : Thread Cert.WoneReferenceIdeal.nD Cert.WoneReferenceIdeal.τ).loc Cert.WoneReferenceIdeal.main_arg0) = m ((c.tc : Thread Cert.WoneReferenceIdeal.nD Cert.WoneReferenceIdeal.τ).loc Cert.WoneReferenceIdeal.main_arg0)
      ∧ r.2.mem ((c.tc : Thread Cert.WoneReferenceIdeal.nD Cert.WoneReferenceIdeal.τ).loc Cert.WoneReferenceIdeal.main_arg1) = m ((c.tc : Thread Cert.WoneReferenceIdeal.nD Cert.WoneReferenceIdeal.τ).loc Cert.WoneReferenceIdeal.main_arg1)
      ∧ r.2.mem ((c.tc : Thread Cert.WoneReferenceIdeal.nD Cert.WoneReferenceIdeal.τ).loc Cert.WoneReferenceIdeal.main_arg2) = m ((c.tc : Thread Cert.WoneReferenceIdeal.nD Cert.WoneReferenceIdeal.τ).loc Cert.WoneReferenceIdeal.main_arg2))
      ∧ r.2.sem = fun _ => 0)

def quiescent_WcqKernel [hWcqKernel : Cert.WcqKernel.Facts] : Prop :=
  ∀ (m : (ℓ : Loc Cert.WcqKernel.nD Cert.WcqKernel.τ Cert.WcqKernel.sig) → Buf (Elt Bits) ℓ) (g : Dev Cert.WcqKernel.nD → PrngReg), Pre_WcqKernel m →
    θ_run (Cert.WcqKernel.defs (F := Bits)) (onTc (τ := Cert.WcqKernel.τ) (Cert.WcqKernel.main (F := Bits))) ⟨m, fun _ => 0, g⟩ (fun r => (∀ c : Dev Cert.WcqKernel.nD,
      r.2.mem ((c.tc : Thread Cert.WcqKernel.nD Cert.WcqKernel.τ).loc Cert.WcqKernel.main_arg0) = m ((c.tc : Thread Cert.WcqKernel.nD Cert.WcqKernel.τ).loc Cert.WcqKernel.main_arg0)
      ∧ r.2.mem ((c.tc : Thread Cert.WcqKernel.nD Cert.WcqKernel.τ).loc Cert.WcqKernel.main_arg1) = m ((c.tc : Thread Cert.WcqKernel.nD Cert.WcqKernel.τ).loc Cert.WcqKernel.main_arg1)
      ∧ r.2.mem ((c.tc : Thread Cert.WcqKernel.nD Cert.WcqKernel.τ).loc Cert.WcqKernel.main_arg2) = m ((c.tc : Thread Cert.WcqKernel.nD Cert.WcqKernel.τ).loc Cert.WcqKernel.main_arg2))
      ∧ r.2.sem = fun _ => 0)

def quiescent_WcqKernelIdeal [hWcqKernelIdeal : Cert.WcqKernelIdeal.Facts] : Prop :=
  ∀ (m : (ℓ : Loc Cert.WcqKernelIdeal.nD Cert.WcqKernelIdeal.τ Cert.WcqKernelIdeal.sig) → Buf (Elt Ideal) ℓ) (g : Dev Cert.WcqKernelIdeal.nD → PrngReg), Pre_WcqKernelIdeal m →
    θ_run (Cert.WcqKernelIdeal.defs (F := Ideal)) (onTc (τ := Cert.WcqKernelIdeal.τ) (Cert.WcqKernelIdeal.main (F := Ideal))) ⟨m, fun _ => 0, g⟩ (fun r => (∀ c : Dev Cert.WcqKernelIdeal.nD,
      r.2.mem ((c.tc : Thread Cert.WcqKernelIdeal.nD Cert.WcqKernelIdeal.τ).loc Cert.WcqKernelIdeal.main_arg0) = m ((c.tc : Thread Cert.WcqKernelIdeal.nD Cert.WcqKernelIdeal.τ).loc Cert.WcqKernelIdeal.main_arg0)
      ∧ r.2.mem ((c.tc : Thread Cert.WcqKernelIdeal.nD Cert.WcqKernelIdeal.τ).loc Cert.WcqKernelIdeal.main_arg1) = m ((c.tc : Thread Cert.WcqKernelIdeal.nD Cert.WcqKernelIdeal.τ).loc Cert.WcqKernelIdeal.main_arg1)
      ∧ r.2.mem ((c.tc : Thread Cert.WcqKernelIdeal.nD Cert.WcqKernelIdeal.τ).loc Cert.WcqKernelIdeal.main_arg2) = m ((c.tc : Thread Cert.WcqKernelIdeal.nD Cert.WcqKernelIdeal.τ).loc Cert.WcqKernelIdeal.main_arg2))
      ∧ r.2.sem = fun _ => 0)

def quiescent_WcqReferenceIdeal [hWcqReferenceIdeal : Cert.WcqReferenceIdeal.Facts] : Prop :=
  ∀ (m : (ℓ : Loc Cert.WcqReferenceIdeal.nD Cert.WcqReferenceIdeal.τ Cert.WcqReferenceIdeal.sig) → Buf (Elt Ideal) ℓ) (g : Dev Cert.WcqReferenceIdeal.nD → PrngReg), Pre_WcqReferenceIdeal m →
    θ_run (Cert.WcqReferenceIdeal.defs (F := Ideal)) (onTc (τ := Cert.WcqReferenceIdeal.τ) (Cert.WcqReferenceIdeal.main (F := Ideal))) ⟨m, fun _ => 0, g⟩ (fun r => (∀ c : Dev Cert.WcqReferenceIdeal.nD,
      r.2.mem ((c.tc : Thread Cert.WcqReferenceIdeal.nD Cert.WcqReferenceIdeal.τ).loc Cert.WcqReferenceIdeal.main_arg0) = m ((c.tc : Thread Cert.WcqReferenceIdeal.nD Cert.WcqReferenceIdeal.τ).loc Cert.WcqReferenceIdeal.main_arg0)
      ∧ r.2.mem ((c.tc : Thread Cert.WcqReferenceIdeal.nD Cert.WcqReferenceIdeal.τ).loc Cert.WcqReferenceIdeal.main_arg1) = m ((c.tc : Thread Cert.WcqReferenceIdeal.nD Cert.WcqReferenceIdeal.τ).loc Cert.WcqReferenceIdeal.main_arg1)
      ∧ r.2.mem ((c.tc : Thread Cert.WcqReferenceIdeal.nD Cert.WcqReferenceIdeal.τ).loc Cert.WcqReferenceIdeal.main_arg2) = m ((c.tc : Thread Cert.WcqReferenceIdeal.nD Cert.WcqReferenceIdeal.τ).loc Cert.WcqReferenceIdeal.main_arg2))
      ∧ r.2.sem = fun _ => 0)

def quiescent_WcoKernel [hWcoKernel : Cert.WcoKernel.Facts] : Prop :=
  ∀ (m : (ℓ : Loc Cert.WcoKernel.nD Cert.WcoKernel.τ Cert.WcoKernel.sig) → Buf (Elt Bits) ℓ) (g : Dev Cert.WcoKernel.nD → PrngReg), Pre_WcoKernel m →
    θ_run (Cert.WcoKernel.defs (F := Bits)) (onTc (τ := Cert.WcoKernel.τ) (Cert.WcoKernel.main (F := Bits))) ⟨m, fun _ => 0, g⟩ (fun r => (∀ c : Dev Cert.WcoKernel.nD,
      r.2.mem ((c.tc : Thread Cert.WcoKernel.nD Cert.WcoKernel.τ).loc Cert.WcoKernel.main_arg0) = m ((c.tc : Thread Cert.WcoKernel.nD Cert.WcoKernel.τ).loc Cert.WcoKernel.main_arg0)
      ∧ r.2.mem ((c.tc : Thread Cert.WcoKernel.nD Cert.WcoKernel.τ).loc Cert.WcoKernel.main_arg1) = m ((c.tc : Thread Cert.WcoKernel.nD Cert.WcoKernel.τ).loc Cert.WcoKernel.main_arg1))
      ∧ r.2.sem = fun _ => 0)

def quiescent_WcoKernelIdeal [hWcoKernelIdeal : Cert.WcoKernelIdeal.Facts] : Prop :=
  ∀ (m : (ℓ : Loc Cert.WcoKernelIdeal.nD Cert.WcoKernelIdeal.τ Cert.WcoKernelIdeal.sig) → Buf (Elt Ideal) ℓ) (g : Dev Cert.WcoKernelIdeal.nD → PrngReg), Pre_WcoKernelIdeal m →
    θ_run (Cert.WcoKernelIdeal.defs (F := Ideal)) (onTc (τ := Cert.WcoKernelIdeal.τ) (Cert.WcoKernelIdeal.main (F := Ideal))) ⟨m, fun _ => 0, g⟩ (fun r => (∀ c : Dev Cert.WcoKernelIdeal.nD,
      r.2.mem ((c.tc : Thread Cert.WcoKernelIdeal.nD Cert.WcoKernelIdeal.τ).loc Cert.WcoKernelIdeal.main_arg0) = m ((c.tc : Thread Cert.WcoKernelIdeal.nD Cert.WcoKernelIdeal.τ).loc Cert.WcoKernelIdeal.main_arg0)
      ∧ r.2.mem ((c.tc : Thread Cert.WcoKernelIdeal.nD Cert.WcoKernelIdeal.τ).loc Cert.WcoKernelIdeal.main_arg1) = m ((c.tc : Thread Cert.WcoKernelIdeal.nD Cert.WcoKernelIdeal.τ).loc Cert.WcoKernelIdeal.main_arg1))
      ∧ r.2.sem = fun _ => 0)

def quiescent_WcoReferenceIdeal [hWcoReferenceIdeal : Cert.WcoReferenceIdeal.Facts] : Prop :=
  ∀ (m : (ℓ : Loc Cert.WcoReferenceIdeal.nD Cert.WcoReferenceIdeal.τ Cert.WcoReferenceIdeal.sig) → Buf (Elt Ideal) ℓ) (g : Dev Cert.WcoReferenceIdeal.nD → PrngReg), Pre_WcoReferenceIdeal m →
    θ_run (Cert.WcoReferenceIdeal.defs (F := Ideal)) (onTc (τ := Cert.WcoReferenceIdeal.τ) (Cert.WcoReferenceIdeal.main (F := Ideal))) ⟨m, fun _ => 0, g⟩ (fun r => (∀ c : Dev Cert.WcoReferenceIdeal.nD,
      r.2.mem ((c.tc : Thread Cert.WcoReferenceIdeal.nD Cert.WcoReferenceIdeal.τ).loc Cert.WcoReferenceIdeal.main_arg0) = m ((c.tc : Thread Cert.WcoReferenceIdeal.nD Cert.WcoReferenceIdeal.τ).loc Cert.WcoReferenceIdeal.main_arg0)
      ∧ r.2.mem ((c.tc : Thread Cert.WcoReferenceIdeal.nD Cert.WcoReferenceIdeal.τ).loc Cert.WcoReferenceIdeal.main_arg1) = m ((c.tc : Thread Cert.WcoReferenceIdeal.nD Cert.WcoReferenceIdeal.τ).loc Cert.WcoReferenceIdeal.main_arg1))
      ∧ r.2.sem = fun _ => 0)

def quiescent_WckvKernel [hWckvKernel : Cert.WckvKernel.Facts] : Prop :=
  ∀ (m : (ℓ : Loc Cert.WckvKernel.nD Cert.WckvKernel.τ Cert.WckvKernel.sig) → Buf (Elt Bits) ℓ) (g : Dev Cert.WckvKernel.nD → PrngReg), Pre_WckvKernel m →
    θ_run (Cert.WckvKernel.defs (F := Bits)) (onTc (τ := Cert.WckvKernel.τ) (Cert.WckvKernel.main (F := Bits))) ⟨m, fun _ => 0, g⟩ (fun r => (∀ c : Dev Cert.WckvKernel.nD,
      r.2.mem ((c.tc : Thread Cert.WckvKernel.nD Cert.WckvKernel.τ).loc Cert.WckvKernel.main_arg0) = m ((c.tc : Thread Cert.WckvKernel.nD Cert.WckvKernel.τ).loc Cert.WckvKernel.main_arg0)
      ∧ r.2.mem ((c.tc : Thread Cert.WckvKernel.nD Cert.WckvKernel.τ).loc Cert.WckvKernel.main_arg1) = m ((c.tc : Thread Cert.WckvKernel.nD Cert.WckvKernel.τ).loc Cert.WckvKernel.main_arg1)
      ∧ r.2.mem ((c.tc : Thread Cert.WckvKernel.nD Cert.WckvKernel.τ).loc Cert.WckvKernel.main_arg2) = m ((c.tc : Thread Cert.WckvKernel.nD Cert.WckvKernel.τ).loc Cert.WckvKernel.main_arg2))
      ∧ r.2.sem = fun _ => 0)

def quiescent_WckvKernelIdeal [hWckvKernelIdeal : Cert.WckvKernelIdeal.Facts] : Prop :=
  ∀ (m : (ℓ : Loc Cert.WckvKernelIdeal.nD Cert.WckvKernelIdeal.τ Cert.WckvKernelIdeal.sig) → Buf (Elt Ideal) ℓ) (g : Dev Cert.WckvKernelIdeal.nD → PrngReg), Pre_WckvKernelIdeal m →
    θ_run (Cert.WckvKernelIdeal.defs (F := Ideal)) (onTc (τ := Cert.WckvKernelIdeal.τ) (Cert.WckvKernelIdeal.main (F := Ideal))) ⟨m, fun _ => 0, g⟩ (fun r => (∀ c : Dev Cert.WckvKernelIdeal.nD,
      r.2.mem ((c.tc : Thread Cert.WckvKernelIdeal.nD Cert.WckvKernelIdeal.τ).loc Cert.WckvKernelIdeal.main_arg0) = m ((c.tc : Thread Cert.WckvKernelIdeal.nD Cert.WckvKernelIdeal.τ).loc Cert.WckvKernelIdeal.main_arg0)
      ∧ r.2.mem ((c.tc : Thread Cert.WckvKernelIdeal.nD Cert.WckvKernelIdeal.τ).loc Cert.WckvKernelIdeal.main_arg1) = m ((c.tc : Thread Cert.WckvKernelIdeal.nD Cert.WckvKernelIdeal.τ).loc Cert.WckvKernelIdeal.main_arg1)
      ∧ r.2.mem ((c.tc : Thread Cert.WckvKernelIdeal.nD Cert.WckvKernelIdeal.τ).loc Cert.WckvKernelIdeal.main_arg2) = m ((c.tc : Thread Cert.WckvKernelIdeal.nD Cert.WckvKernelIdeal.τ).loc Cert.WckvKernelIdeal.main_arg2))
      ∧ r.2.sem = fun _ => 0)

def quiescent_WckvReferenceIdeal [hWckvReferenceIdeal : Cert.WckvReferenceIdeal.Facts] : Prop :=
  ∀ (m : (ℓ : Loc Cert.WckvReferenceIdeal.nD Cert.WckvReferenceIdeal.τ Cert.WckvReferenceIdeal.sig) → Buf (Elt Ideal) ℓ) (g : Dev Cert.WckvReferenceIdeal.nD → PrngReg), Pre_WckvReferenceIdeal m →
    θ_run (Cert.WckvReferenceIdeal.defs (F := Ideal)) (onTc (τ := Cert.WckvReferenceIdeal.τ) (Cert.WckvReferenceIdeal.main (F := Ideal))) ⟨m, fun _ => 0, g⟩ (fun r => (∀ c : Dev Cert.WckvReferenceIdeal.nD,
      r.2.mem ((c.tc : Thread Cert.WckvReferenceIdeal.nD Cert.WckvReferenceIdeal.τ).loc Cert.WckvReferenceIdeal.main_arg0) = m ((c.tc : Thread Cert.WckvReferenceIdeal.nD Cert.WckvReferenceIdeal.τ).loc Cert.WckvReferenceIdeal.main_arg0)
      ∧ r.2.mem ((c.tc : Thread Cert.WckvReferenceIdeal.nD Cert.WckvReferenceIdeal.τ).loc Cert.WckvReferenceIdeal.main_arg1) = m ((c.tc : Thread Cert.WckvReferenceIdeal.nD Cert.WckvReferenceIdeal.τ).loc Cert.WckvReferenceIdeal.main_arg1)
      ∧ r.2.mem ((c.tc : Thread Cert.WckvReferenceIdeal.nD Cert.WckvReferenceIdeal.τ).loc Cert.WckvReferenceIdeal.main_arg2) = m ((c.tc : Thread Cert.WckvReferenceIdeal.nD Cert.WckvReferenceIdeal.τ).loc Cert.WckvReferenceIdeal.main_arg2))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_WoutKernel [hWoutKernel : Cert.WoutKernel.Facts] : Prop :=
  ∀ (m : (ℓ : Loc Cert.WoutKernel.nD Cert.WoutKernel.τ Cert.WoutKernel.sig) → Buf (Elt Bits) ℓ) (g : Dev Cert.WoutKernel.nD → PrngReg), Pre_WoutKernel m →
    θ_run (Cert.WoutKernel.defs (F := Bits)) (onTc (τ := Cert.WoutKernel.τ) (Cert.WoutKernel.main (F := Bits))) ⟨m, fun _ => 0, g⟩ (fun r => (∀ c : Dev Cert.WoutKernel.nD,
      r.2.mem ((c.tc : Thread Cert.WoutKernel.nD Cert.WoutKernel.τ).loc Cert.WoutKernel.main_arg0) = m ((c.tc : Thread Cert.WoutKernel.nD Cert.WoutKernel.τ).loc Cert.WoutKernel.main_arg0)
      ∧ r.2.mem ((c.tc : Thread Cert.WoutKernel.nD Cert.WoutKernel.τ).loc Cert.WoutKernel.main_arg1) = m ((c.tc : Thread Cert.WoutKernel.nD Cert.WoutKernel.τ).loc Cert.WoutKernel.main_arg1)
      ∧ r.2.mem ((c.tc : Thread Cert.WoutKernel.nD Cert.WoutKernel.τ).loc Cert.WoutKernel.main_arg2) = m ((c.tc : Thread Cert.WoutKernel.nD Cert.WoutKernel.τ).loc Cert.WoutKernel.main_arg2))
      ∧ r.2.sem = fun _ => 0)

def quiescent_WoutKernelIdeal [hWoutKernelIdeal : Cert.WoutKernelIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg), Pre_WoutKernelIdeal m →
    θ_run (Cert.WoutKernelIdeal.defs (F := Ideal)) (onTc (τ := Cert.WoutKernelIdeal.τ) (Cert.WoutKernelIdeal.main (F := Ideal))) ⟨m, fun _ => 0, g⟩ (fun r => (∀ c : Dev Cert.WoutKernelIdeal.nD,
      r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
      ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1)
      ∧ r.2.mem ((c.tc : Thread Cert.WoutKernelIdeal.nD Cert.WoutKernelIdeal.τ).loc Cert.WoutKernelIdeal.main_arg2) = m ((c.tc : Thread Cert.WoutKernelIdeal.nD Cert.WoutKernelIdeal.τ).loc Cert.WoutKernelIdeal.main_arg2))
      ∧ r.2.sem = fun _ => 0)

def quiescent_WoutReferenceIdeal [hWoutReferenceIdeal : Cert.WoutReferenceIdeal.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1)
      ∧ r.2.mem ((c.tc : Thread Cert.WoutReferenceIdeal.nD Cert.WoutReferenceIdeal.τ).loc Cert.WoutReferenceIdeal.main_arg2) = m ((c.tc : Thread Cert.WoutReferenceIdeal.nD Cert.WoutReferenceIdeal.τ).loc Cert.WoutReferenceIdeal.main_arg2))
      ∧ r.2.sem = fun _ => 0)

def preserves_Kernel_KernelIdeal : Prop :=
  True

def algebraic_KernelIdeal_ReferenceIdeal_pre_gains_finite [hKernelIdeal : Cert.KernelIdeal.Facts] [hReferenceIdeal : Cert.ReferenceIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)) (v5 : (c : Dev Cert.KernelIdeal.nD) → Buf (Elt Ideal) ((c.tc : Thread Cert.KernelIdeal.nD Cert.KernelIdeal.τ).loc Cert.KernelIdeal.main_v15_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_v156) = v3 c
          ∧ r.2.mem ((c.tc : Thread Cert.ReferenceIdeal.nD Cert.ReferenceIdeal.τ).loc Cert.ReferenceIdeal.main_v133) = v4 c
          ∧ r.2.mem ((c.tc : Thread Cert.ReferenceIdeal.nD Cert.ReferenceIdeal.τ).loc Cert.ReferenceIdeal.main_v161) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)) →
    ∃ (v0 : (c : Dev Cert.MlpKernelIdeal.nD) → Buf (Elt Ideal) ((c.tc : Thread Cert.MlpKernelIdeal.nD Cert.MlpKernelIdeal.τ).loc Cert.MlpKernelIdeal.main_v15_0)) (v1 : (c : Dev Cert.MlpKernelIdeal.nD) → Buf (Elt Ideal) ((c.tc : Thread Cert.MlpKernelIdeal.nD Cert.MlpKernelIdeal.τ).loc Cert.MlpKernelIdeal.main_v15_1)) (v2 : (c : Dev Cert.MlpKernelIdeal.nD) → Buf (Elt Ideal) ((c.tc : Thread Cert.MlpKernelIdeal.nD Cert.MlpKernelIdeal.τ).loc Cert.MlpKernelIdeal.main_v15_2)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v15_0) = v0 c
          ∧ r.2.mem ((c.tc : Thread Cert.MlpKernelIdeal.nD Cert.MlpKernelIdeal.τ).loc Cert.MlpKernelIdeal.main_v15_1) = v1 c
          ∧ r.2.mem ((c.tc : Thread Cert.MlpKernelIdeal.nD Cert.MlpKernelIdeal.τ).loc Cert.MlpKernelIdeal.main_v15_2) = v2 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v48) = v0 c
          ∧ r.2.mem ((c.tc : Thread Cert.MlpReferenceIdeal.nD Cert.MlpReferenceIdeal.τ).loc Cert.MlpReferenceIdeal.main_v49) = v1 c
          ∧ r.2.mem ((c.tc : Thread Cert.MlpReferenceIdeal.nD Cert.MlpReferenceIdeal.τ).loc Cert.MlpReferenceIdeal.main_v31) = v2 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)) →
    ∃ (v0 : (c : Dev Cert.FwdKernelIdeal.nD) → Buf (Elt Ideal) ((c.tc : Thread Cert.FwdKernelIdeal.nD Cert.FwdKernelIdeal.τ).loc Cert.FwdKernelIdeal.main_v15_0)) (v1 : (c : Dev Cert.FwdKernelIdeal.nD) → Buf (Elt Ideal) ((c.tc : Thread Cert.FwdKernelIdeal.nD Cert.FwdKernelIdeal.τ).loc Cert.FwdKernelIdeal.main_v15_1)) (v2 : (c : Dev Cert.FwdKernelIdeal.nD) → Buf (Elt Ideal) ((c.tc : Thread Cert.FwdKernelIdeal.nD Cert.FwdKernelIdeal.τ).loc Cert.FwdKernelIdeal.main_v15_2)) (v3 : (c : Dev Cert.FwdKernelIdeal.nD) → Buf (Elt Ideal) ((c.tc : Thread Cert.FwdKernelIdeal.nD Cert.FwdKernelIdeal.τ).loc Cert.FwdKernelIdeal.main_v15_3)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v15_0) = v0 c
          ∧ r.2.mem ((c.tc : Thread Cert.FwdKernelIdeal.nD Cert.FwdKernelIdeal.τ).loc Cert.FwdKernelIdeal.main_v15_1) = v1 c
          ∧ r.2.mem ((c.tc : Thread Cert.FwdKernelIdeal.nD Cert.FwdKernelIdeal.τ).loc Cert.FwdKernelIdeal.main_v15_2) = v2 c
          ∧ r.2.mem ((c.tc : Thread Cert.FwdKernelIdeal.nD Cert.FwdKernelIdeal.τ).loc Cert.FwdKernelIdeal.main_v15_3) = v3 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v12) = v0 c
          ∧ r.2.mem ((c.tc : Thread Cert.FwdReferenceIdeal.nD Cert.FwdReferenceIdeal.τ).loc Cert.FwdReferenceIdeal.main_v41) = v1 c
          ∧ r.2.mem ((c.tc : Thread Cert.FwdReferenceIdeal.nD Cert.FwdReferenceIdeal.τ).loc Cert.FwdReferenceIdeal.main_v31) = v2 c
          ∧ r.2.mem ((c.tc : Thread Cert.FwdReferenceIdeal.nD Cert.FwdReferenceIdeal.τ).loc Cert.FwdReferenceIdeal.main_v43) = v3 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4))

def preserves_WtwoKernel_WtwoKernelIdeal : Prop :=
  True

def algebraic_WtwoKernelIdeal_WtwoReferenceIdeal [hWtwoKernelIdeal : Cert.WtwoKernelIdeal.Facts] [hWtwoReferenceIdeal : Cert.WtwoReferenceIdeal.Facts] : Prop :=
  ∀ (m : (ℓ : Loc Cert.WtwoKernelIdeal.nD Cert.WtwoKernelIdeal.τ Cert.WtwoKernelIdeal.sig) → Buf (Elt Ideal) ℓ) (g : Dev Cert.WtwoKernelIdeal.nD → PrngReg)
    (m' : (ℓ : Loc Cert.WtwoReferenceIdeal.nD Cert.WtwoReferenceIdeal.τ Cert.WtwoReferenceIdeal.sig) → Buf (Elt Ideal) ℓ) (g' : Dev Cert.WtwoReferenceIdeal.nD → PrngReg), Pre_WtwoKernelIdeal m →
    (∀ c : Dev Cert.WtwoKernelIdeal.nD,
      m' ((c.tc : Thread Cert.WtwoReferenceIdeal.nD Cert.WtwoReferenceIdeal.τ).loc Cert.WtwoReferenceIdeal.main_arg0) = m ((c.tc : Thread Cert.WtwoKernelIdeal.nD Cert.WtwoKernelIdeal.τ).loc Cert.WtwoKernelIdeal.main_arg0)
      ∧ m' ((c.tc : Thread Cert.WtwoReferenceIdeal.nD Cert.WtwoReferenceIdeal.τ).loc Cert.WtwoReferenceIdeal.main_arg1) = m ((c.tc : Thread Cert.WtwoKernelIdeal.nD Cert.WtwoKernelIdeal.τ).loc Cert.WtwoKernelIdeal.main_arg1)) →
    ∃ (v0 : (c : Dev Cert.WtwoKernelIdeal.nD) → Buf (Elt Ideal) ((c.tc : Thread Cert.WtwoKernelIdeal.nD Cert.WtwoKernelIdeal.τ).loc Cert.WtwoKernelIdeal.main_v3)),
      θ_run (Cert.WtwoKernelIdeal.defs (F := Ideal)) (onTc (τ := Cert.WtwoKernelIdeal.τ) (Cert.WtwoKernelIdeal.main (F := Ideal))) ⟨m, fun _ => 0, g⟩ (fun r => ∀ c : Dev Cert.WtwoKernelIdeal.nD,
          r.2.mem ((c.tc : Thread Cert.WtwoKernelIdeal.nD Cert.WtwoKernelIdeal.τ).loc Cert.WtwoKernelIdeal.main_v3) = v0 c
          ∧ r.2.mem ((c.tc : Thread Cert.WtwoKernelIdeal.nD Cert.WtwoKernelIdeal.τ).loc Cert.WtwoKernelIdeal.main_arg0) = m ((c.tc : Thread Cert.WtwoKernelIdeal.nD Cert.WtwoKernelIdeal.τ).loc Cert.WtwoKernelIdeal.main_arg0)
          ∧ r.2.mem ((c.tc : Thread Cert.WtwoKernelIdeal.nD Cert.WtwoKernelIdeal.τ).loc Cert.WtwoKernelIdeal.main_arg1) = m ((c.tc : Thread Cert.WtwoKernelIdeal.nD Cert.WtwoKernelIdeal.τ).loc Cert.WtwoKernelIdeal.main_arg1))
      ∧ θ_run (Cert.WtwoReferenceIdeal.defs (F := Ideal)) (onTc (τ := Cert.WtwoReferenceIdeal.τ) (Cert.WtwoReferenceIdeal.main (F := Ideal))) ⟨m', fun _ => 0, g'⟩ (fun r => ∀ c : Dev Cert.WtwoReferenceIdeal.nD,
          r.2.mem ((c.tc : Thread Cert.WtwoReferenceIdeal.nD Cert.WtwoReferenceIdeal.τ).loc Cert.WtwoReferenceIdeal.main_v5) = v0 c
          ∧ r.2.mem ((c.tc : Thread Cert.WtwoReferenceIdeal.nD Cert.WtwoReferenceIdeal.τ).loc Cert.WtwoReferenceIdeal.main_arg0) = m' ((c.tc : Thread Cert.WtwoReferenceIdeal.nD Cert.WtwoReferenceIdeal.τ).loc Cert.WtwoReferenceIdeal.main_arg0)
          ∧ r.2.mem ((c.tc : Thread Cert.WtwoReferenceIdeal.nD Cert.WtwoReferenceIdeal.τ).loc Cert.WtwoReferenceIdeal.main_arg1) = m' ((c.tc : Thread Cert.WtwoReferenceIdeal.nD Cert.WtwoReferenceIdeal.τ).loc Cert.WtwoReferenceIdeal.main_arg1))

def preserves_WoneKernel_WoneKernelIdeal : Prop :=
  True

def algebraic_WoneKernelIdeal_WoneReferenceIdeal [hWoneKernelIdeal : Cert.WoneKernelIdeal.Facts] [hWoneReferenceIdeal : Cert.WoneReferenceIdeal.Facts] : Prop :=
  ∀ (m : (ℓ : Loc Cert.WoneKernelIdeal.nD Cert.WoneKernelIdeal.τ Cert.WoneKernelIdeal.sig) → Buf (Elt Ideal) ℓ) (g : Dev Cert.WoneKernelIdeal.nD → PrngReg)
    (m' : (ℓ : Loc Cert.WoneReferenceIdeal.nD Cert.WoneReferenceIdeal.τ Cert.WoneReferenceIdeal.sig) → Buf (Elt Ideal) ℓ) (g' : Dev Cert.WoneReferenceIdeal.nD → PrngReg), Pre_WoneKernelIdeal m →
    (∀ c : Dev Cert.WoneKernelIdeal.nD,
      m' ((c.tc : Thread Cert.WoneReferenceIdeal.nD Cert.WoneReferenceIdeal.τ).loc Cert.WoneReferenceIdeal.main_arg0) = m ((c.tc : Thread Cert.WoneKernelIdeal.nD Cert.WoneKernelIdeal.τ).loc Cert.WoneKernelIdeal.main_arg0)
      ∧ m' ((c.tc : Thread Cert.WoneReferenceIdeal.nD Cert.WoneReferenceIdeal.τ).loc Cert.WoneReferenceIdeal.main_arg1) = m ((c.tc : Thread Cert.WoneKernelIdeal.nD Cert.WoneKernelIdeal.τ).loc Cert.WoneKernelIdeal.main_arg1)
      ∧ m' ((c.tc : Thread Cert.WoneReferenceIdeal.nD Cert.WoneReferenceIdeal.τ).loc Cert.WoneReferenceIdeal.main_arg2) = m ((c.tc : Thread Cert.WoneKernelIdeal.nD Cert.WoneKernelIdeal.τ).loc Cert.WoneKernelIdeal.main_arg2)) →
    ∃ (v0 : (c : Dev Cert.WoneKernelIdeal.nD) → Buf (Elt Ideal) ((c.tc : Thread Cert.WoneKernelIdeal.nD Cert.WoneKernelIdeal.τ).loc Cert.WoneKernelIdeal.main_v14)),
      θ_run (Cert.WoneKernelIdeal.defs (F := Ideal)) (onTc (τ := Cert.WoneKernelIdeal.τ) (Cert.WoneKernelIdeal.main (F := Ideal))) ⟨m, fun _ => 0, g⟩ (fun r => ∀ c : Dev Cert.WoneKernelIdeal.nD,
          r.2.mem ((c.tc : Thread Cert.WoneKernelIdeal.nD Cert.WoneKernelIdeal.τ).loc Cert.WoneKernelIdeal.main_v14) = v0 c
          ∧ r.2.mem ((c.tc : Thread Cert.WoneKernelIdeal.nD Cert.WoneKernelIdeal.τ).loc Cert.WoneKernelIdeal.main_arg0) = m ((c.tc : Thread Cert.WoneKernelIdeal.nD Cert.WoneKernelIdeal.τ).loc Cert.WoneKernelIdeal.main_arg0)
          ∧ r.2.mem ((c.tc : Thread Cert.WoneKernelIdeal.nD Cert.WoneKernelIdeal.τ).loc Cert.WoneKernelIdeal.main_arg1) = m ((c.tc : Thread Cert.WoneKernelIdeal.nD Cert.WoneKernelIdeal.τ).loc Cert.WoneKernelIdeal.main_arg1)
          ∧ r.2.mem ((c.tc : Thread Cert.WoneKernelIdeal.nD Cert.WoneKernelIdeal.τ).loc Cert.WoneKernelIdeal.main_arg2) = m ((c.tc : Thread Cert.WoneKernelIdeal.nD Cert.WoneKernelIdeal.τ).loc Cert.WoneKernelIdeal.main_arg2))
      ∧ θ_run (Cert.WoneReferenceIdeal.defs (F := Ideal)) (onTc (τ := Cert.WoneReferenceIdeal.τ) (Cert.WoneReferenceIdeal.main (F := Ideal))) ⟨m', fun _ => 0, g'⟩ (fun r => ∀ c : Dev Cert.WoneReferenceIdeal.nD,
          r.2.mem ((c.tc : Thread Cert.WoneReferenceIdeal.nD Cert.WoneReferenceIdeal.τ).loc Cert.WoneReferenceIdeal.main_v17) = v0 c
          ∧ r.2.mem ((c.tc : Thread Cert.WoneReferenceIdeal.nD Cert.WoneReferenceIdeal.τ).loc Cert.WoneReferenceIdeal.main_arg0) = m' ((c.tc : Thread Cert.WoneReferenceIdeal.nD Cert.WoneReferenceIdeal.τ).loc Cert.WoneReferenceIdeal.main_arg0)
          ∧ r.2.mem ((c.tc : Thread Cert.WoneReferenceIdeal.nD Cert.WoneReferenceIdeal.τ).loc Cert.WoneReferenceIdeal.main_arg1) = m' ((c.tc : Thread Cert.WoneReferenceIdeal.nD Cert.WoneReferenceIdeal.τ).loc Cert.WoneReferenceIdeal.main_arg1)
          ∧ r.2.mem ((c.tc : Thread Cert.WoneReferenceIdeal.nD Cert.WoneReferenceIdeal.τ).loc Cert.WoneReferenceIdeal.main_arg2) = m' ((c.tc : Thread Cert.WoneReferenceIdeal.nD Cert.WoneReferenceIdeal.τ).loc Cert.WoneReferenceIdeal.main_arg2))

def preserves_WcqKernel_WcqKernelIdeal : Prop :=
  True

def algebraic_WcqKernelIdeal_WcqReferenceIdeal [hWcqKernelIdeal : Cert.WcqKernelIdeal.Facts] [hWcqReferenceIdeal : Cert.WcqReferenceIdeal.Facts] : Prop :=
  ∀ (m : (ℓ : Loc Cert.WcqKernelIdeal.nD Cert.WcqKernelIdeal.τ Cert.WcqKernelIdeal.sig) → Buf (Elt Ideal) ℓ) (g : Dev Cert.WcqKernelIdeal.nD → PrngReg)
    (m' : (ℓ : Loc Cert.WcqReferenceIdeal.nD Cert.WcqReferenceIdeal.τ Cert.WcqReferenceIdeal.sig) → Buf (Elt Ideal) ℓ) (g' : Dev Cert.WcqReferenceIdeal.nD → PrngReg), Pre_WcqKernelIdeal m →
    (∀ c : Dev Cert.WcqKernelIdeal.nD,
      m' ((c.tc : Thread Cert.WcqReferenceIdeal.nD Cert.WcqReferenceIdeal.τ).loc Cert.WcqReferenceIdeal.main_arg0) = m ((c.tc : Thread Cert.WcqKernelIdeal.nD Cert.WcqKernelIdeal.τ).loc Cert.WcqKernelIdeal.main_arg0)
      ∧ m' ((c.tc : Thread Cert.WcqReferenceIdeal.nD Cert.WcqReferenceIdeal.τ).loc Cert.WcqReferenceIdeal.main_arg1) = m ((c.tc : Thread Cert.WcqKernelIdeal.nD Cert.WcqKernelIdeal.τ).loc Cert.WcqKernelIdeal.main_arg1)
      ∧ m' ((c.tc : Thread Cert.WcqReferenceIdeal.nD Cert.WcqReferenceIdeal.τ).loc Cert.WcqReferenceIdeal.main_arg2) = m ((c.tc : Thread Cert.WcqKernelIdeal.nD Cert.WcqKernelIdeal.τ).loc Cert.WcqKernelIdeal.main_arg2)) →
    ∃ (v0 : (c : Dev Cert.WcqKernelIdeal.nD) → Buf (Elt Ideal) ((c.tc : Thread Cert.WcqKernelIdeal.nD Cert.WcqKernelIdeal.τ).loc Cert.WcqKernelIdeal.main_v14)),
      θ_run (Cert.WcqKernelIdeal.defs (F := Ideal)) (onTc (τ := Cert.WcqKernelIdeal.τ) (Cert.WcqKernelIdeal.main (F := Ideal))) ⟨m, fun _ => 0, g⟩ (fun r => ∀ c : Dev Cert.WcqKernelIdeal.nD,
          r.2.mem ((c.tc : Thread Cert.WcqKernelIdeal.nD Cert.WcqKernelIdeal.τ).loc Cert.WcqKernelIdeal.main_v14) = v0 c
          ∧ r.2.mem ((c.tc : Thread Cert.WcqKernelIdeal.nD Cert.WcqKernelIdeal.τ).loc Cert.WcqKernelIdeal.main_arg0) = m ((c.tc : Thread Cert.WcqKernelIdeal.nD Cert.WcqKernelIdeal.τ).loc Cert.WcqKernelIdeal.main_arg0)
          ∧ r.2.mem ((c.tc : Thread Cert.WcqKernelIdeal.nD Cert.WcqKernelIdeal.τ).loc Cert.WcqKernelIdeal.main_arg1) = m ((c.tc : Thread Cert.WcqKernelIdeal.nD Cert.WcqKernelIdeal.τ).loc Cert.WcqKernelIdeal.main_arg1)
          ∧ r.2.mem ((c.tc : Thread Cert.WcqKernelIdeal.nD Cert.WcqKernelIdeal.τ).loc Cert.WcqKernelIdeal.main_arg2) = m ((c.tc : Thread Cert.WcqKernelIdeal.nD Cert.WcqKernelIdeal.τ).loc Cert.WcqKernelIdeal.main_arg2))
      ∧ θ_run (Cert.WcqReferenceIdeal.defs (F := Ideal)) (onTc (τ := Cert.WcqReferenceIdeal.τ) (Cert.WcqReferenceIdeal.main (F := Ideal))) ⟨m', fun _ => 0, g'⟩ (fun r => ∀ c : Dev Cert.WcqReferenceIdeal.nD,
          r.2.mem ((c.tc : Thread Cert.WcqReferenceIdeal.nD Cert.WcqReferenceIdeal.τ).loc Cert.WcqReferenceIdeal.main_v15) = v0 c
          ∧ r.2.mem ((c.tc : Thread Cert.WcqReferenceIdeal.nD Cert.WcqReferenceIdeal.τ).loc Cert.WcqReferenceIdeal.main_arg0) = m' ((c.tc : Thread Cert.WcqReferenceIdeal.nD Cert.WcqReferenceIdeal.τ).loc Cert.WcqReferenceIdeal.main_arg0)
          ∧ r.2.mem ((c.tc : Thread Cert.WcqReferenceIdeal.nD Cert.WcqReferenceIdeal.τ).loc Cert.WcqReferenceIdeal.main_arg1) = m' ((c.tc : Thread Cert.WcqReferenceIdeal.nD Cert.WcqReferenceIdeal.τ).loc Cert.WcqReferenceIdeal.main_arg1)
          ∧ r.2.mem ((c.tc : Thread Cert.WcqReferenceIdeal.nD Cert.WcqReferenceIdeal.τ).loc Cert.WcqReferenceIdeal.main_arg2) = m' ((c.tc : Thread Cert.WcqReferenceIdeal.nD Cert.WcqReferenceIdeal.τ).loc Cert.WcqReferenceIdeal.main_arg2))

def preserves_WcoKernel_WcoKernelIdeal : Prop :=
  True

def algebraic_WcoKernelIdeal_WcoReferenceIdeal [hWcoKernelIdeal : Cert.WcoKernelIdeal.Facts] [hWcoReferenceIdeal : Cert.WcoReferenceIdeal.Facts] : Prop :=
  ∀ (m : (ℓ : Loc Cert.WcoKernelIdeal.nD Cert.WcoKernelIdeal.τ Cert.WcoKernelIdeal.sig) → Buf (Elt Ideal) ℓ) (g : Dev Cert.WcoKernelIdeal.nD → PrngReg)
    (m' : (ℓ : Loc Cert.WcoReferenceIdeal.nD Cert.WcoReferenceIdeal.τ Cert.WcoReferenceIdeal.sig) → Buf (Elt Ideal) ℓ) (g' : Dev Cert.WcoReferenceIdeal.nD → PrngReg), Pre_WcoKernelIdeal m →
    (∀ c : Dev Cert.WcoKernelIdeal.nD,
      m' ((c.tc : Thread Cert.WcoReferenceIdeal.nD Cert.WcoReferenceIdeal.τ).loc Cert.WcoReferenceIdeal.main_arg0) = m ((c.tc : Thread Cert.WcoKernelIdeal.nD Cert.WcoKernelIdeal.τ).loc Cert.WcoKernelIdeal.main_arg0)
      ∧ m' ((c.tc : Thread Cert.WcoReferenceIdeal.nD Cert.WcoReferenceIdeal.τ).loc Cert.WcoReferenceIdeal.main_arg1) = m ((c.tc : Thread Cert.WcoKernelIdeal.nD Cert.WcoKernelIdeal.τ).loc Cert.WcoKernelIdeal.main_arg1)) →
    ∃ (v0 : (c : Dev Cert.WcoKernelIdeal.nD) → Buf (Elt Ideal) ((c.tc : Thread Cert.WcoKernelIdeal.nD Cert.WcoKernelIdeal.τ).loc Cert.WcoKernelIdeal.main_v1)),
      θ_run (Cert.WcoKernelIdeal.defs (F := Ideal)) (onTc (τ := Cert.WcoKernelIdeal.τ) (Cert.WcoKernelIdeal.main (F := Ideal))) ⟨m, fun _ => 0, g⟩ (fun r => ∀ c : Dev Cert.WcoKernelIdeal.nD,
          r.2.mem ((c.tc : Thread Cert.WcoKernelIdeal.nD Cert.WcoKernelIdeal.τ).loc Cert.WcoKernelIdeal.main_v1) = v0 c
          ∧ r.2.mem ((c.tc : Thread Cert.WcoKernelIdeal.nD Cert.WcoKernelIdeal.τ).loc Cert.WcoKernelIdeal.main_arg0) = m ((c.tc : Thread Cert.WcoKernelIdeal.nD Cert.WcoKernelIdeal.τ).loc Cert.WcoKernelIdeal.main_arg0)
          ∧ r.2.mem ((c.tc : Thread Cert.WcoKernelIdeal.nD Cert.WcoKernelIdeal.τ).loc Cert.WcoKernelIdeal.main_arg1) = m ((c.tc : Thread Cert.WcoKernelIdeal.nD Cert.WcoKernelIdeal.τ).loc Cert.WcoKernelIdeal.main_arg1))
      ∧ θ_run (Cert.WcoReferenceIdeal.defs (F := Ideal)) (onTc (τ := Cert.WcoReferenceIdeal.τ) (Cert.WcoReferenceIdeal.main (F := Ideal))) ⟨m', fun _ => 0, g'⟩ (fun r => ∀ c : Dev Cert.WcoReferenceIdeal.nD,
          r.2.mem ((c.tc : Thread Cert.WcoReferenceIdeal.nD Cert.WcoReferenceIdeal.τ).loc Cert.WcoReferenceIdeal.main_v5) = v0 c
          ∧ r.2.mem ((c.tc : Thread Cert.WcoReferenceIdeal.nD Cert.WcoReferenceIdeal.τ).loc Cert.WcoReferenceIdeal.main_arg0) = m' ((c.tc : Thread Cert.WcoReferenceIdeal.nD Cert.WcoReferenceIdeal.τ).loc Cert.WcoReferenceIdeal.main_arg0)
          ∧ r.2.mem ((c.tc : Thread Cert.WcoReferenceIdeal.nD Cert.WcoReferenceIdeal.τ).loc Cert.WcoReferenceIdeal.main_arg1) = m' ((c.tc : Thread Cert.WcoReferenceIdeal.nD Cert.WcoReferenceIdeal.τ).loc Cert.WcoReferenceIdeal.main_arg1))

def preserves_WckvKernel_WckvKernelIdeal : Prop :=
  True

def algebraic_WckvKernelIdeal_WckvReferenceIdeal [hWckvKernelIdeal : Cert.WckvKernelIdeal.Facts] [hWckvReferenceIdeal : Cert.WckvReferenceIdeal.Facts] : Prop :=
  ∀ (m : (ℓ : Loc Cert.WckvKernelIdeal.nD Cert.WckvKernelIdeal.τ Cert.WckvKernelIdeal.sig) → Buf (Elt Ideal) ℓ) (g : Dev Cert.WckvKernelIdeal.nD → PrngReg)
    (m' : (ℓ : Loc Cert.WckvReferenceIdeal.nD Cert.WckvReferenceIdeal.τ Cert.WckvReferenceIdeal.sig) → Buf (Elt Ideal) ℓ) (g' : Dev Cert.WckvReferenceIdeal.nD → PrngReg), Pre_WckvKernelIdeal m →
    (∀ c : Dev Cert.WckvKernelIdeal.nD,
      m' ((c.tc : Thread Cert.WckvReferenceIdeal.nD Cert.WckvReferenceIdeal.τ).loc Cert.WckvReferenceIdeal.main_arg0) = m ((c.tc : Thread Cert.WckvKernelIdeal.nD Cert.WckvKernelIdeal.τ).loc Cert.WckvKernelIdeal.main_arg0)
      ∧ m' ((c.tc : Thread Cert.WckvReferenceIdeal.nD Cert.WckvReferenceIdeal.τ).loc Cert.WckvReferenceIdeal.main_arg1) = m ((c.tc : Thread Cert.WckvKernelIdeal.nD Cert.WckvKernelIdeal.τ).loc Cert.WckvKernelIdeal.main_arg1)
      ∧ m' ((c.tc : Thread Cert.WckvReferenceIdeal.nD Cert.WckvReferenceIdeal.τ).loc Cert.WckvReferenceIdeal.main_arg2) = m ((c.tc : Thread Cert.WckvKernelIdeal.nD Cert.WckvKernelIdeal.τ).loc Cert.WckvKernelIdeal.main_arg2)) →
    ∃ (v0 : (c : Dev Cert.WckvKernelIdeal.nD) → Buf (Elt Ideal) ((c.tc : Thread Cert.WckvKernelIdeal.nD Cert.WckvKernelIdeal.τ).loc Cert.WckvKernelIdeal.main_v14)),
      θ_run (Cert.WckvKernelIdeal.defs (F := Ideal)) (onTc (τ := Cert.WckvKernelIdeal.τ) (Cert.WckvKernelIdeal.main (F := Ideal))) ⟨m, fun _ => 0, g⟩ (fun r => ∀ c : Dev Cert.WckvKernelIdeal.nD,
          r.2.mem ((c.tc : Thread Cert.WckvKernelIdeal.nD Cert.WckvKernelIdeal.τ).loc Cert.WckvKernelIdeal.main_v14) = v0 c
          ∧ r.2.mem ((c.tc : Thread Cert.WckvKernelIdeal.nD Cert.WckvKernelIdeal.τ).loc Cert.WckvKernelIdeal.main_arg0) = m ((c.tc : Thread Cert.WckvKernelIdeal.nD Cert.WckvKernelIdeal.τ).loc Cert.WckvKernelIdeal.main_arg0)
          ∧ r.2.mem ((c.tc : Thread Cert.WckvKernelIdeal.nD Cert.WckvKernelIdeal.τ).loc Cert.WckvKernelIdeal.main_arg1) = m ((c.tc : Thread Cert.WckvKernelIdeal.nD Cert.WckvKernelIdeal.τ).loc Cert.WckvKernelIdeal.main_arg1)
          ∧ r.2.mem ((c.tc : Thread Cert.WckvKernelIdeal.nD Cert.WckvKernelIdeal.τ).loc Cert.WckvKernelIdeal.main_arg2) = m ((c.tc : Thread Cert.WckvKernelIdeal.nD Cert.WckvKernelIdeal.τ).loc Cert.WckvKernelIdeal.main_arg2))
      ∧ θ_run (Cert.WckvReferenceIdeal.defs (F := Ideal)) (onTc (τ := Cert.WckvReferenceIdeal.τ) (Cert.WckvReferenceIdeal.main (F := Ideal))) ⟨m', fun _ => 0, g'⟩ (fun r => ∀ c : Dev Cert.WckvReferenceIdeal.nD,
          r.2.mem ((c.tc : Thread Cert.WckvReferenceIdeal.nD Cert.WckvReferenceIdeal.τ).loc Cert.WckvReferenceIdeal.main_v15) = v0 c
          ∧ r.2.mem ((c.tc : Thread Cert.WckvReferenceIdeal.nD Cert.WckvReferenceIdeal.τ).loc Cert.WckvReferenceIdeal.main_arg0) = m' ((c.tc : Thread Cert.WckvReferenceIdeal.nD Cert.WckvReferenceIdeal.τ).loc Cert.WckvReferenceIdeal.main_arg0)
          ∧ r.2.mem ((c.tc : Thread Cert.WckvReferenceIdeal.nD Cert.WckvReferenceIdeal.τ).loc Cert.WckvReferenceIdeal.main_arg1) = m' ((c.tc : Thread Cert.WckvReferenceIdeal.nD Cert.WckvReferenceIdeal.τ).loc Cert.WckvReferenceIdeal.main_arg1)
          ∧ r.2.mem ((c.tc : Thread Cert.WckvReferenceIdeal.nD Cert.WckvReferenceIdeal.τ).loc Cert.WckvReferenceIdeal.main_arg2) = m' ((c.tc : Thread Cert.WckvReferenceIdeal.nD Cert.WckvReferenceIdeal.τ).loc Cert.WckvReferenceIdeal.main_arg2))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)) →
    ∃ (v0 : (c : Dev Cert.MemKernelIdeal.nD) → Buf (Elt Ideal) ((c.tc : Thread Cert.MemKernelIdeal.nD Cert.MemKernelIdeal.τ).loc Cert.MemKernelIdeal.main_v2)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v2) = v0 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v16) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_WoutKernel_WoutKernelIdeal : Prop :=
  True

def algebraic_WoutKernelIdeal_WoutReferenceIdeal [hWoutKernelIdeal : Cert.WoutKernelIdeal.Facts] [hWoutReferenceIdeal : Cert.WoutReferenceIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg)
    (m' : (ℓ : Loc Cert.WoutReferenceIdeal.nD Cert.WoutReferenceIdeal.τ Cert.WoutReferenceIdeal.sig) → Buf (Elt Ideal) ℓ) (g' : Dev Cert.WoutReferenceIdeal.nD → PrngReg), Pre_WoutKernelIdeal m →
    (∀ c : Dev Cert.WoutKernelIdeal.nD,
      m' ((c.tc : Thread Cert.WoutReferenceIdeal.nD Cert.WoutReferenceIdeal.τ).loc Cert.WoutReferenceIdeal.main_arg0) = m ((c.tc : Thread Cert.WoutKernelIdeal.nD Cert.WoutKernelIdeal.τ).loc Cert.WoutKernelIdeal.main_arg0)
      ∧ m' ((c.tc : Thread Cert.WoutReferenceIdeal.nD Cert.WoutReferenceIdeal.τ).loc Cert.WoutReferenceIdeal.main_arg1) = m ((c.tc : Thread Cert.WoutKernelIdeal.nD Cert.WoutKernelIdeal.τ).loc Cert.WoutKernelIdeal.main_arg1)
      ∧ m' ((c.tc : Thread Cert.WoutReferenceIdeal.nD Cert.WoutReferenceIdeal.τ).loc Cert.WoutReferenceIdeal.main_arg2) = m ((c.tc : Thread Cert.WoutKernelIdeal.nD Cert.WoutKernelIdeal.τ).loc Cert.WoutKernelIdeal.main_arg2)) →
    ∃ (v0 : (c : Dev Cert.WoutKernelIdeal.nD) → Buf (Elt Ideal) ((c.tc : Thread Cert.WoutKernelIdeal.nD Cert.WoutKernelIdeal.τ).loc Cert.WoutKernelIdeal.main_v2)),
      θ_run (Cert.WoutKernelIdeal.defs (F := Ideal)) (onTc (τ := Cert.WoutKernelIdeal.τ) (Cert.WoutKernelIdeal.main (F := Ideal))) ⟨m, fun _ => 0, g⟩ (fun r => ∀ c : Dev Cert.WoutKernelIdeal.nD,
          r.2.mem ((c.tc : Thread Cert.WoutKernelIdeal.nD Cert.WoutKernelIdeal.τ).loc Cert.WoutKernelIdeal.main_v2) = v0 c
          ∧ r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
          ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1)
          ∧ r.2.mem ((c.tc : Thread Cert.WoutKernelIdeal.nD Cert.WoutKernelIdeal.τ).loc Cert.WoutKernelIdeal.main_arg2) = m ((c.tc : Thread Cert.WoutKernelIdeal.nD Cert.WoutKernelIdeal.τ).loc Cert.WoutKernelIdeal.main_arg2))
      ∧ θ_run (Cert.WoutReferenceIdeal.defs (F := Ideal)) (onTc (τ := Cert.WoutReferenceIdeal.τ) (Cert.WoutReferenceIdeal.main (F := Ideal))) ⟨m', fun _ => 0, g'⟩ (fun r => ∀ c : Dev Cert.WoutReferenceIdeal.nD,
          r.2.mem ((c.tc : Thread Cert.WoutReferenceIdeal.nD Cert.WoutReferenceIdeal.τ).loc Cert.WoutReferenceIdeal.main_v4) = v0 c
          ∧ r.2.mem ((c.tc : Thread Cert.WoutReferenceIdeal.nD Cert.WoutReferenceIdeal.τ).loc Cert.WoutReferenceIdeal.main_arg0) = m' ((c.tc : Thread Cert.WoutReferenceIdeal.nD Cert.WoutReferenceIdeal.τ).loc Cert.WoutReferenceIdeal.main_arg0)
          ∧ r.2.mem ((c.tc : Thread Cert.WoutReferenceIdeal.nD Cert.WoutReferenceIdeal.τ).loc Cert.WoutReferenceIdeal.main_arg1) = m' ((c.tc : Thread Cert.WoutReferenceIdeal.nD Cert.WoutReferenceIdeal.τ).loc Cert.WoutReferenceIdeal.main_arg1)
          ∧ r.2.mem ((c.tc : Thread Cert.WoutReferenceIdeal.nD Cert.WoutReferenceIdeal.τ).loc Cert.WoutReferenceIdeal.main_arg2) = m' ((c.tc : Thread Cert.WoutReferenceIdeal.nD Cert.WoutReferenceIdeal.τ).loc Cert.WoutReferenceIdeal.main_arg2))

def Claim : Prop :=
  ∃ (hKernel : Cert.Kernel.Facts) (hKernelIdeal : Cert.KernelIdeal.Facts) (hReferenceIdeal : Cert.ReferenceIdeal.Facts) (hMlpKernel : Cert.MlpKernel.Facts) (hMlpKernelIdeal : Cert.MlpKernelIdeal.Facts) (hMlpReferenceIdeal : Cert.MlpReferenceIdeal.Facts) (hFwdKernel : Cert.FwdKernel.Facts) (hFwdKernelIdeal : Cert.FwdKernelIdeal.Facts) (hFwdReferenceIdeal : Cert.FwdReferenceIdeal.Facts) (hWtwoKernel : Cert.WtwoKernel.Facts) (hWtwoKernelIdeal : Cert.WtwoKernelIdeal.Facts) (hWtwoReferenceIdeal : Cert.WtwoReferenceIdeal.Facts) (hWoneKernel : Cert.WoneKernel.Facts) (hWoneKernelIdeal : Cert.WoneKernelIdeal.Facts) (hWoneReferenceIdeal : Cert.WoneReferenceIdeal.Facts) (hWcqKernel : Cert.WcqKernel.Facts) (hWcqKernelIdeal : Cert.WcqKernelIdeal.Facts) (hWcqReferenceIdeal : Cert.WcqReferenceIdeal.Facts) (hWcoKernel : Cert.WcoKernel.Facts) (hWcoKernelIdeal : Cert.WcoKernelIdeal.Facts) (hWcoReferenceIdeal : Cert.WcoReferenceIdeal.Facts) (hWckvKernel : Cert.WckvKernel.Facts) (hWckvKernelIdeal : Cert.WckvKernelIdeal.Facts) (hWckvReferenceIdeal : Cert.WckvReferenceIdeal.Facts) (hMemKernel : Cert.MemKernel.Facts) (hMemKernelIdeal : Cert.MemKernelIdeal.Facts) (hMemReferenceIdeal : Cert.MemReferenceIdeal.Facts) (hWoutKernel : Cert.WoutKernel.Facts) (hWoutKernelIdeal : Cert.WoutKernelIdeal.Facts) (hWoutReferenceIdeal : Cert.WoutReferenceIdeal.Facts) (hPre_gains_finite : Cert.Pre_gains_finite.Facts),
    quiescent_Kernel (hKernel := hKernel)
    ∧ quiescent_KernelIdeal (hKernelIdeal := hKernelIdeal)
    ∧ quiescent_KernelIdeal_pre_gains_finite (hKernelIdeal := hKernelIdeal) (hPre_gains_finite := hPre_gains_finite)
    ∧ quiescent_ReferenceIdeal (hReferenceIdeal := hReferenceIdeal)
    ∧ quiescent_ReferenceIdeal_pre_gains_finite (hReferenceIdeal := hReferenceIdeal) (hPre_gains_finite := hPre_gains_finite)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_WtwoKernel (hWtwoKernel := hWtwoKernel)
    ∧ quiescent_WtwoKernelIdeal (hWtwoKernelIdeal := hWtwoKernelIdeal)
    ∧ quiescent_WtwoReferenceIdeal (hWtwoReferenceIdeal := hWtwoReferenceIdeal)
    ∧ quiescent_WoneKernel (hWoneKernel := hWoneKernel)
    ∧ quiescent_WoneKernelIdeal (hWoneKernelIdeal := hWoneKernelIdeal)
    ∧ quiescent_WoneReferenceIdeal (hWoneReferenceIdeal := hWoneReferenceIdeal)
    ∧ quiescent_WcqKernel (hWcqKernel := hWcqKernel)
    ∧ quiescent_WcqKernelIdeal (hWcqKernelIdeal := hWcqKernelIdeal)
    ∧ quiescent_WcqReferenceIdeal (hWcqReferenceIdeal := hWcqReferenceIdeal)
    ∧ quiescent_WcoKernel (hWcoKernel := hWcoKernel)
    ∧ quiescent_WcoKernelIdeal (hWcoKernelIdeal := hWcoKernelIdeal)
    ∧ quiescent_WcoReferenceIdeal (hWcoReferenceIdeal := hWcoReferenceIdeal)
    ∧ quiescent_WckvKernel (hWckvKernel := hWckvKernel)
    ∧ quiescent_WckvKernelIdeal (hWckvKernelIdeal := hWckvKernelIdeal)
    ∧ quiescent_WckvReferenceIdeal (hWckvReferenceIdeal := hWckvReferenceIdeal)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_WoutKernel (hWoutKernel := hWoutKernel)
    ∧ quiescent_WoutKernelIdeal (hWoutKernelIdeal := hWoutKernelIdeal)
    ∧ quiescent_WoutReferenceIdeal (hWoutReferenceIdeal := hWoutReferenceIdeal)
    ∧ preserves_Kernel_KernelIdeal
    ∧ algebraic_KernelIdeal_ReferenceIdeal_pre_gains_finite (hKernelIdeal := hKernelIdeal) (hReferenceIdeal := hReferenceIdeal) (hPre_gains_finite := hPre_gains_finite)
    ∧ preserves_MlpKernel_MlpKernelIdeal
    ∧ algebraic_MlpKernelIdeal_MlpReferenceIdeal (hMlpKernelIdeal := hMlpKernelIdeal) (hMlpReferenceIdeal := hMlpReferenceIdeal)
    ∧ preserves_FwdKernel_FwdKernelIdeal
    ∧ algebraic_FwdKernelIdeal_FwdReferenceIdeal (hFwdKernelIdeal := hFwdKernelIdeal) (hFwdReferenceIdeal := hFwdReferenceIdeal)
    ∧ preserves_WtwoKernel_WtwoKernelIdeal
    ∧ algebraic_WtwoKernelIdeal_WtwoReferenceIdeal (hWtwoKernelIdeal := hWtwoKernelIdeal) (hWtwoReferenceIdeal := hWtwoReferenceIdeal)
    ∧ preserves_WoneKernel_WoneKernelIdeal
    ∧ algebraic_WoneKernelIdeal_WoneReferenceIdeal (hWoneKernelIdeal := hWoneKernelIdeal) (hWoneReferenceIdeal := hWoneReferenceIdeal)
    ∧ preserves_WcqKernel_WcqKernelIdeal
    ∧ algebraic_WcqKernelIdeal_WcqReferenceIdeal (hWcqKernelIdeal := hWcqKernelIdeal) (hWcqReferenceIdeal := hWcqReferenceIdeal)
    ∧ preserves_WcoKernel_WcoKernelIdeal
    ∧ algebraic_WcoKernelIdeal_WcoReferenceIdeal (hWcoKernelIdeal := hWcoKernelIdeal) (hWcoReferenceIdeal := hWcoReferenceIdeal)
    ∧ preserves_WckvKernel_WckvKernelIdeal
    ∧ algebraic_WckvKernelIdeal_WckvReferenceIdeal (hWckvKernelIdeal := hWckvKernelIdeal) (hWckvReferenceIdeal := hWckvReferenceIdeal)
    ∧ preserves_MemKernel_MemKernelIdeal
    ∧ algebraic_MemKernelIdeal_MemReferenceIdeal (hMemKernelIdeal := hMemKernelIdeal) (hMemReferenceIdeal := hMemReferenceIdeal)
    ∧ preserves_WoutKernel_WoutKernelIdeal
    ∧ algebraic_WoutKernelIdeal_WoutReferenceIdeal (hWoutKernelIdeal := hWoutKernelIdeal) (hWoutReferenceIdeal := hWoutReferenceIdeal)
-- ==== Pre_gains_finite.lean ====
abbrev S4096x1024 : Shape := ⟨2, ![4096, 1024]⟩
abbrev S512x1024 : Shape := ⟨2, ![512, 1024]⟩
abbrev S1x128 : Shape := ⟨2, ![1, 128]⟩
abbrev S1x1024 : Shape := ⟨2, ![1, 1024]⟩
abbrev S1024x512 : Shape := ⟨2, ![1024, 512]⟩
abbrev S_ : Shape := ⟨0, ![]⟩

class Facts : Prop where
  bcast_S_S1x128 : S_.BroadcastsInDim S1x128 (![] : Fin 0 → Fin S1x128.rank)

variable [Facts]

def fn {F : FTy → Type} [FloatOps F] (main_arg0 : FVec F S4096x1024 .f32) (main_arg1 : FVec F S4096x1024 .f32) (main_arg2 : FVec F S512x1024 .f32) (main_arg3 : FVec F S1x128 .f32) (main_arg4 : FVec F S1x128 .f32) (main_arg5 : FVec F S512x1024 .f32) (main_arg6 : FVec F S1x1024 .f32) (main_arg7 : FVec F S1024x512 .f32) : IVec S1x128 1 × IVec S1x128 1 :=
  let main_v0 : FVec F S1x128 .f32 := Host.absf main_arg3
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S1x128 .f32 := Host.absf main_arg4
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  (main_v2, main_v5)
-- ==== Kernel.lean ====
abbrev S4096x1024 : Shape := ⟨2, ![4096, 1024]⟩
abbrev S512x1024 : Shape := ⟨2, ![512, 1024]⟩
abbrev S1x128 : Shape := ⟨2, ![1, 128]⟩
abbrev S1x1024 : Shape := ⟨2, ![1, 1024]⟩
abbrev S1024x512 : Shape := ⟨2, ![1024, 512]⟩
abbrev S_ : Shape := ⟨0, ![]⟩
abbrev S4096 : Shape := ⟨1, ![4096]⟩
abbrev S4096x1 : Shape := ⟨2, ![4096, 1]⟩
abbrev S4096x512 : Shape := ⟨2, ![4096, 512]⟩
abbrev S512x512 : Shape := ⟨2, ![512, 512]⟩
abbrev S256x1024 : Shape := ⟨2, ![256, 1024]⟩
abbrev S256x512 : Shape := ⟨2, ![256, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S256 : Shape := ⟨1, ![256]⟩
abbrev S256x1 : Shape := ⟨2, ![256, 1]⟩
abbrev S512x256 : Shape := ⟨2, ![512, 256]⟩
abbrev S128 : Shape := ⟨1, ![128]⟩
abbrev S1024 : Shape := ⟨1, ![1024]⟩

abbrev nBuf : Space → Nat
  | .hbm => 32
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S512x1024, .f32⟩
  | .hbm, ⟨3, _⟩ => ⟨S1x128, .f32⟩
  | .hbm, ⟨4, _⟩ => ⟨S1x128, .f32⟩
  | .hbm, ⟨5, _⟩ => ⟨S512x1024, .f32⟩
  | .hbm, ⟨6, _⟩ => ⟨S1x1024, .f32⟩
  | .hbm, ⟨7, _⟩ => ⟨S1024x512, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x512, .f32⟩
  | .hbm, ⟨24, _⟩ => ⟨S512x1024, .bf16⟩
  | .hbm, ⟨25, _⟩ => ⟨S1024x512, .bf16⟩
  | .hbm, ⟨26, _⟩ => ⟨S4096x1024, .f32⟩
  | .hbm, ⟨27, _⟩ => ⟨S4096x512, .bf16⟩
  | .hbm, ⟨28, _⟩ => ⟨S512x1024, .bf16⟩
  | .hbm, ⟨29, _⟩ => ⟨S1x128, .f32⟩
  | .hbm, ⟨30, _⟩ => ⟨S1x128, .f32⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S256x1024, .f32⟩
  | .local _ .vmem, ⟨5, _⟩ => ⟨S256x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S1x128, .f32⟩
  | .local _ .vmem, ⟨10, _⟩ => ⟨S512x1024, .bf16⟩
  | .local _ .vmem, ⟨11, _⟩ => ⟨S1x1024, .f32⟩
  | .local _ .vmem, ⟨12, _⟩ => ⟨S1024x512, .bf16⟩
  | .local _ .vmem, ⟨13, _⟩ => ⟨S512x1024, .f32⟩
  | .local _ .vmem, ⟨14, _⟩ => ⟨S512x1024, .f32⟩
  | .local _ .vmem, ⟨15, _⟩ => ⟨S512x512, .bf16⟩
  | .local _ .vmem, ⟨16, _⟩ => ⟨S512x512, .bf16⟩
  | .local _ .vmem, ⟨17, _⟩ => ⟨S256x1024, .bf16⟩
  | .local _ .vmem, ⟨18, _⟩ => ⟨S256x1024, .bf16⟩
  | .local _ .vmem, ⟨19, _⟩ => ⟨S1x128, .f32⟩
  | .local _ .vmem, ⟨20, _⟩ => ⟨S1x128, .f32⟩
  | .local _ .vmem, ⟨21, _⟩ => ⟨S1x1024, .f32⟩
  | .local _ .vmem, ⟨22, _⟩ => ⟨S256x512, .f32⟩
  | .local _ .vmem, ⟨23, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v487 : BitVec 1 := Scalar.cmpi .eq arg1 c3_i32
  let v488 : BitVec 32 := Scalar.extui v487
  let c0_i32_217 : BitVec 32 := 0#32
  let v489 : BitVec 1 := Scalar.cmpi .ne v488 c0_i32_217
  v489

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S4096x1024 : Shape := ⟨2, ![4096, 1024]⟩
abbrev S512x1024 : Shape := ⟨2, ![512, 1024]⟩
abbrev S1x128 : Shape := ⟨2, ![1, 128]⟩
abbrev S1x1024 : Shape := ⟨2, ![1, 1024]⟩
abbrev S1024x512 : Shape := ⟨2, ![1024, 512]⟩
abbrev S_ : Shape := ⟨0, ![]⟩
abbrev S4096 : Shape := ⟨1, ![4096]⟩
abbrev S4096x1 : Shape := ⟨2, ![4096, 1]⟩
abbrev S4096x512 : Shape := ⟨2, ![4096, 512]⟩
abbrev S2x2048x4x128 : Shape := ⟨4, ![2, 2048, 4, 128]⟩
abbrev S128 : Shape := ⟨1, ![128]⟩
abbrev S2x2048x4 : Shape := ⟨3, ![2, 2048, 4]⟩
abbrev S2x2048x4x1 : Shape := ⟨4, ![2, 2048, 4, 1]⟩
abbrev S1x1x1x128 : Shape := ⟨4, ![1, 1, 1, 128]⟩
abbrev S2x256x8x128 : Shape := ⟨4, ![2, 256, 8, 128]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩
abbrev S1024 : Shape := ⟨1, ![1024]⟩

abbrev nBuf : Space → Nat
  | .hbm => 229
  | .vmem => 0
  | .smem => 0
  | _ => 0

abbrev hbmTy0_0 (i : Nat) : BufTy := match i % 128 with
  | 0 => ⟨S4096x1024, .f32⟩
  | 1 => ⟨S4096x1024, .f32⟩
  | 2 => ⟨S512x1024, .f32⟩
  | 3 => ⟨S1x128, .f32⟩
  | 4 => ⟨S1x128, .f32⟩
  | 5 => ⟨S512x1024, .f32⟩
  | 6 => ⟨S1x1024, .f32⟩
  | 7 => ⟨S1024x512, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x512, .f32⟩
  | 28 => ⟨S2x2048x4x128, .f32⟩
  | 29 => ⟨S128, .f32⟩
  | 30 => ⟨S2x2048x4x128, .f32⟩
  | 31 => ⟨S_, .f32⟩
  | 32 => ⟨S2x2048x4, .f32⟩
  | 33 => ⟨S2x2048x4x1, .f32⟩
  | 34 => ⟨S_, .f32⟩
  | 35 => ⟨S2x2048x4x1, .f32⟩
  | 36 => ⟨S2x2048x4x1, .f32⟩
  | 37 => ⟨S_, .f32⟩
  | 38 => ⟨S2x2048x4x1, .f32⟩
  | 39 => ⟨S2x2048x4x1, .f32⟩
  | 40 => ⟨S2x2048x4x1, .f32⟩
  | 41 => ⟨S2x2048x4x1, .f32⟩
  | 42 => ⟨S_, .f32⟩
  | 43 => ⟨S2x2048x4x1, .f32⟩
  | 44 => ⟨S2x2048x4x1, .f32⟩
  | 45 => ⟨S2x2048x4x128, .f32⟩
  | 46 => ⟨S2x2048x4x128, .f32⟩
  | 47 => ⟨S1x1x1x128, .f32⟩
  | 48 => ⟨S2x2048x4x128, .f32⟩
  | 49 => ⟨S2x2048x4x128, .f32⟩
  | 50 => ⟨S2x256x8x128, .f32⟩
  | 51 => ⟨S2x256x4x128, .f32⟩
  | 52 => ⟨S2x256x4x128, .f32⟩
  | 53 => ⟨S128, .f32⟩
  | 54 => ⟨S2x256x4x128, .f32⟩
  | 55 => ⟨S_, .f32⟩
  | 56 => ⟨S2x256x4, .f32⟩
  | 57 => ⟨S2x256x4x1, .f32⟩
  | 58 => ⟨S_, .f32⟩
  | 59 => ⟨S2x256x4x1, .f32⟩
  | 60 => ⟨S2x256x4x1, .f32⟩
  | 61 => ⟨S_, .f32⟩
  | 62 => ⟨S2x256x4x1, .f32⟩
  | 63 => ⟨S2x256x4x1, .f32⟩
  | 64 => ⟨S2x256x4x1, .f32⟩
  | 65 => ⟨S2x256x4x1, .f32⟩
  | 66 => ⟨S_, .f32⟩
  | 67 => ⟨S2x256x4x1, .f32⟩
  | 68 => ⟨S2x256x4x1, .f32⟩
  | 69 => ⟨S2x256x4x128, .f32⟩
  | 70 => ⟨S2x256x4x128, .f32⟩
  | 71 => ⟨S1x1x1x128, .f32⟩
  | 72 => ⟨S2x256x4x128, .f32⟩
  | 73 => ⟨S2x256x4x128, .f32⟩
  | 74 => ⟨S2x4x2048x256, .f32⟩
  | 75 => ⟨S_, .f32⟩
  | 76 => ⟨S2x4x2048x256, .f32⟩
  | 77 => ⟨S2x4x2048x256, .f32⟩
  | 78 => ⟨S_, .f32⟩
  | 79 => ⟨S2x4x2048, .f32⟩
  | 80 => ⟨S2x4x2048x1, .f32⟩
  | 81 => ⟨S2x4x2048x256, .f32⟩
  | 82 => ⟨S2x4x2048x256, .i1⟩
  | 83 => ⟨S2x4x2048x256, .f32⟩
  | 84 => ⟨S_, .f32⟩
  | 85 => ⟨S2x4x2048, .f32⟩
  | 86 => ⟨S_, .f32⟩
  | 87 => ⟨S2x4x2048, .f32⟩
  | 88 => ⟨S2x4x2048, .f32⟩
  | 89 => ⟨S_, .f32⟩
  | 90 => ⟨S2x4x2048, .f32⟩
  | 91 => ⟨S2x4x2048, .i1⟩
  | 92 => ⟨S_, .f32⟩
  | 93 => ⟨S2x4x2048, .f32⟩
  | 94 => ⟨S2x4x2048, .i1⟩
  | 95 => ⟨S_, .f32⟩
  | 96 => ⟨S2x4x2048, .f32⟩
  | 97 => ⟨S_, .f32⟩
  | 98 => ⟨S2x4x2048, .f32⟩
  | 99 => ⟨S_, .f32⟩
  | 100 => ⟨S2x4x2048, .f32⟩
  | 101 => ⟨S2x4x2048, .f32⟩
  | 102 => ⟨S2x4x2048, .f32⟩
  | 103 => ⟨S2x4x2048x1, .f32⟩
  | 104 => ⟨S2x4x2048x256, .f32⟩
  | 105 => ⟨S2x4x2048x256, .f32⟩
  | 106 => ⟨S2x4x2048x256, .f32⟩
  | 107 => ⟨S_, .f32⟩
  | 108 => ⟨S2x4x2048, .f32⟩
  | 109 => ⟨S2x4x2048x1, .f32⟩
  | 110 => ⟨S2x4x2048x256, .f32⟩
  | 111 => ⟨S2x4x2048x256, .f32⟩
  | 112 => ⟨S2x4x2048x1, .f32⟩
  | 113 => ⟨S_, .f32⟩
  | 114 => ⟨S2x4x2048x1, .f32⟩
  | 115 => ⟨S2x4x2048x1, .f32⟩
  | 116 => ⟨S2x4x128x2048, .f32⟩
  | 117 => ⟨S2x2048x4x128, .f32⟩
  | 118 => ⟨S4096x512, .f32⟩
  | 119 => ⟨S4096x1024, .f32⟩
  | 120 => ⟨S4096x512, .f32⟩
  | 121 => ⟨S2x2048x4x128, .f32⟩
  | 122 => ⟨S2x4x128x2048, .f32⟩
  | 123 => ⟨S2x4x2048x256, .f32⟩
  | 124 => ⟨S2x4x128x256, .f32⟩
  | 125 => ⟨S2x256x4x128, .f32⟩
  | 126 => ⟨S2x4x2048x256, .f32⟩
  | 127 => ⟨S2x4x2048x256, .f32⟩
  | _ => ⟨S4096x1024, .f32⟩

abbrev hbmTy0_1 (i : Nat) : BufTy := match i % 128 with
  | 0 => ⟨S2x4x2048x256, .f32⟩
  | 1 => ⟨S_, .f32⟩
  | 2 => ⟨S2x4x2048, .f32⟩
  | 3 => ⟨S2x4x2048x1, .f32⟩
  | 4 => ⟨S2x4x2048x1, .f32⟩
  | 5 => ⟨S2x4x2048x256, .f32⟩
  | 6 => ⟨S2x4x2048x256, .f32⟩
  | 7 => ⟨S_, .f32⟩
  | 8 => ⟨S2x4x2048, .f32⟩
  | 9 => ⟨S2x4x2048x256, .f32⟩
  | 10 => ⟨S2x4x2048x256, .f32⟩
  | 11 => ⟨S2x4x2048x256, .f32⟩
  | 12 => ⟨S_, .f32⟩
  | 13 => ⟨S2x4x2048x256, .f32⟩
  | 14 => ⟨S2x4x2048x256, .f32⟩
  | 15 => ⟨S2x4x256x128, .f32⟩
  | 16 => ⟨S2x256x4x128, .f32⟩
  | 17 => ⟨S2x4x2048x128, .f32⟩
  | 18 => ⟨S2x2048x4x128, .f32⟩
  | 19 => ⟨S2x256x4x128, .f32⟩
  | 20 => ⟨S_, .f32⟩
  | 21 => ⟨S128, .f32⟩
  | 22 => ⟨S1x1x1x128, .f32⟩
  | 23 => ⟨S2x256x4x128, .f32⟩
  | 24 => ⟨S2x256x4x128, .f32⟩
  | 25 => ⟨S_, .f32⟩
  | 26 => ⟨S128, .f32⟩
  | 27 => ⟨S2x256x4x128, .f32⟩
  | 28 => ⟨S_, .f32⟩
  | 29 => ⟨S2x256x4, .f32⟩
  | 30 => ⟨S2x256x4x1, .f32⟩
  | 31 => ⟨S2x256x4x128, .f32⟩
  | 32 => ⟨S2x256x4x128, .f32⟩
  | 33 => ⟨S2x256x4x1, .f32⟩
  | 34 => ⟨S_, .f32⟩
  | 35 => ⟨S2x256x4x1, .f32⟩
  | 36 => ⟨S2x256x4x1, .f32⟩
  | 37 => ⟨S_, .f32⟩
  | 38 => ⟨S2x256x4, .f32⟩
  | 39 => ⟨S2x256x4x128, .f32⟩
  | 40 => ⟨S2x256x4x128, .f32⟩
  | 41 => ⟨S2x256x4x128, .f32⟩
  | 42 => ⟨S2x256x4x128, .f32⟩
  | 43 => ⟨S2x256x4x128, .f32⟩
  | 44 => ⟨S1x128, .f32⟩
  | 45 => ⟨S2x256x8x128, .f32⟩
  | 46 => ⟨S512x1024, .f32⟩
  | 47 => ⟨S2x2048x4x128, .f32⟩
  | 48 => ⟨S_, .f32⟩
  | 49 => ⟨S128, .f32⟩
  | 50 => ⟨S1x1x1x128, .f32⟩
  | 51 => ⟨S2x2048x4x128, .f32⟩
  | 52 => ⟨S2x2048x4x128, .f32⟩
  | 53 => ⟨S_, .f32⟩
  | 54 => ⟨S128, .f32⟩
  | 55 => ⟨S2x2048x4x128, .f32⟩
  | 56 => ⟨S_, .f32⟩
  | 57 => ⟨S2x2048x4, .f32⟩
  | 58 => ⟨S2x2048x4x1, .f32⟩
  | 59 => ⟨S2x2048x4x128, .f32⟩
  | 60 => ⟨S2x2048x4x128, .f32⟩
  | 61 => ⟨S2x2048x4x1, .f32⟩
  | 62 => ⟨S_, .f32⟩
  | 63 => ⟨S2x2048x4x1, .f32⟩
  | 64 => ⟨S2x2048x4x1, .f32⟩
  | 65 => ⟨S_, .f32⟩
  | 66 => ⟨S2x2048x4, .f32⟩
  | 67 => ⟨S2x2048x4x128, .f32⟩
  | 68 => ⟨S2x2048x4x128, .f32⟩
  | 69 => ⟨S2x2048x4x128, .f32⟩
  | 70 => ⟨S2x2048x4x128, .f32⟩
  | 71 => ⟨S2x2048x4x128, .f32⟩
  | 72 => ⟨S1x128, .f32⟩
  | 73 => ⟨S4096x512, .f32⟩
  | 74 => ⟨S4096x1024, .f32⟩
  | 75 => ⟨S4096x1024, .f32⟩
  | 76 => ⟨S_, .f32⟩
  | 77 => ⟨S1024, .f32⟩
  | 78 => ⟨S1x1024, .f32⟩
  | 79 => ⟨S4096x1024, .f32⟩
  | 80 => ⟨S4096x1024, .f32⟩
  | 81 => ⟨S4096x1024, .f32⟩
  | 82 => ⟨S_, .f32⟩
  | 83 => ⟨S4096, .f32⟩
  | 84 => ⟨S4096x1, .f32⟩
  | 85 => ⟨S4096x1024, .f32⟩
  | 86 => ⟨S4096x1024, .f32⟩
  | 87 => ⟨S4096x1, .f32⟩
  | 88 => ⟨S_, .f32⟩
  | 89 => ⟨S4096x1, .f32⟩
  | 90 => ⟨S4096x1, .f32⟩
  | 91 => ⟨S_, .f32⟩
  | 92 => ⟨S4096, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S4096x512, .bf16⟩
  | 100 => ⟨S512x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_cst_18 : Ref sig .tc := ⟨.hbm, 97, rfl⟩
abbrev main_v70 : Ref sig .tc := ⟨.hbm, 98, rfl⟩
abbrev main_cst_19 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_20 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_21 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_22 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_23 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_24 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_25 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_26 : Ref sig .tc := ⟨.hbm, 153, rfl⟩
abbrev main_v118 : Ref sig .tc := ⟨.hbm, 154, rfl⟩
abbrev main_v119 : Ref sig .tc := ⟨.hbm, 155, rfl⟩
abbrev main_cst_27 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_28 : Ref sig .tc := ⟨.hbm, 162, rfl⟩
abbrev main_v125 : Ref sig .tc := ⟨.hbm, 163, rfl⟩
abbrev main_v126 : Ref sig .tc := ⟨.hbm, 164, rfl⟩
abbrev main_cst_29 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_30 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_31 : Ref sig .tc := ⟨.hbm, 181, rfl⟩
abbrev main_v141 : Ref sig .tc := ⟨.hbm, 182, rfl⟩
abbrev main_v142 : Ref sig .tc := ⟨.hbm, 183, rfl⟩
abbrev main_cst_32 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_33 : Ref sig .tc := ⟨.hbm, 190, rfl⟩
abbrev main_v148 : Ref sig .tc := ⟨.hbm, 191, rfl⟩
abbrev main_v149 : Ref sig .tc := ⟨.hbm, 192, rfl⟩
abbrev main_cst_34 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_35 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_cst_36 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_37 : Ref sig .tc := ⟨.hbm, 216, rfl⟩
abbrev main_v170 : Ref sig .tc := ⟨.hbm, 217, rfl⟩
abbrev main_v171 : Ref sig .tc := ⟨.hbm, 218, rfl⟩
abbrev main_cst_38 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩

abbrev nD : Nat := 1
abbrev τ : Topo := Topo.v7x

variable {F : FTy → Type} [FloatOps F]
-- ==== MlpKernel.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S256x1024 : Shape := ⟨2, ![256, 1024]⟩
abbrev S256x4096 : Shape := ⟨2, ![256, 4096]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 26
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S1024x4096, .bf16⟩
  | .hbm, ⟨22, _⟩ => ⟨S4096x1024, .bf16⟩
  | .hbm, ⟨23, _⟩ => ⟨S4096x4096, .bf16⟩
  | .hbm, ⟨24, _⟩ => ⟨S4096x1024, .f32⟩
  | .hbm, ⟨25, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x4096, .f32⟩
  | .local _ .vmem, ⟨3, _⟩ => ⟨S256x4096, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S256x4096, .bf16⟩
  | .local _ .vmem, ⟨10, _⟩ => ⟨S256x4096, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MlpReferenceIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .i1⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x1024, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x4096, .bf16⟩
  | .hbm, ⟨68, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== FwdKernel.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S16x8x128 : Shape := ⟨3, ![16, 8, 128]⟩
abbrev S256x1024 : Shape := ⟨2, ![256, 1024]⟩
abbrev S256x4096 : Shape := ⟨2, ![256, 4096]⟩
abbrev S1x8x128 : Shape := ⟨3, ![1, 8, 128]⟩
abbrev S1024x1024 : Shape := ⟨2, ![1024, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 27
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x4096, .bf16⟩
  | .hbm, ⟨22, _⟩ => ⟨S4096x1024, .bf16⟩
  | .hbm, ⟨23, _⟩ => ⟨S4096x4096, .f32⟩
  | .hbm, ⟨24, _⟩ => ⟨S4096x4096, .bf16⟩
  | .hbm, ⟨25, _⟩ => ⟨S4096x1024, .f32⟩
  | .hbm, ⟨26, _⟩ => ⟨S16x8x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S4096x1024, .bf16⟩
  | .local _ .vmem, ⟨8, _⟩ => ⟨S256x4096, .f32⟩
  | .local _ .vmem, ⟨9, _⟩ => ⟨S256x4096, .f32⟩
  | .local _ .vmem, ⟨10, _⟩ => ⟨S256x4096, .bf16⟩
  | .local _ .vmem, ⟨11, _⟩ => ⟨S256x4096, .bf16⟩
  | .local _ .vmem, ⟨12, _⟩ => ⟨S256x1024, .f32⟩
  | .local _ .vmem, ⟨13, _⟩ => ⟨S256x1024, .f32⟩
  | .local _ .vmem, ⟨14, _⟩ => ⟨S1x8x128, .f32⟩
  | .local _ .vmem, ⟨15, _⟩ => ⟨S1x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdReferenceIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S16x256 : Shape := ⟨2, ![16, 256]⟩
abbrev S16 : Shape := ⟨1, ![16]⟩
abbrev S16x1x1 : Shape := ⟨3, ![16, 1, 1]⟩
abbrev S16x8x128 : Shape := ⟨3, ![16, 8, 128]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S16x256, .f32⟩
  | .hbm, ⟨58, _⟩ => ⟨S_, .f32⟩
  | .hbm, ⟨59, _⟩ => ⟨S16, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .bf16⟩
  | .hbm, ⟨65, _⟩ => ⟨S16x1x1, .f32⟩
  | .hbm, ⟨66, _⟩ => ⟨S16x8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_cst_7 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_12 : Ref sig .tc := ⟨.hbm, 58, rfl⟩
abbrev main_v38 : Ref sig .tc := ⟨.hbm, 59, rfl⟩
abbrev main_call1_cst : Ref sig .tc := ⟨.hbm, 60, rfl⟩
abbrev main_call1_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]
-- ==== WtwoKernel.lean ====
abbrev S4096x1024 : Shape := ⟨2, ![4096, 1024]⟩
abbrev S4096x4096 : Shape := ⟨2, ![4096, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WtwoReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== WoneKernel.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 21
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x4096, .bf16⟩
  | .hbm, ⟨20, _⟩ => ⟨S8x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .f32⟩
  | .local _ .vmem, ⟨5, _⟩ => ⟨S2x1024x512, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoneReferenceIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S1024x4096 : Shape := ⟨2, ![1024, 4096]⟩
abbrev S4096 : Shape := ⟨1, ![4096]⟩
abbrev S4096x1 : Shape := ⟨2, ![4096, 1]⟩
abbrev S1024x8x512 : Shape := ⟨3, ![1024, 8, 512]⟩
abbrev S8x1024x512 : Shape := ⟨3, ![8, 1024, 512]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1x1024, .f32⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S4096x1024, .f32⟩
  | .hbm, ⟨22, _⟩ => ⟨S1024x4096, .f32⟩
  | .hbm, ⟨23, _⟩ => ⟨S1024x8x512, .f32⟩
  | .hbm, ⟨24, _⟩ => ⟨S8x1024x512, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== WcqKernel.lean ====
abbrev S4096x512 : Shape := ⟨2, ![4096, 512]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x512 : Shape := ⟨2, ![1024, 512]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x512, .bf16⟩
  | .hbm, ⟨20, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WcqReferenceIdeal.lean ====
abbrev S4096x512 : Shape := ⟨2, ![4096, 512]⟩
abbrev S4096x1024 : Shape := ⟨2, ![4096, 1024]⟩
abbrev S1x1024 : Shape := ⟨2, ![1, 1024]⟩
abbrev S_ : Shape := ⟨0, ![]⟩
abbrev S1024x512 : Shape := ⟨2, ![1024, 512]⟩
abbrev S4096 : Shape := ⟨1, ![4096]⟩
abbrev S4096x1 : Shape := ⟨2, ![4096, 1]⟩
abbrev S512x1024 : Shape := ⟨2, ![512, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1x1024, .f32⟩
  | .hbm, ⟨3, _⟩ => ⟨S_, .f32⟩
  | .hbm, ⟨4, _⟩ => ⟨S1024x512, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x512, .f32⟩
  | .hbm, ⟨21, _⟩ => ⟨S512x1024, .f32⟩
  | .hbm, ⟨22, _⟩ => ⟨S1024x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== WcoKernel.lean ====
abbrev S4096x1024 : Shape := ⟨2, ![4096, 1024]⟩
abbrev S4096x512 : Shape := ⟨2, ![4096, 512]⟩
abbrev S8x512x128 : Shape := ⟨3, ![8, 512, 128]⟩
abbrev S1024x512 : Shape := ⟨2, ![1024, 512]⟩
abbrev S1024x1024 : Shape := ⟨2, ![1024, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .bf16⟩
  | .hbm, ⟨3, _⟩ => ⟨S8x512x128, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S8x512x128, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WcoReferenceIdeal.lean ====
abbrev S4096x1024 : Shape := ⟨2, ![4096, 1024]⟩
abbrev S4096x512 : Shape := ⟨2, ![4096, 512]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x8x128, .f32⟩
  | .hbm, ⟨8, _⟩ => ⟨S8x512x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WckvKernel.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S1024x1024 : Shape := ⟨2, ![1024, 1024]⟩

abbrev nBuf : Space → Nat
  | .hbm => 21
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .bf16⟩
  | .hbm, ⟨19, _⟩ => ⟨S512x1024, .bf16⟩
  | .hbm, ⟨20, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .f32⟩
  | .local _ .vmem, ⟨3, _⟩ => ⟨S1024x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WckvReferenceIdeal.lean ====
abbrev S512x1024 : Shape := ⟨2, ![512, 1024]⟩
abbrev S1x1024 : Shape := ⟨2, ![1, 1024]⟩
abbrev S_ : Shape := ⟨0, ![]⟩
abbrev S1024x1024 : Shape := ⟨2, ![1024, 1024]⟩
abbrev S512 : Shape := ⟨1, ![512]⟩
abbrev S512x1 : Shape := ⟨2, ![512, 1]⟩

abbrev nBuf : Space → Nat
  | .hbm => 23
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024, .f32⟩
  | .hbm, ⟨3, _⟩ => ⟨S_, .f32⟩
  | .hbm, ⟨4, _⟩ => ⟨S1024x1024, .f32⟩
  | .hbm, ⟨5, _⟩ => ⟨S512x1024, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S1024x1024, .f32⟩
  | .hbm, ⟨22, _⟩ => ⟨S1024x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MemKernel.lean ====
abbrev S512x1024 : Shape := ⟨2, ![512, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024, .f32⟩
  | .hbm, ⟨3, _⟩ => ⟨S1024x1024, .f32⟩
  | .hbm, ⟨4, _⟩ => ⟨S512x1024, .bf16⟩
  | .hbm, ⟨5, _⟩ => ⟨S1024x1024, .bf16⟩
  | .hbm, ⟨6, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemReferenceIdeal.lean ====
abbrev S512x1024 : Shape := ⟨2, ![512, 1024]⟩
abbrev S1x1024 : Shape := ⟨2, ![1, 1024]⟩
abbrev S1024x1024 : Shape := ⟨2, ![1024, 1024]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024, .f32⟩
  | .hbm, ⟨3, _⟩ => ⟨S1024x1024, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S1024, .f32⟩
  | .hbm, ⟨24, _⟩ => ⟨S1x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== WoutKernel.lean ====
abbrev S4096x1024 : Shape := ⟨2, ![4096, 1024]⟩
abbrev S4096x512 : Shape := ⟨2, ![4096, 512]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .bf16⟩
  | .hbm, ⟨4, _⟩ => ⟨S4096x512, .bf16⟩
  | .hbm, ⟨5, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== WoutReferenceIdeal.lean ====
abbrev S4096x1024 : Shape := ⟨2, ![4096, 1024]⟩
abbrev S4096x512 : Shape := ⟨2, ![4096, 512]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Xattn.Frame.lean ====
/-
  The frame of the cross-attention's reference: a host program runs, changes no argument and declares no semaphore.
-/
module

public import proofs.«01_k».proof.Defs
public import proofs.«01_k».proof.Proof.Gen.ReferenceIdeal.Run

@[expose] public section

set_option maxRecDepth 16384

noncomputable section

namespace Cert.Proof.Xattn

open Idealize.ShloMosaic Idealize.ShloMosaic.TcCoe Idealize.SL.Sem

/-- The reference's frame. -/
theorem frame_ref : Cert.quiescent_ReferenceIdeal := fun m ρ _ =>
  (θ_run Cert.ReferenceIdeal.defs _ _).mono (fun r h => ⟨fun c => (h c).2.2.2.2.2.2,
    Idealize.ShloMosaic.sem_eq_zero_of_no_sems (by decide) r.2⟩) (Cert.ReferenceIdeal.Value.run (F := Ideal) m ρ)

end Cert.Proof.Xattn

end
-- ==== Proof.Norm.lean ====
/-
  The gradient of the root-mean-square norm over the extended reals, one row at a time.  The kernel writes it
  `r·(a − x̂·mean(a·x̂))` with `x̂ = x·r`; differentiating `x·rsqrt(mean(x²)+ε)` term by term gives
  `a·r + x·D + D·x` with `D = (Σ x·a)·(−½·(r / (mean(x²)+ε)))/n`.  The two are equal for every row, infinite entries included:
  `mean(x²)+ε` is positive, so `r` is a nonnegative real, and a nonnegative real distributes over any sum.
-/
module

public import Idealize.ShloMosaic.PureOps.Ideal
public import Idealize.ShloMosaic.PureOps.Ideal.Laws

@[expose] public section

noncomputable section

namespace Cert.Proof.Norm

open Idealize.ShloMosaic

/-- The word of `1024.0` denotes 1024. -/
theorem ofBits_1024 : Ideal.ofBits .f32 0x44800000#32 = ((1024 : ℝ) : EReal) := by
  simp [Ideal.ofBits, Ideal.ieee, -EReal.coe_mul, -EReal.coe_neg]; norm_num

/-- The word of `128.0` denotes 128. -/
theorem ofBits_128 : Ideal.ofBits .f32 0x43000000#32 = ((128 : ℝ) : EReal) := by
  simp [Ideal.ofBits, Ideal.ieee, -EReal.coe_mul, -EReal.coe_neg]; norm_num

/-- The word of `2.0` denotes 2. -/
theorem ofBits_two : Ideal.ofBits .f32 0x40000000#32 = ((2 : ℝ) : EReal) := by
  simp [Ideal.ofBits, Ideal.ieee, -EReal.coe_mul, -EReal.coe_neg]; norm_num

/-- The word of `-0.5` denotes −1/2. -/
theorem ofBits_neg_half : Ideal.ofBits .f32 0xBF000000#32 = ((-(1 / 2) : ℝ) : EReal) := by
  simp [Ideal.ofBits, Ideal.ieee, -EReal.coe_mul, -EReal.coe_neg]; norm_num

/-- The word of the norm's `1e-6` denotes a positive real. -/
theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- Dividing by a positive real multiplies by its inverse. -/
theorem div_coe {d : ℝ} (hd : 0 < d) (x : EReal) : Ideal.div x (d : EReal) = x * ((d⁻¹ : ℝ) : EReal) := by
  rw [Ideal.div, if_neg (by exact_mod_cast hd.ne'), EReal.coe_inv]

/-- A nonnegative real goes into a sum. -/
theorem coe_mul_sum {ι : Type*} (s : Finset ι) {c : ℝ} (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih, EReal.left_distrib_of_nonneg_of_ne_top (by exact_mod_cast hc) (EReal.coe_ne_top c)]

/-- A square is not negative. -/
theorem mul_self_nonneg' (x : EReal) : 0 ≤ x * x := by
  rcases le_total 0 x with h | h
  · exact mul_nonneg h h
  · have := mul_nonneg (a := -x) (b := -x) (EReal.neg_nonneg.mpr h) (EReal.neg_nonneg.mpr h)
    rwa [neg_mul, mul_neg, neg_neg] at this

variable {n : ℕ}

/-- The row's `mean(x²) + ε`, the divisor and ε left as given. -/
def ms (d e : EReal) (x : Fin n → EReal) : EReal := Ideal.div (∑ k, x k * x k) d + e

/-- The row's `rsqrt(mean(x²) + ε)`. -/
def rinv (d e : EReal) (x : Fin n → EReal) : EReal := Ideal.rsqrt (ms d e x)

/-- The gradient in the kernel's form, at coordinate `j`: `a` is the output's cotangent times the gain. -/
def back (d e : EReal) (x a : Fin n → EReal) (j : Fin n) : EReal :=
  rinv d e x * (a j - x j * rinv d e x * Ideal.div (∑ k, a k * (x k * rinv d e x)) d)

/-- `mean(x²) + ε` is a positive real, or `⊤`. -/
theorem ms_cases {d e : ℝ} (hd : 0 < d) (he : 0 < e) (x : Fin n → EReal) :
    ms d e x = ⊤ ∨ ∃ y : ℝ, 0 < y ∧ ms d e x = (y : EReal) := by
  have h : 0 ≤ (∑ k, x k * x k) * ((d⁻¹ : ℝ) : EReal) :=
    mul_nonneg (Finset.sum_nonneg fun k _ => mul_self_nonneg' _) (by exact_mod_cast (inv_pos.mpr hd).le)
  unfold ms
  rw [div_coe hd]
  generalize (∑ k, x k * x k) * ((d⁻¹ : ℝ) : EReal) = z at h
  induction z with
  | bot => exact absurd h (by simp)
  | top => exact .inl (EReal.top_add_coe e)
  | coe y => exact .inr ⟨y + e, by have := EReal.coe_nonneg.mp h; linarith, by push_cast; rfl⟩

/-- The norm's factor and its quotient by `mean(x²) + ε` are nonnegative reals `r` and `r³`. -/
theorem rinv_real {d e : ℝ} (hd : 0 < d) (he : 0 < e) (x : Fin n → EReal) :
    ∃ r : ℝ, 0 ≤ r ∧ rinv d e x = (r : EReal) ∧ Ideal.div (rinv d e x) (ms d e x) = ((r * r * r : ℝ) : EReal) := by
  unfold rinv
  rcases ms_cases hd he x with h | ⟨y, hy, h⟩
  · rw [h]; exact ⟨0, le_rfl, rfl, by simp [Ideal.rsqrt, Ideal.div]⟩
  · rw [h]
    have e1 : Ideal.rsqrt (y : EReal) = (((Real.sqrt y)⁻¹ : ℝ) : EReal) := by
      show (if y < 0 then ⊥ else if y = 0 then ⊤ else _ : EReal) = _
      rw [if_neg (not_lt.mpr hy.le), if_neg hy.ne']
    refine ⟨(Real.sqrt y)⁻¹, by positivity, e1, ?_⟩
    rw [e1, div_coe hy, ← EReal.coe_mul]
    congr 1
    have hs : Real.sqrt y * Real.sqrt y = y := Real.mul_self_sqrt hy.le
    have h0 : Real.sqrt y ≠ 0 := (Real.sqrt_pos.mpr hy).ne'
    field_simp
    nlinarith [hs]

/-- Twice an extended real. -/
theorem two_coe_mul (z : EReal) : z + z = ((2 : ℝ) : EReal) * z := by
  have : ((2 : ℝ) : EReal) = 1 + 1 := by rw [show (2 : ℝ) = 1 + 1 by norm_num, EReal.coe_add, EReal.coe_one]
  rw [this, EReal.right_distrib_of_nonneg zero_le_one zero_le_one, one_mul]

/-- THE NORM'S GRADIENT: the kernel's form is the differentiated form, for every row. -/
theorem back_eq {d e : ℝ} (hd : 0 < d) (he : 0 < e) (x a : Fin n → EReal) (j : Fin n) :
    back d e x a j
      = a j * rinv d e x
        + x j * Ideal.div ((∑ k, x k * a k) * (((-(1 / 2) : ℝ) : EReal) * Ideal.div (rinv d e x) (ms d e x))) d
        + Ideal.div ((∑ k, x k * a k) * (((-(1 / 2) : ℝ) : EReal) * Ideal.div (rinv d e x) (ms d e x))) d * x j := by
  obtain ⟨r, hr, h1, h2⟩ := rinv_real hd he x
  unfold back
  rw [h2, h1, div_coe hd, div_coe hd]
  have hs : ∑ k, a k * (x k * (r : EReal)) = (r : EReal) * ∑ k, x k * a k := by
    rw [coe_mul_sum _ hr]
    exact Finset.sum_congr rfl fun k _ => by rw [mul_comm (x k) (r : EReal), ← mul_assoc, mul_comm (a k), mul_assoc, mul_comm (a k)]
  rw [hs]
  generalize ∑ k, x k * a k = S
  rw [sub_eq_add_neg, EReal.left_distrib_of_nonneg_of_ne_top (by exact_mod_cast hr) (EReal.coe_ne_top r), mul_comm (r : EReal) (a j),
    add_assoc, mul_comm _ (x j), two_coe_mul]
  congr 1
  have e1 : (r : EReal) * -(x j * r * ((r : EReal) * S * ((d⁻¹ : ℝ) : EReal))) = ((-(r * r * r * d⁻¹) : ℝ) : EReal) * (x j * S) := by
    rw [mul_neg, EReal.coe_neg, neg_mul]
    congr 1
    simp only [EReal.coe_mul]
    ac_rfl
  have e2 : ((2 : ℝ) : EReal) * (x j * (S * (((-(1 / 2) : ℝ) : EReal) * ((r * r * r : ℝ) : EReal)) * ((d⁻¹ : ℝ) : EReal)))
      = ((2 * (-(1 / 2)) * (r * r * r) * d⁻¹ : ℝ) : EReal) * (x j * S) := by
    simp only [EReal.coe_mul]
    ac_rfl
  rw [e1, e2]
  congr 2
  ring

end Cert.Proof.Norm

end
-- ==== Proof.Xattn.Math.lean ====
/-
  The gradient of one head of the cross-attention, for one query over the 256 keys of its memory, as plain formulas of the
  query's row, its output's cotangent, and the head's keys and values.  The kernel's blocks and the reference's arrays are
  both stated by them.
-/
module

public import proofs.«01_k».proof.Proof.Norm

@[expose] public section

noncomputable section

namespace Cert.Proof.Xattn

open Idealize.ShloMosaic Cert.Proof.Norm

/-- The norm's ε, as its word. -/
abbrev eps : EReal := Ideal.ofBits .f32 0x358637BD#32

/-- The model width, as the word the mean divides by. -/
abbrev wid : EReal := Ideal.ofBits .f32 0x44800000#32

/-- The head's width, as the word the mean divides by. -/
abbrev hdim : EReal := Ideal.ofBits .f32 0x43000000#32

/-- The scale of the scores, 128^(−1/2), as its word. -/
abbrev scale : EReal := Ideal.ofBits .f32 0x3DB504F3#32

/-- A normed row. -/
def nrm (g x : Fin 128 → EReal) (j : Fin 128) : EReal := x j * rinv hdim eps x * g j

variable (gq gk : Fin 128 → EReal) (k v : Fin 256 → Fin 128 → EReal) (q o : Fin 128 → EReal)

/-- The query's score against key `b`. -/
def score (b : Fin 256) : EReal := (∑ j, nrm gq q j * nrm gk (k b) j) * scale

/-- The largest score. -/
def peak : EReal := Finset.univ.fold max (Ideal.ofBits .f32 0xFF800000#32) (score gq gk k q)

/-- The exponential of the score less the largest. -/
def ex (b : Fin 256) : EReal := Ideal.exp (score gq gk k q b - peak gq gk k q)

/-- The query's probability of key `b`. -/
def prob (b : Fin 256) : EReal := Ideal.div (ex gq gk k q b) (∑ b', ex gq gk k q b')

/-- The probability's cotangent. -/
def dprob (b : Fin 256) : EReal := ∑ j, o j * v b j

/-- The score's cotangent, before the scale. -/
def dscore (b : Fin 256) : EReal := prob gq gk k q b * (dprob v o b - ∑ b', dprob v o b' * prob gq gk k q b')

/-- The normed query's cotangent. -/
def dqn (j : Fin 128) : EReal := (∑ b, dscore gq gk k v q o b * nrm gk (k b) j) * scale

/-- The query's cotangent. -/
def dq (j : Fin 128) : EReal := back hdim eps q (fun j => dqn gq gk k v q o j * gq j) j

/-- What the query adds to the gradient of the queries' gain. -/
def dgqE (j : Fin 128) : EReal := dqn gq gk k v q o j * (q j * rinv hdim eps q)

end Cert.Proof.Xattn

end
-- ==== Proof.Xattn.Soft.lean ====
/-
  The gradient of the softmax, where its row's exponentials are nonnegative reals with a positive sum: the form that the
  derivative of `exp(s) / ∑ exp(s)` has is the kernel's `p · (dp − ∑ dp · p)`.  For finite gains the row is such a row: a
  normed row is real whatever the row is.
-/
module

public import proofs.«01_k».proof.Proof.Xattn.Math

@[expose] public section

noncomputable section

namespace Cert.Proof.Xattn

open Idealize.ShloMosaic Cert.Proof.Norm

/-- The word of −∞ denotes `⊥`. -/
theorem ofBits_bot : Ideal.ofBits .f32 0xFF800000#32 = ⊥ := by simp [Ideal.ofBits, Ideal.ieee]

/-- The sum of reals, as extended reals, is their sum. -/
theorem sum_coe {ι : Type*} (s : Finset ι) (g : ι → ℝ) : ∑ k ∈ s, (g k : EReal) = ((∑ k ∈ s, g k : ℝ) : EReal) := by
  classical
  induction s using Finset.induction_on with
  | empty => simp
  | insert a s ha ih => rw [Finset.sum_insert ha, Finset.sum_insert ha, ih, EReal.coe_add]

/-- A sum of reals is a real. -/
theorem sum_real {ι : Type*} (s : Finset ι) (f : ι → EReal) (h : ∀ k, ∃ y : ℝ, f k = (y : EReal)) :
    ∃ y : ℝ, ∑ k ∈ s, f k = (y : EReal) := by
  choose g hg using h
  exact ⟨∑ k ∈ s, g k, by simp only [hg]; exact sum_coe s g⟩

/-- A product of reals is a real. -/
theorem mul_real {x y : EReal} (hx : ∃ r : ℝ, x = (r : EReal)) (hy : ∃ r : ℝ, y = (r : EReal)) : ∃ r : ℝ, x * y = (r : EReal) := by
  obtain ⟨a, rfl⟩ := hx; obtain ⟨b, rfl⟩ := hy
  exact ⟨a * b, (EReal.coe_mul a b).symm⟩

/-- An entry of a row over the row's root mean square is a real. -/
theorem unit_real {n : ℕ} {d e : ℝ} (hd : 0 < d) (he : 0 < e) (x : Fin n → EReal) (j : Fin n) :
    ∃ y : ℝ, x j * rinv d e x = (y : EReal) := by
  obtain ⟨r, -, hr, -⟩ := rinv_real hd he x
  by_cases hx : x j = ⊤ ∨ x j = ⊥
  · have h1 : x j * x j = ⊤ := by rcases hx with h | h <;> rw [h] <;> rfl
    have h2 : ∑ k, x k * x k = ⊤ := by
      refine top_le_iff.mp ?_
      rw [← h1]
      exact Finset.single_le_sum (f := fun k => x k * x k) (fun k _ => mul_self_nonneg' _) (Finset.mem_univ j)
    have h3 : rinv d e x = 0 := by
      unfold rinv ms
      rw [h2, div_coe hd, EReal.top_mul_coe_of_pos (inv_pos.mpr hd), EReal.top_add_coe]
      rfl
    exact ⟨0, by rw [h3, mul_zero]; rfl⟩
  · rw [not_or] at hx
    exact mul_real ⟨(x j).toReal, (EReal.coe_toReal hx.1 hx.2).symm⟩ ⟨r, hr⟩

/-- A normed row is real where the gain is. -/
theorem nrm_real (g x : Fin 128 → EReal) (hg : ∀ j, ∃ y : ℝ, g j = (y : EReal)) (j : Fin 128) : ∃ y : ℝ, nrm g x j = (y : EReal) := by
  obtain ⟨e, he, hw⟩ := ofBits_eps
  refine mul_real ?_ (hg j)
  unfold eps hdim
  rw [hw, ofBits_128]
  exact unit_real (by norm_num) he x j

section Row

variable (gq gk : Fin 128 → EReal) (k : Fin 256 → Fin 128 → EReal) (q : Fin 128 → EReal)
  (hq : ∀ j, ∃ y : ℝ, gq j = (y : EReal)) (hk : ∀ j, ∃ y : ℝ, gk j = (y : EReal))

include hq hk

/-- A score is real. -/
theorem score_real (b : Fin 256) : ∃ y : ℝ, score gq gk k q b = (y : EReal) :=
  mul_real (sum_real _ _ fun j => mul_real (nrm_real gq q hq j) (nrm_real gk (k b) hk j))
    ⟨11863283 * (2 : ℝ) ^ (-27 : ℤ), by simp [scale, Ideal.ofBits, Ideal.ieee, -EReal.coe_mul]⟩

/-- The largest score is one of the scores. -/
theorem peak_mem : ∃ b, peak gq gk k q = score gq gk k q b := by
  obtain ⟨b, -, h⟩ := Finset.exists_mem_eq_sup (Finset.univ : Finset (Fin 256)) ⟨0, Finset.mem_univ _⟩ (score gq gk k q)
  refine ⟨b, ?_⟩
  rw [← h, peak, ofBits_bot]
  rfl

/-- The exponentials are nonnegative reals with a positive sum. -/
theorem ex_real : ∃ e : Fin 256 → ℝ, (∀ b, 0 ≤ e b) ∧ 0 < ∑ b, e b ∧ ∀ b, ex gq gk k q b = (e b : EReal) := by
  choose s hs using score_real gq gk k q hq hk
  obtain ⟨b, hb⟩ := peak_mem gq gk k q hq hk
  refine ⟨fun c => Real.exp (s c - s b), fun c => (Real.exp_pos _).le,
    Finset.sum_pos (fun c _ => Real.exp_pos _) ⟨0, Finset.mem_univ _⟩, fun c => ?_⟩
  rw [ex, hb, hs, hs, ← EReal.coe_sub]
  rfl

end Row

/-- THE SOFTMAX'S GRADIENT: the quotient's derivative, times the exponential, is the kernel's form. -/
theorem soft_eq {n : ℕ} (e : Fin n → ℝ) (h0 : ∀ b, 0 ≤ e b) (hs : 0 < ∑ b, e b) (D : Fin n → EReal) (b : Fin n) :
    (Ideal.div (D b) ((∑ b, e b : ℝ) : EReal)
        + -(∑ b', D b' * Ideal.div 1 (((∑ b, e b : ℝ) : EReal) * ((∑ b, e b : ℝ) : EReal)) * (e b' : EReal))) * (e b : EReal)
      = Ideal.div (e b : EReal) ((∑ b, e b : ℝ) : EReal)
        * (D b - ∑ b', D b' * Ideal.div (e b' : EReal) ((∑ b, e b : ℝ) : EReal)) := by
  generalize (∑ b, e b : ℝ) = S at hs
  have hi : 0 ≤ S⁻¹ := (inv_pos.mpr hs).le
  rw [← EReal.coe_mul, div_coe hs, div_coe hs, div_coe (mul_pos hs hs), one_mul]
  simp only [div_coe hs]
  have e1 : ∑ b', D b' * (((S * S)⁻¹ : ℝ) : EReal) * (e b' : EReal)
      = ((S⁻¹ : ℝ) : EReal) * ∑ b', D b' * ((e b' : EReal) * ((S⁻¹ : ℝ) : EReal)) := by
    rw [coe_mul_sum _ hi]
    refine Finset.sum_congr rfl fun c _ => ?_
    rw [mul_inv, EReal.coe_mul]
    ac_rfl
  rw [e1, sub_eq_add_neg, mul_comm (D b), ← mul_neg, ← EReal.left_distrib_of_nonneg_of_ne_top (by exact_mod_cast hi) (EReal.coe_ne_top _)]
  ac_rfl

end Cert.Proof.Xattn

end
-- ==== Proof.Reads.lean ====
/-
  Reading what a block's loads and stores hold: a load of a buffer held whole, a unit-stride box's placement of an index,
  and what several stores that cover a buffer leave in it.
-/
module

public import Idealize.ShloMosaic.Lib.Pipeline.Value
public import Idealize.ShloMosaic.Lib.Pointwise
public import Idealize.ShloMosaic.Lib.WholeRead

@[expose] public section

noncomputable section

namespace Cert.Proof.Reads

open Idealize.ShloMosaic Idealize.SL.Sem

variable {sig : RefSig} {κ : Kind} {sp : Space} {s : Shape} {e : EltTy}

/-- A load of part of a buffer that holds `X` reads `X` at the part. -/
theorem readAt_ld {m : Memref sig κ sp s e} (h : m.IsWhole) (X : s.Idx → Elt Ideal e) (B : Rect s) :
    View.readAt (Elt Ideal) m.view B.toLoadRect (h.unread X) = View.ld X B :=
  funext fun x => h.readAt_unread X B.toLoadRect x

/-- An index of a two-axis block by its coordinates. -/
theorem exists_ix2 {n m : ℕ} (z : (⟨2, ![n, m]⟩ : Shape).Idx) : ∃ (a : Fin n) (b : Fin m), z = ix2 a b :=
  ⟨z 0, z 1, by funext j; fin_cases j <;> rfl⟩

/-- A box of columns starting at `o` places `(a, b)` at `(a, o + b)`. -/
theorem emb_cols {n m w o : ℕ} (inb : ∀ a : Fin 2, (![0, o] : Fin 2 → ℕ) a + (![n, w] : Fin 2 → ℕ) a ≤ (⟨2, ![n, m]⟩ : Shape).size a)
    (a : Fin n) (b : Fin w) (h : o + b.val < m) :
    (Rect.unit (s := ⟨2, ![n, m]⟩) ![0, o] ![n, w] inb).emb (ix2 a b) = ix2 a ⟨o + b.val, h⟩ := by
  funext j
  apply Fin.ext
  fin_cases j
  · show 0 + 1 * a.val = a.val; omega
  · show o + 1 * b.val = o + b.val; omega

/-- A box of rows starting at `o` places `(a, b)` at `(o + a, b)`. -/
theorem emb_rows {n m w o : ℕ} (inb : ∀ a : Fin 2, (![o, 0] : Fin 2 → ℕ) a + (![w, m] : Fin 2 → ℕ) a ≤ (⟨2, ![n, m]⟩ : Shape).size a)
    (a : Fin w) (b : Fin m) (h : o + a.val < n) :
    (Rect.unit (s := ⟨2, ![n, m]⟩) ![o, 0] ![w, m] inb).emb (ix2 a b) = ix2 ⟨o + a.val, h⟩ b := by
  funext j
  apply Fin.ext
  fin_cases j
  · show o + 1 * a.val = o + a.val; omega
  · show 0 + 1 * b.val = b.val; omega

/-- What stores leave when all of them agree with `G` and they cover the buffer. -/
theorem canon_eq_of_pieces (G : s.Idx → Elt Ideal e) (L : List (View.Piece (Elt Ideal) s e))
    (hG : ∀ p ∈ L, ∀ x : p.1.shape.Idx, p.2 x = G (p.1.emb x)) (hc : ∀ y, ∃ p ∈ L, y ∈ p.1.set) : View.canon L = G :=
  funext fun y => View.canon_apply_of_pieces G L hG y (hc y)

/-- A load of the whole buffer after such stores reads `G`. -/
theorem readCov_eq_of_pieces (v : View sig κ sp s e) (G : s.Idx → Elt Ideal e) (L : List (View.Piece (Elt Ideal) s e))
    (hG : ∀ p ∈ L, ∀ x : p.1.shape.Idx, p.2 x = G (p.1.emb x)) (hc : ∀ y, ∃ p ∈ L, y ∈ p.1.set) (B : Rect s) :
    v.readCov L B.toLoadRect = View.ld G B := by
  rw [View.readCov_eq_canon_ld _ _ _ hc, canon_eq_of_pieces G L hG hc]

/-- Stores that agree with `G` and cover the buffer leave `G`, whatever was stored before them. -/
theorem canon_eq_of_front (G : s.Idx → Elt Ideal e) (L M : List (View.Piece (Elt Ideal) s e))
    (hG : ∀ p ∈ L, ∀ x : p.1.shape.Idx, p.2 x = G (p.1.emb x)) (hc : ∀ y, ∃ p ∈ L, y ∈ p.1.set) : View.canon (L ++ M) = G := by
  funext y
  obtain ⟨q, hq, hy⟩ := hc y
  clear hc
  induction L with
  | nil => exact absurd hq List.not_mem_nil
  | cons p L ih =>
    by_cases hm : y ∈ p.1.set
    · obtain ⟨x, rfl⟩ := p.1.exists_idx_of_mem hm
      exact (View.canon_cons_emb p.1 p.2 (L ++ M) x).trans (hG p List.mem_cons_self x)
    · refine (View.canon_cons_of_not_mem p (L ++ M) hm).trans (ih (fun p hp => hG p (List.mem_cons_of_mem _ hp)) ?_)
      rcases List.mem_cons.1 hq with rfl | h
      · exact absurd hy hm
      · exact h

/-- A load of columns does not see a store of other columns. -/
theorem readCov_skip_cols {n m w w' o o' : ℕ} (v : View sig κ sp ⟨2, ![n, m]⟩ e)
    (inb : ∀ a : Fin 2, (![0, o] : Fin 2 → ℕ) a + (![n, w] : Fin 2 → ℕ) a ≤ (⟨2, ![n, m]⟩ : Shape).size a)
    (inb' : ∀ a : Fin 2, (![0, o'] : Fin 2 → ℕ) a + (![n, w'] : Fin 2 → ℕ) a ≤ (⟨2, ![n, m]⟩ : Shape).size a)
    (x : (Rect.unit (s := ⟨2, ![n, m]⟩) ![0, o] ![n, w] inb).shape.Idx → Elt Ideal e) (L : List (View.Piece (Elt Ideal) ⟨2, ![n, m]⟩ e))
    (h : o + w ≤ o' ∨ o' + w' ≤ o) :
    v.readCov (⟨Rect.unit (s := ⟨2, ![n, m]⟩) ![0, o] ![n, w] inb, x⟩ :: L) (Rect.unit (s := ⟨2, ![n, m]⟩) ![0, o'] ![n, w'] inb').toLoadRect
      = v.readCov L (Rect.unit (s := ⟨2, ![n, m]⟩) ![0, o'] ![n, w'] inb').toLoadRect :=
  View.readCov_cons_of_disjoint v ⟨Rect.unit (s := ⟨2, ![n, m]⟩) ![0, o] ![n, w] inb, x⟩ L
    (Rect.unit (s := ⟨2, ![n, m]⟩) ![0, o'] ![n, w'] inb').toLoadRect (Rect.unit_disjoint (inb := inb) (inb' := inb') 1 h)

/-- A load of part of a buffer whose newest store is of all of it reads that store's part. -/
theorem readCov_of_whole {n m : ℕ} (v : View sig κ sp ⟨2, ![n, m]⟩ e)
    (inb : ∀ a : Fin 2, (![0, 0] : Fin 2 → ℕ) a + (![n, m] : Fin 2 → ℕ) a ≤ (⟨2, ![n, m]⟩ : Shape).size a)
    (x : (⟨2, ![n, m]⟩ : Shape).Idx → Elt Ideal e) (L : List (View.Piece (Elt Ideal) ⟨2, ![n, m]⟩ e)) (B : Rect ⟨2, ![n, m]⟩) :
    v.readCov (⟨Rect.unit (s := ⟨2, ![n, m]⟩) ![0, 0] ![n, m] inb, x⟩ :: L) B.toLoadRect = View.ld x B := by
  have hz : (![0, 0] : Fin 2 → ℕ) = fun _ => 0 := by funext j; fin_cases j <;> rfl
  have hc : ∀ y, ∃ p ∈ ((⟨Rect.unit (s := ⟨2, ![n, m]⟩) ![0, 0] ![n, m] inb, x⟩ : View.Piece (Elt Ideal) ⟨2, ![n, m]⟩ e) :: L), y ∈ p.1.set := by
    intro y
    obtain ⟨a, b, rfl⟩ := exists_ix2 y
    have he : (Rect.unit (s := ⟨2, ![n, m]⟩) ![0, 0] ![n, m] inb).emb (ix2 a b) = ix2 a b :=
      (emb_cols inb a b (by omega)).trans (congrArg (ix2 a) (Fin.ext (Nat.zero_add _)))
    have hm : (Rect.unit (s := ⟨2, ![n, m]⟩) ![0, 0] ![n, m] inb).emb (ix2 a b) ∈ (Rect.unit (s := ⟨2, ![n, m]⟩) ![0, 0] ![n, m] inb).set :=
      (Rect.unit (s := ⟨2, ![n, m]⟩) ![0, 0] ![n, m] inb).idx_mem (ix2 a b)
    rw [he] at hm
    exact ⟨_, List.mem_cons_self, hm⟩
  rw [View.readCov_eq_canon_ld _ _ _ hc, View.canon_cons_unit_zero hz]

end Cert.Proof.Reads

end
-- ==== Proof.Xattn.Block.lean ====
/-
  What one grid point of the cross-attention's backward kernel computes from the blocks it reads, head by head: the query's
  cotangent, what it adds to the gradient of the queries' gain, and to the accumulated cotangents of the keys and the values;
  then the cotangent of the residual stream, and at the last query block the cotangents of keys and values.
-/
module

public import proofs.«01_k».proof.Proof.Gen.KernelIdeal.Value
public import proofs.«01_k».proof.Proof.Reads
public import proofs.«01_k».proof.Proof.Xattn.Math

@[expose] public section

set_option maxRecDepth 16384

noncomputable section

namespace Cert.Proof.Xattn

open Cert.KernelIdeal Cert.KernelIdeal.Gen Idealize.ShloMosaic Idealize.ShloMosaic.TcCoe Idealize.SL.Sem Cert.Proof.Reads
open Cert.Proof.Norm

/-- A row of a head's columns, `o` on. -/
def colR {n m : ℕ} (x : Vec Ideal ⟨2, ![n, m]⟩ .f32) (o : ℕ) (ho : o + 128 ≤ m) (a : Fin n) : Fin 128 → EReal :=
  fun j => x (ix2 a ⟨o + j.val, by omega⟩)

/-- A gain's row. -/
def gR (x : Vec Ideal S1x128 .f32) : Fin 128 → EReal := fun j => x (ix2 0 j)

/-- A function of the head and the place in it, at a column of the 512. -/
def byHead (F : (o : ℕ) → o + 128 ≤ 512 → Fin 128 → EReal) (l : Fin 512) : EReal :=
  F (128 * (l.val / 128)) (by omega) ⟨l.val % 128, by omega⟩

/-- At a column that is given by its head. -/
theorem byHead_at (F : (o : ℕ) → o + 128 ≤ 512 → Fin 128 → EReal) (o : ℕ) (ho : o + 128 ≤ 512) (hd : o % 128 = 0) (j : Fin 128)
    (h : o + j.val < 512) : byHead F ⟨o + j.val, h⟩ = F o ho j := by
  have h1 : 128 * ((o + j.val) / 128) = o := by omega
  have h2 : (o + j.val) % 128 = j.val := by omega
  unfold byHead
  simp only [h1, h2]

section Head

variable (x0 : Vec Ideal S512x1024 .f32) (x1 : Vec Ideal S512x512 .f32) (x2 : Vec Ideal S256x1024 .f32) (x4 x5 : Vec Ideal S1x128 .f32)
  (x6 : Vec Ideal S512x1024 .bf16) (o : ℕ) (ho : o + 128 ≤ 512)

/-- The cotangent of a head's output: `dx·w_coᵀ` at its columns. -/
def oR (a : Fin 512) : Fin 128 → EReal := fun j => ∑ l : Fin 1024, x0 (ix2 a l) * x6 (ix2 ⟨o + j.val, by omega⟩ l)

/-- The query's cotangent. -/
def dcqE (a : Fin 512) (j : Fin 128) : EReal :=
  dq (gR x4) (gR x5) (colR x2 o (by omega)) (colR x2 (512 + o) (by omega)) (colR x1 o ho a) (oR x0 x6 o ho a) j

/-- What the block's queries add to the gradient of the queries' gain. -/
def dgqS (j : Fin 128) : EReal :=
  ∑ a : Fin 512, dgqE (gR x4) (gR x5) (colR x2 o (by omega)) (colR x2 (512 + o) (by omega)) (colR x1 o ho a) (oR x0 x6 o ho a) j

/-- What the block's queries add to the normed keys' cotangent. -/
def dkS (b : Fin 256) (j : Fin 128) : EReal :=
  (∑ a : Fin 512, dscore (gR x4) (gR x5) (colR x2 o (by omega)) (colR x2 (512 + o) (by omega)) (colR x1 o ho a) (oR x0 x6 o ho a) b
    * nrm (gR x4) (colR x1 o ho a) j) * scale

/-- What the block's queries add to the values' cotangent. -/
def dvS (b : Fin 256) (j : Fin 128) : EReal :=
  ∑ a : Fin 512, prob (gR x4) (gR x5) (colR x2 o (by omega)) (colR x1 o ho a) b * oR x0 x6 o ho a j

end Head

section Blocks

variable (x0 : Vec Ideal S512x1024 .f32) (x1 : Vec Ideal S512x512 .f32) (x2 : Vec Ideal S256x1024 .f32) (x3 : Vec Ideal S512x1024 .f32)
  (x4 x5 : Vec Ideal S1x128 .f32) (x6 : Vec Ideal S512x1024 .bf16) (x7 : Vec Ideal S1x1024 .f32) (x8 : Vec Ideal S1024x512 .bf16)

/-- The query projection's cotangent, an entry. -/
def dcqL (a l : Fin 512) : EReal := byHead (fun o ho j => dcqE x0 x1 x2 x4 x5 x6 o ho a j) l

/-- The query projection's cotangent over the block. -/
def dcqB : Vec Ideal S512x512 .bf16 := fun y => dcqL x0 x1 x2 x4 x5 x6 (y 0) (y 1)

/-- The accumulated cotangent of the normed keys, over what was there. -/
def dkB (w : Vec Ideal S256x512 .f32) : Vec Ideal S256x512 .f32 :=
  fun y => w y + byHead (fun o ho j => dkS x0 x1 x2 x4 x5 x6 o ho (y 0) j) (y 1)

/-- The accumulated cotangent of the values, over what was there. -/
def dvB (w : Vec Ideal S256x512 .f32) : Vec Ideal S256x512 .f32 :=
  fun y => w y + byHead (fun o ho j => dvS x0 x1 x2 x4 x5 x6 o ho (y 0) j) (y 1)

/-- What the block adds to the gradient of the queries' gain. -/
def dgqB (j : Fin 128) : EReal :=
  dgqS x0 x1 x2 x4 x5 x6 0 (by omega) j + dgqS x0 x1 x2 x4 x5 x6 128 (by omega) j + dgqS x0 x1 x2 x4 x5 x6 256 (by omega) j
    + dgqS x0 x1 x2 x4 x5 x6 384 (by omega) j

/-- The cotangent of the norm's output: `dq·w_cqᵀ`. -/
def dhE (a : Fin 512) (l : Fin 1024) : EReal := ∑ k : Fin 512, dcqL x0 x1 x2 x4 x5 x6 a k * x8 (ix2 l k)

/-- The cotangent of the residual stream. -/
def dxE (a : Fin 512) (l : Fin 1024) : EReal :=
  x0 (ix2 a l) + back wid eps (fun k => x3 (ix2 a k)) (fun k => dhE x0 x1 x2 x4 x5 x6 x8 a k * x7 (ix2 0 k)) l

/-- What the block adds to the gradient of the norm's gain. -/
def dgxE (l : Fin 1024) : EReal :=
  ∑ a : Fin 512, dhE x0 x1 x2 x4 x5 x6 x8 a l * (x3 (ix2 a l) * rinv wid eps (fun k => x3 (ix2 a k)))

/-- The keys' cotangent, of a head, from the normed keys'. -/
def dkE (D : Vec Ideal S256x512 .f32) (o : ℕ) (ho : o + 128 ≤ 512) (b : Fin 256) (j : Fin 128) : EReal :=
  back hdim eps (colR x2 o (by omega) b) (fun j => colR D o ho b j * gR x5 j) j

/-- What a head adds to the gradient of the keys' gain. -/
def dgkS (D : Vec Ideal S256x512 .f32) (o : ℕ) (ho : o + 128 ≤ 512) (j : Fin 128) : EReal :=
  ∑ b : Fin 256, colR D o ho b j * (colR x2 o (by omega) b j * rinv hdim eps (colR x2 o (by omega) b))

/-- The cotangent of keys and values, an entry: the keys' columns, then the values'. -/
def dkvL (D E : Vec Ideal S256x512 .f32) (b : Fin 256) (l : Fin 1024) : EReal :=
  if h : l.val < 512 then byHead (fun o ho j => dkE x2 x5 D o ho b j) ⟨l.val, h⟩ else E (ix2 b ⟨l.val - 512, by omega⟩)

/-- The cotangent of keys and values over the block. -/
def dkvB (D E : Vec Ideal S256x512 .f32) : Vec Ideal S256x1024 .bf16 := fun y => dkvL x2 x5 D E (y 0) (y 1)

/-- What the keys add to the gradient of their gain. -/
def dgkB (D : Vec Ideal S256x512 .f32) (j : Fin 128) : EReal :=
  dgkS x2 D 0 (by omega) j + dgkS x2 D 128 (by omega) j + dgkS x2 D 256 (by omega) j + dgkS x2 D 384 (by omega) j

end Blocks

section Heads

variable (x0 : Vec Ideal S512x1024 .f32) (x1 : Vec Ideal S512x512 .f32) (x2 : Vec Ideal S256x1024 .f32) (x4 x5 : Vec Ideal S1x128 .f32)
  (x6 : Vec Ideal S512x1024 .bf16)

/-- The first head's query cotangent. -/
theorem cq0 (a : Fin 512) (j : Fin 128) :
    k0_pay45 (k0_pay43 (k0_pay29 (View.ld x1 (Rect.unit ![0, 0] ![512, 128] inb_S512x512_S512x128_0_0))) (k0_pay37 (k0_pay28 (View.ld x0
    (Rect.unit ![0, 0] ![512, 1024] inb_S512x1024_S512x1024_0_0)) (View.ld x6 (Rect.unit ![0, 0] ![512, 1024] inb_S512x1024_S512x1024_0_0)))
    (k0_pay30 (View.ld x1 (Rect.unit ![0, 0] ![512, 128] inb_S512x512_S512x128_0_0)) (View.ld x4 (Rect.unit ![0, 0] ![1, 128]
    inb_S1x128_S1x128_0_0))) (View.ld x2 (Rect.unit ![0, 0] ![256, 128] inb_S256x1024_S256x128_0_0)) (View.ld x5 (Rect.unit ![0, 0] ![1, 128]
    inb_S1x128_S1x128_0_0)) (k0_pay31 (View.ld x2 (Rect.unit ![0, 0] ![256, 128] inb_S256x1024_S256x128_0_0))) (FloatOps.ofBits .f32
    0x43000000#32) (View.ld x2 (Rect.unit ![0, 512] ![256, 128] inb_S256x1024_S256x128_0_512))) (k0_pay38 (View.ld x2 (Rect.unit ![0, 0] ![256,
    128] inb_S256x1024_S256x128_0_0)) (View.ld x5 (Rect.unit ![0, 0] ![1, 128] inb_S1x128_S1x128_0_0)) (k0_pay31 (View.ld x2 (Rect.unit ![0, 0]
    ![256, 128] inb_S256x1024_S256x128_0_0))) (FloatOps.ofBits .f32 0x43000000#32)) (constant S512x128 .f32 0x00000000#32) (View.ld x4 (Rect.unit
    ![0, 0] ![1, 128] inb_S1x128_S1x128_0_0))) (ix2 a j)
      = dcqE x0 x1 x2 x4 x5 x6 0 (by omega) a j := by
  pointwise [k0_pay28, k0_pay29, k0_pay30, k0_pay31, k0_pay32, k0_pay33, k0_pay34, k0_pay36, k0_pay37, k0_pay38, k0_pay39, k0_pay41, k0_pay42, k0_pay43, k0_pay45, dcqE, nrm, score, peak, ex, prob, dprob, dscore, dqn, dq, dgqE, back, colR, gR, oR, rinv, ms]

/-- What the first head adds to the gradient of the queries' gain. -/
theorem gq0 (w : Vec Ideal S1x128 .f32) (j : Fin 128) :
    k0_pay44 (k0_pay29 (View.ld x1 (Rect.unit ![0, 0] ![512, 128] inb_S512x512_S512x128_0_0))) (k0_pay37 (k0_pay28 (View.ld x0 (Rect.unit ![0, 0]
    ![512, 1024] inb_S512x1024_S512x1024_0_0)) (View.ld x6 (Rect.unit ![0, 0] ![512, 1024] inb_S512x1024_S512x1024_0_0))) (k0_pay30 (View.ld x1
    (Rect.unit ![0, 0] ![512, 128] inb_S512x512_S512x128_0_0)) (View.ld x4 (Rect.unit ![0, 0] ![1, 128] inb_S1x128_S1x128_0_0))) (View.ld x2
    (Rect.unit ![0, 0] ![256, 128] inb_S256x1024_S256x128_0_0)) (View.ld x5 (Rect.unit ![0, 0] ![1, 128] inb_S1x128_S1x128_0_0)) (k0_pay31
    (View.ld x2 (Rect.unit ![0, 0] ![256, 128] inb_S256x1024_S256x128_0_0))) (FloatOps.ofBits .f32 0x43000000#32) (View.ld x2 (Rect.unit ![0,
    512] ![256, 128] inb_S256x1024_S256x128_0_512))) (k0_pay38 (View.ld x2 (Rect.unit ![0, 0] ![256, 128] inb_S256x1024_S256x128_0_0)) (View.ld
    x5 (Rect.unit ![0, 0] ![1, 128] inb_S1x128_S1x128_0_0)) (k0_pay31 (View.ld x2 (Rect.unit ![0, 0] ![256, 128] inb_S256x1024_S256x128_0_0)))
    (FloatOps.ofBits .f32 0x43000000#32)) (constant S512x128 .f32 0x00000000#32) w (ix2 0 j)
      = w (ix2 0 j) + dgqS x0 x1 x2 x4 x5 x6 0 (by omega) j := by
  pointwise [k0_pay28, k0_pay29, k0_pay30, k0_pay31, k0_pay32, k0_pay33, k0_pay34, k0_pay36, k0_pay37, k0_pay38, k0_pay39, k0_pay41, k0_pay42, k0_pay44, dgqS, nrm, score, peak, ex, prob, dprob, dscore, dqn, dq, dgqE, back, colR, gR, oR, rinv, ms]

/-- What the first head adds to the normed keys' cotangent. -/
theorem dk0 (w : Vec Ideal S256x128 .f32) (b : Fin 256) (j : Fin 128) :
    k0_pay40 (k0_pay30 (View.ld x1 (Rect.unit ![0, 0] ![512, 128] inb_S512x512_S512x128_0_0)) (View.ld x4 (Rect.unit ![0, 0] ![1, 128]
    inb_S1x128_S1x128_0_0))) (k0_pay36 (k0_pay28 (View.ld x0 (Rect.unit ![0, 0] ![512, 1024] inb_S512x1024_S512x1024_0_0)) (View.ld x6 (Rect.unit
    ![0, 0] ![512, 1024] inb_S512x1024_S512x1024_0_0))) (k0_pay30 (View.ld x1 (Rect.unit ![0, 0] ![512, 128] inb_S512x512_S512x128_0_0)) (View.ld
    x4 (Rect.unit ![0, 0] ![1, 128] inb_S1x128_S1x128_0_0))) (View.ld x2 (Rect.unit ![0, 0] ![256, 128] inb_S256x1024_S256x128_0_0)) (View.ld x5
    (Rect.unit ![0, 0] ![1, 128] inb_S1x128_S1x128_0_0)) (k0_pay31 (View.ld x2 (Rect.unit ![0, 0] ![256, 128] inb_S256x1024_S256x128_0_0)))
    (FloatOps.ofBits .f32 0x43000000#32) (View.ld x2 (Rect.unit ![0, 512] ![256, 128] inb_S256x1024_S256x128_0_512))) w (ix2 b j)
      = w (ix2 b j) + dkS x0 x1 x2 x4 x5 x6 0 (by omega) b j := by
  pointwise [k0_pay28, k0_pay29, k0_pay30, k0_pay31, k0_pay32, k0_pay33, k0_pay34, k0_pay36, k0_pay40, dkS, nrm, score, peak, ex, prob, dprob, dscore, dqn, dq, dgqE, back, colR, gR, oR, rinv, ms]

/-- What the first head adds to the values' cotangent. -/
theorem dv0 (w : Vec Ideal S256x128 .f32) (b : Fin 256) (j : Fin 128) :
    k0_pay35 (k0_pay28 (View.ld x0 (Rect.unit ![0, 0] ![512, 1024] inb_S512x1024_S512x1024_0_0)) (View.ld x6 (Rect.unit ![0, 0] ![512, 1024]
    inb_S512x1024_S512x1024_0_0))) (k0_pay30 (View.ld x1 (Rect.unit ![0, 0] ![512, 128] inb_S512x512_S512x128_0_0)) (View.ld x4 (Rect.unit ![0,
    0] ![1, 128] inb_S1x128_S1x128_0_0))) (View.ld x2 (Rect.unit ![0, 0] ![256, 128] inb_S256x1024_S256x128_0_0)) (View.ld x5 (Rect.unit ![0, 0]
    ![1, 128] inb_S1x128_S1x128_0_0)) (k0_pay31 (View.ld x2 (Rect.unit ![0, 0] ![256, 128] inb_S256x1024_S256x128_0_0))) (FloatOps.ofBits .f32
    0x43000000#32) w (ix2 b j)
      = w (ix2 b j) + dvS x0 x1 x2 x4 x5 x6 0 (by omega) b j := by
  pointwise [k0_pay28, k0_pay29, k0_pay30, k0_pay31, k0_pay32, k0_pay33, k0_pay34, k0_pay35, dvS, nrm, score, peak, ex, prob, dprob, dscore, dqn, dq, dgqE, back, colR, gR, oR, rinv, ms]

/-- The second head's query cotangent. -/
theorem cq1 (a : Fin 512) (j : Fin 128) :
    k0_pay60 (k0_pay46 (View.ld x1 (Rect.unit ![0, 128] ![512, 128] inb_S512x512_S512x128_0_128))) (k0_pay54 (k0_pay28 (View.ld x0 (Rect.unit
    ![0, 0] ![512, 1024] inb_S512x1024_S512x1024_0_0)) (View.ld x6 (Rect.unit ![0, 0] ![512, 1024] inb_S512x1024_S512x1024_0_0))) (k0_pay48
    (View.ld x2 (Rect.unit ![0, 128] ![256, 128] inb_S256x1024_S256x128_0_128)) (View.ld x5 (Rect.unit ![0, 0] ![1, 128] inb_S1x128_S1x128_0_0)))
    (View.ld x2 (Rect.unit ![0, 640] ![256, 128] inb_S256x1024_S256x128_0_640)) (k0_pay49 (View.ld x1 (Rect.unit ![0, 128] ![512, 128]
    inb_S512x512_S512x128_0_128)) (View.ld x4 (Rect.unit ![0, 0] ![1, 128] inb_S1x128_S1x128_0_0)) (View.ld x2 (Rect.unit ![0, 128] ![256, 128]
    inb_S256x1024_S256x128_0_128)) (View.ld x5 (Rect.unit ![0, 0] ![1, 128] inb_S1x128_S1x128_0_0))) (FloatOps.ofBits .f32 0x3DB504F3#32))
    (View.ld x4 (Rect.unit ![0, 0] ![1, 128] inb_S1x128_S1x128_0_0)) (ix2 a j)
      = dcqE x0 x1 x2 x4 x5 x6 128 (by omega) a j := by
  pointwise [k0_pay28, k0_pay46, k0_pay47, k0_pay48, k0_pay49, k0_pay50, k0_pay51, k0_pay53, k0_pay54, k0_pay57, k0_pay58, k0_pay60, dcqE, nrm, score, peak, ex, prob, dprob, dscore, dqn, dq, dgqE, back, colR, gR, oR, rinv, ms]

/-- What the second head adds to the gradient of the queries' gain. -/
theorem gq1 (w : Vec Ideal S1x128 .f32) (j : Fin 128) :
    k0_pay59 (k0_pay46 (View.ld x1 (Rect.unit ![0, 128] ![512, 128] inb_S512x512_S512x128_0_128))) (k0_pay54 (k0_pay28 (View.ld x0 (Rect.unit
    ![0, 0] ![512, 1024] inb_S512x1024_S512x1024_0_0)) (View.ld x6 (Rect.unit ![0, 0] ![512, 1024] inb_S512x1024_S512x1024_0_0))) (k0_pay48
    (View.ld x2 (Rect.unit ![0, 128] ![256, 128] inb_S256x1024_S256x128_0_128)) (View.ld x5 (Rect.unit ![0, 0] ![1, 128] inb_S1x128_S1x128_0_0)))
    (View.ld x2 (Rect.unit ![0, 640] ![256, 128] inb_S256x1024_S256x128_0_640)) (k0_pay49 (View.ld x1 (Rect.unit ![0, 128] ![512, 128]
    inb_S512x512_S512x128_0_128)) (View.ld x4 (Rect.unit ![0, 0] ![1, 128] inb_S1x128_S1x128_0_0)) (View.ld x2 (Rect.unit ![0, 128] ![256, 128]
    inb_S256x1024_S256x128_0_128)) (View.ld x5 (Rect.unit ![0, 0] ![1, 128] inb_S1x128_S1x128_0_0))) (FloatOps.ofBits .f32 0x3DB504F3#32)) w (ix2 0 j)
      = w (ix2 0 j) + dgqS x0 x1 x2 x4 x5 x6 128 (by omega) j := by
  pointwise [k0_pay28, k0_pay46, k0_pay47, k0_pay48, k0_pay49, k0_pay50, k0_pay51, k0_pay53, k0_pay54, k0_pay57, k0_pay58, k0_pay59, dgqS, nrm, score, peak, ex, prob, dprob, dscore, dqn, dq, dgqE, back, colR, gR, oR, rinv, ms]

/-- What the second head adds to the normed keys' cotangent. -/
theorem dk1 (w : Vec Ideal S256x128 .f32) (b : Fin 256) (j : Fin 128) :
    k0_pay56 (k0_pay55 (k0_pay28 (View.ld x0 (Rect.unit ![0, 0] ![512, 1024] inb_S512x1024_S512x1024_0_0)) (View.ld x6 (Rect.unit ![0, 0] ![512,
    1024] inb_S512x1024_S512x1024_0_0))) (k0_pay47 (View.ld x1 (Rect.unit ![0, 128] ![512, 128] inb_S512x512_S512x128_0_128)) (View.ld x4
    (Rect.unit ![0, 0] ![1, 128] inb_S1x128_S1x128_0_0))) (View.ld x2 (Rect.unit ![0, 640] ![256, 128] inb_S256x1024_S256x128_0_640)) (k0_pay49
    (View.ld x1 (Rect.unit ![0, 128] ![512, 128] inb_S512x512_S512x128_0_128)) (View.ld x4 (Rect.unit ![0, 0] ![1, 128] inb_S1x128_S1x128_0_0))
    (View.ld x2 (Rect.unit ![0, 128] ![256, 128] inb_S256x1024_S256x128_0_128)) (View.ld x5 (Rect.unit ![0, 0] ![1, 128] inb_S1x128_S1x128_0_0)))
    (FloatOps.ofBits .f32 0x3DB504F3#32) w) (ix2 b j)
      = w (ix2 b j) + dkS x0 x1 x2 x4 x5 x6 128 (by omega) b j := by
  pointwise [k0_pay28, k0_pay46, k0_pay47, k0_pay48, k0_pay49, k0_pay50, k0_pay51, k0_pay53, k0_pay55, k0_pay56, dkS, nrm, score, peak, ex, prob, dprob, dscore, dqn, dq, dgqE, back, colR, gR, oR, rinv, ms]

/-- What the second head adds to the values' cotangent. -/
theorem dv1 (w : Vec Ideal S256x128 .f32) (b : Fin 256) (j : Fin 128) :
    k0_pay52 (k0_pay28 (View.ld x0 (Rect.unit ![0, 0] ![512, 1024] inb_S512x1024_S512x1024_0_0)) (View.ld x6 (Rect.unit ![0, 0] ![512, 1024]
    inb_S512x1024_S512x1024_0_0))) (k0_pay49 (View.ld x1 (Rect.unit ![0, 128] ![512, 128] inb_S512x512_S512x128_0_128)) (View.ld x4 (Rect.unit
    ![0, 0] ![1, 128] inb_S1x128_S1x128_0_0)) (View.ld x2 (Rect.unit ![0, 128] ![256, 128] inb_S256x1024_S256x128_0_128)) (View.ld x5 (Rect.unit
    ![0, 0] ![1, 128] inb_S1x128_S1x128_0_0))) (FloatOps.ofBits .f32 0x3DB504F3#32) w (ix2 b j)
      = w (ix2 b j) + dvS x0 x1 x2 x4 x5 x6 128 (by omega) b j := by
  pointwise [k0_pay28, k0_pay46, k0_pay47, k0_pay48, k0_pay49, k0_pay50, k0_pay51, k0_pay52, dvS, nrm, score, peak, ex, prob, dprob, dscore, dqn, dq, dgqE, back, colR, gR, oR, rinv, ms]

/-- The third head's query cotangent. -/
theorem cq2 (a : Fin 512) (j : Fin 128) :
    k0_pay76 (k0_pay61 (View.ld x1 (Rect.unit ![0, 256] ![512, 128] inb_S512x512_S512x128_0_256))) (k0_pay70 (k0_pay64 (View.ld x2 (Rect.unit
    ![0, 256] ![256, 128] inb_S256x1024_S256x128_0_256)) (View.ld x5 (Rect.unit ![0, 0] ![1, 128] inb_S1x128_S1x128_0_0))) (View.ld x2 (Rect.unit
    ![0, 768] ![256, 128] inb_S256x1024_S256x128_0_768)) (k0_pay65 (k0_pay61 (View.ld x1 (Rect.unit ![0, 256] ![512, 128]
    inb_S512x512_S512x128_0_256))) (View.ld x4 (Rect.unit ![0, 0] ![1, 128] inb_S1x128_S1x128_0_0)) (k0_pay62 (View.ld x1 (Rect.unit ![0, 256]
    ![512, 128] inb_S512x512_S512x128_0_256))) (View.ld x2 (Rect.unit ![0, 256] ![256, 128] inb_S256x1024_S256x128_0_256)) (View.ld x5 (Rect.unit
    ![0, 0] ![1, 128] inb_S1x128_S1x128_0_0))) (k0_pay66 (k0_pay28 (View.ld x0 (Rect.unit ![0, 0] ![512, 1024] inb_S512x1024_S512x1024_0_0))
    (View.ld x6 (Rect.unit ![0, 0] ![512, 1024] inb_S512x1024_S512x1024_0_0))))) (View.ld x4 (Rect.unit ![0, 0] ![1, 128] inb_S1x128_S1x128_0_0))
    (k0_pay72 (k0_pay61 (View.ld x1 (Rect.unit ![0, 256] ![512, 128] inb_S512x512_S512x128_0_256)))) (k0_pay73 (k0_pay61 (View.ld x1 (Rect.unit
    ![0, 256] ![512, 128] inb_S512x512_S512x128_0_256)))) (ix2 a j)
      = dcqE x0 x1 x2 x4 x5 x6 256 (by omega) a j := by
  pointwise [k0_pay28, k0_pay61, k0_pay62, k0_pay63, k0_pay64, k0_pay65, k0_pay66, k0_pay69, k0_pay70, k0_pay72, k0_pay73, k0_pay74, k0_pay76, dcqE, nrm, score, peak, ex, prob, dprob, dscore, dqn, dq, dgqE, back, colR, gR, oR, rinv, ms]

/-- What the third head adds to the gradient of the queries' gain. -/
theorem gq2 (w : Vec Ideal S1x128 .f32) (j : Fin 128) :
    k0_pay75 (k0_pay61 (View.ld x1 (Rect.unit ![0, 256] ![512, 128] inb_S512x512_S512x128_0_256))) (k0_pay70 (k0_pay64 (View.ld x2 (Rect.unit
    ![0, 256] ![256, 128] inb_S256x1024_S256x128_0_256)) (View.ld x5 (Rect.unit ![0, 0] ![1, 128] inb_S1x128_S1x128_0_0))) (View.ld x2 (Rect.unit
    ![0, 768] ![256, 128] inb_S256x1024_S256x128_0_768)) (k0_pay65 (k0_pay61 (View.ld x1 (Rect.unit ![0, 256] ![512, 128]
    inb_S512x512_S512x128_0_256))) (View.ld x4 (Rect.unit ![0, 0] ![1, 128] inb_S1x128_S1x128_0_0)) (k0_pay62 (View.ld x1 (Rect.unit ![0, 256]
    ![512, 128] inb_S512x512_S512x128_0_256))) (View.ld x2 (Rect.unit ![0, 256] ![256, 128] inb_S256x1024_S256x128_0_256)) (View.ld x5 (Rect.unit
    ![0, 0] ![1, 128] inb_S1x128_S1x128_0_0))) (k0_pay66 (k0_pay28 (View.ld x0 (Rect.unit ![0, 0] ![512, 1024] inb_S512x1024_S512x1024_0_0))
    (View.ld x6 (Rect.unit ![0, 0] ![512, 1024] inb_S512x1024_S512x1024_0_0))))) (k0_pay73 (k0_pay61 (View.ld x1 (Rect.unit ![0, 256] ![512, 128]
    inb_S512x512_S512x128_0_256)))) w (ix2 0 j)
      = w (ix2 0 j) + dgqS x0 x1 x2 x4 x5 x6 256 (by omega) j := by
  pointwise [k0_pay28, k0_pay61, k0_pay62, k0_pay63, k0_pay64, k0_pay65, k0_pay66, k0_pay69, k0_pay70, k0_pay72, k0_pay73, k0_pay74, k0_pay75, dgqS, nrm, score, peak, ex, prob, dprob, dscore, dqn, dq, dgqE, back, colR, gR, oR, rinv, ms]

/-- What the third head adds to the normed keys' cotangent. -/
theorem dk2 (w : Vec Ideal S256x128 .f32) (b : Fin 256) (j : Fin 128) :
    k0_pay71 (k0_pay63 (k0_pay61 (View.ld x1 (Rect.unit ![0, 256] ![512, 128] inb_S512x512_S512x128_0_256))) (View.ld x4 (Rect.unit ![0, 0] ![1,
    128] inb_S1x128_S1x128_0_0)) (k0_pay62 (View.ld x1 (Rect.unit ![0, 256] ![512, 128] inb_S512x512_S512x128_0_256)))) (View.ld x2 (Rect.unit
    ![0, 768] ![256, 128] inb_S256x1024_S256x128_0_768)) (k0_pay65 (k0_pay61 (View.ld x1 (Rect.unit ![0, 256] ![512, 128]
    inb_S512x512_S512x128_0_256))) (View.ld x4 (Rect.unit ![0, 0] ![1, 128] inb_S1x128_S1x128_0_0)) (k0_pay62 (View.ld x1 (Rect.unit ![0, 256]
    ![512, 128] inb_S512x512_S512x128_0_256))) (View.ld x2 (Rect.unit ![0, 256] ![256, 128] inb_S256x1024_S256x128_0_256)) (View.ld x5 (Rect.unit
    ![0, 0] ![1, 128] inb_S1x128_S1x128_0_0))) (k0_pay66 (k0_pay28 (View.ld x0 (Rect.unit ![0, 0] ![512, 1024] inb_S512x1024_S512x1024_0_0))
    (View.ld x6 (Rect.unit ![0, 0] ![512, 1024] inb_S512x1024_S512x1024_0_0)))) w (ix2 b j)
      = w (ix2 b j) + dkS x0 x1 x2 x4 x5 x6 256 (by omega) b j := by
  pointwise [k0_pay28, k0_pay61, k0_pay62, k0_pay63, k0_pay64, k0_pay65, k0_pay66, k0_pay69, k0_pay71, dkS, nrm, score, peak, ex, prob, dprob, dscore, dqn, dq, dgqE, back, colR, gR, oR, rinv, ms]

/-- What the third head adds to the values' cotangent. -/
theorem dv2 (w : Vec Ideal S256x128 .f32) (b : Fin 256) (j : Fin 128) :
    k0_pay68 (k0_pay66 (k0_pay28 (View.ld x0 (Rect.unit ![0, 0] ![512, 1024] inb_S512x1024_S512x1024_0_0)) (View.ld x6 (Rect.unit ![0, 0] ![512,
    1024] inb_S512x1024_S512x1024_0_0)))) w (k0_pay67 (k0_pay61 (View.ld x1 (Rect.unit ![0, 256] ![512, 128] inb_S512x512_S512x128_0_256)))
    (View.ld x4 (Rect.unit ![0, 0] ![1, 128] inb_S1x128_S1x128_0_0)) (k0_pay62 (View.ld x1 (Rect.unit ![0, 256] ![512, 128]
    inb_S512x512_S512x128_0_256))) (View.ld x2 (Rect.unit ![0, 256] ![256, 128] inb_S256x1024_S256x128_0_256)) (View.ld x5 (Rect.unit ![0, 0]
    ![1, 128] inb_S1x128_S1x128_0_0))) (ix2 b j)
      = w (ix2 b j) + dvS x0 x1 x2 x4 x5 x6 256 (by omega) b j := by
  pointwise [k0_pay28, k0_pay61, k0_pay62, k0_pay63, k0_pay64, k0_pay65, k0_pay66, k0_pay67, k0_pay68, dvS, nrm, score, peak, ex, prob, dprob, dscore, dqn, dq, dgqE, back, colR, gR, oR, rinv, ms]

/-- The fourth head's query cotangent. -/
theorem cq3 (a : Fin 512) (j : Fin 128) :
    k0_pay94 (k0_pay91 (k0_pay77 (View.ld x1 (Rect.unit ![0, 384] ![512, 128] inb_S512x512_S512x128_0_384))) (k0_pay79 (View.ld x2 (Rect.unit
    ![0, 384] ![256, 128] inb_S256x1024_S256x128_0_384)) (View.ld x5 (Rect.unit ![0, 0] ![1, 128] inb_S1x128_S1x128_0_0))) (k0_pay80 (k0_pay78
    (View.ld x1 (Rect.unit ![0, 384] ![512, 128] inb_S512x512_S512x128_0_384)) (View.ld x4 (Rect.unit ![0, 0] ![1, 128] inb_S1x128_S1x128_0_0)))
    (View.ld x2 (Rect.unit ![0, 384] ![256, 128] inb_S256x1024_S256x128_0_384)) (View.ld x5 (Rect.unit ![0, 0] ![1, 128] inb_S1x128_S1x128_0_0)))
    (k0_pay83 (k0_pay28 (View.ld x0 (Rect.unit ![0, 0] ![512, 1024] inb_S512x1024_S512x1024_0_0)) (View.ld x6 (Rect.unit ![0, 0] ![512, 1024]
    inb_S512x1024_S512x1024_0_0))) (View.ld x2 (Rect.unit ![0, 896] ![256, 128] inb_S256x1024_S256x128_0_896))) (k0_pay84 (k0_pay28 (View.ld x0
    (Rect.unit ![0, 0] ![512, 1024] inb_S512x1024_S512x1024_0_0)) (View.ld x6 (Rect.unit ![0, 0] ![512, 1024] inb_S512x1024_S512x1024_0_0)))
    (k0_pay78 (View.ld x1 (Rect.unit ![0, 384] ![512, 128] inb_S512x512_S512x128_0_384)) (View.ld x4 (Rect.unit ![0, 0] ![1, 128]
    inb_S1x128_S1x128_0_0))) (View.ld x2 (Rect.unit ![0, 384] ![256, 128] inb_S256x1024_S256x128_0_384)) (View.ld x5 (Rect.unit ![0, 0] ![1, 128]
    inb_S1x128_S1x128_0_0)) (View.ld x2 (Rect.unit ![0, 896] ![256, 128] inb_S256x1024_S256x128_0_896))) (View.ld x4 (Rect.unit ![0, 0] ![1, 128]
    inb_S1x128_S1x128_0_0))) (k0_pay92 (k0_pay77 (View.ld x1 (Rect.unit ![0, 384] ![512, 128] inb_S512x512_S512x128_0_384)))) (ix2 a j)
      = dcqE x0 x1 x2 x4 x5 x6 384 (by omega) a j := by
  pointwise [k0_pay28, k0_pay77, k0_pay78, k0_pay79, k0_pay80, k0_pay81, k0_pay83, k0_pay84, k0_pay85, k0_pay86, k0_pay88, k0_pay89, k0_pay91, k0_pay92, k0_pay94, dcqE, nrm, score, peak, ex, prob, dprob, dscore, dqn, dq, dgqE, back, colR, gR, oR, rinv, ms]

/-- What the fourth head adds to the gradient of the queries' gain. -/
theorem gq3 (w : Vec Ideal S1x128 .f32) (j : Fin 128) :
    k0_pay93 (k0_pay90 (k0_pay77 (View.ld x1 (Rect.unit ![0, 384] ![512, 128] inb_S512x512_S512x128_0_384))) (k0_pay79 (View.ld x2 (Rect.unit
    ![0, 384] ![256, 128] inb_S256x1024_S256x128_0_384)) (View.ld x5 (Rect.unit ![0, 0] ![1, 128] inb_S1x128_S1x128_0_0))) (k0_pay80 (k0_pay78
    (View.ld x1 (Rect.unit ![0, 384] ![512, 128] inb_S512x512_S512x128_0_384)) (View.ld x4 (Rect.unit ![0, 0] ![1, 128] inb_S1x128_S1x128_0_0)))
    (View.ld x2 (Rect.unit ![0, 384] ![256, 128] inb_S256x1024_S256x128_0_384)) (View.ld x5 (Rect.unit ![0, 0] ![1, 128] inb_S1x128_S1x128_0_0)))
    (k0_pay83 (k0_pay28 (View.ld x0 (Rect.unit ![0, 0] ![512, 1024] inb_S512x1024_S512x1024_0_0)) (View.ld x6 (Rect.unit ![0, 0] ![512, 1024]
    inb_S512x1024_S512x1024_0_0))) (View.ld x2 (Rect.unit ![0, 896] ![256, 128] inb_S256x1024_S256x128_0_896))) (k0_pay84 (k0_pay28 (View.ld x0
    (Rect.unit ![0, 0] ![512, 1024] inb_S512x1024_S512x1024_0_0)) (View.ld x6 (Rect.unit ![0, 0] ![512, 1024] inb_S512x1024_S512x1024_0_0)))
    (k0_pay78 (View.ld x1 (Rect.unit ![0, 384] ![512, 128] inb_S512x512_S512x128_0_384)) (View.ld x4 (Rect.unit ![0, 0] ![1, 128]
    inb_S1x128_S1x128_0_0))) (View.ld x2 (Rect.unit ![0, 384] ![256, 128] inb_S256x1024_S256x128_0_384)) (View.ld x5 (Rect.unit ![0, 0] ![1, 128]
    inb_S1x128_S1x128_0_0)) (View.ld x2 (Rect.unit ![0, 896] ![256, 128] inb_S256x1024_S256x128_0_896)))) w (ix2 0 j)
      = w (ix2 0 j) + dgqS x0 x1 x2 x4 x5 x6 384 (by omega) j := by
  pointwise [k0_pay28, k0_pay77, k0_pay78, k0_pay79, k0_pay80, k0_pay81, k0_pay83, k0_pay84, k0_pay85, k0_pay86, k0_pay88, k0_pay89, k0_pay90, k0_pay93, dgqS, nrm, score, peak, ex, prob, dprob, dscore, dqn, dq, dgqE, back, colR, gR, oR, rinv, ms]

/-- What the fourth head adds to the normed keys' cotangent. -/
theorem dk3 (w : Vec Ideal S256x128 .f32) (b : Fin 256) (j : Fin 128) :
    k0_pay87 (k0_pay78 (View.ld x1 (Rect.unit ![0, 384] ![512, 128] inb_S512x512_S512x128_0_384)) (View.ld x4 (Rect.unit ![0, 0] ![1, 128]
    inb_S1x128_S1x128_0_0))) (k0_pay80 (k0_pay78 (View.ld x1 (Rect.unit ![0, 384] ![512, 128] inb_S512x512_S512x128_0_384)) (View.ld x4
    (Rect.unit ![0, 0] ![1, 128] inb_S1x128_S1x128_0_0))) (View.ld x2 (Rect.unit ![0, 384] ![256, 128] inb_S256x1024_S256x128_0_384)) (View.ld x5
    (Rect.unit ![0, 0] ![1, 128] inb_S1x128_S1x128_0_0))) (k0_pay83 (k0_pay28 (View.ld x0 (Rect.unit ![0, 0] ![512, 1024]
    inb_S512x1024_S512x1024_0_0)) (View.ld x6 (Rect.unit ![0, 0] ![512, 1024] inb_S512x1024_S512x1024_0_0))) (View.ld x2 (Rect.unit ![0, 896]
    ![256, 128] inb_S256x1024_S256x128_0_896))) (k0_pay84 (k0_pay28 (View.ld x0 (Rect.unit ![0, 0] ![512, 1024] inb_S512x1024_S512x1024_0_0))
    (View.ld x6 (Rect.unit ![0, 0] ![512, 1024] inb_S512x1024_S512x1024_0_0))) (k0_pay78 (View.ld x1 (Rect.unit ![0, 384] ![512, 128]
    inb_S512x512_S512x128_0_384)) (View.ld x4 (Rect.unit ![0, 0] ![1, 128] inb_S1x128_S1x128_0_0))) (View.ld x2 (Rect.unit ![0, 384] ![256, 128]
    inb_S256x1024_S256x128_0_384)) (View.ld x5 (Rect.unit ![0, 0] ![1, 128] inb_S1x128_S1x128_0_0)) (View.ld x2 (Rect.unit ![0, 896] ![256, 128]
    inb_S256x1024_S256x128_0_896))) w (ix2 b j)
      = w (ix2 b j) + dkS x0 x1 x2 x4 x5 x6 384 (by omega) b j := by
  pointwise [k0_pay28, k0_pay77, k0_pay78, k0_pay79, k0_pay80, k0_pay81, k0_pay83, k0_pay84, k0_pay85, k0_pay87, dkS, nrm, score, peak, ex, prob, dprob, dscore, dqn, dq, dgqE, back, colR, gR, oR, rinv, ms]

/-- What the fourth head adds to the values' cotangent. -/
theorem dv3 (w : Vec Ideal S256x128 .f32) (b : Fin 256) (j : Fin 128) :
    k0_pay82 (k0_pay28 (View.ld x0 (Rect.unit ![0, 0] ![512, 1024] inb_S512x1024_S512x1024_0_0)) (View.ld x6 (Rect.unit ![0, 0] ![512, 1024]
    inb_S512x1024_S512x1024_0_0))) (k0_pay78 (View.ld x1 (Rect.unit ![0, 384] ![512, 128] inb_S512x512_S512x128_0_384)) (View.ld x4 (Rect.unit
    ![0, 0] ![1, 128] inb_S1x128_S1x128_0_0))) (View.ld x2 (Rect.unit ![0, 384] ![256, 128] inb_S256x1024_S256x128_0_384)) (View.ld x5 (Rect.unit
    ![0, 0] ![1, 128] inb_S1x128_S1x128_0_0)) w (ix2 b j)
      = w (ix2 b j) + dvS x0 x1 x2 x4 x5 x6 384 (by omega) b j := by
  pointwise [k0_pay28, k0_pay77, k0_pay78, k0_pay79, k0_pay80, k0_pay81, k0_pay82, dvS, nrm, score, peak, ex, prob, dprob, dscore, dqn, dq, dgqE, back, colR, gR, oR, rinv, ms]

/-- The first head's key cotangent. -/
theorem ck0 (D : Vec Ideal S256x512 .f32) (b : Fin 256) (j : Fin 128) :
    k0_pay7 (View.ld x2 (Rect.unit ![0, 0] ![256, 128] inb_S256x1024_S256x128_0_0))
      (View.ld x5 (Rect.unit ![0, 0] ![1, 128] inb_S1x128_S1x128_0_0))
      (View.ld D (Rect.unit ![0, 0] ![256, 128] inb_S256x512_S256x128_0_0)) (ix2 b j) = dkE x2 x5 D 0 (by omega) b j := by
  pointwise [k0_pay4, k0_pay5, k0_pay7, dkE, nrm, score, peak, ex, prob, dprob, dscore, dqn, dq, dgqE, back, colR, gR, oR, rinv, ms]

/-- What the first head adds to the gradient of the keys' gain. -/
theorem gk0 (D : Vec Ideal S256x512 .f32) (w : Vec Ideal S1x128 .f32) (j : Fin 128) :
    k0_pay6 (View.ld x2 (Rect.unit ![0, 0] ![256, 128] inb_S256x1024_S256x128_0_0))
      (View.ld D (Rect.unit ![0, 0] ![256, 128] inb_S256x512_S256x128_0_0)) w (ix2 0 j)
      = w (ix2 0 j) + dgkS x2 D 0 (by omega) j := by
  pointwise [k0_pay4, k0_pay5, k0_pay6, dgkS, nrm, score, peak, ex, prob, dprob, dscore, dqn, dq, dgqE, back, colR, gR, oR, rinv, ms]

/-- The first head's value cotangent. -/
theorem cv0 (E : Vec Ideal S256x512 .f32) (b : Fin 256) (j : Fin 128) :
    k0_pay8 (View.ld E (Rect.unit ![0, 0] ![256, 128] inb_S256x512_S256x128_0_0)) (ix2 b j)
      = E (ix2 b ⟨0 + j.val, by omega⟩) := by
  pointwise [k0_pay8]

/-- The second head's key cotangent. -/
theorem ck1 (D : Vec Ideal S256x512 .f32) (b : Fin 256) (j : Fin 128) :
    k0_pay12 (View.ld x2 (Rect.unit ![0, 128] ![256, 128] inb_S256x1024_S256x128_0_128))
      (View.ld x5 (Rect.unit ![0, 0] ![1, 128] inb_S1x128_S1x128_0_0))
      (View.ld D (Rect.unit ![0, 128] ![256, 128] inb_S256x512_S256x128_0_128)) (ix2 b j) = dkE x2 x5 D 128 (by omega) b j := by
  pointwise [k0_pay9, k0_pay10, k0_pay12, dkE, nrm, score, peak, ex, prob, dprob, dscore, dqn, dq, dgqE, back, colR, gR, oR, rinv, ms]

/-- What the second head adds to the gradient of the keys' gain. -/
theorem gk1 (D : Vec Ideal S256x512 .f32) (w : Vec Ideal S1x128 .f32) (j : Fin 128) :
    k0_pay11 (View.ld x2 (Rect.unit ![0, 128] ![256, 128] inb_S256x1024_S256x128_0_128))
      (View.ld D (Rect.unit ![0, 128] ![256, 128] inb_S256x512_S256x128_0_128)) w (ix2 0 j)
      = w (ix2 0 j) + dgkS x2 D 128 (by omega) j := by
  pointwise [k0_pay9, k0_pay10, k0_pay11, dgkS, nrm, score, peak, ex, prob, dprob, dscore, dqn, dq, dgqE, back, colR, gR, oR, rinv, ms]

/-- The second head's value cotangent. -/
theorem cv1 (E : Vec Ideal S256x512 .f32) (b : Fin 256) (j : Fin 128) :
    k0_pay13 (View.ld E (Rect.unit ![0, 128] ![256, 128] inb_S256x512_S256x128_0_128)) (ix2 b j)
      = E (ix2 b ⟨128 + j.val, by omega⟩) := by
  pointwise [k0_pay13]

/-- The third head's key cotangent. -/
theorem ck2 (D : Vec Ideal S256x512 .f32) (b : Fin 256) (j : Fin 128) :
    k0_pay17 (View.ld x2 (Rect.unit ![0, 256] ![256, 128] inb_S256x1024_S256x128_0_256))
      (View.ld x5 (Rect.unit ![0, 0] ![1, 128] inb_S1x128_S1x128_0_0))
      (View.ld D (Rect.unit ![0, 256] ![256, 128] inb_S256x512_S256x128_0_256)) (ix2 b j) = dkE x2 x5 D 256 (by omega) b j := by
  pointwise [k0_pay14, k0_pay15, k0_pay17, dkE, nrm, score, peak, ex, prob, dprob, dscore, dqn, dq, dgqE, back, colR, gR, oR, rinv, ms]

/-- What the third head adds to the gradient of the keys' gain. -/
theorem gk2 (D : Vec Ideal S256x512 .f32) (w : Vec Ideal S1x128 .f32) (j : Fin 128) :
    k0_pay16 (View.ld x2 (Rect.unit ![0, 256] ![256, 128] inb_S256x1024_S256x128_0_256))
      (View.ld D (Rect.unit ![0, 256] ![256, 128] inb_S256x512_S256x128_0_256)) w (ix2 0 j)
      = w (ix2 0 j) + dgkS x2 D 256 (by omega) j := by
  pointwise [k0_pay14, k0_pay15, k0_pay16, dgkS, nrm, score, peak, ex, prob, dprob, dscore, dqn, dq, dgqE, back, colR, gR, oR, rinv, ms]

/-- The third head's value cotangent. -/
theorem cv2 (E : Vec Ideal S256x512 .f32) (b : Fin 256) (j : Fin 128) :
    k0_pay18 (View.ld E (Rect.unit ![0, 256] ![256, 128] inb_S256x512_S256x128_0_256)) (ix2 b j)
      = E (ix2 b ⟨256 + j.val, by omega⟩) := by
  pointwise [k0_pay18]

/-- The fourth head's key cotangent. -/
theorem ck3 (D : Vec Ideal S256x512 .f32) (b : Fin 256) (j : Fin 128) :
    k0_pay22 (View.ld x2 (Rect.unit ![0, 384] ![256, 128] inb_S256x1024_S256x128_0_384))
      (View.ld x5 (Rect.unit ![0, 0] ![1, 128] inb_S1x128_S1x128_0_0))
      (View.ld D (Rect.unit ![0, 384] ![256, 128] inb_S256x512_S256x128_0_384)) (ix2 b j) = dkE x2 x5 D 384 (by omega) b j := by
  pointwise [k0_pay19, k0_pay20, k0_pay22, dkE, nrm, score, peak, ex, prob, dprob, dscore, dqn, dq, dgqE, back, colR, gR, oR, rinv, ms]

/-- What the fourth head adds to the gradient of the keys' gain. -/
theorem gk3 (D : Vec Ideal S256x512 .f32) (w : Vec Ideal S1x128 .f32) (j : Fin 128) :
    k0_pay21 (View.ld x2 (Rect.unit ![0, 384] ![256, 128] inb_S256x1024_S256x128_0_384))
      (View.ld D (Rect.unit ![0, 384] ![256, 128] inb_S256x512_S256x128_0_384)) w (ix2 0 j)
      = w (ix2 0 j) + dgkS x2 D 384 (by omega) j := by
  pointwise [k0_pay19, k0_pay20, k0_pay21, dgkS, nrm, score, peak, ex, prob, dprob, dscore, dqn, dq, dgqE, back, colR, gR, oR, rinv, ms]

/-- The fourth head's value cotangent. -/
theorem cv3 (E : Vec Ideal S256x512 .f32) (b : Fin 256) (j : Fin 128) :
    k0_pay3 (View.ld E (Rect.unit ![0, 384] ![256, 128] inb_S256x512_S256x128_0_384)) (ix2 b j)
      = E (ix2 b ⟨384 + j.val, by omega⟩) := by
  pointwise [k0_pay3]

/-- The block's query cotangent at a head's column. -/
theorem dcqB_at (o : ℕ) (ho : o + 128 ≤ 512) (hd : o % 128 = 0)
    (inb : ∀ a : Fin 2, (![0, o] : Fin 2 → ℕ) a + (![512, 128] : Fin 2 → ℕ) a ≤ S512x512.size a) (a : Fin 512) (j : Fin 128) :
    dcqB x0 x1 x2 x4 x5 x6 ((Rect.unit (s := S512x512) ![0, o] ![512, 128] inb).emb (ix2 a j)) = dcqE x0 x1 x2 x4 x5 x6 o ho a j := by
  refine (congrArg (dcqB x0 x1 x2 x4 x5 x6) (emb_cols inb a j (by omega))).trans ?_
  exact byHead_at (fun o ho j => dcqE x0 x1 x2 x4 x5 x6 o ho a j) o ho hd j _

/-- The accumulated keys' cotangent at a head's column. -/
theorem dkB_at (w : Vec Ideal S256x512 .f32) (o : ℕ) (ho : o + 128 ≤ 512) (hd : o % 128 = 0)
    (inb : ∀ a : Fin 2, (![0, o] : Fin 2 → ℕ) a + (![256, 128] : Fin 2 → ℕ) a ≤ S256x512.size a) (b : Fin 256) (j : Fin 128) :
    dkB x0 x1 x2 x4 x5 x6 w ((Rect.unit (s := S256x512) ![0, o] ![256, 128] inb).emb (ix2 b j))
      = View.ld w (Rect.unit (s := S256x512) ![0, o] ![256, 128] inb) (ix2 b j) + dkS x0 x1 x2 x4 x5 x6 o ho b j := by
  refine congrArg (w ((Rect.unit (s := S256x512) ![0, o] ![256, 128] inb).emb (ix2 b j)) + ·) ?_
  rw [emb_cols inb b j (by omega)]
  exact byHead_at _ o ho hd j _

/-- The accumulated values' cotangent at a head's column. -/
theorem dvB_at (w : Vec Ideal S256x512 .f32) (o : ℕ) (ho : o + 128 ≤ 512) (hd : o % 128 = 0)
    (inb : ∀ a : Fin 2, (![0, o] : Fin 2 → ℕ) a + (![256, 128] : Fin 2 → ℕ) a ≤ S256x512.size a) (b : Fin 256) (j : Fin 128) :
    dvB x0 x1 x2 x4 x5 x6 w ((Rect.unit (s := S256x512) ![0, o] ![256, 128] inb).emb (ix2 b j))
      = View.ld w (Rect.unit (s := S256x512) ![0, o] ![256, 128] inb) (ix2 b j) + dvS x0 x1 x2 x4 x5 x6 o ho b j := by
  refine congrArg (w ((Rect.unit (s := S256x512) ![0, o] ![256, 128] inb).emb (ix2 b j)) + ·) ?_
  rw [emb_cols inb b j (by omega)]
  exact byHead_at _ o ho hd j _

/-- The keys' half of the cotangent of keys and values at a head's column. -/
theorem dkvB_key (D E : Vec Ideal S256x512 .f32) (o : ℕ) (ho : o + 128 ≤ 512) (hd : o % 128 = 0)
    (inb : ∀ a : Fin 2, (![0, o] : Fin 2 → ℕ) a + (![256, 128] : Fin 2 → ℕ) a ≤ S256x1024.size a) (b : Fin 256) (j : Fin 128) :
    dkvB x2 x5 D E ((Rect.unit (s := S256x1024) ![0, o] ![256, 128] inb).emb (ix2 b j)) = dkE x2 x5 D o ho b j := by
  refine (congrArg (dkvB x2 x5 D E) (emb_cols inb b j (by omega))).trans ?_
  refine (dif_pos (show o + j.val < 512 by omega)).trans ?_
  exact byHead_at _ o ho hd j _

/-- The values' half of the cotangent of keys and values at a head's column. -/
theorem dkvB_val (D E : Vec Ideal S256x512 .f32) (o p : ℕ) (ho : o + 128 ≤ 512) (hp : p = 512 + o)
    (inb : ∀ a : Fin 2, (![0, p] : Fin 2 → ℕ) a + (![256, 128] : Fin 2 → ℕ) a ≤ S256x1024.size a) (b : Fin 256) (j : Fin 128) :
    dkvB x2 x5 D E ((Rect.unit (s := S256x1024) ![0, p] ![256, 128] inb).emb (ix2 b j)) = E (ix2 b ⟨o + j.val, by omega⟩) := by
  subst hp
  refine (congrArg (dkvB x2 x5 D E) (emb_cols inb b j (by omega))).trans ?_
  refine (dif_neg (show ¬(512 + o + j.val < 512) by omega)).trans ?_
  exact congrArg E (congrArg (ix2 b) (Fin.ext (show 512 + o + j.val - 512 = o + j.val by omega)))

/-- The stores that start an accumulator store zero. -/
theorem zero_gq (j : Fin 128) : (k0_pay23 (F := Ideal)) (ix2 0 j) = 0 := by
  pointwise [k0_pay23]

@[inherit_doc zero_gq] theorem zero_gk (j : Fin 128) : (k0_pay24 (F := Ideal)) (ix2 0 j) = 0 := by
  pointwise [k0_pay24]

@[inherit_doc zero_gq] theorem zero_gx (l : Fin 1024) : (k0_pay25 (F := Ideal)) (ix2 0 l) = 0 := by
  pointwise [k0_pay25]

@[inherit_doc zero_gq] theorem zero_k (b : Fin 256) (l : Fin 512) : (k0_pay26 (F := Ideal)) (ix2 b l) = 0 := by
  pointwise [k0_pay26]

@[inherit_doc zero_gq] theorem zero_v (b : Fin 256) (l : Fin 512) : (k0_pay27 (F := Ideal)) (ix2 b l) = 0 := by
  pointwise [k0_pay27]

end Heads

section Stream

variable (x0 : Vec Ideal S512x1024 .f32) (x1 : Vec Ideal S512x512 .f32) (x2 : Vec Ideal S256x1024 .f32) (x3 : Vec Ideal S512x1024 .f32)
  (x4 x5 : Vec Ideal S1x128 .f32) (x6 : Vec Ideal S512x1024 .bf16) (x7 : Vec Ideal S1x1024 .f32) (x8 : Vec Ideal S1024x512 .bf16)

/-- The residual stream's payload over the query projection's cotangent. -/
theorem pay_dx (a : Fin 512) (l : Fin 1024) :
    k0_pay2 (View.ld x0 (Rect.unit ![0, 0] ![512, 1024] inb_S512x1024_S512x1024_0_0))
      (k0_pay96 (View.ld x3 (Rect.unit ![0, 0] ![512, 1024] inb_S512x1024_S512x1024_0_0)))
      (k0_pay99 (View.ld (dcqB x0 x1 x2 x4 x5 x6) (Rect.unit ![0, 0] ![512, 512] inb_S512x512_S512x512_0_0))
        (View.ld x8 (Rect.unit ![0, 0] ![1024, 512] inb_S1024x512_S1024x512_0_0))
        (View.ld x3 (Rect.unit ![0, 0] ![512, 1024] inb_S512x1024_S512x1024_0_0))
        (View.ld x7 (Rect.unit ![0, 0] ![1, 1024] inb_S1x1024_S1x1024_0_0))) (ix2 a l)
      = dxE x0 x1 x2 x3 x4 x5 x6 x7 x8 a l := by
  pointwise [k0_pay2, k0_pay95, k0_pay96, k0_pay97, k0_pay99, dcqB, dxE, dhE, back, rinv, ms]

/-- The norm gain's payload: what was there, and the block's own sum. -/
theorem pay_dgx (w : Vec Ideal S1x1024 .f32) (l : Fin 1024) :
    k0_pay1 (k0_pay98 (View.ld (dcqB x0 x1 x2 x4 x5 x6) (Rect.unit ![0, 0] ![512, 512] inb_S512x512_S512x512_0_0))
        (View.ld x8 (Rect.unit ![0, 0] ![1024, 512] inb_S1024x512_S1024x512_0_0))
        (View.ld x3 (Rect.unit ![0, 0] ![512, 1024] inb_S512x1024_S512x1024_0_0))) w (ix2 0 l)
      = w (ix2 0 l) + dgxE x0 x1 x2 x3 x4 x5 x6 x8 l := by
  pointwise [k0_pay1, k0_pay95, k0_pay96, k0_pay97, k0_pay98, dcqB, dgxE, dhE, rinv, ms]

end Stream

end Cert.Proof.Xattn

end
-- ==== Proof.Xattn.PointA.lean ====
/-
  What the cross-attention's backward kernel leaves in its blocks at the first point: the run's stores, read as the block's formulas.
-/
module

public import proofs.«01_k».proof.Proof.Xattn.Block

@[expose] public section

set_option maxRecDepth 16384

noncomputable section

namespace Cert.Proof.Xattn

open Cert.KernelIdeal Cert.KernelIdeal.Gen Idealize.ShloMosaic Idealize.ShloMosaic.TcCoe Idealize.SL.Sem Cert.Proof.Reads
open Cert.Proof.Norm

variable (c : Dev nD) (i : grid0.Coords)
  (arg2 : Memref sig .tc .vmem S512x1024 .f32) (harg2 : arg2.IsWhole)
  (arg3 : Memref sig .tc .vmem S512x512 .f32) (harg3 : arg3.IsWhole)
  (arg4 : Memref sig .tc .vmem S256x1024 .f32) (harg4 : arg4.IsWhole)
  (arg5 : Memref sig .tc .vmem S512x1024 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S512x1024 .bf16) (harg8 : arg8.IsWhole)
  (arg9 : Memref sig .tc .vmem S1x1024 .f32) (harg9 : arg9.IsWhole)
  (arg10 : Memref sig .tc .vmem S1024x512 .bf16) (harg10 : arg10.IsWhole)
  (arg11 : Memref sig .tc .vmem S512x1024 .f32) (harg11 : arg11.IsWhole)
  (arg12 : Memref sig .tc .vmem S512x512 .bf16) (harg12 : arg12.IsWhole)
  (arg13 : Memref sig .tc .vmem S256x1024 .bf16) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S1x1024 .f32) (harg16 : arg16.IsWhole)
  (arg17 : Memref sig .tc .vmem S256x512 .f32) (harg17 : arg17.IsWhole)
  (arg18 : Memref sig .tc .vmem S256x512 .f32) (harg18 : arg18.IsWhole)
  (x0 : Vec Ideal S512x1024 .f32) (x1 : Vec Ideal S512x512 .f32) (x2 : Vec Ideal S256x1024 .f32) (x3 : Vec Ideal S512x1024 .f32)
  (x4 x5 : Vec Ideal S1x128 .f32) (x6 : Vec Ideal S512x1024 .bf16) (x7 : Vec Ideal S1x1024 .f32) (x8 : Vec Ideal S1024x512 .bf16)

/-- The stores of the query cotangent agree with its formula. -/
theorem storesA10 (hc0 : cond0_0 i) (hc1 : cond0_1 i) (hc2 : ¬cond0_2 i) :
    ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.1,
      ∀ z : p.1.shape.Idx, p.2 z = dcqB x0 x1 x2 x4 x5 x6 (p.1.emb z) := by
  unfold kernelRun0_A
  dsimp only
  intro p hp
  fin_cases hp <;> intro z <;> dsimp only <;> sl_unfold_run_names <;> simp only [readAt_ld]
  · obtain ⟨a, b, rfl⟩ := exists_ix2 z
    exact (cq3 x0 x1 x2 x4 x5 x6 a b).trans (dcqB_at x0 x1 x2 x4 x5 x6 384 (by omega) (by omega) _ a b).symm
  · obtain ⟨a, b, rfl⟩ := exists_ix2 z
    exact (cq2 x0 x1 x2 x4 x5 x6 a b).trans (dcqB_at x0 x1 x2 x4 x5 x6 256 (by omega) (by omega) _ a b).symm
  · obtain ⟨a, b, rfl⟩ := exists_ix2 z
    exact (cq1 x0 x1 x2 x4 x5 x6 a b).trans (dcqB_at x0 x1 x2 x4 x5 x6 128 (by omega) (by omega) _ a b).symm
  · obtain ⟨a, b, rfl⟩ := exists_ix2 z
    exact (cq0 x0 x1 x2 x4 x5 x6 a b).trans (dcqB_at x0 x1 x2 x4 x5 x6 0 (by omega) (by omega) _ a b).symm

/-- The query cotangent at the first point. -/
theorem outA10 (hc0 : cond0_0 i) (hc1 : cond0_1 i) (hc2 : ¬cond0_2 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 = dcqB x0 x1 x2 x4 x5 x6 := by
  unfold out0_A_10
  rw [View.read_writes_junk_eq_canon]
  exact canon_eq_of_pieces _ _ (storesA10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2) (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8)

/-- The stores of the normed keys' accumulated cotangent agree with its formula. -/
theorem storesAS0 (hc0 : cond0_0 i) (hc1 : cond0_1 i) (hc2 : ¬cond0_2 i) :
    ∀ p ∈ List.take 4 (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.1,
      ∀ z : p.1.shape.Idx, p.2 z = dkB x0 x1 x2 x4 x5 x6 (k0_pay26 (F := Ideal)) (p.1.emb z) := by
  unfold kernelRun0_A
  dsimp only
  simp only [List.take]
  intro p hp
  fin_cases hp <;> intro z <;> dsimp only <;> sl_unfold_run_names <;> simp only [readAt_ld]
  · obtain ⟨a, b, rfl⟩ := exists_ix2 z
    rw [readCov_skip_cols (h := Or.inl (by omega)), readCov_skip_cols (h := Or.inl (by omega)), readCov_skip_cols (h := Or.inl (by omega)), readCov_of_whole]
    exact (dk3 x0 x1 x2 x4 x5 x6 _ a b).trans (dkB_at x0 x1 x2 x4 x5 x6 (k0_pay26 (F := Ideal)) 384 (by omega) (by omega) _ a b).symm
  · obtain ⟨a, b, rfl⟩ := exists_ix2 z
    rw [readCov_skip_cols (h := Or.inl (by omega)), readCov_skip_cols (h := Or.inl (by omega)), readCov_of_whole]
    exact (dk2 x0 x1 x2 x4 x5 x6 _ a b).trans (dkB_at x0 x1 x2 x4 x5 x6 (k0_pay26 (F := Ideal)) 256 (by omega) (by omega) _ a b).symm
  · obtain ⟨a, b, rfl⟩ := exists_ix2 z
    rw [readCov_skip_cols (h := Or.inl (by omega)), readCov_of_whole]
    exact (dk1 x0 x1 x2 x4 x5 x6 _ a b).trans (dkB_at x0 x1 x2 x4 x5 x6 (k0_pay26 (F := Ideal)) 128 (by omega) (by omega) _ a b).symm
  · obtain ⟨a, b, rfl⟩ := exists_ix2 z
    rw [readCov_of_whole]
    exact (dk0 x0 x1 x2 x4 x5 x6 _ a b).trans (dkB_at x0 x1 x2 x4 x5 x6 (k0_pay26 (F := Ideal)) 0 (by omega) (by omega) _ a b).symm

/-- The normed keys' accumulated cotangent at the first point. -/
theorem outAS0 (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 = dkB x0 x1 x2 x4 x5 x6 (k0_pay26 (F := Ideal)) := by
  unfold sout0_A_0
  rw [View.read_writes_junk_eq_canon]
  have hst := storesAS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2
  revert hst
  unfold kernelRun0_A
  dsimp only
  simp only [List.take]
  intro hst
  exact canon_eq_of_front _ [_, _, _, _] [_] hst (View.cover_of_tiledL _ S256x128.size (by sl_kernel_rfl))

/-- The stores of the values' accumulated cotangent agree with its formula. -/
theorem storesAS1 (hc0 : cond0_0 i) (hc1 : cond0_1 i) (hc2 : ¬cond0_2 i) :
    ∀ p ∈ List.take 4 (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.2.1,
      ∀ z : p.1.shape.Idx, p.2 z = dvB x0 x1 x2 x4 x5 x6 (k0_pay27 (F := Ideal)) (p.1.emb z) := by
  unfold kernelRun0_A
  dsimp only
  simp only [List.take]
  intro p hp
  fin_cases hp <;> intro z <;> dsimp only <;> sl_unfold_run_names <;> simp only [readAt_ld]
  · obtain ⟨a, b, rfl⟩ := exists_ix2 z
    rw [readCov_skip_cols (h := Or.inl (by omega)), readCov_skip_cols (h := Or.inl (by omega)), readCov_skip_cols (h := Or.inl (by omega)), readCov_of_whole]
    exact (dv3 x0 x1 x2 x4 x5 x6 _ a b).trans (dvB_at x0 x1 x2 x4 x5 x6 (k0_pay27 (F := Ideal)) 384 (by omega) (by omega) _ a b).symm
  · obtain ⟨a, b, rfl⟩ := exists_ix2 z
    rw [readCov_skip_cols (h := Or.inl (by omega)), readCov_skip_cols (h := Or.inl (by omega)), readCov_of_whole]
    exact (dv2 x0 x1 x2 x4 x5 x6 _ a b).trans (dvB_at x0 x1 x2 x4 x5 x6 (k0_pay27 (F := Ideal)) 256 (by omega) (by omega) _ a b).symm
  · obtain ⟨a, b, rfl⟩ := exists_ix2 z
    rw [readCov_skip_cols (h := Or.inl (by omega)), readCov_of_whole]
    exact (dv1 x0 x1 x2 x4 x5 x6 _ a b).trans (dvB_at x0 x1 x2 x4 x5 x6 (k0_pay27 (F := Ideal)) 128 (by omega) (by omega) _ a b).symm
  · obtain ⟨a, b, rfl⟩ := exists_ix2 z
    rw [readCov_of_whole]
    exact (dv0 x0 x1 x2 x4 x5 x6 _ a b).trans (dvB_at x0 x1 x2 x4 x5 x6 (k0_pay27 (F := Ideal)) 0 (by omega) (by omega) _ a b).symm

/-- The values' accumulated cotangent at the first point. -/
theorem outAS1 (hc0 : cond0_0 i) (hc1 : cond0_1 i) (hc2 : ¬cond0_2 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 = dvB x0 x1 x2 x4 x5 x6 (k0_pay27 (F := Ideal)) := by
  unfold sout0_A_1
  rw [View.read_writes_junk_eq_canon]
  have hst := storesAS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2
  revert hst
  unfold kernelRun0_A
  dsimp only
  simp only [List.take]
  intro hst
  exact canon_eq_of_front _ [_, _, _, _] [_] hst (View.cover_of_tiledL _ S256x128.size (by sl_kernel_rfl))

/-- The cotangent of the residual stream at the first point. -/
theorem outA9 (hc0 : cond0_0 i) (hc1 : cond0_1 i) (hc2 : ¬cond0_2 i) (a : Fin 512) (l : Fin 1024) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 (ix2 a l)
      = dxE x0 x1 x2 x3 x4 x5 x6 x7 x8 a l := by
  unfold out0_A_9
  rw [View.read_writes_junk_eq_canon]
  have hst0 := storesA10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2
  have hcov0 := cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8
  revert hst0 hcov0
  unfold kernelRun0_A
  dsimp only
  rw [View.canon_unit_zero (by funext j; fin_cases j <;> rfl)]
  sl_unfold_run_names
  simp only [readAt_ld]
  intro hst0 hcov0
  rw [readCov_eq_of_pieces _ (dcqB x0 x1 x2 x4 x5 x6) _ hst0 hcov0]
  exact pay_dx x0 x1 x2 x3 x4 x5 x6 x7 x8 a l

/-- The gradient of the norm's gain at the first point. -/
theorem outA14 (hc0 : cond0_0 i) (hc1 : cond0_1 i) (hc2 : ¬cond0_2 i) (l : Fin 1024) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 (ix2 0 l)
      = dgxE x0 x1 x2 x3 x4 x5 x6 x8 l := by
  unfold out0_A_14
  rw [View.read_writes_junk_eq_canon]
  have hst0 := storesA10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2
  have hcov0 := cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8
  revert hst0 hcov0
  unfold kernelRun0_A
  dsimp only
  rw [View.canon_cons_unit_zero (by funext j; fin_cases j <;> rfl)]
  sl_unfold_run_names
  simp only [readAt_ld]
  intro hst0 hcov0
  rw [readCov_eq_of_pieces _ (dcqB x0 x1 x2 x4 x5 x6) _ hst0 hcov0, readCov_of_whole]
  refine (pay_dgx x0 x1 x2 x3 x4 x5 x6 x8 _ l).trans ?_
  rw [View.ld_unit_zero (by funext j; fin_cases j <;> rfl), zero_gx, zero_add]

/-- The gradient of the queries' gain at the first point. -/
theorem outA12 (hc0 : cond0_0 i) (hc1 : cond0_1 i) (hc2 : ¬cond0_2 i) (j : Fin 128) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 (ix2 0 j)
      = dgqB x0 x1 x2 x4 x5 x6 j := by
  unfold out0_A_12
  rw [View.read_writes_junk_eq_canon]
  unfold kernelRun0_A
  dsimp only
  rw [View.canon_cons_unit_zero (by funext j; fin_cases j <;> rfl)]
  sl_unfold_run_names
  simp only [readAt_ld]
  refine (gq3 x0 x1 x2 x4 x5 x6 _ j).trans ?_
  rw [readCov_of_whole, View.ld_unit_zero (by funext j; fin_cases j <;> rfl), gq2 x0 x1 x2 x4 x5 x6 _ j]
  rw [readCov_of_whole, View.ld_unit_zero (by funext j; fin_cases j <;> rfl), gq1 x0 x1 x2 x4 x5 x6 _ j]
  rw [readCov_of_whole, View.ld_unit_zero (by funext j; fin_cases j <;> rfl), gq0 x0 x1 x2 x4 x5 x6 _ j]
  rw [readCov_of_whole, View.ld_unit_zero (by funext j; fin_cases j <;> rfl), zero_gq, zero_add]
  rfl

/-- The gradient of the keys' gain at the first point. -/
theorem outA13 (hc0 : cond0_0 i) (hc1 : cond0_1 i) (hc2 : ¬cond0_2 i) (j : Fin 128) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 (ix2 0 j)
      = 0 := by
  unfold out0_A_13
  rw [View.read_writes_junk_eq_canon]
  unfold kernelRun0_A
  dsimp only
  rw [View.canon_unit_zero (by funext j; fin_cases j <;> rfl)]
  exact zero_gk j

end Cert.Proof.Xattn

end
-- ==== Proof.Xattn.PointB.lean ====
/-
  What the cross-attention's backward kernel leaves in its blocks inside a batch: the run's stores, read as the block's formulas.
-/
module

public import proofs.«01_k».proof.Proof.Xattn.Block

@[expose] public section

set_option maxRecDepth 16384

noncomputable section

namespace Cert.Proof.Xattn

open Cert.KernelIdeal Cert.KernelIdeal.Gen Idealize.ShloMosaic Idealize.ShloMosaic.TcCoe Idealize.SL.Sem Cert.Proof.Reads
open Cert.Proof.Norm

variable (c : Dev nD) (i : grid0.Coords)
  (arg2 : Memref sig .tc .vmem S512x1024 .f32) (harg2 : arg2.IsWhole)
  (arg3 : Memref sig .tc .vmem S512x512 .f32) (harg3 : arg3.IsWhole)
  (arg4 : Memref sig .tc .vmem S256x1024 .f32) (harg4 : arg4.IsWhole)
  (arg5 : Memref sig .tc .vmem S512x1024 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S512x1024 .bf16) (harg8 : arg8.IsWhole)
  (arg9 : Memref sig .tc .vmem S1x1024 .f32) (harg9 : arg9.IsWhole)
  (arg10 : Memref sig .tc .vmem S1024x512 .bf16) (harg10 : arg10.IsWhole)
  (arg11 : Memref sig .tc .vmem S512x1024 .f32) (harg11 : arg11.IsWhole)
  (arg12 : Memref sig .tc .vmem S512x512 .bf16) (harg12 : arg12.IsWhole)
  (arg13 : Memref sig .tc .vmem S256x1024 .bf16) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S1x1024 .f32) (harg16 : arg16.IsWhole)
  (arg17 : Memref sig .tc .vmem S256x512 .f32) (harg17 : arg17.IsWhole)
  (arg18 : Memref sig .tc .vmem S256x512 .f32) (harg18 : arg18.IsWhole)
  (x0 : Vec Ideal S512x1024 .f32) (x1 : Vec Ideal S512x512 .f32) (x2 : Vec Ideal S256x1024 .f32) (x3 : Vec Ideal S512x1024 .f32)
  (x4 x5 : Vec Ideal S1x128 .f32) (x6 : Vec Ideal S512x1024 .bf16) (x7 : Vec Ideal S1x1024 .f32) (x8 : Vec Ideal S1024x512 .bf16)

/-- The stores of the query cotangent agree with its formula. -/
theorem storesB10 (hc0 : ¬cond0_0 i) (hc1 : ¬cond0_1 i) (hc2 : ¬cond0_2 i) (xo12 : Vec Ideal S1x128 .f32) (xo14 : Vec Ideal S1x1024 .f32) (xs0 : Vec Ideal S256x512 .f32) (xs1 : Vec Ideal S256x512 .f32) :
    ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1).2.1,
      ∀ z : p.1.shape.Idx, p.2 z = dcqB x0 x1 x2 x4 x5 x6 (p.1.emb z) := by
  unfold kernelRun0_B
  dsimp only
  intro p hp
  fin_cases hp <;> intro z <;> dsimp only <;> sl_unfold_run_names <;> simp only [readAt_ld]
  · obtain ⟨a, b, rfl⟩ := exists_ix2 z
    exact (cq3 x0 x1 x2 x4 x5 x6 a b).trans (dcqB_at x0 x1 x2 x4 x5 x6 384 (by omega) (by omega) _ a b).symm
  · obtain ⟨a, b, rfl⟩ := exists_ix2 z
    exact (cq2 x0 x1 x2 x4 x5 x6 a b).trans (dcqB_at x0 x1 x2 x4 x5 x6 256 (by omega) (by omega) _ a b).symm
  · obtain ⟨a, b, rfl⟩ := exists_ix2 z
    exact (cq1 x0 x1 x2 x4 x5 x6 a b).trans (dcqB_at x0 x1 x2 x4 x5 x6 128 (by omega) (by omega) _ a b).symm
  · obtain ⟨a, b, rfl⟩ := exists_ix2 z
    exact (cq0 x0 x1 x2 x4 x5 x6 a b).trans (dcqB_at x0 x1 x2 x4 x5 x6 0 (by omega) (by omega) _ a b).symm

/-- The query cotangent inside a batch. -/
theorem outB10 (hc0 : ¬cond0_0 i) (hc1 : ¬cond0_1 i) (hc2 : ¬cond0_2 i) (xo12 : Vec Ideal S1x128 .f32) (xo14 : Vec Ideal S1x1024 .f32) (xs0 : Vec Ideal S256x512 .f32) (xs1 : Vec Ideal S256x512 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1 = dcqB x0 x1 x2 x4 x5 x6 := by
  unfold out0_B_10
  rw [View.read_writes_junk_eq_canon]
  exact canon_eq_of_pieces _ _ (storesB10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo14 xs0 xs1) (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1)

/-- The stores of the normed keys' accumulated cotangent agree with its formula. -/
theorem storesBS0 (hc0 : ¬cond0_0 i) (hc1 : ¬cond0_1 i) (hc2 : ¬cond0_2 i) (xo12 : Vec Ideal S1x128 .f32) (xo14 : Vec Ideal S1x1024 .f32) (xs0 : Vec Ideal S256x512 .f32) (xs1 : Vec Ideal S256x512 .f32) :
    ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1).2.2.2.2.2.2.1,
      ∀ z : p.1.shape.Idx, p.2 z = dkB x0 x1 x2 x4 x5 x6 xs0 (p.1.emb z) := by
  unfold kernelRun0_B
  dsimp only
  intro p hp
  fin_cases hp <;> intro z <;> dsimp only <;> sl_unfold_run_names <;> simp only [readAt_ld]
  · obtain ⟨a, b, rfl⟩ := exists_ix2 z
    exact (dk3 x0 x1 x2 x4 x5 x6 _ a b).trans (dkB_at x0 x1 x2 x4 x5 x6 xs0 384 (by omega) (by omega) _ a b).symm
  · obtain ⟨a, b, rfl⟩ := exists_ix2 z
    exact (dk2 x0 x1 x2 x4 x5 x6 _ a b).trans (dkB_at x0 x1 x2 x4 x5 x6 xs0 256 (by omega) (by omega) _ a b).symm
  · obtain ⟨a, b, rfl⟩ := exists_ix2 z
    exact (dk1 x0 x1 x2 x4 x5 x6 _ a b).trans (dkB_at x0 x1 x2 x4 x5 x6 xs0 128 (by omega) (by omega) _ a b).symm
  · obtain ⟨a, b, rfl⟩ := exists_ix2 z
    exact (dk0 x0 x1 x2 x4 x5 x6 _ a b).trans (dkB_at x0 x1 x2 x4 x5 x6 xs0 0 (by omega) (by omega) _ a b).symm

/-- The normed keys' accumulated cotangent inside a batch. -/
theorem outBS0 (hc0 : ¬cond0_0 i) (hc1 : ¬cond0_1 i) (hc2 : ¬cond0_2 i) (xo12 : Vec Ideal S1x128 .f32) (xo14 : Vec Ideal S1x1024 .f32) (xs0 : Vec Ideal S256x512 .f32) (xs1 : Vec Ideal S256x512 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1 = dkB x0 x1 x2 x4 x5 x6 xs0 := by
  unfold sout0_B_0
  rw [View.read_writes_junk_eq_canon]
  exact canon_eq_of_pieces _ _ (storesBS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo14 xs0 xs1) (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1)

/-- The stores of the values' accumulated cotangent agree with its formula. -/
theorem storesBS1 (hc0 : ¬cond0_0 i) (hc1 : ¬cond0_1 i) (hc2 : ¬cond0_2 i) (xo12 : Vec Ideal S1x128 .f32) (xo14 : Vec Ideal S1x1024 .f32) (xs0 : Vec Ideal S256x512 .f32) (xs1 : Vec Ideal S256x512 .f32) :
    ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1).2.2.2.2.2.2.2.1,
      ∀ z : p.1.shape.Idx, p.2 z = dvB x0 x1 x2 x4 x5 x6 xs1 (p.1.emb z) := by
  unfold kernelRun0_B
  dsimp only
  intro p hp
  fin_cases hp <;> intro z <;> dsimp only <;> sl_unfold_run_names <;> simp only [readAt_ld]
  · obtain ⟨a, b, rfl⟩ := exists_ix2 z
    exact (dv3 x0 x1 x2 x4 x5 x6 _ a b).trans (dvB_at x0 x1 x2 x4 x5 x6 xs1 384 (by omega) (by omega) _ a b).symm
  · obtain ⟨a, b, rfl⟩ := exists_ix2 z
    exact (dv2 x0 x1 x2 x4 x5 x6 _ a b).trans (dvB_at x0 x1 x2 x4 x5 x6 xs1 256 (by omega) (by omega) _ a b).symm
  · obtain ⟨a, b, rfl⟩ := exists_ix2 z
    exact (dv1 x0 x1 x2 x4 x5 x6 _ a b).trans (dvB_at x0 x1 x2 x4 x5 x6 xs1 128 (by omega) (by omega) _ a b).symm
  · obtain ⟨a, b, rfl⟩ := exists_ix2 z
    exact (dv0 x0 x1 x2 x4 x5 x6 _ a b).trans (dvB_at x0 x1 x2 x4 x5 x6 xs1 0 (by omega) (by omega) _ a b).symm

/-- The values' accumulated cotangent inside a batch. -/
theorem outBS1 (hc0 : ¬cond0_0 i) (hc1 : ¬cond0_1 i) (hc2 : ¬cond0_2 i) (xo12 : Vec Ideal S1x128 .f32) (xo14 : Vec Ideal S1x1024 .f32) (xs0 : Vec Ideal S256x512 .f32) (xs1 : Vec Ideal S256x512 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1 = dvB x0 x1 x2 x4 x5 x6 xs1 := by
  unfold sout0_B_1
  rw [View.read_writes_junk_eq_canon]
  exact canon_eq_of_pieces _ _ (storesBS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo14 xs0 xs1) (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1)

/-- The cotangent of the residual stream inside a batch. -/
theorem outB9 (hc0 : ¬cond0_0 i) (hc1 : ¬cond0_1 i) (hc2 : ¬cond0_2 i) (xo12 : Vec Ideal S1x128 .f32) (xo14 : Vec Ideal S1x1024 .f32) (xs0 : Vec Ideal S256x512 .f32) (xs1 : Vec Ideal S256x512 .f32) (a : Fin 512) (l : Fin 1024) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1 (ix2 a l)
      = dxE x0 x1 x2 x3 x4 x5 x6 x7 x8 a l := by
  unfold out0_B_9
  rw [View.read_writes_junk_eq_canon]
  have hst0 := storesB10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo14 xs0 xs1
  have hcov0 := cover0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1
  revert hst0 hcov0
  unfold kernelRun0_B
  dsimp only
  rw [View.canon_unit_zero (by funext j; fin_cases j <;> rfl)]
  sl_unfold_run_names
  simp only [readAt_ld]
  intro hst0 hcov0
  rw [readCov_eq_of_pieces _ (dcqB x0 x1 x2 x4 x5 x6) _ hst0 hcov0]
  exact pay_dx x0 x1 x2 x3 x4 x5 x6 x7 x8 a l

/-- The gradient of the norm's gain inside a batch. -/
theorem outB14 (hc0 : ¬cond0_0 i) (hc1 : ¬cond0_1 i) (hc2 : ¬cond0_2 i) (xo12 : Vec Ideal S1x128 .f32) (xo14 : Vec Ideal S1x1024 .f32) (xs0 : Vec Ideal S256x512 .f32) (xs1 : Vec Ideal S256x512 .f32) (l : Fin 1024) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1 (ix2 0 l)
      = xo14 (ix2 0 l) + dgxE x0 x1 x2 x3 x4 x5 x6 x8 l := by
  unfold out0_B_14
  rw [View.read_writes_junk_eq_canon]
  have hst0 := storesB10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo14 xs0 xs1
  have hcov0 := cover0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1
  revert hst0 hcov0
  unfold kernelRun0_B
  dsimp only
  rw [View.canon_unit_zero (by funext j; fin_cases j <;> rfl)]
  sl_unfold_run_names
  simp only [readAt_ld]
  intro hst0 hcov0
  rw [readCov_eq_of_pieces _ (dcqB x0 x1 x2 x4 x5 x6) _ hst0 hcov0]
  refine (pay_dgx x0 x1 x2 x3 x4 x5 x6 x8 _ l).trans ?_
  rw [View.ld_unit_zero (by funext j; fin_cases j <;> rfl)]

/-- The gradient of the queries' gain inside a batch. -/
theorem outB12 (hc0 : ¬cond0_0 i) (hc1 : ¬cond0_1 i) (hc2 : ¬cond0_2 i) (xo12 : Vec Ideal S1x128 .f32) (xo14 : Vec Ideal S1x1024 .f32) (xs0 : Vec Ideal S256x512 .f32) (xs1 : Vec Ideal S256x512 .f32) (j : Fin 128) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 xs0 xs1 (ix2 0 j)
      = xo12 (ix2 0 j) + dgqB x0 x1 x2 x4 x5 x6 j := by
  unfold out0_B_12
  rw [View.read_writes_junk_eq_canon]
  unfold kernelRun0_B
  dsimp only
  rw [View.canon_cons_unit_zero (by funext j; fin_cases j <;> rfl)]
  sl_unfold_run_names
  simp only [readAt_ld]
  refine (gq3 x0 x1 x2 x4 x5 x6 _ j).trans ?_
  rw [readCov_of_whole, View.ld_unit_zero (by funext j; fin_cases j <;> rfl), gq2 x0 x1 x2 x4 x5 x6 _ j]
  rw [readCov_of_whole, View.ld_unit_zero (by funext j; fin_cases j <;> rfl), gq1 x0 x1 x2 x4 x5 x6 _ j]
  rw [readCov_of_whole, View.ld_unit_zero (by funext j; fin_cases j <;> rfl), gq0 x0 x1 x2 x4 x5 x6 _ j]
  rw [View.ld_unit_zero (by funext j; fin_cases j <;> rfl), add_assoc, add_assoc, add_assoc]
  exact congrArg (xo12 (ix2 0 j) + ·) (by rw [← add_assoc, ← add_assoc]; rfl)

end Cert.Proof.Xattn

end
-- ==== Proof.Xattn.PointC.lean ====
/-
  What the cross-attention's backward kernel leaves in its blocks at a batch's last point: the run's stores, read as the block's formulas.
-/
module

public import proofs.«01_k».proof.Proof.Xattn.Block

@[expose] public section

set_option maxRecDepth 16384

noncomputable section

namespace Cert.Proof.Xattn

open Cert.KernelIdeal Cert.KernelIdeal.Gen Idealize.ShloMosaic Idealize.ShloMosaic.TcCoe Idealize.SL.Sem Cert.Proof.Reads
open Cert.Proof.Norm

variable (c : Dev nD) (i : grid0.Coords)
  (arg2 : Memref sig .tc .vmem S512x1024 .f32) (harg2 : arg2.IsWhole)
  (arg3 : Memref sig .tc .vmem S512x512 .f32) (harg3 : arg3.IsWhole)
  (arg4 : Memref sig .tc .vmem S256x1024 .f32) (harg4 : arg4.IsWhole)
  (arg5 : Memref sig .tc .vmem S512x1024 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S512x1024 .bf16) (harg8 : arg8.IsWhole)
  (arg9 : Memref sig .tc .vmem S1x1024 .f32) (harg9 : arg9.IsWhole)
  (arg10 : Memref sig .tc .vmem S1024x512 .bf16) (harg10 : arg10.IsWhole)
  (arg11 : Memref sig .tc .vmem S512x1024 .f32) (harg11 : arg11.IsWhole)
  (arg12 : Memref sig .tc .vmem S512x512 .bf16) (harg12 : arg12.IsWhole)
  (arg13 : Memref sig .tc .vmem S256x1024 .bf16) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S1x1024 .f32) (harg16 : arg16.IsWhole)
  (arg17 : Memref sig .tc .vmem S256x512 .f32) (harg17 : arg17.IsWhole)
  (arg18 : Memref sig .tc .vmem S256x512 .f32) (harg18 : arg18.IsWhole)
  (x0 : Vec Ideal S512x1024 .f32) (x1 : Vec Ideal S512x512 .f32) (x2 : Vec Ideal S256x1024 .f32) (x3 : Vec Ideal S512x1024 .f32)
  (x4 x5 : Vec Ideal S1x128 .f32) (x6 : Vec Ideal S512x1024 .bf16) (x7 : Vec Ideal S1x1024 .f32) (x8 : Vec Ideal S1024x512 .bf16)

/-- The stores of the query cotangent agree with its formula. -/
theorem storesC10 (hc0 : ¬cond0_0 i) (hc1 : ¬cond0_1 i) (hc2 : cond0_2 i) (xo12 : Vec Ideal S1x128 .f32) (xo13 : Vec Ideal S1x128 .f32) (xo14 : Vec Ideal S1x1024 .f32) (xs0 : Vec Ideal S256x512 .f32) (xs1 : Vec Ideal S256x512 .f32) :
    ∀ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1).2.1,
      ∀ z : p.1.shape.Idx, p.2 z = dcqB x0 x1 x2 x4 x5 x6 (p.1.emb z) := by
  unfold kernelRun0_C
  dsimp only
  intro p hp
  fin_cases hp <;> intro z <;> dsimp only <;> sl_unfold_run_names <;> simp only [readAt_ld]
  · obtain ⟨a, b, rfl⟩ := exists_ix2 z
    exact (cq3 x0 x1 x2 x4 x5 x6 a b).trans (dcqB_at x0 x1 x2 x4 x5 x6 384 (by omega) (by omega) _ a b).symm
  · obtain ⟨a, b, rfl⟩ := exists_ix2 z
    exact (cq2 x0 x1 x2 x4 x5 x6 a b).trans (dcqB_at x0 x1 x2 x4 x5 x6 256 (by omega) (by omega) _ a b).symm
  · obtain ⟨a, b, rfl⟩ := exists_ix2 z
    exact (cq1 x0 x1 x2 x4 x5 x6 a b).trans (dcqB_at x0 x1 x2 x4 x5 x6 128 (by omega) (by omega) _ a b).symm
  · obtain ⟨a, b, rfl⟩ := exists_ix2 z
    exact (cq0 x0 x1 x2 x4 x5 x6 a b).trans (dcqB_at x0 x1 x2 x4 x5 x6 0 (by omega) (by omega) _ a b).symm

/-- The query cotangent at a batch's last point. -/
theorem outC10 (hc0 : ¬cond0_0 i) (hc1 : ¬cond0_1 i) (hc2 : cond0_2 i) (xo12 : Vec Ideal S1x128 .f32) (xo13 : Vec Ideal S1x128 .f32) (xo14 : Vec Ideal S1x1024 .f32) (xs0 : Vec Ideal S256x512 .f32) (xs1 : Vec Ideal S256x512 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1 = dcqB x0 x1 x2 x4 x5 x6 := by
  unfold out0_C_10
  rw [View.read_writes_junk_eq_canon]
  exact canon_eq_of_pieces _ _ (storesC10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo13 xo14 xs0 xs1) (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1)

/-- The stores of the normed keys' accumulated cotangent agree with its formula. -/
theorem storesCS0 (hc0 : ¬cond0_0 i) (hc1 : ¬cond0_1 i) (hc2 : cond0_2 i) (xo12 : Vec Ideal S1x128 .f32) (xo13 : Vec Ideal S1x128 .f32) (xo14 : Vec Ideal S1x1024 .f32) (xs0 : Vec Ideal S256x512 .f32) (xs1 : Vec Ideal S256x512 .f32) :
    ∀ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1).2.2.2.2.2.2.1,
      ∀ z : p.1.shape.Idx, p.2 z = dkB x0 x1 x2 x4 x5 x6 xs0 (p.1.emb z) := by
  unfold kernelRun0_C
  dsimp only
  intro p hp
  fin_cases hp <;> intro z <;> dsimp only <;> sl_unfold_run_names <;> simp only [readAt_ld]
  · obtain ⟨a, b, rfl⟩ := exists_ix2 z
    exact (dk3 x0 x1 x2 x4 x5 x6 _ a b).trans (dkB_at x0 x1 x2 x4 x5 x6 xs0 384 (by omega) (by omega) _ a b).symm
  · obtain ⟨a, b, rfl⟩ := exists_ix2 z
    exact (dk2 x0 x1 x2 x4 x5 x6 _ a b).trans (dkB_at x0 x1 x2 x4 x5 x6 xs0 256 (by omega) (by omega) _ a b).symm
  · obtain ⟨a, b, rfl⟩ := exists_ix2 z
    exact (dk1 x0 x1 x2 x4 x5 x6 _ a b).trans (dkB_at x0 x1 x2 x4 x5 x6 xs0 128 (by omega) (by omega) _ a b).symm
  · obtain ⟨a, b, rfl⟩ := exists_ix2 z
    exact (dk0 x0 x1 x2 x4 x5 x6 _ a b).trans (dkB_at x0 x1 x2 x4 x5 x6 xs0 0 (by omega) (by omega) _ a b).symm

/-- The normed keys' accumulated cotangent at a batch's last point. -/
theorem outCS0 (hc0 : ¬cond0_0 i) (hc1 : ¬cond0_1 i) (hc2 : cond0_2 i) (xo12 : Vec Ideal S1x128 .f32) (xo13 : Vec Ideal S1x128 .f32) (xo14 : Vec Ideal S1x1024 .f32) (xs0 : Vec Ideal S256x512 .f32) (xs1 : Vec Ideal S256x512 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1 = dkB x0 x1 x2 x4 x5 x6 xs0 := by
  unfold sout0_C_0
  rw [View.read_writes_junk_eq_canon]
  exact canon_eq_of_pieces _ _ (storesCS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo13 xo14 xs0 xs1) (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1)

/-- The stores of the values' accumulated cotangent agree with its formula. -/
theorem storesCS1 (hc0 : ¬cond0_0 i) (hc1 : ¬cond0_1 i) (hc2 : cond0_2 i) (xo12 : Vec Ideal S1x128 .f32) (xo13 : Vec Ideal S1x128 .f32) (xo14 : Vec Ideal S1x1024 .f32) (xs0 : Vec Ideal S256x512 .f32) (xs1 : Vec Ideal S256x512 .f32) :
    ∀ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1).2.2.2.2.2.2.2.1,
      ∀ z : p.1.shape.Idx, p.2 z = dvB x0 x1 x2 x4 x5 x6 xs1 (p.1.emb z) := by
  unfold kernelRun0_C
  dsimp only
  intro p hp
  fin_cases hp <;> intro z <;> dsimp only <;> sl_unfold_run_names <;> simp only [readAt_ld]
  · obtain ⟨a, b, rfl⟩ := exists_ix2 z
    exact (dv3 x0 x1 x2 x4 x5 x6 _ a b).trans (dvB_at x0 x1 x2 x4 x5 x6 xs1 384 (by omega) (by omega) _ a b).symm
  · obtain ⟨a, b, rfl⟩ := exists_ix2 z
    exact (dv2 x0 x1 x2 x4 x5 x6 _ a b).trans (dvB_at x0 x1 x2 x4 x5 x6 xs1 256 (by omega) (by omega) _ a b).symm
  · obtain ⟨a, b, rfl⟩ := exists_ix2 z
    exact (dv1 x0 x1 x2 x4 x5 x6 _ a b).trans (dvB_at x0 x1 x2 x4 x5 x6 xs1 128 (by omega) (by omega) _ a b).symm
  · obtain ⟨a, b, rfl⟩ := exists_ix2 z
    exact (dv0 x0 x1 x2 x4 x5 x6 _ a b).trans (dvB_at x0 x1 x2 x4 x5 x6 xs1 0 (by omega) (by omega) _ a b).symm

/-- The values' accumulated cotangent at a batch's last point. -/
theorem outCS1 (hc0 : ¬cond0_0 i) (hc1 : ¬cond0_1 i) (hc2 : cond0_2 i) (xo12 : Vec Ideal S1x128 .f32) (xo13 : Vec Ideal S1x128 .f32) (xo14 : Vec Ideal S1x1024 .f32) (xs0 : Vec Ideal S256x512 .f32) (xs1 : Vec Ideal S256x512 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1 = dvB x0 x1 x2 x4 x5 x6 xs1 := by
  unfold sout0_C_1
  rw [View.read_writes_junk_eq_canon]
  exact canon_eq_of_pieces _ _ (storesCS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo13 xo14 xs0 xs1) (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1)

/-- The cotangent of the residual stream at a batch's last point. -/
theorem outC9 (hc0 : ¬cond0_0 i) (hc1 : ¬cond0_1 i) (hc2 : cond0_2 i) (xo12 : Vec Ideal S1x128 .f32) (xo13 : Vec Ideal S1x128 .f32) (xo14 : Vec Ideal S1x1024 .f32) (xs0 : Vec Ideal S256x512 .f32) (xs1 : Vec Ideal S256x512 .f32) (a : Fin 512) (l : Fin 1024) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1 (ix2 a l)
      = dxE x0 x1 x2 x3 x4 x5 x6 x7 x8 a l := by
  unfold out0_C_9
  rw [View.read_writes_junk_eq_canon]
  have hst0 := storesC10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo13 xo14 xs0 xs1
  have hcov0 := cover0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1
  revert hst0 hcov0
  unfold kernelRun0_C
  dsimp only
  rw [View.canon_unit_zero (by funext j; fin_cases j <;> rfl)]
  sl_unfold_run_names
  simp only [readAt_ld]
  intro hst0 hcov0
  rw [readCov_eq_of_pieces _ (dcqB x0 x1 x2 x4 x5 x6) _ hst0 hcov0]
  exact pay_dx x0 x1 x2 x3 x4 x5 x6 x7 x8 a l

/-- The gradient of the norm's gain at a batch's last point. -/
theorem outC14 (hc0 : ¬cond0_0 i) (hc1 : ¬cond0_1 i) (hc2 : cond0_2 i) (xo12 : Vec Ideal S1x128 .f32) (xo13 : Vec Ideal S1x128 .f32) (xo14 : Vec Ideal S1x1024 .f32) (xs0 : Vec Ideal S256x512 .f32) (xs1 : Vec Ideal S256x512 .f32) (l : Fin 1024) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1 (ix2 0 l)
      = xo14 (ix2 0 l) + dgxE x0 x1 x2 x3 x4 x5 x6 x8 l := by
  unfold out0_C_14
  rw [View.read_writes_junk_eq_canon]
  have hst0 := storesC10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo13 xo14 xs0 xs1
  have hcov0 := cover0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1
  revert hst0 hcov0
  unfold kernelRun0_C
  dsimp only
  rw [View.canon_unit_zero (by funext j; fin_cases j <;> rfl)]
  sl_unfold_run_names
  simp only [readAt_ld]
  intro hst0 hcov0
  rw [readCov_eq_of_pieces _ (dcqB x0 x1 x2 x4 x5 x6) _ hst0 hcov0]
  refine (pay_dgx x0 x1 x2 x3 x4 x5 x6 x8 _ l).trans ?_
  rw [View.ld_unit_zero (by funext j; fin_cases j <;> rfl)]

/-- The gradient of the queries' gain at a batch's last point. -/
theorem outC12 (hc0 : ¬cond0_0 i) (hc1 : ¬cond0_1 i) (hc2 : cond0_2 i) (xo12 : Vec Ideal S1x128 .f32) (xo13 : Vec Ideal S1x128 .f32) (xo14 : Vec Ideal S1x1024 .f32) (xs0 : Vec Ideal S256x512 .f32) (xs1 : Vec Ideal S256x512 .f32) (j : Fin 128) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1 (ix2 0 j)
      = xo12 (ix2 0 j) + dgqB x0 x1 x2 x4 x5 x6 j := by
  unfold out0_C_12
  rw [View.read_writes_junk_eq_canon]
  unfold kernelRun0_C
  dsimp only
  rw [View.canon_cons_unit_zero (by funext j; fin_cases j <;> rfl)]
  sl_unfold_run_names
  simp only [readAt_ld]
  refine (gq3 x0 x1 x2 x4 x5 x6 _ j).trans ?_
  rw [readCov_of_whole, View.ld_unit_zero (by funext j; fin_cases j <;> rfl), gq2 x0 x1 x2 x4 x5 x6 _ j]
  rw [readCov_of_whole, View.ld_unit_zero (by funext j; fin_cases j <;> rfl), gq1 x0 x1 x2 x4 x5 x6 _ j]
  rw [readCov_of_whole, View.ld_unit_zero (by funext j; fin_cases j <;> rfl), gq0 x0 x1 x2 x4 x5 x6 _ j]
  rw [View.ld_unit_zero (by funext j; fin_cases j <;> rfl), add_assoc, add_assoc, add_assoc]
  exact congrArg (xo12 (ix2 0 j) + ·) (by rw [← add_assoc, ← add_assoc]; rfl)

/-- The gradient of the keys' gain at a batch's last point. -/
theorem outC13 (hc0 : ¬cond0_0 i) (hc1 : ¬cond0_1 i) (hc2 : cond0_2 i) (xo12 : Vec Ideal S1x128 .f32) (xo13 : Vec Ideal S1x128 .f32) (xo14 : Vec Ideal S1x1024 .f32) (xs0 : Vec Ideal S256x512 .f32) (xs1 : Vec Ideal S256x512 .f32) (j : Fin 128) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1 (ix2 0 j)
      = xo13 (ix2 0 j) + dgkB x2 (dkB x0 x1 x2 x4 x5 x6 xs0) j := by
  unfold out0_C_13
  rw [View.read_writes_junk_eq_canon]
  have hst0 := storesCS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo13 xo14 xs0 xs1
  have hcov0 := scover0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1
  revert hst0 hcov0
  unfold kernelRun0_C
  dsimp only
  rw [View.canon_cons_unit_zero (by funext j; fin_cases j <;> rfl)]
  sl_unfold_run_names
  simp only [readAt_ld]
  intro hst0 hcov0
  rw [readCov_eq_of_pieces _ (dkB x0 x1 x2 x4 x5 x6 xs0) _ hst0 hcov0]
  refine (gk3 x2 (dkB x0 x1 x2 x4 x5 x6 xs0) _ j).trans ?_
  rw [readCov_of_whole, View.ld_unit_zero (by funext j; fin_cases j <;> rfl), readCov_eq_of_pieces _ (dkB x0 x1 x2 x4 x5 x6 xs0) _ hst0 hcov0, gk2 x2 (dkB x0 x1 x2 x4 x5 x6 xs0) _ j]
  rw [readCov_of_whole, View.ld_unit_zero (by funext j; fin_cases j <;> rfl), readCov_eq_of_pieces _ (dkB x0 x1 x2 x4 x5 x6 xs0) _ hst0 hcov0, gk1 x2 (dkB x0 x1 x2 x4 x5 x6 xs0) _ j]
  rw [readCov_of_whole, View.ld_unit_zero (by funext j; fin_cases j <;> rfl), readCov_eq_of_pieces _ (dkB x0 x1 x2 x4 x5 x6 xs0) _ hst0 hcov0, gk0 x2 (dkB x0 x1 x2 x4 x5 x6 xs0) _ j]
  rw [View.ld_unit_zero (by funext j; fin_cases j <;> rfl), add_assoc, add_assoc, add_assoc]
  exact congrArg (xo13 (ix2 0 j) + ·) (by rw [← add_assoc, ← add_assoc]; rfl)

/-- The stores of the cotangent of keys and values agree with its formula. -/
theorem storesC11 (hc0 : ¬cond0_0 i) (hc1 : ¬cond0_1 i) (hc2 : cond0_2 i) (xo12 : Vec Ideal S1x128 .f32) (xo13 : Vec Ideal S1x128 .f32) (xo14 : Vec Ideal S1x1024 .f32) (xs0 : Vec Ideal S256x512 .f32) (xs1 : Vec Ideal S256x512 .f32) :
    ∀ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1).2.2.1,
      ∀ z : p.1.shape.Idx, p.2 z = dkvB x2 x5 (dkB x0 x1 x2 x4 x5 x6 xs0) (dvB x0 x1 x2 x4 x5 x6 xs1) (p.1.emb z) := by
  have hst0 := storesCS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo13 xo14 xs0 xs1
  have hcov0 := scover0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1
  have hst1 := storesCS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo13 xo14 xs0 xs1
  have hcov1 := scover0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1
  revert hst0 hcov0 hst1 hcov1
  unfold kernelRun0_C
  dsimp only
  sl_unfold_run_names
  simp only [readAt_ld]
  intro hst0 hcov0 hst1 hcov1 p hp
  fin_cases hp <;> intro z <;> dsimp only
  · obtain ⟨a, b, rfl⟩ := exists_ix2 z
    rw [readCov_eq_of_pieces _ (dvB x0 x1 x2 x4 x5 x6 xs1) _ hst1 hcov1]
    exact (cv3 (dvB x0 x1 x2 x4 x5 x6 xs1) a b).trans (dkvB_val x2 x5 (dkB x0 x1 x2 x4 x5 x6 xs0) (dvB x0 x1 x2 x4 x5 x6 xs1) 384 896 (by omega) rfl _ a b).symm
  · obtain ⟨a, b, rfl⟩ := exists_ix2 z
    rw [readCov_eq_of_pieces _ (dkB x0 x1 x2 x4 x5 x6 xs0) _ hst0 hcov0]
    exact (ck3 x2 x5 (dkB x0 x1 x2 x4 x5 x6 xs0) a b).trans (dkvB_key x2 x5 (dkB x0 x1 x2 x4 x5 x6 xs0) (dvB x0 x1 x2 x4 x5 x6 xs1) 384 (by omega) (by omega) _ a b).symm
  · obtain ⟨a, b, rfl⟩ := exists_ix2 z
    rw [readCov_eq_of_pieces _ (dvB x0 x1 x2 x4 x5 x6 xs1) _ hst1 hcov1]
    exact (cv2 (dvB x0 x1 x2 x4 x5 x6 xs1) a b).trans (dkvB_val x2 x5 (dkB x0 x1 x2 x4 x5 x6 xs0) (dvB x0 x1 x2 x4 x5 x6 xs1) 256 768 (by omega) rfl _ a b).symm
  · obtain ⟨a, b, rfl⟩ := exists_ix2 z
    rw [readCov_eq_of_pieces _ (dkB x0 x1 x2 x4 x5 x6 xs0) _ hst0 hcov0]
    exact (ck2 x2 x5 (dkB x0 x1 x2 x4 x5 x6 xs0) a b).trans (dkvB_key x2 x5 (dkB x0 x1 x2 x4 x5 x6 xs0) (dvB x0 x1 x2 x4 x5 x6 xs1) 256 (by omega) (by omega) _ a b).symm
  · obtain ⟨a, b, rfl⟩ := exists_ix2 z
    rw [readCov_eq_of_pieces _ (dvB x0 x1 x2 x4 x5 x6 xs1) _ hst1 hcov1]
    exact (cv1 (dvB x0 x1 x2 x4 x5 x6 xs1) a b).trans (dkvB_val x2 x5 (dkB x0 x1 x2 x4 x5 x6 xs0) (dvB x0 x1 x2 x4 x5 x6 xs1) 128 640 (by omega) rfl _ a b).symm
  · obtain ⟨a, b, rfl⟩ := exists_ix2 z
    rw [readCov_eq_of_pieces _ (dkB x0 x1 x2 x4 x5 x6 xs0) _ hst0 hcov0]
    exact (ck1 x2 x5 (dkB x0 x1 x2 x4 x5 x6 xs0) a b).trans (dkvB_key x2 x5 (dkB x0 x1 x2 x4 x5 x6 xs0) (dvB x0 x1 x2 x4 x5 x6 xs1) 128 (by omega) (by omega) _ a b).symm
  · obtain ⟨a, b, rfl⟩ := exists_ix2 z
    rw [readCov_eq_of_pieces _ (dvB x0 x1 x2 x4 x5 x6 xs1) _ hst1 hcov1]
    exact (cv0 (dvB x0 x1 x2 x4 x5 x6 xs1) a b).trans (dkvB_val x2 x5 (dkB x0 x1 x2 x4 x5 x6 xs0) (dvB x0 x1 x2 x4 x5 x6 xs1) 0 512 (by omega) rfl _ a b).symm
  · obtain ⟨a, b, rfl⟩ := exists_ix2 z
    rw [readCov_eq_of_pieces _ (dkB x0 x1 x2 x4 x5 x6 xs0) _ hst0 hcov0]
    exact (ck0 x2 x5 (dkB x0 x1 x2 x4 x5 x6 xs0) a b).trans (dkvB_key x2 x5 (dkB x0 x1 x2 x4 x5 x6 xs0) (dvB x0 x1 x2 x4 x5 x6 xs1) 0 (by omega) (by omega) _ a b).symm

/-- The cotangent of keys and values at a batch's last point. -/
theorem outC11 (hc0 : ¬cond0_0 i) (hc1 : ¬cond0_1 i) (hc2 : cond0_2 i) (xo12 : Vec Ideal S1x128 .f32) (xo13 : Vec Ideal S1x128 .f32) (xo14 : Vec Ideal S1x1024 .f32) (xs0 : Vec Ideal S256x512 .f32) (xs1 : Vec Ideal S256x512 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1 = dkvB x2 x5 (dkB x0 x1 x2 x4 x5 x6 xs0) (dvB x0 x1 x2 x4 x5 x6 xs1) := by
  unfold out0_C_11
  rw [View.read_writes_junk_eq_canon]
  exact canon_eq_of_pieces _ _ (storesC11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo13 xo14 xs0 xs1) (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo13 xo14 xs0 xs1)

end Cert.Proof.Xattn

end
-- ==== Proof.Xattn.PointD.lean ====
/-
  What the cross-attention's backward kernel leaves in its blocks at a later batch's first point: the run's stores, read as the block's formulas.
-/
module

public import proofs.«01_k».proof.Proof.Xattn.Block

@[expose] public section

set_option maxRecDepth 16384

noncomputable section

namespace Cert.Proof.Xattn

open Cert.KernelIdeal Cert.KernelIdeal.Gen Idealize.ShloMosaic Idealize.ShloMosaic.TcCoe Idealize.SL.Sem Cert.Proof.Reads
open Cert.Proof.Norm

variable (c : Dev nD) (i : grid0.Coords)
  (arg2 : Memref sig .tc .vmem S512x1024 .f32) (harg2 : arg2.IsWhole)
  (arg3 : Memref sig .tc .vmem S512x512 .f32) (harg3 : arg3.IsWhole)
  (arg4 : Memref sig .tc .vmem S256x1024 .f32) (harg4 : arg4.IsWhole)
  (arg5 : Memref sig .tc .vmem S512x1024 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S512x1024 .bf16) (harg8 : arg8.IsWhole)
  (arg9 : Memref sig .tc .vmem S1x1024 .f32) (harg9 : arg9.IsWhole)
  (arg10 : Memref sig .tc .vmem S1024x512 .bf16) (harg10 : arg10.IsWhole)
  (arg11 : Memref sig .tc .vmem S512x1024 .f32) (harg11 : arg11.IsWhole)
  (arg12 : Memref sig .tc .vmem S512x512 .bf16) (harg12 : arg12.IsWhole)
  (arg13 : Memref sig .tc .vmem S256x1024 .bf16) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S1x1024 .f32) (harg16 : arg16.IsWhole)
  (arg17 : Memref sig .tc .vmem S256x512 .f32) (harg17 : arg17.IsWhole)
  (arg18 : Memref sig .tc .vmem S256x512 .f32) (harg18 : arg18.IsWhole)
  (x0 : Vec Ideal S512x1024 .f32) (x1 : Vec Ideal S512x512 .f32) (x2 : Vec Ideal S256x1024 .f32) (x3 : Vec Ideal S512x1024 .f32)
  (x4 x5 : Vec Ideal S1x128 .f32) (x6 : Vec Ideal S512x1024 .bf16) (x7 : Vec Ideal S1x1024 .f32) (x8 : Vec Ideal S1024x512 .bf16)

/-- The stores of the query cotangent agree with its formula. -/
theorem storesD10 (hc0 : ¬cond0_0 i) (hc1 : cond0_1 i) (hc2 : ¬cond0_2 i) (xo12 : Vec Ideal S1x128 .f32) (xo14 : Vec Ideal S1x1024 .f32) :
    ∀ p ∈ (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14).2.1,
      ∀ z : p.1.shape.Idx, p.2 z = dcqB x0 x1 x2 x4 x5 x6 (p.1.emb z) := by
  unfold kernelRun0_D
  dsimp only
  intro p hp
  fin_cases hp <;> intro z <;> dsimp only <;> sl_unfold_run_names <;> simp only [readAt_ld]
  · obtain ⟨a, b, rfl⟩ := exists_ix2 z
    exact (cq3 x0 x1 x2 x4 x5 x6 a b).trans (dcqB_at x0 x1 x2 x4 x5 x6 384 (by omega) (by omega) _ a b).symm
  · obtain ⟨a, b, rfl⟩ := exists_ix2 z
    exact (cq2 x0 x1 x2 x4 x5 x6 a b).trans (dcqB_at x0 x1 x2 x4 x5 x6 256 (by omega) (by omega) _ a b).symm
  · obtain ⟨a, b, rfl⟩ := exists_ix2 z
    exact (cq1 x0 x1 x2 x4 x5 x6 a b).trans (dcqB_at x0 x1 x2 x4 x5 x6 128 (by omega) (by omega) _ a b).symm
  · obtain ⟨a, b, rfl⟩ := exists_ix2 z
    exact (cq0 x0 x1 x2 x4 x5 x6 a b).trans (dcqB_at x0 x1 x2 x4 x5 x6 0 (by omega) (by omega) _ a b).symm

/-- The query cotangent at a later batch's first point. -/
theorem outD10 (hc0 : ¬cond0_0 i) (hc1 : cond0_1 i) (hc2 : ¬cond0_2 i) (xo12 : Vec Ideal S1x128 .f32) (xo14 : Vec Ideal S1x1024 .f32) :
    out0_D_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 = dcqB x0 x1 x2 x4 x5 x6 := by
  unfold out0_D_10
  rw [View.read_writes_junk_eq_canon]
  exact canon_eq_of_pieces _ _ (storesD10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo14) (cover0_D_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14)

/-- The stores of the normed keys' accumulated cotangent agree with its formula. -/
theorem storesDS0 (hc0 : ¬cond0_0 i) (hc1 : cond0_1 i) (hc2 : ¬cond0_2 i) (xo12 : Vec Ideal S1x128 .f32) (xo14 : Vec Ideal S1x1024 .f32) :
    ∀ p ∈ List.take 4 (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14).2.2.2.2.2.2.1,
      ∀ z : p.1.shape.Idx, p.2 z = dkB x0 x1 x2 x4 x5 x6 (k0_pay26 (F := Ideal)) (p.1.emb z) := by
  unfold kernelRun0_D
  dsimp only
  simp only [List.take]
  intro p hp
  fin_cases hp <;> intro z <;> dsimp only <;> sl_unfold_run_names <;> simp only [readAt_ld]
  · obtain ⟨a, b, rfl⟩ := exists_ix2 z
    rw [readCov_skip_cols (h := Or.inl (by omega)), readCov_skip_cols (h := Or.inl (by omega)), readCov_skip_cols (h := Or.inl (by omega)), readCov_of_whole]
    exact (dk3 x0 x1 x2 x4 x5 x6 _ a b).trans (dkB_at x0 x1 x2 x4 x5 x6 (k0_pay26 (F := Ideal)) 384 (by omega) (by omega) _ a b).symm
  · obtain ⟨a, b, rfl⟩ := exists_ix2 z
    rw [readCov_skip_cols (h := Or.inl (by omega)), readCov_skip_cols (h := Or.inl (by omega)), readCov_of_whole]
    exact (dk2 x0 x1 x2 x4 x5 x6 _ a b).trans (dkB_at x0 x1 x2 x4 x5 x6 (k0_pay26 (F := Ideal)) 256 (by omega) (by omega) _ a b).symm
  · obtain ⟨a, b, rfl⟩ := exists_ix2 z
    rw [readCov_skip_cols (h := Or.inl (by omega)), readCov_of_whole]
    exact (dk1 x0 x1 x2 x4 x5 x6 _ a b).trans (dkB_at x0 x1 x2 x4 x5 x6 (k0_pay26 (F := Ideal)) 128 (by omega) (by omega) _ a b).symm
  · obtain ⟨a, b, rfl⟩ := exists_ix2 z
    rw [readCov_of_whole]
    exact (dk0 x0 x1 x2 x4 x5 x6 _ a b).trans (dkB_at x0 x1 x2 x4 x5 x6 (k0_pay26 (F := Ideal)) 0 (by omega) (by omega) _ a b).symm

/-- The normed keys' accumulated cotangent at a later batch's first point. -/
theorem outDS0 (hc0 : ¬cond0_0 i) (hc1 : cond0_1 i) (hc2 : ¬cond0_2 i) (xo12 : Vec Ideal S1x128 .f32) (xo14 : Vec Ideal S1x1024 .f32) :
    sout0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 = dkB x0 x1 x2 x4 x5 x6 (k0_pay26 (F := Ideal)) := by
  unfold sout0_D_0
  rw [View.read_writes_junk_eq_canon]
  have hst := storesDS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo14
  revert hst
  unfold kernelRun0_D
  dsimp only
  simp only [List.take]
  intro hst
  exact canon_eq_of_front _ [_, _, _, _] [_] hst (View.cover_of_tiledL _ S256x128.size (by sl_kernel_rfl))

/-- The stores of the values' accumulated cotangent agree with its formula. -/
theorem storesDS1 (hc0 : ¬cond0_0 i) (hc1 : cond0_1 i) (hc2 : ¬cond0_2 i) (xo12 : Vec Ideal S1x128 .f32) (xo14 : Vec Ideal S1x1024 .f32) :
    ∀ p ∈ List.take 4 (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14).2.2.2.2.2.2.2.1,
      ∀ z : p.1.shape.Idx, p.2 z = dvB x0 x1 x2 x4 x5 x6 (k0_pay27 (F := Ideal)) (p.1.emb z) := by
  unfold kernelRun0_D
  dsimp only
  simp only [List.take]
  intro p hp
  fin_cases hp <;> intro z <;> dsimp only <;> sl_unfold_run_names <;> simp only [readAt_ld]
  · obtain ⟨a, b, rfl⟩ := exists_ix2 z
    rw [readCov_skip_cols (h := Or.inl (by omega)), readCov_skip_cols (h := Or.inl (by omega)), readCov_skip_cols (h := Or.inl (by omega)), readCov_of_whole]
    exact (dv3 x0 x1 x2 x4 x5 x6 _ a b).trans (dvB_at x0 x1 x2 x4 x5 x6 (k0_pay27 (F := Ideal)) 384 (by omega) (by omega) _ a b).symm
  · obtain ⟨a, b, rfl⟩ := exists_ix2 z
    rw [readCov_skip_cols (h := Or.inl (by omega)), readCov_skip_cols (h := Or.inl (by omega)), readCov_of_whole]
    exact (dv2 x0 x1 x2 x4 x5 x6 _ a b).trans (dvB_at x0 x1 x2 x4 x5 x6 (k0_pay27 (F := Ideal)) 256 (by omega) (by omega) _ a b).symm
  · obtain ⟨a, b, rfl⟩ := exists_ix2 z
    rw [readCov_skip_cols (h := Or.inl (by omega)), readCov_of_whole]
    exact (dv1 x0 x1 x2 x4 x5 x6 _ a b).trans (dvB_at x0 x1 x2 x4 x5 x6 (k0_pay27 (F := Ideal)) 128 (by omega) (by omega) _ a b).symm
  · obtain ⟨a, b, rfl⟩ := exists_ix2 z
    rw [readCov_of_whole]
    exact (dv0 x0 x1 x2 x4 x5 x6 _ a b).trans (dvB_at x0 x1 x2 x4 x5 x6 (k0_pay27 (F := Ideal)) 0 (by omega) (by omega) _ a b).symm

/-- The values' accumulated cotangent at a later batch's first point. -/
theorem outDS1 (hc0 : ¬cond0_0 i) (hc1 : cond0_1 i) (hc2 : ¬cond0_2 i) (xo12 : Vec Ideal S1x128 .f32) (xo14 : Vec Ideal S1x1024 .f32) :
    sout0_D_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 = dvB x0 x1 x2 x4 x5 x6 (k0_pay27 (F := Ideal)) := by
  unfold sout0_D_1
  rw [View.read_writes_junk_eq_canon]
  have hst := storesDS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo14
  revert hst
  unfold kernelRun0_D
  dsimp only
  simp only [List.take]
  intro hst
  exact canon_eq_of_front _ [_, _, _, _] [_] hst (View.cover_of_tiledL _ S256x128.size (by sl_kernel_rfl))

/-- The cotangent of the residual stream at a later batch's first point. -/
theorem outD9 (hc0 : ¬cond0_0 i) (hc1 : cond0_1 i) (hc2 : ¬cond0_2 i) (xo12 : Vec Ideal S1x128 .f32) (xo14 : Vec Ideal S1x1024 .f32) (a : Fin 512) (l : Fin 1024) :
    out0_D_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 (ix2 a l)
      = dxE x0 x1 x2 x3 x4 x5 x6 x7 x8 a l := by
  unfold out0_D_9
  rw [View.read_writes_junk_eq_canon]
  have hst0 := storesD10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo14
  have hcov0 := cover0_D_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14
  revert hst0 hcov0
  unfold kernelRun0_D
  dsimp only
  rw [View.canon_unit_zero (by funext j; fin_cases j <;> rfl)]
  sl_unfold_run_names
  simp only [readAt_ld]
  intro hst0 hcov0
  rw [readCov_eq_of_pieces _ (dcqB x0 x1 x2 x4 x5 x6) _ hst0 hcov0]
  exact pay_dx x0 x1 x2 x3 x4 x5 x6 x7 x8 a l

/-- The gradient of the norm's gain at a later batch's first point. -/
theorem outD14 (hc0 : ¬cond0_0 i) (hc1 : cond0_1 i) (hc2 : ¬cond0_2 i) (xo12 : Vec Ideal S1x128 .f32) (xo14 : Vec Ideal S1x1024 .f32) (l : Fin 1024) :
    out0_D_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 (ix2 0 l)
      = xo14 (ix2 0 l) + dgxE x0 x1 x2 x3 x4 x5 x6 x8 l := by
  unfold out0_D_14
  rw [View.read_writes_junk_eq_canon]
  have hst0 := storesD10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 hc2 xo12 xo14
  have hcov0 := cover0_D_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14
  revert hst0 hcov0
  unfold kernelRun0_D
  dsimp only
  rw [View.canon_unit_zero (by funext j; fin_cases j <;> rfl)]
  sl_unfold_run_names
  simp only [readAt_ld]
  intro hst0 hcov0
  rw [readCov_eq_of_pieces _ (dcqB x0 x1 x2 x4 x5 x6) _ hst0 hcov0]
  refine (pay_dgx x0 x1 x2 x3 x4 x5 x6 x8 _ l).trans ?_
  rw [View.ld_unit_zero (by funext j; fin_cases j <;> rfl)]

/-- The gradient of the queries' gain at a later batch's first point. -/
theorem outD12 (hc0 : ¬cond0_0 i) (hc1 : cond0_1 i) (hc2 : ¬cond0_2 i) (xo12 : Vec Ideal S1x128 .f32) (xo14 : Vec Ideal S1x1024 .f32) (j : Fin 128) :
    out0_D_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo12 xo14 (ix2 0 j)
      = xo12 (ix2 0 j) + dgqB x0 x1 x2 x4 x5 x6 j := by
  unfold out0_D_12
  rw [View.read_writes_junk_eq_canon]
  unfold kernelRun0_D
  dsimp only
  rw [View.canon_cons_unit_zero (by funext j; fin_cases j <;> rfl)]
  sl_unfold_run_names
  simp only [readAt_ld]
  refine (gq3 x0 x1 x2 x4 x5 x6 _ j).trans ?_
  rw [readCov_of_whole, View.ld_unit_zero (by funext j; fin_cases j <;> rfl), gq2 x0 x1 x2 x4 x5 x6 _ j]
  rw [readCov_of_whole, View.ld_unit_zero (by funext j; fin_cases j <;> rfl), gq1 x0 x1 x2 x4 x5 x6 _ j]
  rw [readCov_of_whole, View.ld_unit_zero (by funext j; fin_cases j <;> rfl), gq0 x0 x1 x2 x4 x5 x6 _ j]
  rw [View.ld_unit_zero (by funext j; fin_cases j <;> rfl), add_assoc, add_assoc, add_assoc]
  exact congrArg (xo12 (ix2 0 j) + ·) (by rw [← add_assoc, ← add_assoc]; rfl)

end Cert.Proof.Xattn

end
-- ==== Proof.Xattn.Arrays.lean ====
/-
  What the cross-attention's backward kernel leaves in its six result arrays, as formulas of the arrays at the launch: block by
  block for the token-wise results; over a batch's four query blocks for the cotangent of keys and values; and over all blocks
  for the gradients of the three gains.
-/
module

public import proofs.«01_k».proof.Proof.Xattn.PointA
public import proofs.«01_k».proof.Proof.Xattn.PointB
public import proofs.«01_k».proof.Proof.Xattn.PointC
public import proofs.«01_k».proof.Proof.Xattn.PointD
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Cert.Proof.Xattn

open Cert.KernelIdeal Cert.KernelIdeal.Gen Idealize.ShloMosaic Idealize.ShloMosaic.TcCoe Idealize.SL.Sem Cert.Proof.Reads
open Cert.Proof.Norm

section Formulas

variable (X0 : Vec Ideal S4096x1024 .f32) (X1 : Vec Ideal S4096x512 .f32) (X2 : Vec Ideal S512x1024 .f32) (X3 : Vec Ideal S4096x1024 .f32)
  (X4 X5 : Vec Ideal S1x128 .f32) (X6 : Vec Ideal S512x1024 .bf16) (X7 : Vec Ideal S1x1024 .f32) (X8 : Vec Ideal S1024x512 .bf16)

/-- A token's batch. -/
def bat (r : Fin 4096) : Fin 2 := ⟨r.val / 2048, by omega⟩

/-- A batch's token. -/
def qrow (n : Fin 2) (q : Fin 2048) : Fin 4096 := ⟨n.val * 2048 + q.val, by omega⟩

/-- A batch's memory row. -/
def kvrow (n : Fin 2) (b : Fin 256) : Fin 512 := ⟨n.val * 256 + b.val, by omega⟩

section Head

variable (n : Fin 2) (o : ℕ) (ho : o + 128 ≤ 512)

/-- A batch's keys of a head. -/
def kA : Fin 256 → Fin 128 → EReal := fun b => colR X2 o (by omega) (kvrow n b)

/-- A batch's values of a head. -/
def vA : Fin 256 → Fin 128 → EReal := fun b => colR X2 (512 + o) (by omega) (kvrow n b)

/-- The cotangent of a head's output at a token. -/
def oA (r : Fin 4096) : Fin 128 → EReal := fun j => ∑ l : Fin 1024, X0 (ix2 r l) * X6 (ix2 ⟨o + j.val, by omega⟩ l)

/-- The query's cotangent at a token. -/
def dcqT (r : Fin 4096) (j : Fin 128) : EReal :=
  dq (gR X4) (gR X5) (kA X2 n o ho) (vA X2 n o ho) (colR X1 o ho r) (oA X0 X6 o ho r) j

/-- What a token adds to the gradient of the queries' gain. -/
def dgqT (r : Fin 4096) (j : Fin 128) : EReal :=
  dgqE (gR X4) (gR X5) (kA X2 n o ho) (vA X2 n o ho) (colR X1 o ho r) (oA X0 X6 o ho r) j

/-- What a token adds to the normed keys' cotangent, before the scale. -/
def dkT (b : Fin 256) (j : Fin 128) (r : Fin 4096) : EReal :=
  dscore (gR X4) (gR X5) (kA X2 n o ho) (vA X2 n o ho) (colR X1 o ho r) (oA X0 X6 o ho r) b * nrm (gR X4) (colR X1 o ho r) j

/-- What a token adds to the values' cotangent. -/
def dvT (b : Fin 256) (j : Fin 128) (r : Fin 4096) : EReal :=
  prob (gR X4) (gR X5) (kA X2 n o ho) (colR X1 o ho r) b * oA X0 X6 o ho r j

/-- The normed keys' cotangent. -/
def dknT (b : Fin 256) (j : Fin 128) : EReal := (∑ q : Fin 2048, dkT X0 X1 X2 X4 X5 X6 n o ho b j (qrow n q)) * scale

/-- The keys' cotangent. -/
def dckT (b : Fin 256) (j : Fin 128) : EReal :=
  back hdim eps (kA X2 n o ho b) (fun j => dknT X0 X1 X2 X4 X5 X6 n o ho b j * gR X5 j) j

/-- The values' cotangent. -/
def dcvT (b : Fin 256) (j : Fin 128) : EReal := ∑ q : Fin 2048, dvT X0 X1 X2 X4 X5 X6 n o ho b j (qrow n q)

/-- What a batch's keys add to the gradient of their gain. -/
def dgkT (j : Fin 128) : EReal :=
  ∑ b : Fin 256, dknT X0 X1 X2 X4 X5 X6 n o ho b j * (kA X2 n o ho b j * rinv hdim eps (kA X2 n o ho b))

end Head

/-- A sum over the four heads. -/
def sum4 (F : (o : ℕ) → o + 128 ≤ 512 → EReal) : EReal :=
  F 0 (by omega) + F 128 (by omega) + F 256 (by omega) + F 384 (by omega)

/-- The query projection's cotangent, an entry. -/
def dcqR (r : Fin 4096) (l : Fin 512) : EReal := byHead (fun o ho j => dcqT X0 X1 X2 X4 X5 X6 (bat r) o ho r j) l

/-- The cotangent of the norm's output. -/
def dhR (r : Fin 4096) (l : Fin 1024) : EReal := ∑ k : Fin 512, dcqR X0 X1 X2 X4 X5 X6 r k * X8 (ix2 l k)

/-- The cotangent of the residual stream, an entry. -/
def dxR (r : Fin 4096) (l : Fin 1024) : EReal :=
  X0 (ix2 r l) + back wid eps (fun k => X3 (ix2 r k)) (fun k => dhR X0 X1 X2 X4 X5 X6 X8 r k * X7 (ix2 0 k)) l

/-- What a token adds to the gradient of the norm's gain. -/
def dgxR (l : Fin 1024) (r : Fin 4096) : EReal :=
  dhR X0 X1 X2 X4 X5 X6 X8 r l * (X3 (ix2 r l) * rinv wid eps (fun k => X3 (ix2 r k)))

/-- What a token adds to the gradient of the queries' gain, over its heads. -/
def dgqR (j : Fin 128) (r : Fin 4096) : EReal := sum4 fun o ho => dgqT X0 X1 X2 X4 X5 X6 (bat r) o ho r j

/-- The cotangent of keys and values, an entry: the keys' columns, then the values'. -/
def dkvR (n : Fin 2) (b : Fin 256) (l : Fin 1024) : EReal :=
  if h : l.val < 512 then byHead (fun o ho j => dckT X0 X1 X2 X4 X5 X6 n o ho b j) ⟨l.val, h⟩
  else byHead (fun o ho j => dcvT X0 X1 X2 X4 X5 X6 n o ho b j) ⟨l.val - 512, by omega⟩

/-- The six results. -/
def dxA : Vec Ideal S4096x1024 .f32 := fun i => dxR X0 X1 X2 X3 X4 X5 X6 X7 X8 (i 0) (i 1)

@[inherit_doc dxA] def dcqA : Vec Ideal S4096x512 .bf16 := fun i => dcqR X0 X1 X2 X4 X5 X6 (i 0) (i 1)

@[inherit_doc dxA] def dkvA : Vec Ideal S512x1024 .bf16 :=
  fun i => dkvR X0 X1 X2 X4 X5 X6 ⟨(i 0).val / 256, by have : (i 0).val < 512 := (i 0).isLt; omega⟩ ⟨(i 0).val % 256, Nat.mod_lt _ (by decide)⟩ (i 1)

/-- An entry of the array of keys and values, by its batch. -/
theorem dkvA_at (n : Fin 2) (b : Fin 256) (l : Fin 1024) : dkvA X0 X1 X2 X4 X5 X6 (ix2 (kvrow n b) l) = dkvR X0 X1 X2 X4 X5 X6 n b l := by
  have h1 : (n.val * 256 + b.val) / 256 = n.val := by omega
  have h2 : (n.val * 256 + b.val) % 256 = b.val := by omega
  show dkvR X0 X1 X2 X4 X5 X6 ⟨(n.val * 256 + b.val) / 256, _⟩ ⟨(n.val * 256 + b.val) % 256, _⟩ l = _
  simp only [h1, h2]

@[inherit_doc dxA] def dgqA : Vec Ideal S1x128 .f32 := fun i => ∑ r : Fin 4096, dgqR X0 X1 X2 X4 X5 X6 (i 1) r

@[inherit_doc dxA] def dgkA : Vec Ideal S1x128 .f32 := fun i => ∑ n : Fin 2, sum4 fun o ho => dgkT X0 X1 X2 X4 X5 X6 n o ho (i 1)

@[inherit_doc dxA] def dgxA : Vec Ideal S1x1024 .f32 := fun i => ∑ r : Fin 4096, dgxR X0 X1 X2 X3 X4 X5 X6 X8 (i 1) r

end Formulas

variable (m : (ℓ : Loc nD τ sig) → Buf (Elt Ideal) ℓ) (ρ : Dev nD → PrngReg) (c : Dev nD)

/-- A row of block `t` is a row of the array. -/
def row (t : Fin cfg0.N) (a : Fin 512) : Fin 4096 := ⟨t.val * 512 + a.val, by have := t.isLt; have : cfg0.N = 8 := N_0; omega⟩

/-- The batch of block `t`. -/
def cell (t : Fin cfg0.N) : Fin 2 := ⟨t.val / 4, by have := t.isLt; have : cfg0.N = 8 := N_0; omega⟩

theorem bat_row (t : Fin cfg0.N) (a : Fin 512) : bat (row t a) = cell t := Fin.ext (by show (t.val * 512 + a.val) / 2048 = t.val / 4; omega)

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val / 4, 0] := (by decide +kernel : ∀ t : Fin grid0.N, win0_2.index t = ![t.val / 4, 0])
theorem index3 : ∀ t : Fin cfg0.N, win0_3.index t = ![t.val, 0] := (by decide +kernel : ∀ t : Fin grid0.N, win0_3.index t = ![t.val, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![t.val, 0] := (by decide +kernel : ∀ t : Fin grid0.N, win0_9.index t = ![t.val, 0])
theorem index10 : ∀ t : Fin cfg0.N, win0_10.index t = ![t.val, 0] := (by decide +kernel : ∀ t : Fin grid0.N, win0_10.index t = ![t.val, 0])
theorem index11 : ∀ t : Fin cfg0.N, win0_11.index t = ![t.val / 4, 0] := (by decide +kernel : ∀ t : Fin grid0.N, win0_11.index t = ![t.val / 4, 0])

/-- The block of the output cotangent. -/
theorem blk0 (t : Fin cfg0.N) (a : Fin 512) (b : Fin 1024) : iblk m c 0 t (ix2 a b) = V m c main_arg0 (ix2 (row t a) b) := by
  blk_simp [iblk]
  exact congrArg (V m c main_arg0) (by blk_ext [index0, row])

/-- The block of the queries. -/
theorem blk1 (t : Fin cfg0.N) (a : Fin 512) (b : Fin 512) : iblk m c 1 t (ix2 a b) = V m c main_v12 (ix2 (row t a) b) := by
  blk_simp [iblk]
  exact congrArg (V m c main_v12) (by blk_ext [index1, row])

/-- The block of the keys and values. -/
theorem blk2 (t : Fin cfg0.N) (a : Fin 256) (b : Fin 1024) : iblk m c 2 t (ix2 a b) = V m c main_arg2 (ix2 (kvrow (cell t) a) b) := by
  blk_simp [iblk]
  exact congrArg (V m c main_arg2) (by blk_ext [index2, kvrow, cell])

/-- The block of the residual stream. -/
theorem blk3 (t : Fin cfg0.N) (a : Fin 512) (b : Fin 1024) : iblk m c 3 t (ix2 a b) = V m c main_arg1 (ix2 (row t a) b) := by
  blk_simp [iblk]
  exact congrArg (V m c main_arg1) (by blk_ext [index3, row])

/-- The block of the queries' gain. -/
theorem blk4 (t : Fin cfg0.N) (a : Fin 1) (b : Fin 128) : iblk m c 4 t (ix2 a b) = V m c main_arg3 (ix2 a b) := by
  blk_simp [iblk]
  exact congrArg (V m c main_arg3) (by blk_ext [index4])

/-- The block of the keys' gain. -/
theorem blk5 (t : Fin cfg0.N) (a : Fin 1) (b : Fin 128) : iblk m c 5 t (ix2 a b) = V m c main_arg4 (ix2 a b) := by
  blk_simp [iblk]
  exact congrArg (V m c main_arg4) (by blk_ext [index5])

/-- The block of the output projection. -/
theorem blk6 (t : Fin cfg0.N) (a : Fin 512) (b : Fin 1024) : iblk m c 6 t (ix2 a b) = V m c main_v13 (ix2 a b) := by
  blk_simp [iblk]
  exact congrArg (V m c main_v13) (by blk_ext [index6])

/-- The block of the norm's gain. -/
theorem blk7 (t : Fin cfg0.N) (a : Fin 1) (b : Fin 1024) : iblk m c 7 t (ix2 a b) = V m c main_arg6 (ix2 a b) := by
  blk_simp [iblk]
  exact congrArg (V m c main_arg6) (by blk_ext [index7])

/-- The block of the query projection. -/
theorem blk8 (t : Fin cfg0.N) (a : Fin 1024) (b : Fin 512) : iblk m c 8 t (ix2 a b) = V m c main_v14 (ix2 a b) := by
  blk_simp [iblk]
  exact congrArg (V m c main_v14) (by blk_ext [index8])

/-- The rows of a head in the blocks are rows of the arrays. -/
theorem colR1_blk (t : Fin cfg0.N) (o : ℕ) (ho : o + 128 ≤ 512) :
    colR (n := 512) (m := 512) (iblk m c 1 t) o ho = fun a => colR (n := 4096) (m := 512) (V m c main_v12) o ho (row t a) :=
  funext fun a => funext fun j => blk1 m c t a ⟨o + j.val, by omega⟩

@[inherit_doc colR1_blk] theorem colR2_blk (t : Fin cfg0.N) (o : ℕ) (ho : o + 128 ≤ 1024) :
    colR (n := 256) (m := 1024) (iblk m c 2 t) o ho = fun b => colR (n := 512) (m := 1024) (V m c main_arg2) o ho (kvrow (cell t) b) :=
  funext fun a => funext fun j => blk2 m c t a ⟨o + j.val, by omega⟩

@[inherit_doc colR1_blk] theorem gR4_blk (t : Fin cfg0.N) : gR (iblk m c 4 t) = gR (V m c main_arg3) :=
  funext fun j => blk4 m c t 0 j

@[inherit_doc colR1_blk] theorem gR5_blk (t : Fin cfg0.N) : gR (iblk m c 5 t) = gR (V m c main_arg4) :=
  funext fun j => blk5 m c t 0 j

@[inherit_doc colR1_blk] theorem oR_blk (t : Fin cfg0.N) (o : ℕ) (ho : o + 128 ≤ 512) :
    oR (iblk m c 0 t) (iblk m c 6 t) o ho = fun a => oA (V m c main_arg0) (V m c main_v13) o ho (row t a) := by
  funext a j
  unfold oR oA
  simp only [blk0, blk6]

/-- The block formulas at point `t` are the array formulas at the block's rows. -/
theorem dcqE_blk (t : Fin cfg0.N) (o : ℕ) (ho : o + 128 ≤ 512) (a : Fin 512) (j : Fin 128) :
    dcqE (iblk m c 0 t) (iblk m c 1 t) (iblk m c 2 t) (iblk m c 4 t) (iblk m c 5 t) (iblk m c 6 t) o ho a j
      = dcqT (V m c main_arg0) (V m c main_v12) (V m c main_arg2) (V m c main_arg3) (V m c main_arg4) (V m c main_v13) (cell t) o ho (row t a) j := by
  unfold dcqE dcqT kA vA
  rw [colR1_blk, colR2_blk, colR2_blk, gR4_blk, gR5_blk, oR_blk]

@[inherit_doc dcqE_blk] theorem dgqS_blk (t : Fin cfg0.N) (o : ℕ) (ho : o + 128 ≤ 512) (j : Fin 128) :
    dgqS (iblk m c 0 t) (iblk m c 1 t) (iblk m c 2 t) (iblk m c 4 t) (iblk m c 5 t) (iblk m c 6 t) o ho j
      = ∑ a : Fin 512, dgqT (V m c main_arg0) (V m c main_v12) (V m c main_arg2) (V m c main_arg3) (V m c main_arg4) (V m c main_v13) (cell t) o ho (row t a) j := by
  unfold dgqS dgqT kA vA
  rw [colR1_blk, colR2_blk, colR2_blk, gR4_blk, gR5_blk, oR_blk]

@[inherit_doc dcqE_blk] theorem dkS_blk (t : Fin cfg0.N) (o : ℕ) (ho : o + 128 ≤ 512) (b : Fin 256) (j : Fin 128) :
    dkS (iblk m c 0 t) (iblk m c 1 t) (iblk m c 2 t) (iblk m c 4 t) (iblk m c 5 t) (iblk m c 6 t) o ho b j
      = (∑ a : Fin 512, dkT (V m c main_arg0) (V m c main_v12) (V m c main_arg2) (V m c main_arg3) (V m c main_arg4) (V m c main_v13) (cell t) o ho b j (row t a)) * scale := by
  unfold dkS dkT kA vA
  rw [colR1_blk, colR2_blk, colR2_blk, gR4_blk, gR5_blk, oR_blk]

@[inherit_doc dcqE_blk] theorem dvS_blk (t : Fin cfg0.N) (o : ℕ) (ho : o + 128 ≤ 512) (b : Fin 256) (j : Fin 128) :
    dvS (iblk m c 0 t) (iblk m c 1 t) (iblk m c 2 t) (iblk m c 4 t) (iblk m c 5 t) (iblk m c 6 t) o ho b j
      = ∑ a : Fin 512, dvT (V m c main_arg0) (V m c main_v12) (V m c main_arg2) (V m c main_arg3) (V m c main_arg4) (V m c main_v13) (cell t) o ho b j (row t a) := by
  unfold dvS dvT kA
  rw [colR1_blk, colR2_blk, gR4_blk, gR5_blk, oR_blk]

@[inherit_doc dcqE_blk] theorem dcqL_blk (t : Fin cfg0.N) (a l : Fin 512) :
    dcqL (iblk m c 0 t) (iblk m c 1 t) (iblk m c 2 t) (iblk m c 4 t) (iblk m c 5 t) (iblk m c 6 t) a l = dcqR (V m c main_arg0) (V m c main_v12) (V m c main_arg2) (V m c main_arg3) (V m c main_arg4) (V m c main_v13) (row t a) l := by
  unfold dcqL dcqR
  rw [bat_row]
  exact congrArg (byHead · l) (funext fun o => funext fun ho => funext fun j => dcqE_blk m c t o ho a j)

@[inherit_doc dcqE_blk] theorem dhE_blk (t : Fin cfg0.N) (a : Fin 512) (l : Fin 1024) :
    dhE (iblk m c 0 t) (iblk m c 1 t) (iblk m c 2 t) (iblk m c 4 t) (iblk m c 5 t) (iblk m c 6 t) (iblk m c 8 t) a l = dhR (V m c main_arg0) (V m c main_v12) (V m c main_arg2) (V m c main_arg3) (V m c main_arg4) (V m c main_v13) (V m c main_v14) (row t a) l := by
  unfold dhE dhR
  simp only [dcqL_blk, blk8]

@[inherit_doc dcqE_blk] theorem dxE_blk (t : Fin cfg0.N) (a : Fin 512) (l : Fin 1024) :
    dxE (iblk m c 0 t) (iblk m c 1 t) (iblk m c 2 t) (iblk m c 3 t) (iblk m c 4 t) (iblk m c 5 t) (iblk m c 6 t) (iblk m c 7 t) (iblk m c 8 t) a l
      = dxR (V m c main_arg0) (V m c main_v12) (V m c main_arg2) (V m c main_arg1) (V m c main_arg3) (V m c main_arg4) (V m c main_v13) (V m c main_arg6) (V m c main_v14) (row t a) l := by
  unfold dxE dxR
  simp only [dhE_blk, blk0, blk3, blk7]

@[inherit_doc dcqE_blk] theorem dgxE_blk (t : Fin cfg0.N) (l : Fin 1024) :
    dgxE (iblk m c 0 t) (iblk m c 1 t) (iblk m c 2 t) (iblk m c 3 t) (iblk m c 4 t) (iblk m c 5 t) (iblk m c 6 t) (iblk m c 8 t) l
      = ∑ a : Fin 512, dgxR (V m c main_arg0) (V m c main_v12) (V m c main_arg2) (V m c main_arg1) (V m c main_arg3) (V m c main_arg4) (V m c main_v13) (V m c main_v14) l (row t a) := by
  unfold dgxE dgxR
  simp only [dhE_blk, blk3]

@[inherit_doc dcqE_blk] theorem dgqB_blk (t : Fin cfg0.N) (j : Fin 128) :
    dgqB (iblk m c 0 t) (iblk m c 1 t) (iblk m c 2 t) (iblk m c 4 t) (iblk m c 5 t) (iblk m c 6 t) j
      = ∑ a : Fin 512, dgqR (V m c main_arg0) (V m c main_v12) (V m c main_arg2) (V m c main_arg3) (V m c main_arg4) (V m c main_v13) j (row t a) := by
  unfold dgqB dgqR sum4
  simp only [dgqS_blk, bat_row, Finset.sum_add_distrib]

end Cert.Proof.Xattn

end
-- ==== Proof.Xattn.RefA.lean ====
/-
  What the cross-attention's reference computes, at an index: the scores, their probabilities, and the scores' cotangent.
-/
module

public import proofs.«01_k».proof.Proof.Xattn.Soft
public import proofs.«01_k».proof.Proof.Gen.ReferenceIdeal.Read
public import proofs.«01_k».proof.Proof.Xattn.Arrays

@[expose] public section

set_option maxRecDepth 16384

noncomputable section

namespace Cert.Proof.Xattn

open Cert.ReferenceIdeal Cert.ReferenceIdeal.Gen Cert.ReferenceIdeal.Read
open Idealize.ShloMosaic Idealize.ShloMosaic.TcCoe Idealize.SL.Sem Cert.Proof.Reads Cert.Proof.Norm

variable (x0 x1 : Vec Ideal S4096x1024 .f32) (x2 : Vec Ideal S512x1024 .f32) (x3 x4 : Vec Ideal S1x128 .f32)
  (x5 : Vec Ideal S512x1024 .f32) (x6 : Vec Ideal S1x1024 .f32) (x7 : Vec Ideal S1024x512 .f32)

/-- A head's columns lie within the 512. -/
theorem hof (h : Fin 4) : 128 * h.val + 128 ≤ 512 := by omega

variable (n : Fin 2) (h : Fin 4) (q : Fin 2048) (b : Fin 256)

/-- A head's queries. -/
theorem ref_q (j : Fin 128) : val_main_v16 (F := Ideal) x1 x6 x7 (ix4 n q h j) = (colR (val_main_v15 (F := Ideal) x1 x6 x7) (128 * h.val) (hof h) (qrow n q)) j := by
  rw [val_main_v16_apply]
  refine congrArg (val_main_v15 (F := Ideal) x1 x6 x7) ?_
  funext a; apply Fin.ext
  fin_cases a
  · show (((n.val * 2048 + q.val) * 4 + h.val) * 128 + j.val) / 512 = n.val * 2048 + q.val; omega
  · show (((n.val * 2048 + q.val) * 4 + h.val) * 128 + j.val) % 512 = 128 * h.val + j.val; omega

/-- A head's keys. -/
theorem ref_k (j : Fin 128) : val_main_v35 (F := Ideal) x2 (ix4 n b h j) = (kA x2 n (128 * h.val) (hof h)) b j := by
  rw [val_main_v35_apply, val_main_v34_apply]
  refine congrArg x2 ?_
  funext a; apply Fin.ext
  fin_cases a
  · show (((n.val * 256 + b.val) * 8 + h.val) * 128 + j.val) / 1024 = n.val * 256 + b.val; omega
  · show (((n.val * 256 + b.val) * 8 + h.val) * 128 + j.val) % 1024 = 128 * h.val + j.val; omega

/-- A head's values. -/
theorem ref_v (j : Fin 128) : val_main_v36 (F := Ideal) x2 (ix4 n b h j) = (vA x2 n (128 * h.val) (hof h)) b j := by
  rw [val_main_v36_apply, val_main_v34_apply]
  refine congrArg x2 ?_
  funext a; apply Fin.ext
  fin_cases a
  · show (((n.val * 256 + b.val) * 8 + (4 + h.val)) * 128 + j.val) / 1024 = n.val * 256 + b.val; omega
  · show (((n.val * 256 + b.val) * 8 + (4 + h.val)) * 128 + j.val) % 1024 = 512 + 128 * h.val + j.val; omega

/-- The cotangent of a head's output. -/
theorem ref_o (j : Fin 128) : val_main_v91 (F := Ideal) x0 x5 (ix4 n h j q) = (oA x0 x5 (128 * h.val) (hof h) (qrow n q)) j := by
  rw [val_main_v91_apply, val_main_v90_apply, val_main_v89_apply]
  refine Finset.sum_congr rfl fun k _ => congrArg₂ (· * ·) (congrArg x0 ?_) (congrArg x5 ?_)
  · funext a; apply Fin.ext
    fin_cases a
    · show (((n.val * 2048 + q.val) * 4 + h.val) * 128 + j.val) / 512 = n.val * 2048 + q.val; omega
    · rfl
  · funext a; apply Fin.ext
    fin_cases a
    · show (((n.val * 2048 + q.val) * 4 + h.val) * 128 + j.val) % 512 = 128 * h.val + j.val; omega
    · rfl

/-- The mean square of a head's query. -/
theorem ref_qms (z : Fin 1) : val_main_v24 (F := Ideal) x1 x6 x7 (ix4 n q h z) = ms hdim eps (colR (val_main_v15 (F := Ideal) x1 x6 x7) (128 * h.val) (hof h) (qrow n q)) := by
  rw [val_main_v24_apply]
  simp only [val_main_v22_apply, val_main_v20_apply, val_main_v19_apply, val_main_v18_apply, val_main_v21_apply, val_main_v23_apply, val_main_cst_3_apply, val_main_cst_4_apply, val_main_cst_5_apply,
    show ∀ k, idx_main_v19 (idx_main_v20 (ix4 n q h z)) k = ix4 n q h k from fun k => by funext a; fin_cases a <;> rfl, ref_q]
  pointwise [ms]

/-- The reciprocal root of a head's query. -/
theorem ref_qinv (z : Fin 1) : val_main_v25 (F := Ideal) x1 x6 x7 (ix4 n q h z) = rinv hdim eps (colR (val_main_v15 (F := Ideal) x1 x6 x7) (128 * h.val) (hof h) (qrow n q)) := by
  rw [val_main_v25_apply, ref_qms]
  rfl

/-- A head's query over its root mean square. -/
theorem ref_qhat (j : Fin 128) : val_main_v30 (F := Ideal) x1 x6 x7 (ix4 n q h j) = (colR (val_main_v15 (F := Ideal) x1 x6 x7) (128 * h.val) (hof h) (qrow n q)) j * rinv hdim eps (colR (val_main_v15 (F := Ideal) x1 x6 x7) (128 * h.val) (hof h) (qrow n q)) := by
  rw [val_main_v30_apply, val_main_v29_apply, ref_q, show idx_main_v29 (ix4 n q h j) = ix4 n q h 0 from by funext a; fin_cases a <;> rfl, ref_qinv]
  rfl

/-- The queries' gain. -/
theorem ref_gq (j : Fin 128) : val_main_v32 (F := Ideal) x3 (ix4 n q h j) = gR x3 j := by
  rw [val_main_v32_apply, val_main_v31_apply, val_main_v17_apply]
  refine congrArg x3 ?_
  funext a; apply Fin.ext
  fin_cases a
  · rfl
  · show j.val % 128 = j.val; omega

/-- A head's normed query. -/
theorem ref_qn (j : Fin 128) : val_main_v33 (F := Ideal) x1 x3 x6 x7 (ix4 n q h j) = nrm (gR x3) (colR (val_main_v15 (F := Ideal) x1 x6 x7) (128 * h.val) (hof h) (qrow n q)) j := by
  rw [val_main_v33_apply, ref_qhat, ref_gq]
  rfl

/-- The mean square of a head's key. -/
theorem ref_kms (z : Fin 1) : val_main_v44 (F := Ideal) x2 (ix4 n b h z) = ms hdim eps ((kA x2 n (128 * h.val) (hof h)) b) := by
  rw [val_main_v44_apply]
  simp only [val_main_v42_apply, val_main_v40_apply, val_main_v39_apply, val_main_v38_apply, val_main_v41_apply, val_main_v43_apply, val_main_cst_7_apply, val_main_cst_8_apply, val_main_cst_9_apply,
    show ∀ k, idx_main_v39 (idx_main_v40 (ix4 n b h z)) k = ix4 n b h k from fun k => by funext a; fin_cases a <;> rfl, ref_k]
  pointwise [ms]

/-- The reciprocal root of a head's key. -/
theorem ref_kinv (z : Fin 1) : val_main_v45 (F := Ideal) x2 (ix4 n b h z) = rinv hdim eps ((kA x2 n (128 * h.val) (hof h)) b) := by
  rw [val_main_v45_apply, ref_kms]
  rfl

/-- A head's key over its root mean square. -/
theorem ref_khat (j : Fin 128) : val_main_v50 (F := Ideal) x2 (ix4 n b h j) = (kA x2 n (128 * h.val) (hof h)) b j * rinv hdim eps ((kA x2 n (128 * h.val) (hof h)) b) := by
  rw [val_main_v50_apply, val_main_v49_apply, ref_k, show idx_main_v49 (ix4 n b h j) = ix4 n b h 0 from by funext a; fin_cases a <;> rfl, ref_kinv]
  rfl

/-- The keys' gain. -/
theorem ref_gk (j : Fin 128) : val_main_v52 (F := Ideal) x4 (ix4 n b h j) = gR x4 j := by
  rw [val_main_v52_apply, val_main_v51_apply, val_main_v37_apply]
  refine congrArg x4 ?_
  funext a; apply Fin.ext
  fin_cases a
  · rfl
  · show j.val % 128 = j.val; omega

/-- A head's normed key. -/
theorem ref_kn (j : Fin 128) : val_main_v53 (F := Ideal) x2 x4 (ix4 n b h j) = nrm (gR x4) ((kA x2 n (128 * h.val) (hof h)) b) j := by
  rw [val_main_v53_apply, ref_khat, ref_gk]
  rfl

/-- A query's score against a key. -/
theorem ref_score : val_main_v56 (F := Ideal) x1 x2 x3 x4 x6 x7 (ix4 n h q b) = score (gR x3) (gR x4) (kA x2 n (128 * h.val) (hof h)) (colR (val_main_v15 (F := Ideal) x1 x6 x7) (128 * h.val) (hof h) (qrow n q)) b := by
  rw [val_main_v56_apply, val_main_v54_apply]
  simp only [val_main_v55_apply, val_main_cst_11_apply,
    show ∀ k, lidx_main_v54 (ix4 n h q b) k = ix4 n q h k from fun k => by funext a; fin_cases a <;> rfl, show ∀ k, ridx_main_v54 (ix4 n h q b) k = ix4 n b h k from fun k => by funext a; fin_cases a <;> rfl, ref_qn, ref_kn]
  rfl

/-- A query's largest score. -/
theorem ref_peak : val_main_v57 (F := Ideal) x1 x2 x3 x4 x6 x7 (ix3 n h q) = peak (gR x3) (gR x4) (kA x2 n (128 * h.val) (hof h)) (colR (val_main_v15 (F := Ideal) x1 x6 x7) (128 * h.val) (hof h) (qrow n q)) := by
  unfold val_main_v57
  rw [Host.reduce_eq_fold_single FloatOps.maximumf _ _ _ (by decide : (S2x4x2048x256 : Shape).Reduces [3] S2x4x2048), val_main_cst_12_apply]
  unfold peak
  refine congrArg (fun f => Finset.fold max (Ideal.ofBits .f32 0xFF800000#32) f Finset.univ) (funext fun k => ?_)
  refine (congrArg (val_main_v56 (F := Ideal) x1 x2 x3 x4 x6 x7) (?_ : _ = ix4 n h q k)).trans (ref_score x1 x2 x3 x4 x6 x7 n h q k)
  funext a; fin_cases a <;> rfl

/-- The exponential of a query's score less its largest. -/
theorem ref_ex : val_main_v77 (F := Ideal) x1 x2 x3 x4 x6 x7 (ix4 n h q b) = ex (gR x3) (gR x4) (kA x2 n (128 * h.val) (hof h)) (colR (val_main_v15 (F := Ideal) x1 x6 x7) (128 * h.val) (hof h) (qrow n q)) b := by
  rw [val_main_v77_apply, val_main_v76_apply, ref_score]
  rw [val_main_v75_apply, val_main_v74_apply, val_main_v64_apply, val_main_v63_apply, val_main_cst_14_apply, show idx_main_v74 (idx_main_v75 (ix4 n h q b)) = ix3 n h q from by funext a; fin_cases a <;> rfl, ref_peak]
  show Ideal.exp (score (gR x3) (gR x4) (kA x2 n (128 * h.val) (hof h)) (colR (val_main_v15 (F := Ideal) x1 x6 x7) (128 * h.val) (hof h) (qrow n q)) b - max (Ideal.ofBits .f32 0xFF800000#32) (peak (gR x3) (gR x4) (kA x2 n (128 * h.val) (hof h)) (colR (val_main_v15 (F := Ideal) x1 x6 x7) (128 * h.val) (hof h) (qrow n q)))) = _
  rw [ofBits_bot, max_eq_right bot_le, ex]

/-- The sum of a query's exponentials. -/
theorem ref_sum (z : Fin 1) : val_main_v79 (F := Ideal) x1 x2 x3 x4 x6 x7 (ix4 n h q z) = ∑ b, ex (gR x3) (gR x4) (kA x2 n (128 * h.val) (hof h)) (colR (val_main_v15 (F := Ideal) x1 x6 x7) (128 * h.val) (hof h) (qrow n q)) b := by
  rw [val_main_v79_apply, val_main_v78_apply]
  simp only [val_main_cst_20_apply, show ∀ k, idx_main_v78 (idx_main_v79 (ix4 n h q z)) k = ix4 n h q k from fun k => by funext a; fin_cases a <;> rfl, ref_ex]
  pointwise

/-- A query's probability of a key. -/
theorem ref_prob : val_main_v81 (F := Ideal) x1 x2 x3 x4 x6 x7 (ix4 n h q b) = prob (gR x3) (gR x4) (kA x2 n (128 * h.val) (hof h)) (colR (val_main_v15 (F := Ideal) x1 x6 x7) (128 * h.val) (hof h) (qrow n q)) b := by
  rw [val_main_v81_apply, val_main_v80_apply, ref_ex, show idx_main_v80 (ix4 n h q b) = ix4 n h q 0 from by funext a; fin_cases a <;> rfl, ref_sum]
  rfl

/-- A probability's cotangent. -/
theorem ref_dp : val_main_v92 (F := Ideal) x0 x2 x5 (ix4 n h q b) = dprob (vA x2 n (128 * h.val) (hof h)) (oA x0 x5 (128 * h.val) (hof h) (qrow n q)) b := by
  rw [val_main_v92_apply]
  simp only [show ∀ k, lidx_main_v92 (ix4 n h q b) k = ix4 n h k q from fun k => by funext a; fin_cases a <;> rfl, show ∀ k, ridx_main_v92 (ix4 n h q b) k = ix4 n b h k from fun k => by funext a; fin_cases a <;> rfl, ref_o, ref_v]
  rfl

/-- The reciprocal square of the sum of a query's exponentials. -/
theorem ref_inv (z : Fin 1) : val_main_v84 (F := Ideal) x1 x2 x3 x4 x6 x7 (ix4 n h q z)
    = Ideal.div 1 ((∑ b, ex (gR x3) (gR x4) (kA x2 n (128 * h.val) (hof h)) (colR (val_main_v15 (F := Ideal) x1 x6 x7) (128 * h.val) (hof h) (qrow n q)) b) * ∑ b, ex (gR x3) (gR x4) (kA x2 n (128 * h.val) (hof h)) (colR (val_main_v15 (F := Ideal) x1 x6 x7) (128 * h.val) (hof h) (qrow n q)) b) := by
  rw [val_main_v84_apply, val_main_v82_apply, ref_sum, val_main_v83_apply, val_main_cst_21_apply]
  pointwise

/-- The sum that the softmax's gradient subtracts. -/
theorem ref_neg : val_main_v103 (F := Ideal) x0 x1 x2 x3 x4 x5 x6 x7 (ix3 n h q)
    = -∑ b, dprob (vA x2 n (128 * h.val) (hof h)) (oA x0 x5 (128 * h.val) (hof h) (qrow n q)) b * Ideal.div 1 ((∑ b, ex (gR x3) (gR x4) (kA x2 n (128 * h.val) (hof h)) (colR (val_main_v15 (F := Ideal) x1 x6 x7) (128 * h.val) (hof h) (qrow n q)) b) * ∑ b, ex (gR x3) (gR x4) (kA x2 n (128 * h.val) (hof h)) (colR (val_main_v15 (F := Ideal) x1 x6 x7) (128 * h.val) (hof h) (qrow n q)) b)
        * ex (gR x3) (gR x4) (kA x2 n (128 * h.val) (hof h)) (colR (val_main_v15 (F := Ideal) x1 x6 x7) (128 * h.val) (hof h) (qrow n q)) b := by
  rw [val_main_v103_apply]
  simp only [val_main_v100_apply, val_main_v99_apply, val_main_v98_apply, val_main_v97_apply, val_main_v96_apply, val_main_v95_apply, val_main_cst_22_apply, val_main_cst_23_apply,
    show ∀ k, idx_main_v103 (ix3 n h q) k = ix4 n h q 0 from fun k => by
      obtain rfl : k = 0 := Subsingleton.elim _ _
      funext a; fin_cases a <;> rfl,
    show ∀ k, idx_main_v98 (idx_main_v99 (ix4 n h q 0)) k = ix4 n h q k from fun k => by
      funext a; apply Fin.ext; fin_cases a <;> simp <;> omega,
    show ∀ k, idx_main_v95 (ix4 n h q k) = ix4 n h q 0 from fun k => by funext a; fin_cases a <;> rfl, ref_dp, ref_inv, ref_ex]
  pointwise
  simp

/-- A score's cotangent, with the scale. -/
theorem ref_ds (hq : ∀ j, ∃ y : ℝ, gR x3 j = (y : EReal)) (hk : ∀ j, ∃ y : ℝ, gR x4 j = (y : EReal)) :
    val_main_v108 (F := Ideal) x0 x1 x2 x3 x4 x5 x6 x7 (ix4 n h q b) = dscore (gR x3) (gR x4) (kA x2 n (128 * h.val) (hof h)) (vA x2 n (128 * h.val) (hof h)) (colR (val_main_v15 (F := Ideal) x1 x6 x7) (128 * h.val) (hof h) (qrow n q)) (oA x0 x5 (128 * h.val) (hof h) (qrow n q)) b * scale := by
  obtain ⟨e, h0, hs, he⟩ := ex_real (gR x3) (gR x4) (kA x2 n (128 * h.val) (hof h)) (colR (val_main_v15 (F := Ideal) x1 x6 x7) (128 * h.val) (hof h) (qrow n q)) hq hk
  have h1 := soft_eq e h0 hs (dprob (vA x2 n (128 * h.val) (hof h)) (oA x0 x5 (128 * h.val) (hof h) (qrow n q))) b
  rw [val_main_v108_apply]
  simp only [val_main_v107_apply, val_main_v106_apply, val_main_v105_apply, val_main_v104_apply, val_main_v102_apply, val_main_v101_apply, val_main_cst_24_apply,
    show idx_main_v101 (ix4 n h q b) = ix4 n h q 0 from by funext a; fin_cases a <;> rfl, show idx_main_v104 (ix4 n h q b) = ix3 n h q from by funext a; fin_cases a <;> rfl, ref_dp, ref_sum, ref_neg, ref_ex]
  unfold dscore prob
  simp only [he, sum_coe]
  exact congrArg (· * scale) h1

end Cert.Proof.Xattn

end
-- ==== Proof.Xattn.Results.lean ====
/-
  The six result arrays of the cross-attention's backward kernel: what each grid point leaves, over what the point before left,
  summed to the whole arrays' formulas.
-/
module

public import proofs.«01_k».proof.Proof.Xattn.Arrays

@[expose] public section

set_option maxRecDepth 16384

noncomputable section

namespace Cert.Proof.Xattn

open Cert.KernelIdeal Cert.KernelIdeal.Gen Idealize.ShloMosaic Idealize.ShloMosaic.TcCoe Idealize.SL.Sem Cert.Proof.Reads
open Cert.Proof.Norm

variable (m : (ℓ : Loc nD τ sig) → Buf (Elt Ideal) ℓ) (ρ : Dev nD → PrngReg) (c : Dev nD)

/-- The word of the scores' scale denotes a positive real. -/
theorem ofBits_scale : ∃ e : ℝ, 0 < e ∧ scale = (e : EReal) := by
  refine ⟨11863283 * (2 : ℝ) ^ (-27 : ℤ), by positivity, ?_⟩
  simp [scale, Ideal.ofBits, Ideal.ieee, -EReal.coe_mul]

/-- The scale goes out of a sum. -/
theorem sum_scale {ι : Type*} (s : Finset ι) (f : ι → EReal) : ∑ k ∈ s, f k * scale = (∑ k ∈ s, f k) * scale := by
  obtain ⟨e, he, h⟩ := ofBits_scale
  rw [h, mul_comm, coe_mul_sum s he.le]
  exact Finset.sum_congr rfl fun k _ => mul_comm _ _

/-- The four kinds of grid point. -/
theorem kinds (t : Fin cfg0.N) : (t.val % 8 = 0 ∧ t.val % 4 = 0 ∧ ¬t.val % 4 = 3) ∨ (¬t.val % 8 = 0 ∧ ¬t.val % 4 = 0 ∧ ¬t.val % 4 = 3)
    ∨ (¬t.val % 8 = 0 ∧ ¬t.val % 4 = 0 ∧ t.val % 4 = 3) ∨ (¬t.val % 8 = 0 ∧ t.val % 4 = 0 ∧ ¬t.val % 4 = 3) := by omega

/-- The cotangent of the residual stream at every point. -/
theorem at9 (t : Fin cfg0.N) (a : Fin 512) (l : Fin 1024) :
    (outsAt0 m c t.val t.isLt).1 (ix2 a l) = dxE (iblk m c 0 t) (iblk m c 1 t) (iblk m c 2 t) (iblk m c 3 t) (iblk m c 4 t) (iblk m c 5 t) (iblk m c 6 t) (iblk m c 7 t) (iblk m c 8 t) a l := by
  rcases kinds t with ⟨h0, h1, h2⟩ | ⟨h0, h1, h2⟩ | ⟨h0, h1, h2⟩ | ⟨h0, h1, h2⟩
  · rw [outsAt0_A m c t h0 h1 h2]; dsimp only; rw [outA9]
  · rw [outsAt0_B m c t h0 h1 h2]; dsimp only; rw [outB9]
  · rw [outsAt0_C m c t h0 h1 h2]; dsimp only; rw [outC9]
  · rw [outsAt0_D m c t h0 h1 h2]; dsimp only; rw [outD9]

/-- The query projection's cotangent at every point. -/
theorem at10 (t : Fin cfg0.N) : (outsAt0 m c t.val t.isLt).2.1 = dcqB (iblk m c 0 t) (iblk m c 1 t) (iblk m c 2 t) (iblk m c 4 t) (iblk m c 5 t) (iblk m c 6 t) := by
  rcases kinds t with ⟨h0, h1, h2⟩ | ⟨h0, h1, h2⟩ | ⟨h0, h1, h2⟩ | ⟨h0, h1, h2⟩
  · rw [outsAt0_A m c t h0 h1 h2]; dsimp only; rw [outA10]
  · rw [outsAt0_B m c t h0 h1 h2]; dsimp only; rw [outB10]
  · rw [outsAt0_C m c t h0 h1 h2]; dsimp only; rw [outC10]
  · rw [outsAt0_D m c t h0 h1 h2]; dsimp only; rw [outD10]

/-- The gradient of the queries' gain at the first point, and at a later one over what the point before left. -/
theorem at12_first (t : Fin cfg0.N) (h : t.val % 8 = 0) (j : Fin 128) :
    (outsAt0 m c t.val t.isLt).2.2.2.1 (ix2 0 j) = 0 + dgqB (iblk m c 0 t) (iblk m c 1 t) (iblk m c 2 t) (iblk m c 4 t) (iblk m c 5 t) (iblk m c 6 t) j := by
  rw [outsAt0_A m c t h (by omega) (by omega)]; dsimp only; rw [outA12, zero_add]

@[inherit_doc at12_first] theorem at12_step (t : Fin cfg0.N) (h : ¬t.val % 8 = 0) (j : Fin 128) :
    (outsAt0 m c t.val t.isLt).2.2.2.1 (ix2 0 j) = (outsAt0 m c (t.val - 1) (Nat.lt_of_le_of_lt (Nat.sub_le _ _) t.isLt)).2.2.2.1 (ix2 0 j) + dgqB (iblk m c 0 t) (iblk m c 1 t) (iblk m c 2 t) (iblk m c 4 t) (iblk m c 5 t) (iblk m c 6 t) j := by
  rcases kinds t with ⟨h0, h1, h2⟩ | ⟨h0, h1, h2⟩ | ⟨h0, h1, h2⟩ | ⟨h0, h1, h2⟩
  · exact absurd h0 h
  · rw [outsAt0_B m c t h0 h1 h2]; dsimp only; rw [outB12]
  · rw [outsAt0_C m c t h0 h1 h2]; dsimp only; rw [outC12]
  · rw [outsAt0_D m c t h0 h1 h2]; dsimp only; rw [outD12]

/-- The gradient of the norm's gain at the first point, and at a later one over what the point before left. -/
theorem at14_first (t : Fin cfg0.N) (h : t.val % 8 = 0) (l : Fin 1024) :
    (outsAt0 m c t.val t.isLt).2.2.2.2.2.1 (ix2 0 l) = 0 + dgxE (iblk m c 0 t) (iblk m c 1 t) (iblk m c 2 t) (iblk m c 3 t) (iblk m c 4 t) (iblk m c 5 t) (iblk m c 6 t) (iblk m c 8 t) l := by
  rw [outsAt0_A m c t h (by omega) (by omega)]; dsimp only; rw [outA14, zero_add]

@[inherit_doc at14_first] theorem at14_step (t : Fin cfg0.N) (h : ¬t.val % 8 = 0) (l : Fin 1024) :
    (outsAt0 m c t.val t.isLt).2.2.2.2.2.1 (ix2 0 l) = (outsAt0 m c (t.val - 1) (Nat.lt_of_le_of_lt (Nat.sub_le _ _) t.isLt)).2.2.2.2.2.1 (ix2 0 l) + dgxE (iblk m c 0 t) (iblk m c 1 t) (iblk m c 2 t) (iblk m c 3 t) (iblk m c 4 t) (iblk m c 5 t) (iblk m c 6 t) (iblk m c 8 t) l := by
  rcases kinds t with ⟨h0, h1, h2⟩ | ⟨h0, h1, h2⟩ | ⟨h0, h1, h2⟩ | ⟨h0, h1, h2⟩
  · exact absurd h0 h
  · rw [outsAt0_B m c t h0 h1 h2]; dsimp only; rw [outB14]
  · rw [outsAt0_C m c t h0 h1 h2]; dsimp only; rw [outC14]
  · rw [outsAt0_D m c t h0 h1 h2]; dsimp only; rw [outD14]

/-- The normed keys' accumulated cotangent at a batch's first point, and at a later one over what the point before left. -/
theorem atS0_first (t : Fin cfg0.N) (h : t.val % 4 = 0) (b : Fin 256) (l : Fin 512) :
    (outsAt0 m c t.val t.isLt).2.2.2.2.2.2.1 (ix2 b l) = 0 + byHead (fun o ho j => dkS (iblk m c 0 t) (iblk m c 1 t) (iblk m c 2 t) (iblk m c 4 t) (iblk m c 5 t) (iblk m c 6 t) o ho b j) l := by
  rcases kinds t with ⟨h0, h1, h2⟩ | ⟨h0, h1, h2⟩ | ⟨h0, h1, h2⟩ | ⟨h0, h1, h2⟩
  · rw [outsAt0_A m c t h0 h1 h2]; dsimp only; rw [outAS0]; exact congrArg (· + _) (zero_k b l)
  · exact absurd h h1
  · exact absurd h h1
  · rw [outsAt0_D m c t h0 h1 h2]; dsimp only; rw [outDS0]; exact congrArg (· + _) (zero_k b l)

@[inherit_doc atS0_first] theorem atS0_step (t : Fin cfg0.N) (h : ¬t.val % 4 = 0) (b : Fin 256) (l : Fin 512) :
    (outsAt0 m c t.val t.isLt).2.2.2.2.2.2.1 (ix2 b l) = (outsAt0 m c (t.val - 1) (Nat.lt_of_le_of_lt (Nat.sub_le _ _) t.isLt)).2.2.2.2.2.2.1 (ix2 b l) + byHead (fun o ho j => dkS (iblk m c 0 t) (iblk m c 1 t) (iblk m c 2 t) (iblk m c 4 t) (iblk m c 5 t) (iblk m c 6 t) o ho b j) l := by
  rcases kinds t with ⟨h0, h1, h2⟩ | ⟨h0, h1, h2⟩ | ⟨h0, h1, h2⟩ | ⟨h0, h1, h2⟩
  · exact absurd h1 h
  · rw [outsAt0_B m c t h0 h1 h2]; dsimp only; rw [outBS0]; rfl
  · rw [outsAt0_C m c t h0 h1 h2]; dsimp only; rw [outCS0]; rfl
  · exact absurd h1 h

/-- The values' accumulated cotangent at a batch's first point, and at a later one over what the point before left. -/
theorem atS1_first (t : Fin cfg0.N) (h : t.val % 4 = 0) (b : Fin 256) (l : Fin 512) :
    (outsAt0 m c t.val t.isLt).2.2.2.2.2.2.2 (ix2 b l) = 0 + byHead (fun o ho j => dvS (iblk m c 0 t) (iblk m c 1 t) (iblk m c 2 t) (iblk m c 4 t) (iblk m c 5 t) (iblk m c 6 t) o ho b j) l := by
  rcases kinds t with ⟨h0, h1, h2⟩ | ⟨h0, h1, h2⟩ | ⟨h0, h1, h2⟩ | ⟨h0, h1, h2⟩
  · rw [outsAt0_A m c t h0 h1 h2]; dsimp only; rw [outAS1]; exact congrArg (· + _) (zero_v b l)
  · exact absurd h h1
  · exact absurd h h1
  · rw [outsAt0_D m c t h0 h1 h2]; dsimp only; rw [outDS1]; exact congrArg (· + _) (zero_v b l)

@[inherit_doc atS1_first] theorem atS1_step (t : Fin cfg0.N) (h : ¬t.val % 4 = 0) (b : Fin 256) (l : Fin 512) :
    (outsAt0 m c t.val t.isLt).2.2.2.2.2.2.2 (ix2 b l) = (outsAt0 m c (t.val - 1) (Nat.lt_of_le_of_lt (Nat.sub_le _ _) t.isLt)).2.2.2.2.2.2.2 (ix2 b l) + byHead (fun o ho j => dvS (iblk m c 0 t) (iblk m c 1 t) (iblk m c 2 t) (iblk m c 4 t) (iblk m c 5 t) (iblk m c 6 t) o ho b j) l := by
  rcases kinds t with ⟨h0, h1, h2⟩ | ⟨h0, h1, h2⟩ | ⟨h0, h1, h2⟩ | ⟨h0, h1, h2⟩
  · exact absurd h1 h
  · rw [outsAt0_B m c t h0 h1 h2]; dsimp only; rw [outBS1]; rfl
  · rw [outsAt0_C m c t h0 h1 h2]; dsimp only; rw [outCS1]; rfl
  · exact absurd h1 h

/-- A batch's points hold its tokens, 512 each. -/
theorem row_run (t : Fin cfg0.N) (s : Fin 4) (a : Fin 512) (h : 4 * (t.val / 4) + s.val < cfg0.N) :
    row ⟨4 * (t.val / 4) + s.val, h⟩ a = qrow (cell t) ⟨s.val * 512 + a.val, by omega⟩ :=
  Fin.ext (by show (4 * (t.val / 4) + s.val) * 512 + a.val = t.val / 4 * 2048 + (s.val * 512 + a.val); omega)

theorem cell_run (t : Fin cfg0.N) (s : Fin 4) (h : 4 * (t.val / 4) + s.val < cfg0.N) : cell ⟨4 * (t.val / 4) + s.val, h⟩ = cell t :=
  Fin.ext (by show (4 * (t.val / 4) + s.val) / 4 = t.val / 4; omega)

/-- At a batch's last point the accumulators hold the whole batch's sums. -/
theorem accK (t : Fin cfg0.N) (h : t.val % 4 = 3) (b : Fin 256) (l : Fin 512) :
    (outsAt0 m c t.val t.isLt).2.2.2.2.2.2.1 (ix2 b l) = byHead (fun o ho j => dknT (V m c main_arg0) (V m c main_v12) (V m c main_arg2) (V m c main_arg3) (V m c main_arg4) (V m c main_v13) (cell t) o ho b j) l := by
  refine (Pipeline.eq_sum_fin_of_reset_step_of_flush (fun n h => (outsAt0 m c n h).2.2.2.2.2.2.1 (ix2 b l)) 4 0
    (fun t => byHead (fun o ho j => dkS (iblk m c 0 t) (iblk m c 1 t) (iblk m c 2 t) (iblk m c 4 t) (iblk m c 5 t) (iblk m c 6 t) o ho b j) l)
    (fun t h => atS0_first m c t h b l) (fun t h => atS0_step m c t h b l) t h).trans ?_
  rw [zero_add]
  unfold byHead dknT
  simp only [dkS_blk, sum_scale, cell_run, row_run]
  exact congrArg (· * scale) (Fin.sum_mul_add_fin 4 512 fun q => dkT (V m c main_arg0) (V m c main_v12) (V m c main_arg2) (V m c main_arg3) (V m c main_arg4) (V m c main_v13) (cell t) _ _ b _ (qrow (cell t) q))

@[inherit_doc accK] theorem accV (t : Fin cfg0.N) (h : t.val % 4 = 3) (b : Fin 256) (l : Fin 512) :
    (outsAt0 m c t.val t.isLt).2.2.2.2.2.2.2 (ix2 b l) = byHead (fun o ho j => dcvT (V m c main_arg0) (V m c main_v12) (V m c main_arg2) (V m c main_arg3) (V m c main_arg4) (V m c main_v13) (cell t) o ho b j) l := by
  refine (Pipeline.eq_sum_fin_of_reset_step_of_flush (fun n h => (outsAt0 m c n h).2.2.2.2.2.2.2 (ix2 b l)) 4 0
    (fun t => byHead (fun o ho j => dvS (iblk m c 0 t) (iblk m c 1 t) (iblk m c 2 t) (iblk m c 4 t) (iblk m c 5 t) (iblk m c 6 t) o ho b j) l)
    (fun t h => atS1_first m c t h b l) (fun t h => atS1_step m c t h b l) t h).trans ?_
  rw [zero_add]
  unfold byHead dcvT
  simp only [dvS_blk, cell_run, row_run]
  exact Fin.sum_mul_add_fin 4 512 fun q => dvT (V m c main_arg0) (V m c main_v12) (V m c main_arg2) (V m c main_arg3) (V m c main_arg4) (V m c main_v13) (cell t) _ _ b _ (qrow (cell t) q)

/-- The cotangent of keys and values at a batch's last point. -/
theorem at11 (t : Fin cfg0.N) (h : t.val % 4 = 3) :
    (outsAt0 m c t.val t.isLt).2.2.1 = dkvB (iblk m c 2 t) (iblk m c 5 t) (outsAt0 m c t.val t.isLt).2.2.2.2.2.2.1 (outsAt0 m c t.val t.isLt).2.2.2.2.2.2.2 := by
  rw [outsAt0_C m c t (by omega) (by omega) h]; dsimp only; rw [outC11, outCS0, outCS1]

/-- The gradient of the keys' gain: zero at the first point, and a batch's own part at its last. -/
theorem at13_first (t : Fin cfg0.N) (h : t.val % 8 = 0) (j : Fin 128) : (outsAt0 m c t.val t.isLt).2.2.2.2.1 (ix2 0 j) = 0 := by
  rw [outsAt0_A m c t h (by omega) (by omega)]; dsimp only; rw [outA13]

@[inherit_doc at13_first] theorem at13_last (t : Fin cfg0.N) (h : t.val % 4 = 3) (j : Fin 128) :
    (outsAt0 m c t.val t.isLt).2.2.2.2.1 (ix2 0 j) = (outsAt0 m c (t.val - 1) (Nat.lt_of_le_of_lt (Nat.sub_le _ _) t.isLt)).2.2.2.2.1 (ix2 0 j) + dgkB (iblk m c 2 t) (outsAt0 m c t.val t.isLt).2.2.2.2.2.2.1 j := by
  rw [outsAt0_C m c t (by omega) (by omega) h]; dsimp only; rw [outC13, outCS0]

@[inherit_doc at13_first] theorem at13_keep (t : Fin cfg0.N) (h : ¬t.val % 4 = 3) (h8 : ¬t.val % 8 = 0) :
    (outsAt0 m c t.val t.isLt).2.2.2.2.1 = (outsAt0 m c (t.val - 1) (Nat.lt_of_le_of_lt (Nat.sub_le _ _) t.isLt)).2.2.2.2.1 := by
  rcases kinds t with ⟨h0, h1, h2⟩ | ⟨h0, h1, h2⟩ | ⟨h0, h1, h2⟩ | ⟨h0, h1, h2⟩
  · exact absurd h0 h8
  · rw [outsAt0_B m c t h0 h1 h2]; rfl
  · exact absurd h2 h
  · rw [outsAt0_D m c t h0 h1 h2]; rfl

/-- A head's rows of the accumulated cotangent. -/
theorem colR_accK (t : Fin cfg0.N) (h : t.val % 4 = 3) (o : ℕ) (ho : o + 128 ≤ 512) (hd : o % 128 = 0) (b : Fin 256) :
    colR (n := 256) (m := 512) (outsAt0 m c t.val t.isLt).2.2.2.2.2.2.1 o ho b = fun j => dknT (V m c main_arg0) (V m c main_v12) (V m c main_arg2) (V m c main_arg3) (V m c main_arg4) (V m c main_v13) (cell t) o ho b j :=
  funext fun j => (accK m c t h b ⟨o + j.val, by omega⟩).trans (byHead_at _ o ho hd j _)

/-- A head's key cotangent, of the array's formula. -/
theorem dkE_blk (t : Fin cfg0.N) (h : t.val % 4 = 3) (o : ℕ) (ho : o + 128 ≤ 512) (hd : o % 128 = 0) (b : Fin 256) (j : Fin 128) :
    dkE (iblk m c 2 t) (iblk m c 5 t) (outsAt0 m c t.val t.isLt).2.2.2.2.2.2.1 o ho b j = dckT (V m c main_arg0) (V m c main_v12) (V m c main_arg2) (V m c main_arg3) (V m c main_arg4) (V m c main_v13) (cell t) o ho b j := by
  unfold dkE dckT kA
  rw [colR2_blk, gR5_blk, colR_accK m c t h o ho hd b]

@[inherit_doc dkE_blk] theorem dgkS_blk (t : Fin cfg0.N) (h : t.val % 4 = 3) (o : ℕ) (ho : o + 128 ≤ 512) (hd : o % 128 = 0) (j : Fin 128) :
    dgkS (iblk m c 2 t) (outsAt0 m c t.val t.isLt).2.2.2.2.2.2.1 o ho j = dgkT (V m c main_arg0) (V m c main_v12) (V m c main_arg2) (V m c main_arg3) (V m c main_arg4) (V m c main_v13) (cell t) o ho j := by
  unfold dgkS dgkT kA
  rw [colR2_blk]
  exact Finset.sum_congr rfl fun b _ => by rw [colR_accK m c t h o ho hd b]

@[inherit_doc dkE_blk] theorem dgkB_blk (t : Fin cfg0.N) (h : t.val % 4 = 3) (j : Fin 128) :
    dgkB (iblk m c 2 t) (outsAt0 m c t.val t.isLt).2.2.2.2.2.2.1 j = sum4 fun o ho => dgkT (V m c main_arg0) (V m c main_v12) (V m c main_arg2) (V m c main_arg3) (V m c main_arg4) (V m c main_v13) (cell t) o ho j := by
  unfold dgkB sum4
  rw [dgkS_blk m c t h 0 _ (by omega), dgkS_blk m c t h 128 _ (by omega), dgkS_blk m c t h 256 _ (by omega), dgkS_blk m c t h 384 _ (by omega)]

/-- The block of the cotangent of keys and values is the array's. -/
theorem dkvL_blk (t : Fin cfg0.N) (h : t.val % 4 = 3) (b : Fin 256) (l : Fin 1024) :
    dkvL (iblk m c 2 t) (iblk m c 5 t) (outsAt0 m c t.val t.isLt).2.2.2.2.2.2.1 (outsAt0 m c t.val t.isLt).2.2.2.2.2.2.2 b l = dkvR (V m c main_arg0) (V m c main_v12) (V m c main_arg2) (V m c main_arg3) (V m c main_arg4) (V m c main_v13) (cell t) b l := by
  unfold dkvL dkvR
  by_cases hl : l.val < 512
  · rw [dif_pos hl, dif_pos hl]
    unfold byHead
    exact dkE_blk m c t h _ _ (by omega) b _
  · rw [dif_neg hl, dif_neg hl]
    exact accV m c t h b _

/-- The cotangent of the residual stream. -/
theorem array9 : (dats m 0 c).arrAt 9 cfg0.N
    = dxA (V m c main_arg0) (V m c main_v12) (V m c main_arg2) (V m c main_arg1) (V m c main_arg3) (V m c main_arg4) (V m c main_v13) (V m c main_arg6) (V m c main_v14) := by
  refine (dats m 0 c).arrAt_eq_of_covers 9 _ (by decide +kernel) fun t hf y => ?_
  blk_simp
  rw [after0_9]
  obtain ⟨a, b, rfl⟩ := exists_ix2 (n := 512) (m := 1024) y
  refine ((at9 m c t a b).trans (dxE_blk m c t a b)).trans (Eq.trans (b := dxA (V m c main_arg0) (V m c main_v12) (V m c main_arg2) (V m c main_arg1) (V m c main_arg3) (V m c main_arg4) (V m c main_v13) (V m c main_arg6) (V m c main_v14) (ix2 (row t a) b)) rfl ?_)
  exact congrArg (dxA _ _ _ _ _ _ _ _ _) (by blk_ext [index9, row])

/-- The query projection's cotangent. -/
theorem array10 : (dats m 0 c).arrAt 10 cfg0.N = dcqA (V m c main_arg0) (V m c main_v12) (V m c main_arg2) (V m c main_arg3) (V m c main_arg4) (V m c main_v13) := by
  refine (dats m 0 c).arrAt_eq_of_covers 10 _ (by decide +kernel) fun t hf y => ?_
  blk_simp
  rw [after0_10]
  obtain ⟨a, b, rfl⟩ := exists_ix2 (n := 512) (m := 512) y
  refine ((congrFun (at10 m c t) (ix2 a b)).trans (dcqL_blk m c t a b)).trans (Eq.trans (b := dcqA (V m c main_arg0) (V m c main_v12) (V m c main_arg2) (V m c main_arg3) (V m c main_arg4) (V m c main_v13) (ix2 (row t a) b)) rfl ?_)
  exact congrArg (dcqA _ _ _ _ _ _) (by blk_ext [index10, row])

/-- The cotangent of keys and values. -/
theorem array11 : (dats m 0 c).arrAt 11 cfg0.N = dkvA (V m c main_arg0) (V m c main_v12) (V m c main_arg2) (V m c main_arg3) (V m c main_arg4) (V m c main_v13) := by
  refine (dats m 0 c).arrAt_eq_of_covers 11 _ (by decide +kernel) fun t hf y => ?_
  have h : t.val % 4 = 3 := (by decide +kernel : ∀ t : Fin grid0.N, (cfg0.win 11).flush t = true → t.val % 4 = 3) t hf
  blk_simp
  rw [after0_11]
  obtain ⟨a, b, rfl⟩ := exists_ix2 (n := 256) (m := 1024) y
  refine ((congrFun (at11 m c t h) (ix2 a b)).trans (dkvL_blk m c t h a b)).trans ((dkvA_at _ _ _ _ _ _ (cell t) a b).symm.trans ?_)
  exact congrArg (dkvA _ _ _ _ _ _) (by blk_ext [index11, kvrow, cell])

/-- The gradient of the queries' gain. -/
theorem array12 : (dats m 0 c).arrAt 12 cfg0.N = dgqA (V m c main_arg0) (V m c main_v12) (V m c main_arg2) (V m c main_arg3) (V m c main_arg4) (V m c main_v13) := by
  refine (dats m 0 c).arrAt_eq_of_after_last 12 ⟨7, by decide⟩ (by decide +kernel) _ fun y => ?_
  obtain ⟨a, j, rfl⟩ := exists_ix2 (n := 1) (m := 128) y
  obtain rfl : a = 0 := Subsingleton.elim _ _
  refine (congrFun (after0_12 m c ⟨7, by decide⟩) (ix2 0 j)).trans ?_
  refine (Pipeline.eq_sum_fin_of_reset_step_last (fun n h => (outsAt0 m c n h).2.2.2.1 (ix2 0 j)) 8 0
    (fun t => dgqB (iblk m c 0 t) (iblk m c 1 t) (iblk m c 2 t) (iblk m c 4 t) (iblk m c 5 t) (iblk m c 6 t) j)
    (fun t h => at12_first m c t h j) (fun t h => at12_step m c t h j) (by decide) ⟨7, by decide⟩ (by decide)).trans ?_
  simp only [dgqB_blk, zero_add]
  exact Fin.sum_mul_add_fin 8 512 (dgqR (V m c main_arg0) (V m c main_v12) (V m c main_arg2) (V m c main_arg3) (V m c main_arg4) (V m c main_v13) j)

/-- The gradient of the norm's gain. -/
theorem array14 : (dats m 0 c).arrAt 14 cfg0.N = dgxA (V m c main_arg0) (V m c main_v12) (V m c main_arg2) (V m c main_arg1) (V m c main_arg3) (V m c main_arg4) (V m c main_v13) (V m c main_v14) := by
  refine (dats m 0 c).arrAt_eq_of_after_last 14 ⟨7, by decide⟩ (by decide +kernel) _ fun y => ?_
  obtain ⟨a, l, rfl⟩ := exists_ix2 (n := 1) (m := 1024) y
  obtain rfl : a = 0 := Subsingleton.elim _ _
  refine (congrFun (after0_14 m c ⟨7, by decide⟩) (ix2 0 l)).trans ?_
  refine (Pipeline.eq_sum_fin_of_reset_step_last (fun n h => (outsAt0 m c n h).2.2.2.2.2.1 (ix2 0 l)) 8 0
    (fun t => dgxE (iblk m c 0 t) (iblk m c 1 t) (iblk m c 2 t) (iblk m c 3 t) (iblk m c 4 t) (iblk m c 5 t) (iblk m c 6 t) (iblk m c 8 t) l)
    (fun t h => at14_first m c t h l) (fun t h => at14_step m c t h l) (by decide) ⟨7, by decide⟩ (by decide)).trans ?_
  simp only [dgxE_blk, zero_add]
  exact Fin.sum_mul_add_fin 8 512 (dgxR (V m c main_arg0) (V m c main_v12) (V m c main_arg2) (V m c main_arg1) (V m c main_arg3) (V m c main_arg4) (V m c main_v13) (V m c main_v14) l)

/-- The gradient of the keys' gain: the two batches' parts. -/
theorem array13 : (dats m 0 c).arrAt 13 cfg0.N = dgkA (V m c main_arg0) (V m c main_v12) (V m c main_arg2) (V m c main_arg3) (V m c main_arg4) (V m c main_v13) := by
  refine (dats m 0 c).arrAt_eq_of_after_last 13 ⟨7, by decide⟩ (by decide +kernel) _ fun y => ?_
  obtain ⟨a, j, rfl⟩ := exists_ix2 (n := 1) (m := 128) y
  obtain rfl : a = 0 := Subsingleton.elim _ _
  refine (congrFun (after0_13 m c ⟨7, by decide⟩) (ix2 0 j)).trans ?_
  have k1 := congrFun (at13_keep m c ⟨1, by decide⟩ (by decide) (by decide)) (ix2 0 j)
  have k2 := congrFun (at13_keep m c ⟨2, by decide⟩ (by decide) (by decide)) (ix2 0 j)
  have k4 := congrFun (at13_keep m c ⟨4, by decide⟩ (by decide) (by decide)) (ix2 0 j)
  have k5 := congrFun (at13_keep m c ⟨5, by decide⟩ (by decide) (by decide)) (ix2 0 j)
  have k6 := congrFun (at13_keep m c ⟨6, by decide⟩ (by decide) (by decide)) (ix2 0 j)
  have l3 := at13_last m c ⟨3, by decide⟩ (by decide) j
  have l7 := at13_last m c ⟨7, by decide⟩ (by decide) j
  rw [dgkB_blk m c ⟨3, by decide⟩ (by decide)] at l3
  rw [dgkB_blk m c ⟨7, by decide⟩ (by decide)] at l7
  refine l7.trans ?_
  refine (congrArg (· + _) (((k6.trans k5).trans k4).trans (l3.trans (congrArg (· + _) ((k2.trans k1).trans (at13_first m c ⟨0, by decide⟩ (by decide) j)))))).trans ?_
  rw [zero_add]
  exact (Fin.sum_univ_two fun n => sum4 fun o ho => dgkT (V m c main_arg0) (V m c main_v12) (V m c main_arg2) (V m c main_arg3) (V m c main_arg4) (V m c main_v13) n o ho j).symm

end Cert.Proof.Xattn

end
-- ==== Proof.Xattn.RefB.lean ====
/-
  What the cross-attention's reference computes, at an index: its six results are the kernel's array formulas.
-/
module

public import proofs.«01_k».proof.Proof.Xattn.RefA
public import Idealize.ShloMosaic.Lib.IdealHost
public import proofs.«01_k».proof.Proof.Xattn.Results

@[expose] public section

set_option maxRecDepth 16384

noncomputable section

namespace Cert.Proof.Xattn

open Cert.ReferenceIdeal Cert.ReferenceIdeal.Gen Cert.ReferenceIdeal.Read
open Idealize.ShloMosaic Idealize.ShloMosaic.TcCoe Idealize.SL.Sem Cert.Proof.Reads Cert.Proof.Norm

variable (x0 x1 : Vec Ideal S4096x1024 .f32) (x2 : Vec Ideal S512x1024 .f32) (x3 x4 : Vec Ideal S1x128 .f32)
  (x5 : Vec Ideal S512x1024 .f32) (x6 : Vec Ideal S1x1024 .f32) (x7 : Vec Ideal S1024x512 .f32)

section Sums

/-- A sum over three axes of four, at the place in the fourth. -/
theorem reduce3 {A B C : ℕ} (X : Vec Ideal ⟨4, ![A, B, C, 128]⟩ .f32)
    (hr : (⟨4, ![A, B, C, 128]⟩ : Shape).ReducesTo [0, 1, 2] S128) (i : EReal) (j : Fin 128) :
    Ideal.hostReduceAdd hr X i (ix1 j) = i + ∑ a : Fin A, ∑ b : Fin B, ∑ c : Fin C, X (ix4 a b c j) := by
  unfold Ideal.hostReduceAdd
  rw [Finset.sum_filter, sum_idx4]
  refine congrArg (i + ·) (Finset.sum_congr rfl fun a _ => Finset.sum_congr rfl fun b _ => Finset.sum_congr rfl fun c _ => ?_)
  have hd : ∀ e : Fin 128, hr.drop (ix4 a b c e) = ix1 j ↔ e = j := fun e => by
    have h0 : (hr.drop (ix4 a b c e) 0 : ℕ) = e.val := hr.drop_apply_val_of_eq (ix4 a b c e) 0 3 (by decide : 0 < [(3 : Fin 4)].length) (by decide : [(3 : Fin 4)][0] = 3)
    refine ⟨fun h => Fin.ext ?_, fun h => ?_⟩
    · rw [← h0, h]; rfl
    · subst h
      funext z; apply Fin.ext
      obtain rfl : z = 0 := Subsingleton.elim _ _
      exact h0
  simp only [hd, Finset.sum_ite_eq', Finset.mem_univ, if_true]

/-- A sum over the tokens, batch by batch. -/
theorem sum_tokens (f : Fin 4096 → EReal) : ∑ r, f r = ∑ n : Fin 2, ∑ q : Fin 2048, f (qrow n q) := by
  rw [← Fintype.sum_prod_type' (f := fun n q => f (qrow n q))]
  refine (Fintype.sum_equiv (finProdFinEquiv (m := 2) (n := 2048)) _ _ fun p => congrArg f (Fin.ext ?_)).symm
  show p.1.val * 2048 + p.2.val = p.2.val + 2048 * p.1.val
  omega

/-- A sum over the four heads, by their columns. -/
theorem sum_heads (F : (o : ℕ) → o + 128 ≤ 512 → EReal) : ∑ h : Fin 4, F (128 * h.val) (hof h) = sum4 F := Fin.sum_univ_four _

/-- The batch of a batch's token. -/
theorem bat_qrow (n : Fin 2) (q : Fin 2048) : bat (qrow n q) = n := Fin.ext (by show (n.val * 2048 + q.val) / 2048 = n.val; omega)

/-- A token is one of its batch. -/
theorem exists_qrow (r : Fin 4096) : ∃ (n : Fin 2) (q : Fin 2048), r = qrow n q :=
  ⟨bat r, ⟨r.val % 2048, Nat.mod_lt _ (by decide)⟩, Fin.ext (by show r.val = r.val / 2048 * 2048 + r.val % 2048; omega)⟩

/-- A memory row is one of its batch. -/
theorem exists_kvrow (r : Fin 512) : ∃ (n : Fin 2) (b : Fin 256), r = kvrow n b :=
  ⟨⟨r.val / 256, by omega⟩, ⟨r.val % 256, Nat.mod_lt _ (by decide)⟩, Fin.ext (by show r.val = r.val / 256 * 256 + r.val % 256; omega)⟩

end Sums

variable (hq : ∀ j, ∃ y : ℝ, gR x3 j = (y : EReal)) (hk : ∀ j, ∃ y : ℝ, gR x4 j = (y : EReal))
  (n : Fin 2) (h : Fin 4) (q : Fin 2048) (b : Fin 256)

/-- The values' cotangent. -/
theorem ref_dv (j : Fin 128) : val_main_v94 (F := Ideal) x0 x1 x2 x3 x4 x5 x6 x7 (ix4 n b h j) = dcvT x0 (val_main_v15 (F := Ideal) x1 x6 x7) x2 x3 x4 x5 n (128 * h.val) (hof h) b j := by
  rw [val_main_v94_apply, show idx_main_v94 (ix4 n b h j) = ix4 n h j b from by funext a; fin_cases a <;> rfl, val_main_v93_apply]
  simp only [show ∀ k, lidx_main_v93 (ix4 n h j b) k = ix4 n h j k from fun k => by funext a; fin_cases a <;> rfl, show ∀ k, ridx_main_v93 (ix4 n h j b) k = ix4 n h k b from fun k => by funext a; fin_cases a <;> rfl, ref_o, ref_prob]
  unfold dcvT dvT
  exact Finset.sum_congr rfl fun k _ => mul_comm _ _

include hq hk

/-- The normed keys' cotangent. -/
theorem ref_dkn (j : Fin 128) : val_main_v110 (F := Ideal) x0 x1 x2 x3 x4 x5 x6 x7 (ix4 n b h j) = dknT x0 (val_main_v15 (F := Ideal) x1 x6 x7) x2 x3 x4 x5 n (128 * h.val) (hof h) b j := by
  rw [val_main_v110_apply, show idx_main_v110 (ix4 n b h j) = ix4 n h b j from by funext a; fin_cases a <;> rfl, val_main_v109_apply]
  simp only [show ∀ k, lidx_main_v109 (ix4 n h b j) k = ix4 n h k b from fun k => by funext a; fin_cases a <;> rfl, show ∀ k, ridx_main_v109 (ix4 n h b j) k = ix4 n k h j from fun k => by funext a; fin_cases a <;> rfl,
    ref_ds x0 x1 x2 x3 x4 x5 x6 x7 n h _ b hq hk, ref_qn]
  unfold dknT dkT
  rw [← sum_scale]
  exact Finset.sum_congr rfl fun k _ => mul_right_comm _ _ _

/-- The normed query's cotangent. -/
theorem ref_dqn (j : Fin 128) : val_main_v112 (F := Ideal) x0 x1 x2 x3 x4 x5 x6 x7 (ix4 n q h j) = dqn (gR x3) (gR x4) (kA x2 n (128 * h.val) (hof h)) (vA x2 n (128 * h.val) (hof h)) (colR (val_main_v15 (F := Ideal) x1 x6 x7) (128 * h.val) (hof h) (qrow n q)) (oA x0 x5 (128 * h.val) (hof h) (qrow n q)) j := by
  rw [val_main_v112_apply, show idx_main_v112 (ix4 n q h j) = ix4 n h q j from by funext a; fin_cases a <;> rfl, val_main_v111_apply]
  simp only [show ∀ k, lidx_main_v111 (ix4 n h q j) k = ix4 n h q k from fun k => by funext a; fin_cases a <;> rfl, show ∀ k, ridx_main_v111 (ix4 n h q j) k = ix4 n k h j from fun k => by funext a; fin_cases a <;> rfl,
    ref_ds x0 x1 x2 x3 x4 x5 x6 x7 n h q _ hq hk, ref_kn]
  unfold dqn
  rw [← sum_scale]
  exact Finset.sum_congr rfl fun k _ => mul_right_comm _ _ _

/-- The cotangent of the scaled keys. -/
theorem ref_ka (j : Fin 128) : val_main_v117 (F := Ideal) x0 x1 x2 x3 x4 x5 x6 x7 (ix4 n b h j) = dknT x0 (val_main_v15 (F := Ideal) x1 x6 x7) x2 x3 x4 x5 n (128 * h.val) (hof h) b j * gR x4 j := by
  rw [val_main_v117_apply, ref_dkn x0 x1 x2 x3 x4 x5 x6 x7 hq hk, val_main_v116_apply, val_main_v51_apply, val_main_v37_apply]
  refine congrArg (fun z => dknT x0 (val_main_v15 (F := Ideal) x1 x6 x7) x2 x3 x4 x5 n (128 * h.val) (hof h) b j * z) (congrArg x4 ?_)
  funext a; apply Fin.ext
  fin_cases a
  · rfl
  · show j.val % 128 = j.val; omega

/-- The factor of the key in the norm's cotangent. -/
theorem ref_kd (j : Fin 128) : val_main_v128 (F := Ideal) x0 x1 x2 x3 x4 x5 x6 x7 (ix4 n b h j)
    = Ideal.div ((∑ k : Fin 128, ((kA x2 n (128 * h.val) (hof h)) b) k * (dknT x0 (val_main_v15 (F := Ideal) x1 x6 x7) x2 x3 x4 x5 n (128 * h.val) (hof h) b k * gR x4 k))
        * (((-(1 / 2) : ℝ) : EReal) * Ideal.div (rinv hdim eps ((kA x2 n (128 * h.val) (hof h)) b)) (ms hdim eps ((kA x2 n (128 * h.val) (hof h)) b)))) hdim := by
  rw [val_main_v128_apply]
  simp only [val_main_v127_apply, val_main_v126_apply, val_main_v125_apply, val_main_v124_apply, val_main_v121_apply, val_main_v120_apply, val_main_v119_apply, val_main_v48_apply, val_main_v47_apply, val_main_v46_apply, val_main_cst_27_apply, val_main_cst_28_apply, val_main_cst_29_apply, val_main_cst_10_apply,
    show ∀ k, idx_main_v127 (idx_main_v128 (ix4 n b h j)) k = (ix4 n b h 0) from fun k => by
      obtain rfl : k = 0 := Subsingleton.elim _ _
      funext a; fin_cases a <;> rfl,
    show ∀ k, idx_main_v120 (idx_main_v121 (ix4 n b h 0)) k = ix4 n b h k from fun k => by
      funext a; apply Fin.ext; fin_cases a <;> simp <;> omega,
    ref_k, ref_ka x0 x1 x2 x3 x4 x5 x6 x7 hq hk, ref_kinv, ref_kms]
  pointwise
  rw [ofBits_neg_half]
  simp

/-- The cotangent of a head's keys. -/
theorem ref_dk (j : Fin 128) : val_main_v132 (F := Ideal) x0 x1 x2 x3 x4 x5 x6 x7 (ix4 n b h j) = dckT x0 (val_main_v15 (F := Ideal) x1 x6 x7) x2 x3 x4 x5 n (128 * h.val) (hof h) b j := by
  obtain ⟨e, he, hw⟩ := ofBits_eps
  rw [val_main_v132_apply]
  simp only [val_main_v130_apply, val_main_v131_apply, val_main_v129_apply, val_main_v123_apply, val_main_v122_apply, show idx_main_v122 (ix4 n b h j) = (ix4 n b h 0) from by funext a; fin_cases a <;> rfl,
    ref_k, ref_ka x0 x1 x2 x3 x4 x5 x6 x7 hq hk, ref_kd x0 x1 x2 x3 x4 x5 x6 x7 hq hk, ref_kinv]
  unfold dckT
  unfold eps hdim
  rw [hw, ofBits_128]
  exact (back_eq (by norm_num) he ((kA x2 n (128 * h.val) (hof h)) b) (fun j => dknT x0 (val_main_v15 (F := Ideal) x1 x6 x7) x2 x3 x4 x5 n (128 * h.val) (hof h) b j * gR x4 j) j).symm

/-- The cotangent of the scaled queries. -/
theorem ref_qa (j : Fin 128) : val_main_v140 (F := Ideal) x0 x1 x2 x3 x4 x5 x6 x7 (ix4 n q h j) = dqn (gR x3) (gR x4) (kA x2 n (128 * h.val) (hof h)) (vA x2 n (128 * h.val) (hof h)) (colR (val_main_v15 (F := Ideal) x1 x6 x7) (128 * h.val) (hof h) (qrow n q)) (oA x0 x5 (128 * h.val) (hof h) (qrow n q)) j * gR x3 j := by
  rw [val_main_v140_apply, ref_dqn x0 x1 x2 x3 x4 x5 x6 x7 hq hk, val_main_v139_apply, val_main_v31_apply, val_main_v17_apply]
  refine congrArg (fun z => dqn (gR x3) (gR x4) (kA x2 n (128 * h.val) (hof h)) (vA x2 n (128 * h.val) (hof h)) (colR (val_main_v15 (F := Ideal) x1 x6 x7) (128 * h.val) (hof h) (qrow n q)) (oA x0 x5 (128 * h.val) (hof h) (qrow n q)) j * z) (congrArg x3 ?_)
  funext a; apply Fin.ext
  fin_cases a
  · rfl
  · show j.val % 128 = j.val; omega

/-- The factor of the query in the norm's cotangent. -/
theorem ref_qd (j : Fin 128) : val_main_v151 (F := Ideal) x0 x1 x2 x3 x4 x5 x6 x7 (ix4 n q h j)
    = Ideal.div ((∑ k : Fin 128, (colR (val_main_v15 (F := Ideal) x1 x6 x7) (128 * h.val) (hof h) (qrow n q)) k * (dqn (gR x3) (gR x4) (kA x2 n (128 * h.val) (hof h)) (vA x2 n (128 * h.val) (hof h)) (colR (val_main_v15 (F := Ideal) x1 x6 x7) (128 * h.val) (hof h) (qrow n q)) (oA x0 x5 (128 * h.val) (hof h) (qrow n q)) k * gR x3 k))
        * (((-(1 / 2) : ℝ) : EReal) * Ideal.div (rinv hdim eps (colR (val_main_v15 (F := Ideal) x1 x6 x7) (128 * h.val) (hof h) (qrow n q))) (ms hdim eps (colR (val_main_v15 (F := Ideal) x1 x6 x7) (128 * h.val) (hof h) (qrow n q))))) hdim := by
  rw [val_main_v151_apply]
  simp only [val_main_v150_apply, val_main_v149_apply, val_main_v148_apply, val_main_v147_apply, val_main_v144_apply, val_main_v143_apply, val_main_v142_apply, val_main_v28_apply, val_main_v27_apply, val_main_v26_apply, val_main_cst_32_apply, val_main_cst_33_apply, val_main_cst_34_apply, val_main_cst_6_apply,
    show ∀ k, idx_main_v150 (idx_main_v151 (ix4 n q h j)) k = (ix4 n q h 0) from fun k => by
      obtain rfl : k = 0 := Subsingleton.elim _ _
      funext a; fin_cases a <;> rfl,
    show ∀ k, idx_main_v143 (idx_main_v144 (ix4 n q h 0)) k = ix4 n q h k from fun k => by
      funext a; apply Fin.ext; fin_cases a <;> simp <;> omega,
    ref_q, ref_qa x0 x1 x2 x3 x4 x5 x6 x7 hq hk, ref_qinv, ref_qms]
  pointwise
  rw [ofBits_neg_half]
  simp

/-- The cotangent of a head's queries. -/
theorem ref_dq (j : Fin 128) : val_main_v155 (F := Ideal) x0 x1 x2 x3 x4 x5 x6 x7 (ix4 n q h j) = dcqT x0 (val_main_v15 (F := Ideal) x1 x6 x7) x2 x3 x4 x5 n (128 * h.val) (hof h) (qrow n q) j := by
  obtain ⟨e, he, hw⟩ := ofBits_eps
  rw [val_main_v155_apply]
  simp only [val_main_v153_apply, val_main_v154_apply, val_main_v152_apply, val_main_v146_apply, val_main_v145_apply, show idx_main_v145 (ix4 n q h j) = (ix4 n q h 0) from by funext a; fin_cases a <;> rfl,
    ref_q, ref_qa x0 x1 x2 x3 x4 x5 x6 x7 hq hk, ref_qd x0 x1 x2 x3 x4 x5 x6 x7 hq hk, ref_qinv]
  unfold dcqT dq
  unfold eps hdim
  rw [hw, ofBits_128]
  exact (back_eq (by norm_num) he (colR (val_main_v15 (F := Ideal) x1 x6 x7) (128 * h.val) (hof h) (qrow n q)) (fun j => dqn (gR x3) (gR x4) (kA x2 n (128 * h.val) (hof h)) (vA x2 n (128 * h.val) (hof h)) (colR (val_main_v15 (F := Ideal) x1 x6 x7) (128 * h.val) (hof h) (qrow n q)) (oA x0 x5 (128 * h.val) (hof h) (qrow n q)) j * gR x3 j) j).symm

/-- The keys' gain's gradient. -/
theorem ref_dgk (j : Fin 128) : val_main_v133 (F := Ideal) x0 x1 x2 x3 x4 x5 x6 x7 (ix2 0 j) = dgkA x0 (val_main_v15 (F := Ideal) x1 x6 x7) x2 x3 x4 x5 (ix2 0 j) := by
  rw [val_main_v133_apply, show idx_main_v133 (ix2 0 j) = ix1 j from by funext a; fin_cases a <;> rfl]
  unfold val_main_v118
  rw [ValueIdx.hostReduceAdd_apply, reduce3, val_main_cst_26_apply]
  simp only [Fin.sum_univ_one, Finset.univ_unique, Fin.default_eq_zero, Finset.sum_singleton]
  rw [val_main_v115_apply, show idx_main_v115 (ix4 0 0 0 j) = ix1 j from by funext a; apply Fin.ext; fin_cases a; simp]
  unfold val_main_v114
  rw [ValueIdx.hostReduceAdd_apply, reduce3, val_main_cst_25_apply]
  simp only [val_main_v113_apply, ref_khat, ref_dkn x0 x1 x2 x3 x4 x5 x6 x7 hq hk]
  unfold dgkA
  have z : Ideal.ofBits .f32 0x00000000#32 = 0 := by simp [Ideal.ofBits, Ideal.ieee]
  show Ideal.ofBits .f32 0x00000000#32 + (Ideal.ofBits .f32 0x00000000#32 + ∑ n : Fin 2, ∑ b : Fin 256, ∑ h : Fin 4,
    (kA x2 n (128 * h.val) (hof h)) b j * rinv hdim eps ((kA x2 n (128 * h.val) (hof h)) b) * dknT x0 (val_main_v15 (F := Ideal) x1 x6 x7) x2 x3 x4 x5 n (128 * h.val) (hof h) b j) = _
  rw [z, zero_add, zero_add]
  refine Finset.sum_congr rfl fun n _ => ?_
  rw [Finset.sum_comm, ← sum_heads]
  refine Finset.sum_congr rfl fun h _ => ?_
  unfold dgkT
  exact Finset.sum_congr rfl fun b _ => mul_comm _ _

/-- The queries' gain's gradient. -/
theorem ref_dgq (j : Fin 128) : val_main_v156 (F := Ideal) x0 x1 x2 x3 x4 x5 x6 x7 (ix2 0 j) = dgqA x0 (val_main_v15 (F := Ideal) x1 x6 x7) x2 x3 x4 x5 (ix2 0 j) := by
  rw [val_main_v156_apply, show idx_main_v156 (ix2 0 j) = ix1 j from by funext a; fin_cases a <;> rfl]
  unfold val_main_v141
  rw [ValueIdx.hostReduceAdd_apply, reduce3, val_main_cst_31_apply]
  simp only [Fin.sum_univ_one, Finset.univ_unique, Fin.default_eq_zero, Finset.sum_singleton]
  rw [val_main_v138_apply, show idx_main_v138 (ix4 0 0 0 j) = ix1 j from by funext a; apply Fin.ext; fin_cases a; simp]
  unfold val_main_v137
  rw [ValueIdx.hostReduceAdd_apply, reduce3, val_main_cst_30_apply]
  simp only [val_main_v136_apply, ref_qhat, ref_dqn x0 x1 x2 x3 x4 x5 x6 x7 hq hk]
  unfold dgqA
  rw [sum_tokens]
  have z : Ideal.ofBits .f32 0x00000000#32 = 0 := by simp [Ideal.ofBits, Ideal.ieee]
  show Ideal.ofBits .f32 0x00000000#32 + (Ideal.ofBits .f32 0x00000000#32 + ∑ n : Fin 2, ∑ q : Fin 2048, ∑ h : Fin 4,
    (colR (val_main_v15 (F := Ideal) x1 x6 x7) (128 * h.val) (hof h) (qrow n q)) j * rinv hdim eps (colR (val_main_v15 (F := Ideal) x1 x6 x7) (128 * h.val) (hof h) (qrow n q)) * dqn (gR x3) (gR x4) (kA x2 n (128 * h.val) (hof h)) (vA x2 n (128 * h.val) (hof h)) (colR (val_main_v15 (F := Ideal) x1 x6 x7) (128 * h.val) (hof h) (qrow n q)) (oA x0 x5 (128 * h.val) (hof h) (qrow n q)) j) = _
  rw [z, zero_add, zero_add]
  refine Finset.sum_congr rfl fun n _ => Finset.sum_congr rfl fun q _ => ?_
  unfold dgqR
  rw [bat_qrow, ← sum_heads]
  refine Finset.sum_congr rfl fun h _ => ?_
  unfold dgqT dgqE
  exact mul_comm _ _

/-- The cotangent of keys and values. -/
theorem ref_dkv (l : Fin 1024) : val_main_v135 (F := Ideal) x0 x1 x2 x3 x4 x5 x6 x7 (ix2 (kvrow n b) l) = dkvR x0 (val_main_v15 (F := Ideal) x1 x6 x7) x2 x3 x4 x5 n b l := by
  rw [val_main_v135_apply, show idx_main_v135 (ix2 (kvrow n b) l) = ix4 n b (⟨l.val / 128, by omega⟩ : Fin 8) (⟨l.val % 128, by omega⟩ : Fin 128) from by
    funext a; apply Fin.ext
    fin_cases a
    · show ((n.val * 256 + b.val) * 1024 + l.val) / 262144 = n.val; omega
    · show ((n.val * 256 + b.val) * 1024 + l.val) / 1024 % 256 = b.val; omega
    · show ((n.val * 256 + b.val) * 1024 + l.val) / 128 % 8 = l.val / 128; omega
    · show ((n.val * 256 + b.val) * 1024 + l.val) % 128 = l.val % 128; omega]
  unfold val_main_v134 dkvR byHead
  split
  · next hl =>
    rw [concatenate_pair_apply_left (t := S2x256x8x128) (s₁ := S2x256x4x128) (s₂ := S2x256x4x128) 2 _ _ _ _ rfl
      (ix4 n b (⟨l.val / 128, by omega⟩ : Fin 4) (⟨l.val % 128, by omega⟩ : Fin 128)) (fun a => by fin_cases a <;> rfl)]
    exact ref_dk x0 x1 x2 x3 x4 x5 x6 x7 hq hk n ⟨l.val / 128, by omega⟩ b ⟨l.val % 128, by omega⟩
  · next hl =>
    rw [concatenate_pair_apply_right (t := S2x256x8x128) (s₁ := S2x256x4x128) (s₂ := S2x256x4x128) 2 _ _ _ _ rfl rfl
      (ix4 n b (⟨(l.val - 512) / 128, by omega⟩ : Fin 4) (⟨(l.val - 512) % 128, by omega⟩ : Fin 128))
      (fun a ha => by
        fin_cases a
        · rfl
        · rfl
        · exact absurd rfl ha
        · show (l.val - 512) % 128 = l.val % 128; omega)
      (by show (l.val - 512) / 128 + 4 = l.val / 128; omega)]
    exact ref_dv x0 x1 x2 x3 x4 x5 x6 x7 n ⟨(l.val - 512) / 128, by omega⟩ b ⟨(l.val - 512) % 128, by omega⟩

/-- The query projection's cotangent. -/
theorem ref_dcq (r : Fin 4096) (l : Fin 512) : val_main_v157 (F := Ideal) x0 x1 x2 x3 x4 x5 x6 x7 (ix2 r l) = dcqR x0 (val_main_v15 (F := Ideal) x1 x6 x7) x2 x3 x4 x5 r l := by
  obtain ⟨n, q, rfl⟩ := exists_qrow r
  rw [val_main_v157_apply, show idx_main_v157 (ix2 (qrow n q) l) = ix4 n q (⟨l.val / 128, by omega⟩ : Fin 4) (⟨l.val % 128, by omega⟩ : Fin 128) from by
    funext a; apply Fin.ext
    fin_cases a
    · show ((n.val * 2048 + q.val) * 512 + l.val) / 1048576 = n.val; omega
    · show ((n.val * 2048 + q.val) * 512 + l.val) / 512 % 2048 = q.val; omega
    · show ((n.val * 2048 + q.val) * 512 + l.val) / 128 % 4 = l.val / 128; omega
    · show ((n.val * 2048 + q.val) * 512 + l.val) % 128 = l.val % 128; omega]
  unfold dcqR byHead
  rw [bat_qrow]
  exact ref_dq x0 x1 x2 x3 x4 x5 x6 x7 hq hk n ⟨l.val / 128, by omega⟩ q ⟨l.val % 128, by omega⟩

/-- The cotangent of the norm's output. -/
theorem ref_dh (r : Fin 4096) (l : Fin 1024) : val_main_v158 (F := Ideal) x0 x1 x2 x3 x4 x5 x6 x7 (ix2 r l) = dhR x0 (val_main_v15 (F := Ideal) x1 x6 x7) x2 x3 x4 x5 x7 r l := by
  rw [val_main_v158_apply]
  simp only [show ∀ k, lidx_main_v158 (ix2 r l) k = ix2 r k from fun k => by funext a; fin_cases a <;> rfl, show ∀ k, ridx_main_v158 (ix2 r l) k = ix2 l k from fun k => by funext a; fin_cases a <;> rfl, ref_dcq x0 x1 x2 x3 x4 x5 x6 x7 hq hk]
  rfl

omit hq hk in
/-- The mean square of a token's row. -/
theorem ref_xms (r : Fin 4096) (z : Fin 1) : val_main_v6 (F := Ideal) x1 (ix2 r z) = ms wid eps (fun k => x1 (ix2 r k)) := by
  rw [val_main_v6_apply]
  simp only [val_main_v5_apply, val_main_v4_apply, val_main_v3_apply, val_main_v2_apply, val_main_v1_apply, val_main_v0_apply, val_main_cst_apply, val_main_cst_0_apply, val_main_cst_1_apply, show ∀ k, idx_main_v1 (idx_main_v2 (ix2 r z)) k = ix2 r k from fun k => by funext a; fin_cases a <;> rfl]
  pointwise [ms]

omit hq hk in
/-- The reciprocal root of a token's row. -/
theorem ref_xinv (r : Fin 4096) (z : Fin 1) : val_main_v7 (F := Ideal) x1 (ix2 r z) = rinv wid eps (fun k => x1 (ix2 r k)) := by
  rw [val_main_v7_apply, ref_xms]
  rfl

/-- The norm's gain's gradient. -/
theorem ref_dgx (l : Fin 1024) : val_main_v161 (F := Ideal) x0 x1 x2 x3 x4 x5 x6 x7 (ix2 0 l) = ∑ r : Fin 4096, dgxR x0 (val_main_v15 (F := Ideal) x1 x6 x7) x2 x1 x3 x4 x5 x7 l r := by
  rw [val_main_v161_apply]
  simp only [val_main_v160_apply, val_main_v159_apply, val_main_v12_apply, val_main_v11_apply, val_main_cst_35_apply,
    show ∀ k, idx_main_v160 (idx_main_v161 (ix2 0 l)) k = ix2 k l from fun k => by
      funext a; apply Fin.ext; fin_cases a <;> simp,
    show ∀ k, idx_main_v11 (ix2 k l) = ix2 k 0 from fun k => by funext a; fin_cases a <;> rfl, ref_dh x0 x1 x2 x3 x4 x5 x6 x7 hq hk, ref_xinv]
  pointwise [dgxR]
  exact Finset.sum_congr rfl fun k _ => mul_comm _ _

/-- The cotangent of the scaled rows. -/
theorem ref_xa (r : Fin 4096) (l : Fin 1024) : val_main_v163 (F := Ideal) x0 x1 x2 x3 x4 x5 x6 x7 (ix2 r l) = dhR x0 (val_main_v15 (F := Ideal) x1 x6 x7) x2 x3 x4 x5 x7 r l * x6 (ix2 0 l) := by
  rw [val_main_v163_apply, val_main_v162_apply, ref_dh x0 x1 x2 x3 x4 x5 x6 x7 hq hk, show idx_main_v162 (ix2 r l) = ix2 0 l from by funext a; fin_cases a <;> rfl]
  rfl

/-- The factor of the row in the norm's cotangent. -/
theorem ref_xd (r : Fin 4096) (l : Fin 1024) : val_main_v173 (F := Ideal) x0 x1 x2 x3 x4 x5 x6 x7 (ix2 r l)
    = Ideal.div ((∑ k : Fin 1024, x1 (ix2 r k) * (dhR x0 (val_main_v15 (F := Ideal) x1 x6 x7) x2 x3 x4 x5 x7 r k * x6 (ix2 0 k)))
        * (((-(1 / 2) : ℝ) : EReal) * Ideal.div (rinv wid eps (fun k => x1 (ix2 r k))) (ms wid eps (fun k => x1 (ix2 r k))))) wid := by
  rw [val_main_v173_apply]
  simp only [val_main_v172_apply, val_main_v171_apply, val_main_v170_apply, val_main_v169_apply, val_main_v166_apply, val_main_v165_apply, val_main_v164_apply, val_main_v10_apply, val_main_v9_apply, val_main_v8_apply, val_main_cst_36_apply, val_main_cst_37_apply, val_main_cst_38_apply, val_main_cst_2_apply,
    show ∀ k, idx_main_v172 (idx_main_v173 (ix2 r l)) k = ix2 r 0 from fun k => by
      obtain rfl : k = 0 := Subsingleton.elim _ _
      funext a; fin_cases a <;> rfl,
    show ∀ k, idx_main_v165 (idx_main_v166 (ix2 r 0)) k = ix2 r k from fun k => by
      funext a; apply Fin.ext; fin_cases a <;> simp,
    ref_xa x0 x1 x2 x3 x4 x5 x6 x7 hq hk, ref_xinv, ref_xms]
  pointwise
  rw [ofBits_neg_half]
  simp

/-- The cotangent of the residual stream. -/
theorem ref_dx (r : Fin 4096) (l : Fin 1024) : val_main_v178 (F := Ideal) x0 x1 x2 x3 x4 x5 x6 x7 (ix2 r l)
    = dxR x0 (val_main_v15 (F := Ideal) x1 x6 x7) x2 x1 x3 x4 x5 x6 x7 r l := by
  obtain ⟨e, he, hw⟩ := ofBits_eps
  rw [val_main_v178_apply]
  simp only [val_main_v177_apply, val_main_v176_apply, val_main_v175_apply, val_main_v174_apply, val_main_v168_apply, val_main_v167_apply, show idx_main_v167 (ix2 r l) = ix2 r 0 from by funext a; fin_cases a <;> rfl,
    ref_xa x0 x1 x2 x3 x4 x5 x6 x7 hq hk, ref_xd x0 x1 x2 x3 x4 x5 x6 x7 hq hk, ref_xinv]
  unfold dxR
  refine congrArg (x0 (ix2 r l) + ·) ?_
  unfold eps wid
  rw [hw, ofBits_1024]
  exact (back_eq (by norm_num) he (fun k => x1 (ix2 r k)) (fun k => dhR x0 (val_main_v15 (F := Ideal) x1 x6 x7) x2 x3 x4 x5 x7 r k * x6 (ix2 0 k)) l).symm

end Cert.Proof.Xattn

end
-- ==== Proof.Xattn.Claim.lean ====
/-
  The cross-attention's claims: for finite gains the kernel's six results are the reference's, over the reals.
-/
module

public import proofs.«01_k».proof.Defs
public import proofs.«01_k».proof.Proof.Xattn.RefB
public import proofs.«01_k».proof.Proof.Gen.ReferenceIdeal.Run
public import Idealize.ShloMosaic.Lib.Claim

@[expose] public section

set_option maxRecDepth 16384

noncomputable section

namespace Cert.Proof.Xattn

open Idealize.ShloMosaic Idealize.ShloMosaic.TcCoe Idealize.SL.Sem Cert.Proof.Reads

section Kernel

open Cert.KernelIdeal Cert.KernelIdeal.Gen

variable (m : (ℓ : Loc nD τ sig) → Buf (Elt Ideal) ℓ) (ρ : Dev nD → PrngReg) (c : Dev nD)

/-- The kernel's run: its six results are the array formulas of what the launch finds. -/
theorem run : θ_run defs (onTc (τ := τ) (main (F := Ideal))) ⟨m, fun _ => 0, ρ⟩ fun r => ∀ c : Dev nD,
      r.2.mem ((c : Thread nD τ).loc main_v15_0) = dxA (V m c main_arg0) (V m c main_v12) (V m c main_arg2) (V m c main_arg1) (V m c main_arg3) (V m c main_arg4) (V m c main_v13) (V m c main_arg6) (V m c main_v14)
      ∧ r.2.mem ((c : Thread nD τ).loc main_v15_1) = dcqA (V m c main_arg0) (V m c main_v12) (V m c main_arg2) (V m c main_arg3) (V m c main_arg4) (V m c main_v13)
      ∧ r.2.mem ((c : Thread nD τ).loc main_v15_2) = dkvA (V m c main_arg0) (V m c main_v12) (V m c main_arg2) (V m c main_arg3) (V m c main_arg4) (V m c main_v13)
      ∧ r.2.mem ((c : Thread nD τ).loc main_v15_3) = dgqA (V m c main_arg0) (V m c main_v12) (V m c main_arg2) (V m c main_arg3) (V m c main_arg4) (V m c main_v13)
      ∧ r.2.mem ((c : Thread nD τ).loc main_v15_4) = dgkA (V m c main_arg0) (V m c main_v12) (V m c main_arg2) (V m c main_arg3) (V m c main_arg4) (V m c main_v13)
      ∧ r.2.mem ((c : Thread nD τ).loc main_v15_5) = dgxA (V m c main_arg0) (V m c main_v12) (V m c main_arg2) (V m c main_arg1) (V m c main_arg3) (V m c main_arg4) (V m c main_v13) (V m c main_v14)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (Value.run_blocks (F := Ideal) m ρ)
  obtain ⟨h0, h1, h2, h3, h4, h5, h⟩ := h c
  exact ⟨h0.trans (array9 m c), h1.trans (array10 m c), h2.trans (array11 m c), h3.trans (array12 m c), h4.trans (array13 m c),
    h5.trans (array14 m c), h⟩

/-- The query projection that the host computes is the reference's. -/
theorem entry_cq : V m c main_v12 = Cert.ReferenceIdeal.Read.val_main_v15 (F := Ideal)
    (m ((c : Thread nD τ).loc main_arg1)) (m ((c : Thread nD τ).loc main_arg6)) (m ((c : Thread nD τ).loc main_arg7)) := by
  entry_read
  rfl

/-- The weights' casts change nothing over the reals. -/
theorem entry_wco : V m c main_v13 = m ((c : Thread nD τ).loc main_arg5) := by
  entry_read
  rfl

@[inherit_doc entry_wco] theorem entry_wcq : V m c main_v14 = m ((c : Thread nD τ).loc main_arg7) := by
  entry_read
  rfl

end Kernel

/-- The word of ∞ denotes `⊤`. -/
theorem ofBits_top : Ideal.ofBits .f32 0x7F800000#32 = ⊤ := by simp [Ideal.ofBits, Ideal.ieee]

/-- A gain whose absolute value compares below ∞ is real. -/
theorem gain_real (g : Vec Ideal Cert.Pre_gains_finite.S1x128 .f32) (hg : ∀ j : Fin 128, Ideal.cmp .olt (max (gR g j) (-gR g j)) (Ideal.ofBits .f32 0x7F800000#32) = 1#1)
    (j : Fin 128) : ∃ y : ℝ, gR g j = (y : EReal) := by
  have h := hg j
  rw [ofBits_top] at h
  generalize gR g j = x at h
  induction (x : EReal) using EReal.rec with
  | bot => exact absurd h (by simp [Ideal.cmp])
  | top => exact absurd h (by simp [Ideal.cmp])
  | coe y => exact ⟨y, rfl⟩

section Ref

open Cert.ReferenceIdeal Cert.ReferenceIdeal.Gen Cert.ReferenceIdeal.Read

variable (m : (ℓ : Loc nD τ sig) → Buf (Elt Ideal) ℓ) (ρ : Dev nD → PrngReg)

/-- The reference's run: for finite gains its six results are the kernel's array formulas of the arguments. -/
theorem run_ref (hq : ∀ (c : Dev nD) (j : Fin 128), ∃ y : ℝ, gR (m ((c.tc : Thread nD τ).loc main_arg3)) j = (y : EReal))
    (hk : ∀ (c : Dev nD) (j : Fin 128), ∃ y : ℝ, gR (m ((c.tc : Thread nD τ).loc main_arg4)) j = (y : EReal)) :
    θ_run defs (onTc (τ := τ) (main (F := Ideal))) ⟨m, fun _ => 0, ρ⟩ fun r => ∀ c : Dev nD,
      r.2.mem ((c.tc : Thread nD τ).loc main_v178) = dxA (m ((c.tc : Thread nD τ).loc main_arg0)) (val_main_v15 (F := Ideal) (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v179) = dcqA (m ((c.tc : Thread nD τ).loc main_arg0)) (val_main_v15 (F := Ideal) (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v180) = dkvA (m ((c.tc : Thread nD τ).loc main_arg0)) (val_main_v15 (F := Ideal) (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v156) = dgqA (m ((c.tc : Thread nD τ).loc main_arg0)) (val_main_v15 (F := Ideal) (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v133) = dgkA (m ((c.tc : Thread nD τ).loc main_arg0)) (val_main_v15 (F := Ideal) (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v161) = dgxA (m ((c.tc : Thread nD τ).loc main_arg0)) (val_main_v15 (F := Ideal) (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.ReferenceIdeal.Value.run (F := Ideal) m ρ)
  obtain ⟨h0, h1, h2, h3, h4, h5, h⟩ := h c
  refine ⟨(h0.trans (val_main_v178_eq _)).trans ?_, (h1.trans (val_main_v179_eq _)).trans ?_, (h2.trans (val_main_v180_eq _)).trans ?_,
    (h3.trans (val_main_v156_eq _)).trans ?_, (h4.trans (val_main_v133_eq _)).trans ?_, (h5.trans (val_main_v161_eq _)).trans ?_, h⟩
  · funext i
    obtain ⟨a, b, rfl⟩ := exists_ix2 (n := 4096) (m := 1024) i
    exact ref_dx _ _ _ _ _ _ _ _ (hq c) (hk c) a b
  · funext i
    obtain ⟨a, b, rfl⟩ := exists_ix2 (n := 4096) (m := 512) i
    exact ref_dcq _ _ _ _ _ _ _ _ (hq c) (hk c) a b
  · funext i
    obtain ⟨a, b, rfl⟩ := exists_ix2 (n := 512) (m := 1024) i
    obtain ⟨n, a, rfl⟩ := exists_kvrow a
    exact (ref_dkv _ _ _ _ _ _ _ _ (hq c) (hk c) n a b).trans (dkvA_at _ _ _ _ _ _ n a b).symm
  · funext i
    obtain ⟨a, b, rfl⟩ := exists_ix2 (n := 1) (m := 128) i
    obtain rfl : a = 0 := Subsingleton.elim _ _
    exact ref_dgq _ _ _ _ _ _ _ _ (hq c) (hk c) b
  · funext i
    obtain ⟨a, b, rfl⟩ := exists_ix2 (n := 1) (m := 128) i
    obtain rfl : a = 0 := Subsingleton.elim _ _
    exact ref_dgk _ _ _ _ _ _ _ _ (hq c) (hk c) b
  · funext i
    obtain ⟨a, b, rfl⟩ := exists_ix2 (n := 1) (m := 1024) i
    obtain rfl : a = 0 := Subsingleton.elim _ _
    exact ref_dgx _ _ _ _ _ _ _ _ (hq c) (hk c) b

end Ref

/-- The precondition's side condition: a scalar is broadcast to a gain's row. -/
theorem facts_pre : Cert.Pre_gains_finite.Facts := ⟨by decide⟩

/-- For finite gains the kernel's six results are the reference's. -/
theorem algebraic : Cert.algebraic_KernelIdeal_ReferenceIdeal_pre_gains_finite (hPre_gains_finite := facts_pre) := by
  intro m ρ m' ρ' hpre hag
  refine ⟨_, _, _, _, _, _, run m ρ, (θ_run _ _ _).mono (fun r h c => ?_) (run_ref m' ρ' (fun c j => ?_) (fun c j => ?_))⟩
  · obtain ⟨e0, e1, e2, e3, e4, e5, e6, e7⟩ := hag c
    obtain ⟨k0, k1, k2, k3, k4, k5, k⟩ := h c
    rw [e0, e1, e2, e3, e4, e5, e6, e7] at k0
    rw [e0, e1, e2, e3, e4, e5, e6, e7] at k1 k2 k3 k4 k5
    refine ⟨k0.trans ?_, k1.trans ?_, k2.trans ?_, k3.trans ?_, k4.trans ?_, k5.trans ?_, k⟩
    all_goals rw [entry_cq, entry_wco]
    · rw [entry_wcq, Cert.KernelIdeal.Gen.V_main_arg0, Cert.KernelIdeal.Gen.V_main_arg1, Cert.KernelIdeal.Gen.V_main_arg2, Cert.KernelIdeal.Gen.V_main_arg3, Cert.KernelIdeal.Gen.V_main_arg4, Cert.KernelIdeal.Gen.V_main_arg6]
    · rw [Cert.KernelIdeal.Gen.V_main_arg0, Cert.KernelIdeal.Gen.V_main_arg2, Cert.KernelIdeal.Gen.V_main_arg3, Cert.KernelIdeal.Gen.V_main_arg4]
    · rw [Cert.KernelIdeal.Gen.V_main_arg0, Cert.KernelIdeal.Gen.V_main_arg2, Cert.KernelIdeal.Gen.V_main_arg3, Cert.KernelIdeal.Gen.V_main_arg4]
    · rw [Cert.KernelIdeal.Gen.V_main_arg0, Cert.KernelIdeal.Gen.V_main_arg2, Cert.KernelIdeal.Gen.V_main_arg3, Cert.KernelIdeal.Gen.V_main_arg4]
    · rw [Cert.KernelIdeal.Gen.V_main_arg0, Cert.KernelIdeal.Gen.V_main_arg2, Cert.KernelIdeal.Gen.V_main_arg3, Cert.KernelIdeal.Gen.V_main_arg4]
    · rw [entry_wcq, Cert.KernelIdeal.Gen.V_main_arg0, Cert.KernelIdeal.Gen.V_main_arg1, Cert.KernelIdeal.Gen.V_main_arg2, Cert.KernelIdeal.Gen.V_main_arg3, Cert.KernelIdeal.Gen.V_main_arg4]
  · obtain ⟨-, -, -, e3, -⟩ := hag c
    rw [e3]
    exact gain_real _ (fun j => congrFun (hpre c).1 (ix2 0 j)) j
  · obtain ⟨-, -, -, -, e4, -⟩ := hag c
    rw [e4]
    exact gain_real _ (fun j => congrFun (hpre c).2 (ix2 0 j)) j

end Cert.Proof.Xattn

end
-- ==== Proof.Mlp.Block.lean ====
/-
  What one grid point of the MLP's backward kernel writes, from the blocks it reads: the cotangent of the pre-activation for
  its 256 tokens, the cotangent of the residual stream, and what it adds to the gradient of the norm's gain.
-/
module

public import proofs.«01_k».proof.Proof.Gen.MlpKernelIdeal.Value
public import proofs.«01_k».proof.Proof.Reads
public import proofs.«01_k».proof.Proof.Norm

@[expose] public section

set_option maxRecDepth 16384

noncomputable section

namespace Cert.Proof.Mlp

open Cert.MlpKernelIdeal Cert.MlpKernelIdeal.Gen Idealize.ShloMosaic Idealize.ShloMosaic.TcCoe Idealize.SL.Sem Cert.Proof.Reads
open Cert.Proof.Norm

/-- The norm's ε, as its word. -/
abbrev eps : EReal := Ideal.ofBits .f32 0x358637BD#32

/-- The model width, as the word the mean divides by. -/
abbrev wid : EReal := Ideal.ofBits .f32 0x44800000#32

/-- An entry of the pre-activation's cotangent: `(dy·w₂ᵀ)·2·max(u, 0)`. -/
def duE (x0 : Vec Ideal S256x1024 .f32) (x1 : Vec Ideal S256x4096 .f32) (x5 : Vec Ideal S4096x1024 .bf16) (a : Fin 256) (b : Fin 4096) : EReal :=
  (∑ k : Fin 1024, x0 (ix2 a k) * x5 (ix2 b k)) * (Ideal.ofBits .f32 0x40000000#32 * max (x1 (ix2 a b)) 0)

/-- The cotangent of the pre-activation, over the block. -/
def duB (x0 : Vec Ideal S256x1024 .f32) (x1 : Vec Ideal S256x4096 .f32) (x5 : Vec Ideal S4096x1024 .bf16) : Vec Ideal S256x4096 .bf16 :=
  fun y => duE x0 x1 x5 (y 0) (y 1)

/-- The cotangent of the norm's output: `du·w₁ᵀ`. -/
def dhB (x0 : Vec Ideal S256x1024 .f32) (x1 : Vec Ideal S256x4096 .f32) (x4 : Vec Ideal S1024x4096 .bf16) (x5 : Vec Ideal S4096x1024 .bf16)
    (a : Fin 256) (b : Fin 1024) : EReal :=
  ∑ k : Fin 4096, duE x0 x1 x5 a k * x4 (ix2 b k)

/-- The cotangent of the residual stream. -/
def dxB (x0 : Vec Ideal S256x1024 .f32) (x1 : Vec Ideal S256x4096 .f32) (x2 : Vec Ideal S256x1024 .f32) (x3 : Vec Ideal S1x1024 .f32)
    (x4 : Vec Ideal S1024x4096 .bf16) (x5 : Vec Ideal S4096x1024 .bf16) (a : Fin 256) (b : Fin 1024) : EReal :=
  x0 (ix2 a b) + back wid eps (fun k => x2 (ix2 a k)) (fun k => dhB x0 x1 x4 x5 a k * x3 (ix2 0 k)) b

/-- What the block adds to the gradient of the gain. -/
def dgB (x0 : Vec Ideal S256x1024 .f32) (x1 : Vec Ideal S256x4096 .f32) (x2 : Vec Ideal S256x1024 .f32)
    (x4 : Vec Ideal S1024x4096 .bf16) (x5 : Vec Ideal S4096x1024 .bf16) (b : Fin 1024) : EReal :=
  ∑ a : Fin 256, dhB x0 x1 x4 x5 a b * (x2 (ix2 a b) * rinv wid eps (fun k => x2 (ix2 a k)))

section Pieces

variable (x0 : Vec Ideal S256x1024 .f32) (x1 : Vec Ideal S256x4096 .f32) (x5 : Vec Ideal S4096x1024 .bf16)

/-- The first column tile of the pre-activation's cotangent. -/
theorem piece0 (z : S256x1024.Idx) :
    k0_pay7 (View.ld x0 (Rect.unit ![0, 0] S256x1024.size inb_S256x1024_S256x1024_0_0))
      (View.ld x5 (Rect.unit ![0, 0] S1024x1024.size inb_S4096x1024_S1024x1024_0_0))
      (View.ld x1 (Rect.unit ![0, 0] S256x1024.size inb_S256x4096_S256x1024_0_0)) z
      = duB x0 x1 x5 ((Rect.unit (s := S256x4096) ![0, 0] S256x1024.size inb_S256x4096_S256x1024_0_0).emb z) := by
  obtain ⟨a, b, rfl⟩ := exists_ix2 z
  rw [show ∀ h, (Rect.unit (s := S256x4096) ![0, 0] S256x1024.size h).emb (ix2 a b) = ix2 a ⟨0 + b.val, by omega⟩ from fun h => emb_cols h a b (by omega)]
  pointwise [k0_pay7, k0_pay6, duB, duE]

/-- The second column tile. -/
theorem piece1 (z : S256x1024.Idx) :
    k0_pay8 (View.ld x0 (Rect.unit ![0, 0] S256x1024.size inb_S256x1024_S256x1024_0_0))
      (View.ld x5 (Rect.unit ![1024, 0] S1024x1024.size inb_S4096x1024_S1024x1024_1024_0))
      (View.ld x1 (Rect.unit ![0, 1024] S256x1024.size inb_S256x4096_S256x1024_0_1024)) z
      = duB x0 x1 x5 ((Rect.unit (s := S256x4096) ![0, 1024] S256x1024.size inb_S256x4096_S256x1024_0_1024).emb z) := by
  obtain ⟨a, b, rfl⟩ := exists_ix2 z
  rw [show ∀ h, (Rect.unit (s := S256x4096) ![0, 1024] S256x1024.size h).emb (ix2 a b) = ix2 a ⟨1024 + b.val, by omega⟩ from fun h => emb_cols h a b (by omega)]
  pointwise [k0_pay8, k0_pay6, duB, duE]

/-- The third column tile. -/
theorem piece2 (z : S256x1024.Idx) :
    k0_pay10 (k0_pay6 (View.ld x0 (Rect.unit ![0, 0] S256x1024.size inb_S256x1024_S256x1024_0_0)))
      (k0_pay9 (View.ld x5 (Rect.unit ![2048, 0] S1024x1024.size inb_S4096x1024_S1024x1024_2048_0)))
      (constant S256x1024 .f32 0x00000000#32)
      (View.ld x1 (Rect.unit ![0, 2048] S256x1024.size inb_S256x4096_S256x1024_0_2048)) z
      = duB x0 x1 x5 ((Rect.unit (s := S256x4096) ![0, 2048] S256x1024.size inb_S256x4096_S256x1024_0_2048).emb z) := by
  obtain ⟨a, b, rfl⟩ := exists_ix2 z
  rw [show ∀ h, (Rect.unit (s := S256x4096) ![0, 2048] S256x1024.size h).emb (ix2 a b) = ix2 a ⟨2048 + b.val, by omega⟩ from fun h => emb_cols h a b (by omega)]
  pointwise [k0_pay10, k0_pay9, k0_pay6, duB, duE]

/-- The fourth column tile. -/
theorem piece3 (z : S256x1024.Idx) :
    k0_pay11 (k0_pay6 (View.ld x0 (Rect.unit ![0, 0] S256x1024.size inb_S256x1024_S256x1024_0_0)))
      (View.ld x5 (Rect.unit ![3072, 0] S1024x1024.size inb_S4096x1024_S1024x1024_3072_0))
      (View.ld x1 (Rect.unit ![0, 3072] S256x1024.size inb_S256x4096_S256x1024_0_3072)) z
      = duB x0 x1 x5 ((Rect.unit (s := S256x4096) ![0, 3072] S256x1024.size inb_S256x4096_S256x1024_0_3072).emb z) := by
  obtain ⟨a, b, rfl⟩ := exists_ix2 z
  rw [show ∀ h, (Rect.unit (s := S256x4096) ![0, 3072] S256x1024.size h).emb (ix2 a b) = ix2 a ⟨3072 + b.val, by omega⟩ from fun h => emb_cols h a b (by omega)]
  pointwise [k0_pay11, k0_pay6, duB, duE]

end Pieces

section Sums

variable (x0 : Vec Ideal S256x1024 .f32) (x1 : Vec Ideal S256x4096 .f32) (x2 : Vec Ideal S256x1024 .f32) (x3 : Vec Ideal S1x1024 .f32)
  (x4 : Vec Ideal S1024x4096 .bf16) (x5 : Vec Ideal S4096x1024 .bf16)

/-- The residual stream's payload over the cotangent of the pre-activation. -/
theorem pay_dx (a : Fin 256) (b : Fin 1024) :
    k0_pay3 (View.ld x0 (Rect.unit ![0, 0] S256x1024.size inb_S256x1024_S256x1024_0_0))
      (k0_pay12 (View.ld (duB x0 x1 x5) (Rect.unit ![0, 0] S256x4096.size inb_S256x4096_S256x4096_0_0))
        (View.ld x4 (Rect.unit ![0, 0] S1024x4096.size inb_S1024x4096_S1024x4096_0_0)))
      (View.ld x2 (Rect.unit ![0, 0] S256x1024.size inb_S256x1024_S256x1024_0_0))
      (View.ld x3 (Rect.unit ![0, 0] S1x1024.size inb_S1x1024_S1x1024_0_0))
      (k0_pay13 (View.ld x2 (Rect.unit ![0, 0] S256x1024.size inb_S256x1024_S256x1024_0_0)))
      (FloatOps.ofBits .f32 0x44800000#32) (ix2 a b) = dxB x0 x1 x2 x3 x4 x5 a b := by
  pointwise [k0_pay1, k0_pay2, k0_pay3, k0_pay12, k0_pay13, dxB, dhB, duB, back, rinv, ms]

/-- The gain's payload: what was there, and the block's own sum. -/
theorem pay_dg (g : Vec Ideal S1x1024 .f32) (b : Fin 1024) :
    k0_pay4 (k0_pay12 (View.ld (duB x0 x1 x5) (Rect.unit ![0, 0] S256x4096.size inb_S256x4096_S256x4096_0_0))
        (View.ld x4 (Rect.unit ![0, 0] S1024x4096.size inb_S1024x4096_S1024x4096_0_0)))
      (View.ld x2 (Rect.unit ![0, 0] S256x1024.size inb_S256x1024_S256x1024_0_0))
      (k0_pay13 (View.ld x2 (Rect.unit ![0, 0] S256x1024.size inb_S256x1024_S256x1024_0_0)))
      (FloatOps.ofBits .f32 0x44800000#32) g (ix2 0 b) = g (ix2 0 b) + dgB x0 x1 x2 x4 x5 b := by
  pointwise [k0_pay1, k0_pay2, k0_pay4, k0_pay12, k0_pay13, dgB, dhB, duB, rinv, ms]

end Sums

end Cert.Proof.Mlp

end
-- ==== Proof.Mlp.Point.lean ====
/-
  What the MLP's backward kernel leaves in its output blocks at one grid point: the run's stores, read as the block's formulas.
  At the first point the gain's gradient starts from zero; at every later one from what the point before left.
-/
module

public import proofs.«01_k».proof.Proof.Mlp.Block

@[expose] public section

set_option maxRecDepth 16384

noncomputable section

namespace Cert.Proof.Mlp

open Cert.MlpKernelIdeal Cert.MlpKernelIdeal.Gen Idealize.ShloMosaic Idealize.ShloMosaic.TcCoe Idealize.SL.Sem Cert.Proof.Reads

variable (c : Dev nD) (i : grid0.Coords)
  (arg1 : Memref sig .tc .vmem S256x1024 .f32) (harg1 : arg1.IsWhole)
  (arg2 : Memref sig .tc .vmem S256x4096 .f32) (harg2 : arg2.IsWhole)
  (arg3 : Memref sig .tc .vmem S256x1024 .f32) (harg3 : arg3.IsWhole)
  (arg4 : Memref sig .tc .vmem S1x1024 .f32) (harg4 : arg4.IsWhole)
  (arg5 : Memref sig .tc .vmem S1024x4096 .bf16) (harg5 : arg5.IsWhole)
  (arg6 : Memref sig .tc .vmem S4096x1024 .bf16) (harg6 : arg6.IsWhole)
  (arg7 : Memref sig .tc .vmem S256x4096 .bf16) (harg7 : arg7.IsWhole)
  (arg8 : Memref sig .tc .vmem S256x1024 .f32) (harg8 : arg8.IsWhole)
  (arg9 : Memref sig .tc .vmem S1x1024 .f32) (harg9 : arg9.IsWhole)
  (x0 : Vec Ideal S256x1024 .f32) (x1 : Vec Ideal S256x4096 .f32) (x2 : Vec Ideal S256x1024 .f32)
  (x3 : Vec Ideal S1x1024 .f32) (x4 : Vec Ideal S1024x4096 .bf16) (x5 : Vec Ideal S4096x1024 .bf16)

/-- The stores of the pre-activation's cotangent cover the block and agree with its formula (first point). -/
theorem storesA (hc0 : cond0_0 i) :
    ∀ p ∈ (kernelRun0_A (F := Ideal) c i arg1 harg1 arg2 harg2 arg3 harg3 arg4 harg4 arg5 harg5 arg6 harg6 arg7 harg7 arg8 harg8 arg9 harg9 hc0 x0 x1 x2 x3 x4 x5).1,
      ∀ z : p.1.shape.Idx, p.2 z = duB x0 x1 x5 (p.1.emb z) := by
    unfold kernelRun0_A
    dsimp only
    intro p hp
    fin_cases hp <;> intro z <;> dsimp only <;> sl_unfold_run_names <;> simp only [readAt_ld]
    · exact piece3 x0 x1 x5 z
    · exact piece2 x0 x1 x5 z
    · exact piece1 x0 x1 x5 z
    · exact piece0 x0 x1 x5 z

/-- The cotangent of the pre-activation at the first point. -/
theorem outA6 (hc0 : cond0_0 i) :
    out0_A_6 c i arg1 harg1 arg2 harg2 arg3 harg3 arg4 harg4 arg5 harg5 arg6 harg6 arg7 harg7 arg8 harg8 arg9 harg9 hc0 x0 x1 x2 x3 x4 x5 = duB x0 x1 x5 := by
  unfold out0_A_6
  rw [View.read_writes_junk_eq_canon]
  exact canon_eq_of_pieces (duB x0 x1 x5) _ (storesA c i arg1 harg1 arg2 harg2 arg3 harg3 arg4 harg4 arg5 harg5 arg6 harg6 arg7 harg7 arg8 harg8 arg9 harg9 x0 x1 x2 x3 x4 x5 hc0)
    (cover0_A_6 c i arg1 harg1 arg2 harg2 arg3 harg3 arg4 harg4 arg5 harg5 arg6 harg6 arg7 harg7 arg8 harg8 arg9 harg9 hc0 x0 x1 x2 x3 x4 x5)

/-- The cotangent of the residual stream at the first point. -/
theorem outA7 (hc0 : cond0_0 i) (a : Fin 256) (b : Fin 1024) :
    out0_A_7 c i arg1 harg1 arg2 harg2 arg3 harg3 arg4 harg4 arg5 harg5 arg6 harg6 arg7 harg7 arg8 harg8 arg9 harg9 hc0 x0 x1 x2 x3 x4 x5 (ix2 a b)
      = dxB x0 x1 x2 x3 x4 x5 a b := by
  unfold out0_A_7
  rw [View.read_writes_junk_eq_canon]
  have hst := storesA c i arg1 harg1 arg2 harg2 arg3 harg3 arg4 harg4 arg5 harg5 arg6 harg6 arg7 harg7 arg8 harg8 arg9 harg9 x0 x1 x2 x3 x4 x5 hc0
  have hcov := cover0_A_6 (F := Ideal) c i arg1 harg1 arg2 harg2 arg3 harg3 arg4 harg4 arg5 harg5 arg6 harg6 arg7 harg7 arg8 harg8 arg9 harg9 hc0 x0 x1 x2 x3 x4 x5
  revert hst hcov
  unfold kernelRun0_A
  dsimp only
  rw [View.canon_unit_zero (by funext j; fin_cases j <;> rfl)]
  sl_unfold_run_names
  simp only [readAt_ld]
  intro hst hcov
  rw [readCov_eq_of_pieces _ (duB x0 x1 x5) _ hst hcov]
  exact pay_dx x0 x1 x2 x3 x4 x5 a b

/-- The gain's gradient at the first point. -/
theorem outA8 (hc0 : cond0_0 i) (b : Fin 1024) :
    out0_A_8 c i arg1 harg1 arg2 harg2 arg3 harg3 arg4 harg4 arg5 harg5 arg6 harg6 arg7 harg7 arg8 harg8 arg9 harg9 hc0 x0 x1 x2 x3 x4 x5 (ix2 0 b)
      = dgB x0 x1 x2 x4 x5 b := by
  unfold out0_A_8
  rw [View.read_writes_junk_eq_canon]
  have hst := storesA c i arg1 harg1 arg2 harg2 arg3 harg3 arg4 harg4 arg5 harg5 arg6 harg6 arg7 harg7 arg8 harg8 arg9 harg9 x0 x1 x2 x3 x4 x5 hc0
  have hcov := cover0_A_6 (F := Ideal) c i arg1 harg1 arg2 harg2 arg3 harg3 arg4 harg4 arg5 harg5 arg6 harg6 arg7 harg7 arg8 harg8 arg9 harg9 hc0 x0 x1 x2 x3 x4 x5
  revert hst hcov
  unfold kernelRun0_A
  dsimp only
  rw [View.canon_cons_unit_zero (by funext j; fin_cases j <;> rfl)]
  sl_unfold_run_names
  simp only [readAt_ld]
  intro hst hcov
  rw [readCov_eq_of_pieces _ (duB x0 x1 x5) _ hst hcov, pay_dg x0 x1 x2 x4 x5 _ b]
  refine (congrArg (· + _) (congrFun (View.readCov_unit_zero (Val := Elt Ideal) arg9.view (by funext j; fin_cases j <;> rfl) _ _) _)).trans ?_
  pointwise [k0_pay5]

/-- The stores of the pre-activation's cotangent cover the block and agree with its formula (later point). -/
theorem storesB (hc0 : ¬cond0_0 i) (xo8 : Vec Ideal S1x1024 .f32) :
    ∀ p ∈ (kernelRun0_B (F := Ideal) c i arg1 harg1 arg2 harg2 arg3 harg3 arg4 harg4 arg5 harg5 arg6 harg6 arg7 harg7 arg8 harg8 arg9 harg9 hc0 x0 x1 x2 x3 x4 x5 xo8).1,
      ∀ z : p.1.shape.Idx, p.2 z = duB x0 x1 x5 (p.1.emb z) := by
    unfold kernelRun0_B
    dsimp only
    intro p hp
    fin_cases hp <;> intro z <;> dsimp only <;> sl_unfold_run_names <;> simp only [readAt_ld]
    · exact piece3 x0 x1 x5 z
    · exact piece2 x0 x1 x5 z
    · exact piece1 x0 x1 x5 z
    · exact piece0 x0 x1 x5 z

/-- The cotangent of the pre-activation at the later point. -/
theorem outB6 (hc0 : ¬cond0_0 i) (xo8 : Vec Ideal S1x1024 .f32) :
    out0_B_6 c i arg1 harg1 arg2 harg2 arg3 harg3 arg4 harg4 arg5 harg5 arg6 harg6 arg7 harg7 arg8 harg8 arg9 harg9 hc0 x0 x1 x2 x3 x4 x5 xo8 = duB x0 x1 x5 := by
  unfold out0_B_6
  rw [View.read_writes_junk_eq_canon]
  exact canon_eq_of_pieces (duB x0 x1 x5) _ (storesB c i arg1 harg1 arg2 harg2 arg3 harg3 arg4 harg4 arg5 harg5 arg6 harg6 arg7 harg7 arg8 harg8 arg9 harg9 x0 x1 x2 x3 x4 x5 hc0 xo8)
    (cover0_B_6 c i arg1 harg1 arg2 harg2 arg3 harg3 arg4 harg4 arg5 harg5 arg6 harg6 arg7 harg7 arg8 harg8 arg9 harg9 hc0 x0 x1 x2 x3 x4 x5 xo8)

/-- The cotangent of the residual stream at the later point. -/
theorem outB7 (hc0 : ¬cond0_0 i) (xo8 : Vec Ideal S1x1024 .f32) (a : Fin 256) (b : Fin 1024) :
    out0_B_7 c i arg1 harg1 arg2 harg2 arg3 harg3 arg4 harg4 arg5 harg5 arg6 harg6 arg7 harg7 arg8 harg8 arg9 harg9 hc0 x0 x1 x2 x3 x4 x5 xo8 (ix2 a b)
      = dxB x0 x1 x2 x3 x4 x5 a b := by
  unfold out0_B_7
  rw [View.read_writes_junk_eq_canon]
  have hst := storesB c i arg1 harg1 arg2 harg2 arg3 harg3 arg4 harg4 arg5 harg5 arg6 harg6 arg7 harg7 arg8 harg8 arg9 harg9 x0 x1 x2 x3 x4 x5 hc0 xo8
  have hcov := cover0_B_6 (F := Ideal) c i arg1 harg1 arg2 harg2 arg3 harg3 arg4 harg4 arg5 harg5 arg6 harg6 arg7 harg7 arg8 harg8 arg9 harg9 hc0 x0 x1 x2 x3 x4 x5 xo8
  revert hst hcov
  unfold kernelRun0_B
  dsimp only
  rw [View.canon_unit_zero (by funext j; fin_cases j <;> rfl)]
  sl_unfold_run_names
  simp only [readAt_ld]
  intro hst hcov
  rw [readCov_eq_of_pieces _ (duB x0 x1 x5) _ hst hcov]
  exact pay_dx x0 x1 x2 x3 x4 x5 a b

/-- The gain's gradient at the later point. -/
theorem outB8 (hc0 : ¬cond0_0 i) (xo8 : Vec Ideal S1x1024 .f32) (b : Fin 1024) :
    out0_B_8 c i arg1 harg1 arg2 harg2 arg3 harg3 arg4 harg4 arg5 harg5 arg6 harg6 arg7 harg7 arg8 harg8 arg9 harg9 hc0 x0 x1 x2 x3 x4 x5 xo8 (ix2 0 b)
      = xo8 (ix2 0 b) + dgB x0 x1 x2 x4 x5 b := by
  unfold out0_B_8
  rw [View.read_writes_junk_eq_canon]
  have hst := storesB c i arg1 harg1 arg2 harg2 arg3 harg3 arg4 harg4 arg5 harg5 arg6 harg6 arg7 harg7 arg8 harg8 arg9 harg9 x0 x1 x2 x3 x4 x5 hc0 xo8
  have hcov := cover0_B_6 (F := Ideal) c i arg1 harg1 arg2 harg2 arg3 harg3 arg4 harg4 arg5 harg5 arg6 harg6 arg7 harg7 arg8 harg8 arg9 harg9 hc0 x0 x1 x2 x3 x4 x5 xo8
  revert hst hcov
  unfold kernelRun0_B
  dsimp only
  rw [View.canon_unit_zero (by funext j; fin_cases j <;> rfl)]
  sl_unfold_run_names
  simp only [readAt_ld]
  intro hst hcov
  rw [readCov_eq_of_pieces _ (duB x0 x1 x5) _ hst hcov, pay_dg x0 x1 x2 x4 x5 _ b]
  rw [View.ld_unit_zero (by funext j; fin_cases j <;> rfl)]

end Cert.Proof.Mlp

end
-- ==== Proof.Mlp.Arrays.lean ====
/-
  What the MLP's backward kernel leaves in its three result arrays, as formulas of the arrays at the launch: block by block for
  the two token-wise results, and the sum over the sixteen blocks for the gain's gradient.
-/
module

public import proofs.«01_k».proof.Proof.Mlp.Point
public import proofs.«01_k».proof.Proof.Gen.MlpReferenceIdeal.Read
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Cert.Proof.Mlp

open Cert.MlpKernelIdeal Cert.MlpKernelIdeal.Gen Idealize.ShloMosaic Idealize.ShloMosaic.TcCoe Idealize.SL.Sem Cert.Proof.Reads
open Cert.Proof.Norm

section Formulas

variable (dy : Vec Ideal S4096x1024 .f32) (u : Vec Ideal S4096x4096 .f32) (x : Vec Ideal S4096x1024 .f32) (g : Vec Ideal S1x1024 .f32)
  (w1 : Vec Ideal S1024x4096 .bf16) (w2 : Vec Ideal S4096x1024 .bf16)

/-- An entry of the pre-activation's cotangent. -/
def duR (a b : Fin 4096) : EReal :=
  (∑ k : Fin 1024, dy (ix2 a k) * w2 (ix2 b k)) * (Ideal.ofBits .f32 0x40000000#32 * max (u (ix2 a b)) 0)

/-- The cotangent of the pre-activation, over the whole array. -/
def duA : Vec Ideal S4096x4096 .bf16 := fun i => duR dy u w2 (i 0) (i 1)

/-- The cotangent of the norm's output at a token. -/
def dhA (r : Fin 4096) (b : Fin 1024) : EReal := ∑ k : Fin 4096, duR dy u w2 r k * w1 (ix2 b k)

/-- The cotangent of the residual stream, over the whole array. -/
def dxA : Vec Ideal S4096x1024 .f32 :=
  fun i => dy i + back wid eps (fun k => x (ix2 (i 0) k)) (fun k => dhA dy u w1 w2 (i 0) k * g (ix2 0 k)) (i 1)

/-- What a token adds to the gradient of the gain. -/
def dgR (b : Fin 1024) (r : Fin 4096) : EReal := dhA dy u w1 w2 r b * (x (ix2 r b) * rinv wid eps (fun k => x (ix2 r k)))

/-- The gradient of the gain. -/
def dgA : Vec Ideal S1x1024 .f32 := fun i => ∑ r : Fin 4096, dgR dy u x w1 w2 (i 1) r

end Formulas

variable (m : (ℓ : Loc nD τ sig) → Buf (Elt Ideal) ℓ) (ρ : Dev nD → PrngReg) (c : Dev nD)

/-- A row of block `t` is a row of the array. -/
def row (t : Fin cfg0.N) (a : Fin 256) : Fin 4096 := ⟨t.val * 256 + a.val, by have := t.isLt; have : cfg0.N = 16 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])

/-- The block of the output cotangent. -/
theorem blk0 (t : Fin cfg0.N) (a : Fin 256) (b : Fin 1024) : iblk m c 0 t (ix2 a b) = V m c main_arg0 (ix2 (row t a) b) := by
  blk_simp [iblk]
  exact congrArg (V m c main_arg0) (by blk_ext [index0, row])

/-- The block of the pre-activation. -/
theorem blk1 (t : Fin cfg0.N) (a : Fin 256) (b : Fin 4096) : iblk m c 1 t (ix2 a b) = V m c main_v12 (ix2 (row t a) b) := by
  blk_simp [iblk]
  exact congrArg (V m c main_v12) (by blk_ext [index1, row])

/-- The block of the residual stream. -/
theorem blk2 (t : Fin cfg0.N) (a : Fin 256) (b : Fin 1024) : iblk m c 2 t (ix2 a b) = V m c main_arg1 (ix2 (row t a) b) := by
  blk_simp [iblk]
  exact congrArg (V m c main_arg1) (by blk_ext [index2, row])

/-- The gain, whole at every point. -/
theorem blk3 (t : Fin cfg0.N) (a : Fin 1) (b : Fin 1024) : iblk m c 3 t (ix2 a b) = V m c main_arg2 (ix2 a b) := by
  blk_simp [iblk]
  exact congrArg (V m c main_arg2) (by blk_ext [index3])

/-- The first weight, whole at every point. -/
theorem blk4 (t : Fin cfg0.N) (a : Fin 1024) (b : Fin 4096) : iblk m c 4 t (ix2 a b) = V m c main_v13 (ix2 a b) := by
  blk_simp [iblk]
  exact congrArg (V m c main_v13) (by blk_ext [index4])

/-- The second weight, whole at every point. -/
theorem blk5 (t : Fin cfg0.N) (a : Fin 4096) (b : Fin 1024) : iblk m c 5 t (ix2 a b) = V m c main_v14 (ix2 a b) := by
  blk_simp [iblk]
  exact congrArg (V m c main_v14) (by blk_ext [index5])

/-- The block formulas at point `t` are the array formulas at the block's rows. -/
theorem duE_blk (t : Fin cfg0.N) (a : Fin 256) (b : Fin 4096) :
    duE (iblk m c 0 t) (iblk m c 1 t) (iblk m c 5 t) a b = duR (V m c main_arg0) (V m c main_v12) (V m c main_v14) (row t a) b := by
  unfold duE duR
  simp only [blk0, blk1, blk5]

/-- The cotangent of the norm's output. -/
theorem dhB_blk (t : Fin cfg0.N) (a : Fin 256) (b : Fin 1024) :
    dhB (iblk m c 0 t) (iblk m c 1 t) (iblk m c 4 t) (iblk m c 5 t) a b
      = dhA (V m c main_arg0) (V m c main_v12) (V m c main_v13) (V m c main_v14) (row t a) b := by
  unfold dhB dhA
  simp only [duE_blk, blk4]

/-- The cotangent of the residual stream. -/
theorem dxB_blk (t : Fin cfg0.N) (a : Fin 256) (b : Fin 1024) :
    dxB (iblk m c 0 t) (iblk m c 1 t) (iblk m c 2 t) (iblk m c 3 t) (iblk m c 4 t) (iblk m c 5 t) a b
      = dxA (V m c main_arg0) (V m c main_v12) (V m c main_arg1) (V m c main_arg2) (V m c main_v13) (V m c main_v14) (ix2 (row t a) b) := by
  unfold dxB
  simp only [dhB_blk, blk0, blk2, blk3]
  rfl

/-- What block `t` adds to the gain's gradient. -/
theorem dgB_blk (t : Fin cfg0.N) (b : Fin 1024) :
    dgB (iblk m c 0 t) (iblk m c 1 t) (iblk m c 2 t) (iblk m c 4 t) (iblk m c 5 t) b
      = ∑ a : Fin 256, dgR (V m c main_arg0) (V m c main_v12) (V m c main_arg1) (V m c main_v13) (V m c main_v14) b (row t a) := by
  unfold dgB dgR
  simp only [dhB_blk, blk2]

/-- The first result array: the cotangent of the pre-activation. -/
theorem array6 : (dats m 0 c).arrAt 6 cfg0.N = duA (V m c main_arg0) (V m c main_v12) (V m c main_v14) := by
  refine (dats m 0 c).arrAt_eq_of_covers 6 _ (by decide +kernel) fun t hf y => ?_
  blk_simp
  rw [after0_6]
  obtain ⟨a, b, rfl⟩ := exists_ix2 (n := 256) (m := 4096) y
  refine Eq.trans (b := duB (iblk m c 0 t) (iblk m c 1 t) (iblk m c 5 t) (ix2 a b)) ?_ ?_
  · by_cases h : t.val % 16 = 0
    · rw [outsAt0_A m c t h]; dsimp only; rw [outA6]
    · rw [outsAt0_B m c t h]; dsimp only; rw [outB6]
  · refine (duE_blk m c t a b).trans (Eq.trans (b := duA (V m c main_arg0) (V m c main_v12) (V m c main_v14) (ix2 (row t a) b)) rfl ?_)
    exact congrArg (duA (V m c main_arg0) (V m c main_v12) (V m c main_v14)) (by blk_ext [index6, row])

/-- The second result array: the cotangent of the residual stream. -/
theorem array7 : (dats m 0 c).arrAt 7 cfg0.N
    = dxA (V m c main_arg0) (V m c main_v12) (V m c main_arg1) (V m c main_arg2) (V m c main_v13) (V m c main_v14) := by
  refine (dats m 0 c).arrAt_eq_of_covers 7 _ (by decide +kernel) fun t hf y => ?_
  blk_simp
  rw [after0_7]
  obtain ⟨a, b, rfl⟩ := exists_ix2 (n := 256) (m := 1024) y
  refine Eq.trans (b := dxB (iblk m c 0 t) (iblk m c 1 t) (iblk m c 2 t) (iblk m c 3 t) (iblk m c 4 t) (iblk m c 5 t) a b) ?_ ?_
  · by_cases h : t.val % 16 = 0
    · rw [outsAt0_A m c t h]; dsimp only; rw [outA7]
    · rw [outsAt0_B m c t h]; dsimp only; rw [outB7]
  · rw [dxB_blk]
    exact congrArg (dxA _ _ _ _ _ _) (by blk_ext [index7, row])

/-- The third result array: the gain's gradient, summed over the blocks and within them. -/
theorem array8 : (dats m 0 c).arrAt 8 cfg0.N
    = dgA (V m c main_arg0) (V m c main_v12) (V m c main_arg1) (V m c main_v13) (V m c main_v14) := by
  refine (dats m 0 c).arrAt_eq_of_after_last 8 ⟨15, by decide⟩ (by decide +kernel) _ fun y => ?_
  obtain ⟨a, b, rfl⟩ := exists_ix2 (n := 1) (m := 1024) y
  obtain rfl : a = 0 := Subsingleton.elim _ _
  refine (congrFun (after0_8 m c ⟨15, by decide⟩) (ix2 0 b)).trans ?_
  refine (Pipeline.eq_sum_fin_of_reset_step_last (fun n h => (outsAt0 m c n h).2.2 (ix2 0 b)) 16 0
    (fun t => dgB (iblk m c 0 t) (iblk m c 1 t) (iblk m c 2 t) (iblk m c 4 t) (iblk m c 5 t) b)
    (fun t h => ?_) (fun t h => ?_) (by decide) ⟨15, by decide⟩ (by decide)).trans ?_
  · rw [outsAt0_A m c t h]; dsimp only; rw [outA8, zero_add]
  · rw [outsAt0_B m c t h]; dsimp only; rw [outB8]
  · simp only [dgB_blk, zero_add]
    exact Fin.sum_mul_add_fin 16 256
      (dgR (V m c main_arg0) (V m c main_v12) (V m c main_arg1) (V m c main_v13) (V m c main_v14) b)

/-- The three result arrays as functions of the launch's arguments, and the arguments unchanged. -/
theorem run : θ_run defs (onTc (τ := τ) (main (F := Ideal))) ⟨m, fun _ => 0, ρ⟩ fun r => ∀ c : Dev nD,
      r.2.mem ((c : Thread nD τ).loc main_v15_0) = duA (V m c main_arg0) (V m c main_v12) (V m c main_v14)
      ∧ r.2.mem ((c : Thread nD τ).loc main_v15_1)
        = dxA (V m c main_arg0) (V m c main_v12) (V m c main_arg1) (V m c main_arg2) (V m c main_v13) (V m c main_v14)
      ∧ r.2.mem ((c : Thread nD τ).loc main_v15_2)
        = dgA (V m c main_arg0) (V m c main_v12) (V m c main_arg1) (V m c main_v13) (V m c main_v14)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Value.run_blocks (F := Ideal) m ρ)
  exact ⟨(h c).1.trans (array6 m c), (h c).2.1.trans (array7 m c), (h c).2.2.1.trans (array8 m c), (h c).2.2.2⟩

/-- The pre-activation the host computes is the reference's. -/
theorem entry_u : V m c main_v12 = Cert.MlpReferenceIdeal.Read.val_main_v15 (F := Ideal)
    (m ((c : Thread nD τ).loc main_arg1)) (m ((c : Thread nD τ).loc main_arg2)) (m ((c : Thread nD τ).loc main_arg3)) := by
  entry_read
  rfl

/-- The weights' casts change nothing over the reals. -/
theorem entry_w1 : V m c main_v13 = m ((c : Thread nD τ).loc main_arg3) := by
  entry_read
  rfl

theorem entry_w2 : V m c main_v14 = m ((c : Thread nD τ).loc main_arg4) := by
  entry_read
  rfl

end Cert.Proof.Mlp

end
-- ==== Proof.Mlp.Ref.lean ====
/-
  What the MLP's reference computes, at an index: its three results are the kernel's array formulas. The norm's cotangent is
  where the two differ in form (`Norm.back_eq`), and the square's, where the reference selects by the pre-activation's sign.
-/
module

public import proofs.«01_k».proof.Proof.Mlp.Arrays

@[expose] public section

set_option maxRecDepth 16384

noncomputable section

namespace Cert.Proof.Mlp

open Cert.MlpReferenceIdeal Cert.MlpReferenceIdeal.Gen Cert.MlpReferenceIdeal.Read
open Idealize.ShloMosaic Idealize.ShloMosaic.TcCoe Idealize.SL.Sem Cert.Proof.Reads Cert.Proof.Norm

variable (dy x : Vec Ideal S4096x1024 .f32) (g : Vec Ideal S1x1024 .f32) (w1 : Vec Ideal S1024x4096 .f32) (w2 : Vec Ideal S4096x1024 .f32)

/-- The cotangent of the pre-activation. -/
theorem ref_du (a b : Fin 4096) : val_main_v27 (F := Ideal) dy x g w1 w2 (ix2 a b)
    = duR dy (val_main_v15 (F := Ideal) x g w1) w2 a b := by
  rw [val_main_v27_apply]
  simp only [val_main_v18_apply, val_main_v25_apply, val_main_v24_apply, val_main_v22_apply, val_main_v21_apply, val_main_v26_apply,
    val_main_v17_apply, val_main_v16_apply, val_main_call0_v0_apply, val_main_call0_cst_apply, val_main_cst_3_apply, val_main_cst_5_apply,
    val_main_cst_6_apply,
    show ∀ k, lidx_main_v24 (ix2 a b) k = ix2 a k from fun k => by funext j; fin_cases j <;> rfl,
    show ∀ k, ridx_main_v24 (ix2 a b) k = ix2 b k from fun k => by funext j; fin_cases j <;> rfl]
  generalize val_main_v15 (F := Ideal) x g w1 = u
  pointwise [duR]
  by_cases h : 0 < u (ix2 a b)
  · simp [h, Scalar.select]
  · simp [h, Scalar.select, max_eq_right (not_lt.mp h)]

/-- The cotangent of the norm's output. -/
theorem ref_dh (a : Fin 4096) (b : Fin 1024) : val_main_v28 (F := Ideal) dy x g w1 w2 (ix2 a b)
    = dhA dy (val_main_v15 (F := Ideal) x g w1) w1 w2 a b := by
  rw [val_main_v28_apply]
  simp only [show ∀ k, lidx_main_v28 (ix2 a b) k = ix2 a k from fun k => by funext j; fin_cases j <;> rfl,
    show ∀ k, ridx_main_v28 (ix2 a b) k = ix2 b k from fun k => by funext j; fin_cases j <;> rfl, ref_du]
  rfl

/-- The reciprocal root of the mean square. -/
theorem ref_rinv (a : Fin 4096) (z : Fin 1) : val_main_v7 (F := Ideal) x (ix2 a z) = rinv wid eps (fun k => x (ix2 a k)) := by
  rw [val_main_v7_apply]
  simp only [val_main_v6_apply, val_main_v5_apply, val_main_v4_apply, val_main_v3_apply, val_main_v2_apply, val_main_v1_apply,
    val_main_v0_apply, val_main_cst_apply, val_main_cst_0_apply, val_main_cst_1_apply,
    show ∀ k, idx_main_v1 (idx_main_v2 (ix2 a z)) k = ix2 a k from fun k => by funext j; fin_cases j <;> rfl]
  pointwise [rinv, ms]

/-- The reciprocal root over the mean square itself. -/
theorem ref_div (a : Fin 4096) (z : Fin 1) : val_main_v8 (F := Ideal) x (ix2 a z)
    = Ideal.div (rinv wid eps (fun k => x (ix2 a k))) (ms wid eps (fun k => x (ix2 a k))) := by
  rw [val_main_v8_apply, ref_rinv]
  simp only [val_main_v6_apply, val_main_v5_apply, val_main_v4_apply, val_main_v3_apply, val_main_v2_apply, val_main_v1_apply,
    val_main_v0_apply, val_main_cst_apply, val_main_cst_0_apply, val_main_cst_1_apply,
    show ∀ k, idx_main_v1 (idx_main_v2 (ix2 a z)) k = ix2 a k from fun k => by funext j; fin_cases j <;> rfl]
  pointwise [rinv, ms]

/-- The gain's gradient. -/
theorem ref_dg (b : Fin 1024) : val_main_v31 (F := Ideal) dy x g w1 w2 (ix2 0 b)
    = ∑ r : Fin 4096, dgR dy (val_main_v15 (F := Ideal) x g w1) x w1 w2 b r := by
  rw [val_main_v31_apply]
  simp only [val_main_v30_apply, val_main_v29_apply, val_main_v12_apply, val_main_v11_apply, val_main_cst_7_apply,
    show ∀ k, idx_main_v30 (idx_main_v31 (ix2 0 b)) k = ix2 k b from fun k => by
      funext j; apply Fin.ext; fin_cases j <;> simp <;> omega,
    show ∀ k, idx_main_v11 (ix2 k b) = ix2 k 0 from fun k => by funext j; fin_cases j <;> rfl, ref_dh, ref_rinv]
  pointwise [dgR]
  exact Finset.sum_congr rfl fun k _ => mul_comm _ _

/-- The cotangent of the scaled rows. -/
theorem ref_a (a : Fin 4096) (b : Fin 1024) : val_main_v33 (F := Ideal) dy x g w1 w2 (ix2 a b)
    = dhA dy (val_main_v15 (F := Ideal) x g w1) w1 w2 a b * g (ix2 0 b) := by
  rw [val_main_v33_apply]
  simp only [val_main_v32_apply, ref_dh,
    show idx_main_v32 (ix2 a b) = ix2 0 b from by funext j; fin_cases j <;> rfl]
  rfl

/-- The factor of the row in the norm's cotangent. -/
theorem ref_d (a : Fin 4096) (b : Fin 1024) : val_main_v43 (F := Ideal) dy x g w1 w2 (ix2 a b)
    = Ideal.div ((∑ k : Fin 1024, x (ix2 a k) * (dhA dy (val_main_v15 (F := Ideal) x g w1) w1 w2 a k * g (ix2 0 k)))
        * (((-(1 / 2) : ℝ) : EReal) * Ideal.div (rinv wid eps (fun k => x (ix2 a k))) (ms wid eps (fun k => x (ix2 a k))))) wid := by
  rw [val_main_v43_apply]
  simp only [val_main_v42_apply, val_main_v41_apply, val_main_v40_apply, val_main_v39_apply, val_main_v36_apply,
    val_main_v35_apply, val_main_v34_apply, val_main_v10_apply, val_main_v9_apply, val_main_cst_8_apply, val_main_cst_9_apply,
    val_main_cst_10_apply, val_main_cst_2_apply,
    show ∀ k, idx_main_v42 (idx_main_v43 (ix2 a b)) k = ix2 a 0 from fun k => by
      obtain rfl : k = 0 := Subsingleton.elim _ _
      funext j; fin_cases j <;> rfl,
    show ∀ k, idx_main_v35 (idx_main_v36 (ix2 a 0)) k = ix2 a k from fun k => by
      funext j; apply Fin.ext; fin_cases j <;> simp,
    ref_a, ref_div]
  pointwise
  rw [ofBits_neg_half]
  simp

/-- The cotangent of the residual stream. -/
theorem ref_dx (a : Fin 4096) (b : Fin 1024) : val_main_v49 (F := Ideal) dy x g w1 w2 (ix2 a b)
    = dxA dy (val_main_v15 (F := Ideal) x g w1) x g w1 w2 (ix2 a b) := by
  obtain ⟨e, he, hw⟩ := ofBits_eps
  rw [val_main_v49_apply]
  simp only [val_main_v47_apply, val_main_v46_apply, val_main_v45_apply, val_main_v44_apply, val_main_v38_apply, val_main_v37_apply,
    show idx_main_v37 (ix2 a b) = ix2 a 0 from by funext j; fin_cases j <;> rfl, ref_a, ref_d, ref_rinv]
  unfold dxA
  refine congrArg (dy (ix2 a b) + ·) ?_
  unfold eps wid
  rw [hw, ofBits_1024]
  exact (back_eq (by norm_num) he (fun k => x (ix2 a k))
    (fun k => dhA dy (val_main_v15 (F := Ideal) x g w1) w1 w2 a k * g (ix2 0 k)) b).symm

end Cert.Proof.Mlp

end
-- ==== Proof.Mlp.Claim.lean ====
/-
  The MLP's claims: the kernel's three results are the reference's, over the reals, and the frames of the two programs.
-/
module

public import proofs.«01_k».proof.Defs
public import proofs.«01_k».proof.Proof.Mlp.Ref

@[expose] public section

set_option maxRecDepth 16384

noncomputable section

namespace Cert.Proof.Mlp

open Idealize.ShloMosaic Idealize.ShloMosaic.TcCoe Idealize.SL.Sem Cert.Proof.Reads

section Ref

open Cert.MlpReferenceIdeal Cert.MlpReferenceIdeal.Gen Cert.MlpReferenceIdeal.Read

variable (m : (ℓ : Loc nD τ sig) → Buf (Elt Ideal) ℓ) (ρ : Dev nD → PrngReg)

/-- The reference's run: its three results are the kernel's array formulas of the arguments. -/
theorem run_ref : θ_run defs (onTc (τ := τ) (main (F := Ideal))) ⟨m, fun _ => 0, ρ⟩ fun r => ∀ c : Dev nD,
      r.2.mem ((c.tc : Thread nD τ).loc main_v48) = duA (m ((c.tc : Thread nD τ).loc main_arg0))
        (val_main_v15 (F := Ideal) (m ((c.tc : Thread nD τ).loc main_arg1)) (m ((c.tc : Thread nD τ).loc main_arg2)) (m ((c.tc : Thread nD τ).loc main_arg3)))
        (m ((c.tc : Thread nD τ).loc main_arg4))
      ∧ r.2.mem ((c.tc : Thread nD τ).loc main_v49) = dxA (m ((c.tc : Thread nD τ).loc main_arg0))
        (val_main_v15 (F := Ideal) (m ((c.tc : Thread nD τ).loc main_arg1)) (m ((c.tc : Thread nD τ).loc main_arg2)) (m ((c.tc : Thread nD τ).loc main_arg3)))
        (m ((c.tc : Thread nD τ).loc main_arg1)) (m ((c.tc : Thread nD τ).loc main_arg2)) (m ((c.tc : Thread nD τ).loc main_arg3))
        (m ((c.tc : Thread nD τ).loc main_arg4))
      ∧ r.2.mem ((c.tc : Thread nD τ).loc main_v31) = dgA (m ((c.tc : Thread nD τ).loc main_arg0))
        (val_main_v15 (F := Ideal) (m ((c.tc : Thread nD τ).loc main_arg1)) (m ((c.tc : Thread nD τ).loc main_arg2)) (m ((c.tc : Thread nD τ).loc main_arg3)))
        (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.MlpReferenceIdeal.Value.run (F := Ideal) m ρ)
  refine ⟨((h c).1.trans (val_main_v48_eq _ _ _ _ _)).trans ?_, ((h c).2.1.trans (val_main_v49_eq m c)).trans ?_,
    ((h c).2.2.1.trans (val_main_v31_eq _ _ _ _ _)).trans ?_, (h c).2.2.2⟩
  · funext i
    obtain ⟨a, b, rfl⟩ := exists_ix2 (n := 4096) (m := 4096) i
    exact ref_du _ _ _ _ _ a b
  · funext i
    obtain ⟨a, b, rfl⟩ := exists_ix2 (n := 4096) (m := 1024) i
    exact ref_dx _ _ _ _ _ a b
  · funext i
    obtain ⟨a, b, rfl⟩ := exists_ix2 (n := 1) (m := 1024) i
    obtain rfl : a = 0 := Subsingleton.elim _ _
    exact ref_dg _ _ _ _ _ b

end Ref

/-- The kernel's three results are the reference's. -/
theorem algebraic : Cert.algebraic_MlpKernelIdeal_MlpReferenceIdeal := by
  intro m ρ m' ρ' _ hag
  refine ⟨_, _, _, run m ρ, (θ_run _ _ _).mono (fun r h c => ?_) (run_ref m' ρ')⟩
  obtain ⟨h0, h1, h2, h3, h4⟩ := hag c
  obtain ⟨k0, k1, k2, k⟩ := h c
  rw [h0, h1, h2, h3, h4] at k0 k1
  rw [h0, h1, h2, h3, h4] at k2
  refine ⟨k0.trans ?_, k1.trans ?_, k2.trans ?_, k⟩
  · rw [entry_u, entry_w2, Cert.MlpKernelIdeal.Gen.V_main_arg0]
  · rw [entry_u, entry_w1, entry_w2, Cert.MlpKernelIdeal.Gen.V_main_arg0, Cert.MlpKernelIdeal.Gen.V_main_arg1, Cert.MlpKernelIdeal.Gen.V_main_arg2]
  · rw [entry_u, entry_w1, entry_w2, Cert.MlpKernelIdeal.Gen.V_main_arg0, Cert.MlpKernelIdeal.Gen.V_main_arg1]

/-- The reference's frame. -/
theorem frame_ref : Cert.quiescent_MlpReferenceIdeal := fun m ρ _ =>
  (θ_run Cert.MlpReferenceIdeal.defs _ _).mono (fun r h => ⟨fun c => (h c).2.2.2,
    Idealize.ShloMosaic.sem_eq_zero_of_no_sems (by decide) r.2⟩) (run_ref m ρ)

end Cert.Proof.Mlp

end
-- ==== Proof.Index.lean ====
/-
  Indices of three-axis blocks by their coordinates.
-/
module

public import Idealize.ShloMosaic.Lib.Pointwise

@[expose] public section

namespace Cert.Proof.Reads

open Idealize.ShloMosaic

/-- An index of a three-axis block by its coordinates. -/
theorem exists_ix3 {n m l : ℕ} (z : (⟨3, ![n, m, l]⟩ : Shape).Idx) : ∃ (a : Fin n) (b : Fin m) (d : Fin l), z = ix3 a b d :=
  ⟨z 0, z 1, z 2, by funext j; fin_cases j <;> rfl⟩

end Cert.Proof.Reads
-- ==== Proof.Fwd.Block.lean ====
/-
  What one grid point of the MLP's forward kernel writes, from the blocks it reads: the pre-activation and the activations of
  its 256 tokens, the loss's cotangent at the step's output, and the tokens' share of the loss.
-/
module

public import proofs.«01_k».proof.Proof.Gen.FwdKernelIdeal.Value
public import proofs.«01_k».proof.Proof.Reads
public import proofs.«01_k».proof.Proof.Index

@[expose] public section

set_option maxRecDepth 16384

noncomputable section

namespace Cert.Proof.Fwd

open Cert.FwdKernelIdeal Cert.FwdKernelIdeal.Gen Idealize.ShloMosaic Idealize.ShloMosaic.TcCoe Idealize.SL.Sem Cert.Proof.Reads

/-- The inverse of the model width, as its word. -/
abbrev inv : EReal := Ideal.ofBits .f32 0x3A800000#32

section Formulas

variable (x0 : Vec Ideal S256x1024 .bf16) (x1 x2 : Vec Ideal S256x1024 .f32) (x3 : Vec Ideal S1024x4096 .bf16) (x4 : Vec Ideal S4096x1024 .bf16)

/-- An entry of the pre-activation. -/
def uE (a : Fin 256) (b : Fin 4096) : EReal := ∑ k : Fin 1024, x0 (ix2 a k) * x3 (ix2 k b)

/-- The pre-activation, over the block. -/
def uB : Vec Ideal S256x4096 .f32 := fun y => uE x0 x3 (y 0) (y 1)

/-- An activation: the squared positive part. -/
def aE (a : Fin 256) (b : Fin 4096) : EReal := max (uE x0 x3 a b) 0 * max (uE x0 x3 a b) 0

/-- The activations, over the block. -/
def aB : Vec Ideal S256x4096 .bf16 := fun y => aE x0 x3 (y 0) (y 1)

/-- The step's output less the target. -/
def dE (a : Fin 256) (b : Fin 1024) : EReal := x1 (ix2 a b) + (∑ k : Fin 4096, aE x0 x3 a k * x4 (ix2 k b)) - x2 (ix2 a b)

/-- The tokens' share of the loss. -/
def lossB : EReal := ∑ a : Fin 256, (∑ b : Fin 1024, dE x0 x1 x2 x3 x4 a b * dE x0 x1 x2 x3 x4 a b) * inv

end Formulas

section Pieces

variable (x0 : Vec Ideal S256x1024 .bf16) (x1 x2 : Vec Ideal S256x1024 .f32) (x3 : Vec Ideal S1024x4096 .bf16) (x4 : Vec Ideal S4096x1024 .bf16)

/-- The first column tile of the pre-activation. -/
theorem u0 (z : S256x1024.Idx) :
    k0_pay2 (View.ld x0 (Rect.unit ![0, 0] S256x1024.size inb_S256x1024_S256x1024_0_0)) (View.ld x3 (Rect.unit ![0, 0] S1024x1024.size inb_S1024x4096_S1024x1024_0_0)) z
      = uB x0 x3 ((Rect.unit (s := S256x4096) ![0, 0] S256x1024.size inb_S256x4096_S256x1024_0_0).emb z) := by
  obtain ⟨a, b, rfl⟩ := exists_ix2 z
  rw [show ∀ h, (Rect.unit (s := S256x4096) ![0, 0] S256x1024.size h).emb (ix2 a b) = ix2 a ⟨0 + b.val, by omega⟩ from fun h => emb_cols h a b (by omega)]
  pointwise [k0_pay2, k0_pay1, uB, uE]

/-- The second column tile of the pre-activation. -/
theorem u1 (z : S256x1024.Idx) :
    k0_pay4 (View.ld x0 (Rect.unit ![0, 0] S256x1024.size inb_S256x1024_S256x1024_0_0)) (View.ld x3 (Rect.unit ![0, 1024] S1024x1024.size inb_S1024x4096_S1024x1024_0_1024)) z
      = uB x0 x3 ((Rect.unit (s := S256x4096) ![0, 1024] S256x1024.size inb_S256x4096_S256x1024_0_1024).emb z) := by
  obtain ⟨a, b, rfl⟩ := exists_ix2 z
  rw [show ∀ h, (Rect.unit (s := S256x4096) ![0, 1024] S256x1024.size h).emb (ix2 a b) = ix2 a ⟨1024 + b.val, by omega⟩ from fun h => emb_cols h a b (by omega)]
  pointwise [k0_pay4, k0_pay1, uB, uE]

/-- The third column tile of the pre-activation. -/
theorem u2 (z : S256x1024.Idx) :
    k0_pay6 (View.ld x0 (Rect.unit ![0, 0] S256x1024.size inb_S256x1024_S256x1024_0_0)) (View.ld x3 (Rect.unit ![0, 2048] S1024x1024.size inb_S1024x4096_S1024x1024_0_2048)) z
      = uB x0 x3 ((Rect.unit (s := S256x4096) ![0, 2048] S256x1024.size inb_S256x4096_S256x1024_0_2048).emb z) := by
  obtain ⟨a, b, rfl⟩ := exists_ix2 z
  rw [show ∀ h, (Rect.unit (s := S256x4096) ![0, 2048] S256x1024.size h).emb (ix2 a b) = ix2 a ⟨2048 + b.val, by omega⟩ from fun h => emb_cols h a b (by omega)]
  pointwise [k0_pay6, k0_pay1, uB, uE]

/-- The fourth column tile of the pre-activation. -/
theorem u3 (z : S256x1024.Idx) :
    k0_pay8 (k0_pay1 (View.ld x0 (Rect.unit ![0, 0] S256x1024.size inb_S256x1024_S256x1024_0_0))) (View.ld x3 (Rect.unit ![0, 3072] S1024x1024.size inb_S1024x4096_S1024x1024_0_3072)) z
      = uB x0 x3 ((Rect.unit (s := S256x4096) ![0, 3072] S256x1024.size inb_S256x4096_S256x1024_0_3072).emb z) := by
  obtain ⟨a, b, rfl⟩ := exists_ix2 z
  rw [show ∀ h, (Rect.unit (s := S256x4096) ![0, 3072] S256x1024.size h).emb (ix2 a b) = ix2 a ⟨3072 + b.val, by omega⟩ from fun h => emb_cols h a b (by omega)]
  pointwise [k0_pay8, k0_pay1, uB, uE]

/-- The first column tile of the activations. -/
theorem a0 (z : S256x1024.Idx) :
    k0_pay3 (View.ld x0 (Rect.unit ![0, 0] S256x1024.size inb_S256x1024_S256x1024_0_0)) (View.ld x3 (Rect.unit ![0, 0] S1024x1024.size inb_S1024x4096_S1024x1024_0_0)) z
      = aB x0 x3 ((Rect.unit (s := S256x4096) ![0, 0] S256x1024.size inb_S256x4096_S256x1024_0_0).emb z) := by
  obtain ⟨a, b, rfl⟩ := exists_ix2 z
  rw [show ∀ h, (Rect.unit (s := S256x4096) ![0, 0] S256x1024.size h).emb (ix2 a b) = ix2 a ⟨0 + b.val, by omega⟩ from fun h => emb_cols h a b (by omega)]
  pointwise [k0_pay3, k0_pay2, k0_pay1, aB, aE, uE]

/-- The second column tile of the activations. -/
theorem a1 (z : S256x1024.Idx) :
    k0_pay5 (View.ld x0 (Rect.unit ![0, 0] S256x1024.size inb_S256x1024_S256x1024_0_0)) (View.ld x3 (Rect.unit ![0, 1024] S1024x1024.size inb_S1024x4096_S1024x1024_0_1024)) z
      = aB x0 x3 ((Rect.unit (s := S256x4096) ![0, 1024] S256x1024.size inb_S256x4096_S256x1024_0_1024).emb z) := by
  obtain ⟨a, b, rfl⟩ := exists_ix2 z
  rw [show ∀ h, (Rect.unit (s := S256x4096) ![0, 1024] S256x1024.size h).emb (ix2 a b) = ix2 a ⟨1024 + b.val, by omega⟩ from fun h => emb_cols h a b (by omega)]
  pointwise [k0_pay5, k0_pay4, k0_pay1, aB, aE, uE]

/-- The third column tile of the activations. -/
theorem a2 (z : S256x1024.Idx) :
    k0_pay7 (View.ld x0 (Rect.unit ![0, 0] S256x1024.size inb_S256x1024_S256x1024_0_0)) (View.ld x3 (Rect.unit ![0, 2048] S1024x1024.size inb_S1024x4096_S1024x1024_0_2048)) z
      = aB x0 x3 ((Rect.unit (s := S256x4096) ![0, 2048] S256x1024.size inb_S256x4096_S256x1024_0_2048).emb z) := by
  obtain ⟨a, b, rfl⟩ := exists_ix2 z
  rw [show ∀ h, (Rect.unit (s := S256x4096) ![0, 2048] S256x1024.size h).emb (ix2 a b) = ix2 a ⟨2048 + b.val, by omega⟩ from fun h => emb_cols h a b (by omega)]
  pointwise [k0_pay7, k0_pay6, k0_pay1, aB, aE, uE]

/-- The fourth column tile of the activations. -/
theorem a3 (z : S256x1024.Idx) :
    k0_pay9 (k0_pay1 (View.ld x0 (Rect.unit ![0, 0] S256x1024.size inb_S256x1024_S256x1024_0_0))) (View.ld x3 (Rect.unit ![0, 3072] S1024x1024.size inb_S1024x4096_S1024x1024_0_3072)) z
      = aB x0 x3 ((Rect.unit (s := S256x4096) ![0, 3072] S256x1024.size inb_S256x4096_S256x1024_0_3072).emb z) := by
  obtain ⟨a, b, rfl⟩ := exists_ix2 z
  rw [show ∀ h, (Rect.unit (s := S256x4096) ![0, 3072] S256x1024.size h).emb (ix2 a b) = ix2 a ⟨3072 + b.val, by omega⟩ from fun h => emb_cols h a b (by omega)]
  pointwise [k0_pay9, k0_pay8, k0_pay1, aB, aE, uE]

/-- The loss's cotangent, from the activations. -/
theorem pay_dy (a : Fin 256) (b : Fin 1024) :
    k0_pay11 (View.ld x1 (Rect.unit ![0, 0] S256x1024.size inb_S256x1024_S256x1024_0_0))
      (View.ld (aB x0 x3) (Rect.unit ![0, 0] S256x4096.size inb_S256x4096_S256x4096_0_0))
      (View.ld x4 (Rect.unit ![0, 0] S4096x1024.size inb_S4096x1024_S4096x1024_0_0))
      (View.ld x2 (Rect.unit ![0, 0] S256x1024.size inb_S256x1024_S256x1024_0_0)) (ix2 a b) = dE x0 x1 x2 x3 x4 a b * inv := by
  pointwise [k0_pay11, k0_pay10, aB, dE]

/-- The share of the loss, the same at every place of its tile. -/
theorem pay_loss (p : Fin 1) (a : Fin 8) (b : Fin 128) :
    k0_pay12 (View.ld x1 (Rect.unit ![0, 0] S256x1024.size inb_S256x1024_S256x1024_0_0))
      (View.ld (aB x0 x3) (Rect.unit ![0, 0] S256x4096.size inb_S256x4096_S256x4096_0_0))
      (View.ld x4 (Rect.unit ![0, 0] S4096x1024.size inb_S4096x1024_S4096x1024_0_0))
      (View.ld x2 (Rect.unit ![0, 0] S256x1024.size inb_S256x1024_S256x1024_0_0)) (ix3 p a b) = lossB x0 x1 x2 x3 x4 := by
  pointwise [k0_pay12, k0_pay10, aB, dE, lossB]

end Pieces

end Cert.Proof.Fwd

end
-- ==== Proof.Fwd.Point.lean ====
/-
  What the MLP's forward kernel leaves in its result blocks: the run's stores, read as the block's formulas.
-/
module

public import proofs.«01_k».proof.Proof.Fwd.Block

@[expose] public section

set_option maxRecDepth 16384

noncomputable section

namespace Cert.Proof.Fwd

open Cert.FwdKernelIdeal Cert.FwdKernelIdeal.Gen Idealize.ShloMosaic Idealize.ShloMosaic.TcCoe Idealize.SL.Sem Cert.Proof.Reads

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S1024x4096 .bf16) (harg4 : arg4.IsWhole)
  (arg5 : Memref sig .tc .vmem S4096x1024 .bf16) (harg5 : arg5.IsWhole)
  (arg6 : Memref sig .tc .vmem S256x4096 .f32) (harg6 : arg6.IsWhole)
  (arg7 : Memref sig .tc .vmem S256x4096 .bf16) (harg7 : arg7.IsWhole)
  (arg8 : Memref sig .tc .vmem S256x1024 .f32) (harg8 : arg8.IsWhole)
  (arg9 : Memref sig .tc .vmem S1x8x128 .f32) (harg9 : arg9.IsWhole)
  (x0 : Vec Ideal S256x1024 .bf16) (x1 x2 : Vec Ideal S256x1024 .f32) (x3 : Vec Ideal S1024x4096 .bf16) (x4 : Vec Ideal S4096x1024 .bf16)

/-- The stores of the pre-activation agree with its formula. -/
theorem storesU :
    ∀ p ∈ (kernelRun0_A (F := Ideal) c i arg1 harg1 arg2 harg2 arg3 harg3 arg4 harg4 arg5 harg5 arg6 harg6 arg7 harg7 arg8 harg8 arg9 harg9 x0 x1 x2 x3 x4).1,
      ∀ z : p.1.shape.Idx, p.2 z = uB x0 x3 (p.1.emb z) := by
  unfold kernelRun0_A
  dsimp only
  intro p hp
  fin_cases hp <;> intro z <;> dsimp only <;> sl_unfold_run_names <;> simp only [readAt_ld]
  · exact u3 x0 x3 z
  · exact u2 x0 x3 z
  · exact u1 x0 x3 z
  · exact u0 x0 x3 z

/-- The stores of the activations agree with its formula. -/
theorem storesA :
    ∀ p ∈ (kernelRun0_A (F := Ideal) c i arg1 harg1 arg2 harg2 arg3 harg3 arg4 harg4 arg5 harg5 arg6 harg6 arg7 harg7 arg8 harg8 arg9 harg9 x0 x1 x2 x3 x4).2.1,
      ∀ z : p.1.shape.Idx, p.2 z = aB x0 x3 (p.1.emb z) := by
  unfold kernelRun0_A
  dsimp only
  intro p hp
  fin_cases hp <;> intro z <;> dsimp only <;> sl_unfold_run_names <;> simp only [readAt_ld]
  · exact a3 x0 x3 z
  · exact a2 x0 x3 z
  · exact a1 x0 x3 z
  · exact a0 x0 x3 z

/-- The pre-activation's block. -/
theorem out5 : out0_A_5 c i arg1 harg1 arg2 harg2 arg3 harg3 arg4 harg4 arg5 harg5 arg6 harg6 arg7 harg7 arg8 harg8 arg9 harg9 x0 x1 x2 x3 x4 = uB x0 x3 := by
  unfold out0_A_5
  rw [View.read_writes_junk_eq_canon]
  exact canon_eq_of_pieces (uB x0 x3) _ (storesU c i arg1 harg1 arg2 harg2 arg3 harg3 arg4 harg4 arg5 harg5 arg6 harg6 arg7 harg7 arg8 harg8 arg9 harg9 x0 x1 x2 x3 x4) (cover0_A_5 c i arg1 harg1 arg2 harg2 arg3 harg3 arg4 harg4 arg5 harg5 arg6 harg6 arg7 harg7 arg8 harg8 arg9 harg9 x0 x1 x2 x3 x4)

/-- The activations' block. -/
theorem out6 : out0_A_6 c i arg1 harg1 arg2 harg2 arg3 harg3 arg4 harg4 arg5 harg5 arg6 harg6 arg7 harg7 arg8 harg8 arg9 harg9 x0 x1 x2 x3 x4 = aB x0 x3 := by
  unfold out0_A_6
  rw [View.read_writes_junk_eq_canon]
  exact canon_eq_of_pieces (aB x0 x3) _ (storesA c i arg1 harg1 arg2 harg2 arg3 harg3 arg4 harg4 arg5 harg5 arg6 harg6 arg7 harg7 arg8 harg8 arg9 harg9 x0 x1 x2 x3 x4) (cover0_A_6 c i arg1 harg1 arg2 harg2 arg3 harg3 arg4 harg4 arg5 harg5 arg6 harg6 arg7 harg7 arg8 harg8 arg9 harg9 x0 x1 x2 x3 x4)

/-- The block of the loss's cotangent. -/
theorem out7 (a : Fin 256) (b : Fin 1024) :
    out0_A_7 c i arg1 harg1 arg2 harg2 arg3 harg3 arg4 harg4 arg5 harg5 arg6 harg6 arg7 harg7 arg8 harg8 arg9 harg9 x0 x1 x2 x3 x4 (ix2 a b) = dE x0 x1 x2 x3 x4 a b * inv := by
  unfold out0_A_7
  rw [View.read_writes_junk_eq_canon]
  have hst := storesA c i arg1 harg1 arg2 harg2 arg3 harg3 arg4 harg4 arg5 harg5 arg6 harg6 arg7 harg7 arg8 harg8 arg9 harg9 x0 x1 x2 x3 x4
  have hcov := cover0_A_6 (F := Ideal) c i arg1 harg1 arg2 harg2 arg3 harg3 arg4 harg4 arg5 harg5 arg6 harg6 arg7 harg7 arg8 harg8 arg9 harg9 x0 x1 x2 x3 x4
  revert hst hcov
  unfold kernelRun0_A
  dsimp only
  rw [View.canon_unit_zero (by funext j; fin_cases j <;> rfl)]
  sl_unfold_run_names
  simp only [readAt_ld]
  intro hst hcov
  rw [readCov_eq_of_pieces _ (aB x0 x3) _ hst hcov]
  exact pay_dy x0 x1 x2 x3 x4 a b

/-- The loss's tile. -/
theorem out8 (p : Fin 1) (a : Fin 8) (b : Fin 128) :
    out0_A_8 c i arg1 harg1 arg2 harg2 arg3 harg3 arg4 harg4 arg5 harg5 arg6 harg6 arg7 harg7 arg8 harg8 arg9 harg9 x0 x1 x2 x3 x4 (ix3 p a b) = lossB x0 x1 x2 x3 x4 := by
  unfold out0_A_8
  rw [View.read_writes_junk_eq_canon]
  have hst := storesA c i arg1 harg1 arg2 harg2 arg3 harg3 arg4 harg4 arg5 harg5 arg6 harg6 arg7 harg7 arg8 harg8 arg9 harg9 x0 x1 x2 x3 x4
  have hcov := cover0_A_6 (F := Ideal) c i arg1 harg1 arg2 harg2 arg3 harg3 arg4 harg4 arg5 harg5 arg6 harg6 arg7 harg7 arg8 harg8 arg9 harg9 x0 x1 x2 x3 x4
  revert hst hcov
  unfold kernelRun0_A
  dsimp only
  rw [View.canon_unit_zero (by funext j; fin_cases j <;> rfl)]
  sl_unfold_run_names
  simp only [readAt_ld]
  intro hst hcov
  rw [readCov_eq_of_pieces _ (aB x0 x3) _ hst hcov]
  exact pay_loss x0 x1 x2 x3 x4 p a b

end Cert.Proof.Fwd

end
-- ==== Proof.Fwd.Arrays.lean ====
/-
  What the MLP's forward kernel leaves in its four result arrays, as formulas of the arrays at the launch.
-/
module

public import proofs.«01_k».proof.Proof.Fwd.Point
public import proofs.«01_k».proof.Proof.Gen.FwdReferenceIdeal.Read
public import proofs.«01_k».proof.Proof.Gen.FwdReferenceIdeal.Run
public import Idealize.ShloMosaic.Lib.Pipeline.ValueKit.Geometry
public import Idealize.ShloMosaic.Lib.Claim

@[expose] public section

set_option maxRecDepth 16384

noncomputable section

namespace Cert.Proof.Fwd

open Cert.FwdKernelIdeal Cert.FwdKernelIdeal.Gen Idealize.ShloMosaic Idealize.ShloMosaic.TcCoe Idealize.SL.Sem Cert.Proof.Reads

section Formulas

variable (h : Vec Ideal S4096x1024 .bf16) (x y : Vec Ideal S4096x1024 .f32) (w1 : Vec Ideal S1024x4096 .bf16) (w2 : Vec Ideal S4096x1024 .bf16)

/-- An entry of the pre-activation. -/
def uR (a b : Fin 4096) : EReal := ∑ k : Fin 1024, h (ix2 a k) * w1 (ix2 k b)

/-- The pre-activation. -/
def uA : Vec Ideal S4096x4096 .f32 := fun i => uR h w1 (i 0) (i 1)

/-- An activation: the squared positive part. -/
def aR (a b : Fin 4096) : EReal := max (uR h w1 a b) 0 * max (uR h w1 a b) 0

/-- The activations. -/
def aA : Vec Ideal S4096x4096 .bf16 := fun i => aR h w1 (i 0) (i 1)

/-- The step's output less the target. -/
def dR (a : Fin 4096) (b : Fin 1024) : EReal := x (ix2 a b) + (∑ k : Fin 4096, aR h w1 a k * w2 (ix2 k b)) - y (ix2 a b)

/-- The loss's cotangent at the step's output. -/
def dyA : Vec Ideal S4096x1024 .f32 := fun i => dR h x y w1 w2 (i 0) (i 1) * inv

/-- A token of tile `q`. -/
def tok (q : Fin 16) (a : Fin 256) : Fin 4096 := ⟨q.val * 256 + a.val, by omega⟩

/-- The loss by tiles of 256 tokens. -/
def lossA : Vec Ideal S16x8x128 .f32 :=
  fun i => ∑ a : Fin 256, (∑ b : Fin 1024, dR h x y w1 w2 (tok (i 0) a) b * dR h x y w1 w2 (tok (i 0) a) b) * inv

end Formulas

variable (m : (ℓ : Loc nD τ sig) → Buf (Elt Ideal) ℓ) (ρ : Dev nD → PrngReg) (c : Dev nD)

/-- The tile of point `t`. -/
def tile (t : Fin cfg0.N) : Fin 16 := ⟨t.val, lt_of_lt_of_eq t.isLt N_0⟩

/-- A token of point `t`. -/
abbrev row (t : Fin cfg0.N) (a : Fin 256) : Fin 4096 := tok (tile t) a

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0, 0] := (by decide +kernel : ∀ t : Fin grid0.N, win0_8.index t = ![t.val, 0, 0])

/-- The block of the normed tokens. -/
theorem blk0 (t : Fin cfg0.N) (a : Fin 256) (b : Fin 1024) : iblk m c 0 t (ix2 a b) = V m c main_v12 (ix2 (row t a) b) := by
  blk_simp [iblk]
  exact congrArg (V m c main_v12) (by blk_ext [index0, row, tok, tile])

/-- The block of the residual stream. -/
theorem blk1 (t : Fin cfg0.N) (a : Fin 256) (b : Fin 1024) : iblk m c 1 t (ix2 a b) = V m c main_arg0 (ix2 (row t a) b) := by
  blk_simp [iblk]
  exact congrArg (V m c main_arg0) (by blk_ext [index1, row, tok, tile])

/-- The block of the target. -/
theorem blk2 (t : Fin cfg0.N) (a : Fin 256) (b : Fin 1024) : iblk m c 2 t (ix2 a b) = V m c main_arg1 (ix2 (row t a) b) := by
  blk_simp [iblk]
  exact congrArg (V m c main_arg1) (by blk_ext [index2, row, tok, tile])

/-- The first weight, whole at every point. -/
theorem blk3 (t : Fin cfg0.N) (a : Fin 1024) (b : Fin 4096) : iblk m c 3 t (ix2 a b) = V m c main_v13 (ix2 a b) := by
  blk_simp [iblk]
  exact congrArg (V m c main_v13) (by blk_ext [index3])

/-- The second weight, whole at every point. -/
theorem blk4 (t : Fin cfg0.N) (a : Fin 4096) (b : Fin 1024) : iblk m c 4 t (ix2 a b) = V m c main_v14 (ix2 a b) := by
  blk_simp [iblk]
  exact congrArg (V m c main_v14) (by blk_ext [index4])

/-- The block formulas at point `t` are the array formulas at the block's tokens. -/
theorem uE_blk (t : Fin cfg0.N) (a : Fin 256) (b : Fin 4096) :
    uE (iblk m c 0 t) (iblk m c 3 t) a b = uR (V m c main_v12) (V m c main_v13) (row t a) b := by
  unfold uE uR
  simp only [blk0, blk3]

/-- The activations. -/
theorem aE_blk (t : Fin cfg0.N) (a : Fin 256) (b : Fin 4096) :
    aE (iblk m c 0 t) (iblk m c 3 t) a b = aR (V m c main_v12) (V m c main_v13) (row t a) b := by
  unfold aE aR
  rw [uE_blk]

/-- The output less the target. -/
theorem dE_blk (t : Fin cfg0.N) (a : Fin 256) (b : Fin 1024) :
    dE (iblk m c 0 t) (iblk m c 1 t) (iblk m c 2 t) (iblk m c 3 t) (iblk m c 4 t) a b = dR (V m c main_v12) (V m c main_arg0) (V m c main_arg1) (V m c main_v13) (V m c main_v14) (row t a) b := by
  unfold dE dR
  simp only [aE_blk, blk1, blk2, blk4]

/-- The pre-activation's array. -/
theorem array5 : (dats m 0 c).arrAt 5 cfg0.N = uA (V m c main_v12) (V m c main_v13) := by
  refine (dats m 0 c).arrAt_eq_of_covers 5 _ (by decide +kernel) fun t hf y => ?_
  blk_simp
  rw [after0_5]
  obtain ⟨a, b, rfl⟩ := exists_ix2 (n := 256) (m := 4096) y
  unfold outsAt0
  dsimp only
  rw [out5]
  refine (uE_blk m c t a b).trans (Eq.trans (b := uA (V m c main_v12) (V m c main_v13) (ix2 (row t a) b)) rfl ?_)
  exact congrArg (uA _ _) (by blk_ext [index5, row, tok, tile])

/-- The activations' array. -/
theorem array6 : (dats m 0 c).arrAt 6 cfg0.N = aA (V m c main_v12) (V m c main_v13) := by
  refine (dats m 0 c).arrAt_eq_of_covers 6 _ (by decide +kernel) fun t hf y => ?_
  blk_simp
  rw [after0_6]
  obtain ⟨a, b, rfl⟩ := exists_ix2 (n := 256) (m := 4096) y
  unfold outsAt0
  dsimp only
  rw [out6]
  refine (aE_blk m c t a b).trans (Eq.trans (b := aA (V m c main_v12) (V m c main_v13) (ix2 (row t a) b)) rfl ?_)
  exact congrArg (aA _ _) (by blk_ext [index6, row, tok, tile])

/-- The array of the loss's cotangent. -/
theorem array7 : (dats m 0 c).arrAt 7 cfg0.N = dyA (V m c main_v12) (V m c main_arg0) (V m c main_arg1) (V m c main_v13) (V m c main_v14) := by
  refine (dats m 0 c).arrAt_eq_of_covers 7 _ (by decide +kernel) fun t hf y => ?_
  blk_simp
  rw [after0_7]
  obtain ⟨a, b, rfl⟩ := exists_ix2 (n := 256) (m := 1024) y
  unfold outsAt0
  dsimp only
  rw [out7, dE_blk]
  refine Eq.trans (b := dyA (V m c main_v12) (V m c main_arg0) (V m c main_arg1) (V m c main_v13) (V m c main_v14) (ix2 (row t a) b)) rfl ?_
  exact congrArg (dyA _ _ _ _ _) (by blk_ext [index7, row, tok, tile])

/-- The loss's tiles. -/
theorem array8 : (dats m 0 c).arrAt 8 cfg0.N = lossA (V m c main_v12) (V m c main_arg0) (V m c main_arg1) (V m c main_v13) (V m c main_v14) := by
  refine (dats m 0 c).arrAt_eq_of_covers 8 _ (by decide +kernel) fun t hf y => ?_
  blk_simp
  rw [after0_8]
  obtain ⟨p, a, b, rfl⟩ := exists_ix3 (n := 1) (m := 8) (l := 128) y
  unfold outsAt0
  dsimp only
  rw [out8]
  unfold lossB
  simp only [dE_blk]
  refine Eq.trans (b := lossA (V m c main_v12) (V m c main_arg0) (V m c main_arg1) (V m c main_v13) (V m c main_v14) (ix3 (tile t) a b)) rfl ?_
  exact congrArg (lossA _ _ _ _ _) (by blk_ext [index8, tile])

/-- The four result arrays as functions of the launch's arguments, and the arguments unchanged. -/
theorem run : θ_run defs (onTc (τ := τ) (main (F := Ideal))) ⟨m, fun _ => 0, ρ⟩ fun r => ∀ c : Dev nD,
      r.2.mem ((c : Thread nD τ).loc main_v15_0) = uA (V m c main_v12) (V m c main_v13)
      ∧ r.2.mem ((c : Thread nD τ).loc main_v15_1) = aA (V m c main_v12) (V m c main_v13)
      ∧ r.2.mem ((c : Thread nD τ).loc main_v15_2) = dyA (V m c main_v12) (V m c main_arg0) (V m c main_arg1) (V m c main_v13) (V m c main_v14)
      ∧ r.2.mem ((c : Thread nD τ).loc main_v15_3) = lossA (V m c main_v12) (V m c main_arg0) (V m c main_arg1) (V m c main_v13) (V m c main_v14)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Value.run_blocks (F := Ideal) m ρ)
  exact ⟨(h c).1.trans (array5 m c), (h c).2.1.trans (array6 m c), (h c).2.2.1.trans (array7 m c), (h c).2.2.2.1.trans (array8 m c), (h c).2.2.2.2⟩

/-- The normed tokens the host computes are the reference's. -/
theorem entry_h : V m c main_v12 = Cert.FwdReferenceIdeal.Read.val_main_v11 (F := Ideal)
    (m ((c : Thread nD τ).loc main_arg0)) (m ((c : Thread nD τ).loc main_arg2)) := by
  entry_read
  rfl

/-- The weights' casts change nothing over the reals. -/
theorem entry_w1 : V m c main_v13 = m ((c : Thread nD τ).loc main_arg3) := by
  entry_read
  rfl

theorem entry_w2 : V m c main_v14 = m ((c : Thread nD τ).loc main_arg4) := by
  entry_read
  rfl

end Cert.Proof.Fwd

end
-- ==== Proof.Fwd.Claim.lean ====
/-
  The MLP's forward call: its four results are the reference's, over the reals, and the reference's frame.
-/
module

public import proofs.«01_k».proof.Defs
public import proofs.«01_k».proof.Proof.Fwd.Arrays

@[expose] public section

set_option maxRecDepth 16384

noncomputable section

namespace Cert.Proof.Fwd

open Idealize.ShloMosaic Idealize.ShloMosaic.TcCoe Idealize.SL.Sem Cert.Proof.Reads

section Ref

open Cert.FwdReferenceIdeal Cert.FwdReferenceIdeal.Gen Cert.FwdReferenceIdeal.Read

variable (x0 x1 : Vec Ideal S4096x1024 .f32) (x2 : Vec Ideal S1x1024 .f32) (x3 : Vec Ideal S1024x4096 .f32) (x4 : Vec Ideal S4096x1024 .f32)

/-- The pre-activation. -/
theorem ref_u (a b : Fin 4096) : val_main_v12 (F := Ideal) x0 x2 x3 (ix2 a b) = uR (val_main_v11 (F := Ideal) x0 x2) x3 a b := by
  rw [val_main_v12_apply]
  refine Finset.sum_congr rfl fun k _ => ?_
  rw [show lidx_main_v12 (ix2 a b) k = ix2 a k from by funext j; fin_cases j <;> rfl,
    show ridx_main_v12 (ix2 a b) k = ix2 k b from by funext j; fin_cases j <;> rfl]

/-- Zero, as its word. -/
theorem zero_word : Ideal.ofBits .f32 0x00000000#32 = 0 := by simp [Ideal.ofBits, Ideal.ieee]

/-- The activations that enter the output. -/
theorem ref_a (a b : Fin 4096) : val_main_v14 (F := Ideal) x0 x2 x3 (ix2 a b) = aR (val_main_v11 (F := Ideal) x0 x2) x3 a b := by
  rw [val_main_v14_apply, val_main_v13_apply, val_main_call0_v0_apply, val_main_call0_cst_apply, ref_u]
  show max _ (Ideal.ofBits .f32 0x00000000#32) * max _ (Ideal.ofBits .f32 0x00000000#32) = _
  rw [zero_word]
  rfl

/-- The activations that are returned. -/
theorem ref_a' (a b : Fin 4096) : val_main_v41 (F := Ideal) x0 x2 x3 (ix2 a b) = aR (val_main_v11 (F := Ideal) x0 x2) x3 a b := by
  rw [val_main_v41_apply, val_main_v40_apply, val_main_v39_apply, val_main_call1_v0_apply, val_main_call1_cst_apply, ref_u]
  show max _ (Ideal.ofBits .f32 0x00000000#32) * max _ (Ideal.ofBits .f32 0x00000000#32) = _
  rw [zero_word]
  rfl

/-- The output less the target. -/
theorem ref_d (a : Fin 4096) (b : Fin 1024) : val_main_v17 (F := Ideal) x0 x1 x2 x3 x4 (ix2 a b) = dR (val_main_v11 (F := Ideal) x0 x2) x0 x1 x3 x4 a b := by
  rw [val_main_v17_apply, val_main_v16_apply, val_main_v15_apply]
  show x0 (ix2 a b) + _ - x1 (ix2 a b) = x0 (ix2 a b) + _ - x1 (ix2 a b)
  congr 2
  refine Finset.sum_congr rfl fun k _ => ?_
  rw [show lidx_main_v15 (ix2 a b) k = ix2 a k from by funext j; fin_cases j <;> rfl,
    show ridx_main_v15 (ix2 a b) k = ix2 k b from by funext j; fin_cases j <;> rfl, ref_a]

/-- Dividing by the width is multiplying by its inverse. -/
theorem div_wid (z : EReal) : Ideal.div z (Ideal.ofBits .f32 0x44800000#32) = z * inv := by
  have e : Ideal.ofBits .f32 0x44800000#32 = ((1024 : ℝ) : EReal) := by simp [Ideal.ofBits, Ideal.ieee]; rw [← EReal.coe_mul]; norm_num
  have e' : inv = ((1 / 1024 : ℝ) : EReal) := by simp [inv, Ideal.ofBits, Ideal.ieee]; rw [← EReal.coe_mul]; norm_num
  unfold Ideal.div
  rw [e, e', if_neg (by exact_mod_cast (by norm_num : (1024 : ℝ) ≠ 0)), ← EReal.coe_inv]
  norm_num

/-- Half of twice a value over the width is the value over the width. -/
theorem half_twice (z : EReal) :
    Ideal.div (Ideal.ofBits .f32 0x3F000000#32 * Ideal.ofBits .f32 0x3F800000#32) (Ideal.ofBits .f32 0x44800000#32)
      * (Ideal.ofBits .f32 0x40000000#32 * z) = z * inv := by
  have e : Ideal.ofBits .f32 0x3F000000#32 * Ideal.ofBits .f32 0x3F800000#32 * Ideal.ofBits .f32 0x40000000#32 = 1 := by
    rw [show Ideal.ofBits .f32 0x3F000000#32 = ((1 / 2 : ℝ) : EReal) from by simp [Ideal.ofBits, Ideal.ieee]; rw [← EReal.coe_mul]; norm_num,
      show Ideal.ofBits .f32 0x3F800000#32 = ((1 : ℝ) : EReal) from by simp [Ideal.ofBits, Ideal.ieee]; rw [← EReal.coe_mul]; norm_num,
      show Ideal.ofBits .f32 0x40000000#32 = ((2 : ℝ) : EReal) from by simp [Ideal.ofBits, Ideal.ieee]; rw [← EReal.coe_mul]; norm_num]
    norm_cast
    norm_num
  rw [div_wid, mul_comm _ inv, mul_assoc inv, ← mul_assoc _ _ z, e, one_mul, mul_comm]

/-- The loss's cotangent. -/
theorem ref_dy (a : Fin 4096) (b : Fin 1024) : val_main_v31 (F := Ideal) x0 x1 x2 x3 x4 (ix2 a b) = dR (val_main_v11 (F := Ideal) x0 x2) x0 x1 x3 x4 a b * inv := by
  rw [val_main_v31_apply, val_main_v30_apply, val_main_v29_apply, val_main_v27_apply, val_main_v26_apply, val_main_v28_apply, val_main_v20_apply,
    val_main_v19_apply, ref_d]
  exact half_twice _

/-- The loss's tiles. -/
theorem ref_loss (q : Fin 16) (a : Fin 8) (b : Fin 128) : val_main_v43 (F := Ideal) x0 x1 x2 x3 x4 (ix3 q a b) = lossA (val_main_v11 (F := Ideal) x0 x2) x0 x1 x3 x4 (ix3 q a b) := by
  rw [val_main_v43_apply, val_main_v42_apply, val_main_v38_apply]
  refine (congrArg (· + _) zero_word).trans ((zero_add _).trans ?_)
  refine Finset.sum_congr rfl fun k _ => ?_
  rw [val_main_v37_apply, val_main_v36_apply, val_main_v35_apply, val_main_v34_apply]
  refine (div_wid _).trans (congrArg (· * inv) ?_)
  refine (congrArg (· + _) zero_word).trans ((zero_add _).trans ?_)
  refine Finset.sum_congr rfl fun l _ => ?_
  rw [val_main_v33_apply]
  refine congrArg₂ (· * ·) ?_ ?_ <;>
    exact (congrArg (val_main_v17 (F := Ideal) x0 x1 x2 x3 x4) (show _ = ix2 (tok q k) l from by funext j; fin_cases j <;> rfl)).trans (ref_d _ _ _ _ _ _ _)

variable (m : (ℓ : Loc nD τ sig) → Buf (Elt Ideal) ℓ) (ρ : Dev nD → PrngReg)

/-- The reference's run: its results are the kernel's array formulas of the arguments. -/
theorem run_ref : θ_run defs (onTc (τ := τ) (main (F := Ideal))) ⟨m, fun _ => 0, ρ⟩ fun r => ∀ c : Dev nD,
      r.2.mem ((c.tc : Thread nD τ).loc main_v12) = uA (val_main_v11 (F := Ideal) (m ((c.tc : Thread nD τ).loc main_arg0)) (m ((c.tc : Thread nD τ).loc main_arg2))) (m ((c.tc : Thread nD τ).loc main_arg3))
      ∧ r.2.mem ((c.tc : Thread nD τ).loc main_v41) = aA (val_main_v11 (F := Ideal) (m ((c.tc : Thread nD τ).loc main_arg0)) (m ((c.tc : Thread nD τ).loc main_arg2))) (m ((c.tc : Thread nD τ).loc main_arg3))
      ∧ r.2.mem ((c.tc : Thread nD τ).loc main_v31) = dyA (val_main_v11 (F := Ideal) (m ((c.tc : Thread nD τ).loc main_arg0)) (m ((c.tc : Thread nD τ).loc main_arg2))) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v43) = lossA (val_main_v11 (F := Ideal) (m ((c.tc : Thread nD τ).loc main_arg0)) (m ((c.tc : Thread nD τ).loc main_arg2))) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.FwdReferenceIdeal.Value.run (F := Ideal) m ρ)
  refine ⟨((h c).1.trans (val_main_v12_eq _ _ _)).trans ?_, ((h c).2.1.trans (val_main_v41_eq _ _ _)).trans ?_,
    ((h c).2.2.1.trans (val_main_v31_eq _ _ _ _ _)).trans ?_, ((h c).2.2.2.1.trans (val_main_v43_eq m c)).trans ?_, (h c).2.2.2.2⟩
  · funext i
    obtain ⟨a, b, rfl⟩ := exists_ix2 (n := 4096) (m := 4096) i
    exact ref_u _ _ _ a b
  · funext i
    obtain ⟨a, b, rfl⟩ := exists_ix2 (n := 4096) (m := 4096) i
    exact ref_a' _ _ _ a b
  · funext i
    obtain ⟨a, b, rfl⟩ := exists_ix2 (n := 4096) (m := 1024) i
    exact ref_dy _ _ _ _ _ a b
  · funext i
    obtain ⟨q, a, b, rfl⟩ := exists_ix3 (n := 16) (m := 8) (l := 128) i
    exact ref_loss _ _ _ _ _ q a b

end Ref

/-- The kernel's results are the reference's. -/
theorem algebraic : Cert.algebraic_FwdKernelIdeal_FwdReferenceIdeal := by
  intro m ρ m' ρ' _ hag
  refine ⟨_, _, _, _, run m ρ, (θ_run _ _ _).mono (fun r h c => ?_) (run_ref m' ρ')⟩
  obtain ⟨h0, h1, h2, h3, h4⟩ := hag c
  obtain ⟨k0, k1, k2, k3, k⟩ := h c
  rw [h0, h2, h3] at k0 k1
  rw [h0, h1, h2, h3, h4] at k2 k3
  refine ⟨k0.trans ?_, k1.trans ?_, k2.trans ?_, k3.trans ?_, k⟩
  · rw [entry_h, entry_w1]
  · rw [entry_h, entry_w1]
  · rw [entry_h, entry_w1, entry_w2, Cert.FwdKernelIdeal.Gen.V_main_arg0, Cert.FwdKernelIdeal.Gen.V_main_arg1]
  · rw [entry_h, entry_w1, entry_w2, Cert.FwdKernelIdeal.Gen.V_main_arg0, Cert.FwdKernelIdeal.Gen.V_main_arg1]

/-- The reference's frame. -/
theorem frame_ref : Cert.quiescent_FwdReferenceIdeal := fun m ρ _ =>
  (θ_run Cert.FwdReferenceIdeal.defs _ _).mono (fun r h => ⟨fun c => (h c).2.2.2.2,
    Idealize.ShloMosaic.sem_eq_zero_of_no_sems (by decide) r.2⟩) (run_ref m ρ)

end Cert.Proof.Fwd

end
-- ==== Proof.Wtwo.Block.lean ====
/-
  What one grid point of the second MLP weight's gradient leaves in its accumulator and its result block: the product of the
  activations' columns with the cotangent over half of the tokens, added to what the first half left.
-/
module

public import proofs.«01_k».proof.Proof.Gen.WtwoKernelIdeal.Value
public import proofs.«01_k».proof.Proof.Reads

@[expose] public section

set_option maxRecDepth 16384

noncomputable section

namespace Cert.Proof.Wtwo

open Cert.WtwoKernelIdeal Cert.WtwoKernelIdeal.Gen Idealize.ShloMosaic Idealize.ShloMosaic.TcCoe Idealize.SL.Sem Cert.Proof.Reads

/-- The product of a block of activations and a block of the cotangent, over the block's tokens. -/
def prodB (x0 : Vec Ideal S2048x1024 .bf16) (x1 : Vec Ideal S2048x1024 .f32) (a b : Fin 1024) : EReal :=
  ∑ k : Fin 2048, x0 (ix2 k a) * x1 (ix2 k b)

/-- The stored sum is the accumulator's value plus the block's product. -/
theorem pay_sum (acc : Vec Ideal S1024x1024 .f32) (x0 : Vec Ideal S2048x1024 .bf16) (x1 : Vec Ideal S2048x1024 .f32) (a b : Fin 1024) :
    k0_pay2 acc (View.ld x0 (Rect.unit ![0, 0] S2048x1024.size inb_S2048x1024_S2048x1024_0_0))
      (View.ld x1 (Rect.unit ![0, 0] S2048x1024.size inb_S2048x1024_S2048x1024_0_0)) (ix2 a b) = acc (ix2 a b) + prodB x0 x1 a b := by
  pointwise [k0_pay2, prodB]

/-- The accumulator starts at zero. -/
theorem pay_zero (a b : Fin 1024) : k0_pay1 (F := Ideal) (ix2 a b) = 0 := by
  pointwise [k0_pay1]

variable (c : Dev nD) (i : grid0.Coords)
  (arg3 : Memref sig .tc .vmem S2048x1024 .bf16) (harg3 : arg3.IsWhole)
  (arg4 : Memref sig .tc .vmem S2048x1024 .f32) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S2048x1024 .bf16) (x1 : Vec Ideal S2048x1024 .f32)

/-- The accumulator after the first half of the tokens. -/
theorem accA (hc0 : cond0_0 i) (hc1 : ¬cond0_1 i) (a b : Fin 1024) :
    sout0_A_0 c i arg3 harg3 arg4 harg4 arg5 harg5 arg6 harg6 hc0 hc1 x0 x1 (ix2 a b) = prodB x0 x1 a b := by
  unfold sout0_A_0
  rw [View.read_writes_junk_eq_canon]
  unfold kernelRun0_A
  dsimp only
  rw [View.canon_cons_unit_zero (by funext j; fin_cases j <;> rfl)]
  sl_unfold_run_names
  simp only [readAt_ld]
  rw [readCov_of_whole, pay_sum, View.ld_unit_zero (by funext j; fin_cases j <;> rfl), pay_zero, zero_add]

/-- The result block after the second half. -/
theorem outB (hc0 : ¬cond0_0 i) (hc1 : cond0_1 i) (acc : Vec Ideal S1024x1024 .f32) (a b : Fin 1024) :
    out0_B_2 c i arg3 harg3 arg4 harg4 arg5 harg5 arg6 harg6 hc0 hc1 x0 x1 acc (ix2 a b) = acc (ix2 a b) + prodB x0 x1 a b := by
  unfold out0_B_2
  rw [View.read_writes_junk_eq_canon]
  unfold kernelRun0_B
  dsimp only
  rw [View.canon_unit_zero (by funext j; fin_cases j <;> rfl)]
  sl_unfold_run_names
  simp only [readAt_ld]
  rw [readCov_of_whole, View.ld_unit_zero (by funext j; fin_cases j <;> rfl), pay_sum, View.ld_unit_zero (by funext j; fin_cases j <;> rfl)]

end Cert.Proof.Wtwo

end
-- ==== Proof.Wtwo.Arrays.lean ====
/-
  The gradient of the second MLP weight as a formula of the arrays at the launch: each of the four column blocks of the
  activations, over the two halves of the tokens.
-/
module

public import proofs.«01_k».proof.Proof.Wtwo.Block
public import proofs.«01_k».proof.Proof.Gen.WtwoReferenceIdeal.Read
public import proofs.«01_k».proof.Proof.Gen.WtwoReferenceIdeal.Run
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Cert.Proof.Wtwo

open Cert.WtwoKernelIdeal Cert.WtwoKernelIdeal.Gen Idealize.ShloMosaic Idealize.ShloMosaic.TcCoe Idealize.SL.Sem Cert.Proof.Reads

/-- What a token adds to an entry of the gradient. -/
def gradR (h : Vec Ideal S4096x4096 .bf16) (dy : Vec Ideal S4096x1024 .f32) (a : Fin 4096) (b : Fin 1024) (r : Fin 4096) : EReal :=
  h (ix2 r a) * dy (ix2 r b)

/-- The gradient: activations against cotangents, over all tokens. -/
def gradA (h : Vec Ideal S4096x4096 .bf16) (dy : Vec Ideal S4096x1024 .f32) : Vec Ideal S4096x1024 .f32 :=
  fun i => ∑ r : Fin 4096, gradR h dy (i 0) (i 1) r

variable (m : (ℓ : Loc nD τ sig) → Buf (Elt Ideal) ℓ) (ρ : Dev nD → PrngReg) (c : Dev nD)

/-- A token of point `t`'s half. -/
def row (t : Fin cfg0.N) (a : Fin 2048) : Fin 4096 := ⟨t.val % 2 * 2048 + a.val, by have := a.isLt; omega⟩

/-- A column of point `t`'s block of activations. -/
def col (t : Fin cfg0.N) (a : Fin 1024) : Fin 4096 := ⟨t.val / 2 * 1024 + a.val, by have := t.isLt; have : cfg0.N = 8 := N_0; omega⟩

theorem index0 : ∀ t : Fin cfg0.N, win0_0.index t = ![t.val % 2, t.val / 2] := (by decide +kernel : ∀ t : Fin grid0.N, win0_0.index t = ![t.val % 2, t.val / 2])
theorem index1 : ∀ t : Fin cfg0.N, win0_1.index t = ![t.val % 2, 0] := (by decide +kernel : ∀ t : Fin grid0.N, win0_1.index t = ![t.val % 2, 0])
theorem index2 : ∀ t : Fin cfg0.N, win0_2.index t = ![t.val / 2, 0] := (by decide +kernel : ∀ t : Fin grid0.N, win0_2.index t = ![t.val / 2, 0])

/-- The block of the activations. -/
theorem blk0 (t : Fin cfg0.N) (a : Fin 2048) (b : Fin 1024) : iblk m c 0 t (ix2 a b) = V m c main_v2 (ix2 (row t a) (col t b)) := by
  blk_simp [iblk]
  exact congrArg (V m c main_v2) (by blk_ext [index0, row, col])

/-- The block of the cotangent. -/
theorem blk1 (t : Fin cfg0.N) (a : Fin 2048) (b : Fin 1024) : iblk m c 1 t (ix2 a b) = V m c main_arg0 (ix2 (row t a) b) := by
  blk_simp [iblk]
  exact congrArg (V m c main_arg0) (by blk_ext [index1, row])

/-- A point's product, of the arrays. -/
theorem prod_blk (t : Fin cfg0.N) (a b : Fin 1024) :
    prodB (iblk m c 0 t) (iblk m c 1 t) a b
      = ∑ k : Fin 2048, gradR (V m c main_v2) (V m c main_arg0) (col t a) b (row t k) := by
  unfold prodB gradR
  simp only [blk0, blk1]

/-- The result array. -/
theorem array2 : (dats m 0 c).arrAt 2 cfg0.N = gradA (V m c main_v2) (V m c main_arg0) := by
  refine (dats m 0 c).arrAt_eq_of_covers 2 _ (by decide +kernel) fun t hf y => ?_
  blk_simp
  rw [after0_2]
  obtain ⟨a, b, rfl⟩ := exists_ix2 (n := 1024) (m := 1024) y
  have h1 : t.val % 2 = 1 := (flush0_2 t).mp hf
  have h0 : ¬t.val % 2 = 0 := by omega
  have hp : t.val - 1 < cfg0.N := Nat.lt_of_le_of_lt (Nat.sub_le _ _) t.isLt
  have e0 : (⟨t.val - 1, hp⟩ : Fin cfg0.N).val % 2 = 0 := by show (t.val - 1) % 2 = 0; omega
  have e1 : ¬(⟨t.val - 1, hp⟩ : Fin cfg0.N).val % 2 = 1 := by omega
  rw [outsAt0_B m c t h0 h1]
  dsimp only
  rw [outB]
  have hA := outsAt0_A m c ⟨t.val - 1, hp⟩ e0 e1
  dsimp only at hA
  rw [hA]
  dsimp only
  rw [accA, prod_blk, prod_blk]
  refine Eq.trans (b := gradA (V m c main_v2) (V m c main_arg0) (ix2 (col t a) b)) ?_ ?_
  · show _ = ∑ r : Fin 4096, gradR (V m c main_v2) (V m c main_arg0) (col t a) b r
    rw [← Fin.sum_mul_add_fin 2 2048 (gradR (V m c main_v2) (V m c main_arg0) (col t a) b), Fin.sum_univ_two]
    refine congrArg₂ (· + ·) (Finset.sum_congr rfl fun k _ => ?_) (Finset.sum_congr rfl fun k _ => ?_)
    · rw [show row ⟨t.val - 1, hp⟩ k = ⟨(0 : Fin 2).val * 2048 + k.val, by simp; omega⟩ from Fin.ext (by simp only [row]; rw [e0]; rfl),
        show col ⟨t.val - 1, hp⟩ a = col t a from Fin.ext (by simp only [col]; omega)]
    · rw [show row t k = ⟨(1 : Fin 2).val * 2048 + k.val, by simp; omega⟩ from Fin.ext (by simp only [row]; rw [h1]; rfl)]
  · exact congrArg (gradA _ _) (by blk_ext [index2, col])

/-- The result array as a function of the launch's arguments, and the arguments unchanged. -/
theorem run : θ_run defs (onTc (τ := τ) (main (F := Ideal))) ⟨m, fun _ => 0, ρ⟩ fun r => ∀ c : Dev nD,
      r.2.mem ((c : Thread nD τ).loc main_v3) = gradA (V m c main_v2) (V m c main_arg0)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (Value.run_blocks (F := Ideal) m ρ)
  exact ⟨(h c).1.trans (array2 m c), (h c).2⟩

/-- The activations the host computes are the reference's. -/
theorem entry_h : V m c main_v2 = Cert.WtwoReferenceIdeal.Read.val_main_v2 (F := Ideal) (m ((c : Thread nD τ).loc main_arg1)) := by
  entry_read
  rfl

end Cert.Proof.Wtwo

end
-- ==== Proof.Wtwo.Claim.lean ====
/-
  The second MLP weight's gradient: the kernel's result is the reference's, over the reals, and the reference's frame.
-/
module

public import proofs.«01_k».proof.Defs
public import proofs.«01_k».proof.Proof.Wtwo.Arrays

@[expose] public section

set_option maxRecDepth 16384

noncomputable section

namespace Cert.Proof.Wtwo

open Idealize.ShloMosaic Idealize.ShloMosaic.TcCoe Idealize.SL.Sem Cert.Proof.Reads

section Ref

open Cert.WtwoReferenceIdeal Cert.WtwoReferenceIdeal.Gen Cert.WtwoReferenceIdeal.Read

/-- The reference's result at an entry: the same sum, its factors the other way round. -/
theorem ref_grad (x0 : Vec Ideal S4096x1024 .f32) (x1 : Vec Ideal S4096x4096 .f32) (a : Fin 4096) (b : Fin 1024) :
    val_main_v5 (F := Ideal) x0 x1 (ix2 a b) = gradA (val_main_v2 (F := Ideal) x1) x0 (ix2 a b) := by
  rw [val_main_v5_apply, show idx_main_v5 (ix2 a b) = ix2 b a from by funext j; fin_cases j <;> rfl, val_main_v4_apply]
  refine Finset.sum_congr rfl fun k _ => ?_
  rw [show lidx_main_v4 (ix2 b a) k = ix2 k b from by funext j; fin_cases j <;> rfl,
    show ridx_main_v4 (ix2 b a) k = ix2 k a from by funext j; fin_cases j <;> rfl, mul_comm]
  rfl

variable (m : (ℓ : Loc nD τ sig) → Buf (Elt Ideal) ℓ) (ρ : Dev nD → PrngReg)

/-- The reference's run: its result is the kernel's array formula of the arguments. -/
theorem run_ref : θ_run defs (onTc (τ := τ) (main (F := Ideal))) ⟨m, fun _ => 0, ρ⟩ fun r => ∀ c : Dev nD,
      r.2.mem ((c.tc : Thread nD τ).loc main_v5)
        = gradA (val_main_v2 (F := Ideal) (m ((c.tc : Thread nD τ).loc main_arg1))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.WtwoReferenceIdeal.Value.run (F := Ideal) m ρ)
  refine ⟨((h c).1.trans (val_main_v5_eq _ _)).trans ?_, (h c).2⟩
  funext i
  obtain ⟨a, b, rfl⟩ := exists_ix2 (n := 4096) (m := 1024) i
  exact ref_grad _ _ a b

end Ref

/-- The kernel's result is the reference's. -/
theorem algebraic : Cert.algebraic_WtwoKernelIdeal_WtwoReferenceIdeal := by
  intro m ρ m' ρ' _ hag
  refine ⟨_, run m ρ, (θ_run _ _ _).mono (fun r h c => ?_) (run_ref m' ρ')⟩
  obtain ⟨h0, h1⟩ := hag c
  obtain ⟨k0, k⟩ := h c
  rw [h0, h1] at k0
  refine ⟨k0.trans ?_, k⟩
  rw [entry_h, Cert.WtwoKernelIdeal.Gen.V_main_arg0]

/-- The reference's frame. -/
theorem frame_ref : Cert.quiescent_WtwoReferenceIdeal := fun m ρ _ =>
  (θ_run Cert.WtwoReferenceIdeal.defs _ _).mono (fun r h => ⟨fun c => (h c).2,
    Idealize.ShloMosaic.sem_eq_zero_of_no_sems (by decide) r.2⟩) (run_ref m ρ)

end Cert.Proof.Wtwo

end
-- ==== Proof.Wone.Block.lean ====
/-
  What one grid point of the first MLP weight's gradient leaves in its accumulator and its result block: the product of the
  normed tokens with the columns of the cotangent over half of the tokens, added to what the first half left; the result block
  holds the product's columns as two column blocks.
-/
module

public import proofs.«01_k».proof.Proof.Gen.WoneKernelIdeal.Value
public import proofs.«01_k».proof.Proof.Reads
public import proofs.«01_k».proof.Proof.Index

@[expose] public section

set_option maxRecDepth 16384

noncomputable section

namespace Cert.Proof.Wone

open Cert.WoneKernelIdeal Cert.WoneKernelIdeal.Gen Idealize.ShloMosaic Idealize.ShloMosaic.TcCoe Idealize.SL.Sem Cert.Proof.Reads

/-- The product of a block of normed tokens and a block of the cotangent, over the block's tokens. -/
def prodB (x0 x1 : Vec Ideal S2048x1024 .bf16) (a b : Fin 1024) : EReal :=
  ∑ k : Fin 2048, x0 (ix2 k a) * x1 (ix2 k b)

/-- The stored sum is the accumulator's value plus the block's product. -/
theorem pay_sum (acc : Vec Ideal S1024x1024 .f32) (x0 x1 : Vec Ideal S2048x1024 .bf16) (a b : Fin 1024) :
    k0_pay2 acc (View.ld x0 (Rect.unit ![0, 0] S2048x1024.size inb_S2048x1024_S2048x1024_0_0))
      (View.ld x1 (Rect.unit ![0, 0] S2048x1024.size inb_S2048x1024_S2048x1024_0_0)) (ix2 a b) = acc (ix2 a b) + prodB x0 x1 a b := by
  pointwise [k0_pay2, prodB]

/-- The accumulator starts at zero. -/
theorem pay_zero (a b : Fin 1024) : k0_pay1 (F := Ideal) (ix2 a b) = 0 := by
  pointwise [k0_pay1]

/-- The first column block of the result. -/
theorem pay_low (acc : Vec Ideal S1024x1024 .f32) (p : Fin 1) (a : Fin 1024) (b : Fin 512) :
    k0_pay3 (View.ld acc (Rect.unit ![0, 0] S1024x512.size inb_S1024x1024_S1024x512_0_0)) (ix3 p a b)
      = acc (ix2 a ⟨0 * 512 + b.val, by omega⟩) := by
  pointwise [k0_pay3]

/-- The second column block of the result. -/
theorem pay_high (acc : Vec Ideal S1024x1024 .f32) (p : Fin 1) (a : Fin 1024) (b : Fin 512) :
    k0_pay4 (View.ld acc (Rect.unit ![0, 512] S1024x512.size inb_S1024x1024_S1024x512_0_512)) (ix3 p a b)
      = acc (ix2 a ⟨1 * 512 + b.val, by omega⟩) := by
  pointwise [k0_pay4]

variable (c : Dev nD) (i : grid0.Coords)
  (arg3 : Memref sig .tc .vmem S2048x1024 .bf16) (harg3 : arg3.IsWhole)
  (arg4 : Memref sig .tc .vmem S2048x1024 .bf16) (harg4 : arg4.IsWhole)
  (arg5 : Memref sig .tc .vmem S2x1024x512 .f32) (harg5 : arg5.IsWhole)
  (arg6 : Memref sig .tc .vmem S1024x1024 .f32) (harg6 : arg6.IsWhole)
  (x0 x1 : Vec Ideal S2048x1024 .bf16)

/-- The accumulator after the first half of the tokens. -/
theorem accA (hc0 : cond0_0 i) (hc1 : ¬cond0_1 i) (a b : Fin 1024) :
    sout0_A_0 c i arg3 harg3 arg4 harg4 arg5 harg5 arg6 harg6 hc0 hc1 x0 x1 (ix2 a b) = prodB x0 x1 a b := by
  unfold sout0_A_0
  rw [View.read_writes_junk_eq_canon]
  unfold kernelRun0_A
  dsimp only
  rw [View.canon_cons_unit_zero (by funext j; fin_cases j <;> rfl)]
  sl_unfold_run_names
  simp only [readAt_ld]
  rw [readCov_of_whole, pay_sum, View.ld_unit_zero (by funext j; fin_cases j <;> rfl), pay_zero, zero_add]

/-- The result block after the second half, by column block, row and column. -/
def outG (acc : Vec Ideal S1024x1024 .f32) : Vec Ideal S2x1024x512 .f32 := fun z =>
  acc (ix2 (z 1) ⟨(z 0).val * 512 + (z 2).val, by have h0 : (z 0).val < 2 := (z 0).isLt; have h2 : (z 2).val < 512 := (z 2).isLt; omega⟩)
    + prodB x0 x1 (z 1) ⟨(z 0).val * 512 + (z 2).val, by have h0 : (z 0).val < 2 := (z 0).isLt; have h2 : (z 2).val < 512 := (z 2).isLt; omega⟩

/-- The result block is that formula. -/
theorem outB (hc0 : ¬cond0_0 i) (hc1 : cond0_1 i) (acc : Vec Ideal S1024x1024 .f32) :
    out0_B_2 c i arg3 harg3 arg4 harg4 arg5 harg5 arg6 harg6 hc0 hc1 x0 x1 acc = outG x0 x1 acc := by
  unfold out0_B_2
  rw [View.read_writes_junk_eq_canon]
  refine canon_eq_of_pieces _ _ ?_ (cover0_B_2 (F := Ideal) c i arg3 harg3 arg4 harg4 arg5 harg5 arg6 harg6 hc0 hc1 x0 x1 acc)
  unfold kernelRun0_B
  dsimp only
  intro p hp
  fin_cases hp <;> intro z <;> dsimp only <;> sl_unfold_run_names <;> simp only [readAt_ld, readCov_of_whole]
  · obtain ⟨p, a, b, rfl⟩ := exists_ix3 (n := 1) (m := 1024) (l := 512) z
    rw [pay_high, pay_sum, View.ld_unit_zero (by funext j; fin_cases j <;> rfl)]
    refine Eq.trans (b := outG x0 x1 acc (ix3 1 a b)) rfl (congrArg (outG x0 x1 acc) ?_)
    funext j
    apply Fin.ext
    fin_cases j
    · show 1 = 1 + 1 * p.val; omega
    · show a.val = 0 + 1 * a.val; omega
    · show b.val = 0 + 1 * b.val; omega
  · obtain ⟨p, a, b, rfl⟩ := exists_ix3 (n := 1) (m := 1024) (l := 512) z
    rw [pay_low, pay_sum, View.ld_unit_zero (by funext j; fin_cases j <;> rfl)]
    refine Eq.trans (b := outG x0 x1 acc (ix3 0 a b)) rfl (congrArg (outG x0 x1 acc) ?_)
    funext j
    apply Fin.ext
    fin_cases j
    · show 0 = 0 + 1 * p.val; omega
    · show a.val = 0 + 1 * a.val; omega
    · show b.val = 0 + 1 * b.val; omega

end Cert.Proof.Wone

end
-- ==== Proof.Wone.Arrays.lean ====
/-
  The gradient of the first MLP weight as a formula of the arrays at the launch: its columns in eight blocks of 512, two
  blocks at a pair of points, over the two halves of the tokens.
-/
module

public import proofs.«01_k».proof.Proof.Wone.Block
public import proofs.«01_k».proof.Proof.Gen.WoneReferenceIdeal.Read
public import proofs.«01_k».proof.Proof.Gen.WoneReferenceIdeal.Run
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Cert.Proof.Wone

open Cert.WoneKernelIdeal Cert.WoneKernelIdeal.Gen Idealize.ShloMosaic Idealize.ShloMosaic.TcCoe Idealize.SL.Sem Cert.Proof.Reads

/-- What a token adds to an entry of the gradient. -/
def gradR (h : Vec Ideal S4096x1024 .bf16) (du : Vec Ideal S4096x4096 .bf16) (a : Fin 1024) (b : Fin 4096) (r : Fin 4096) : EReal :=
  h (ix2 r a) * du (ix2 r b)

/-- The column of the weight that column `b` of column block `q` is. -/
def wcol (q : Fin 8) (b : Fin 512) : Fin 4096 := ⟨q.val * 512 + b.val, by omega⟩

/-- The gradient by column block: normed tokens against cotangents, over all tokens. -/
def gradA (h : Vec Ideal S4096x1024 .bf16) (du : Vec Ideal S4096x4096 .bf16) : Vec Ideal S8x1024x512 .f32 :=
  fun i => ∑ r : Fin 4096, gradR h du (i 1) (wcol (i 0) (i 2)) r

variable (m : (ℓ : Loc nD τ sig) → Buf (Elt Ideal) ℓ) (ρ : Dev nD → PrngReg) (c : Dev nD)

/-- A token of point `t`'s half. -/
def row (t : Fin cfg0.N) (a : Fin 2048) : Fin 4096 := ⟨t.val % 2 * 2048 + a.val, by have := a.isLt; omega⟩

/-- A column of point `t`'s block of the cotangent. -/
def col (t : Fin cfg0.N) (b : Fin 1024) : Fin 4096 := ⟨t.val / 2 * 1024 + b.val, by have := t.isLt; have : cfg0.N = 8 := N_0; omega⟩

/-- A column block of point `t`'s pair. -/
def blk (t : Fin cfg0.N) (p : Fin 2) : Fin 8 := ⟨t.val / 2 * 2 + p.val, by have := t.isLt; have : cfg0.N = 8 := N_0; omega⟩

theorem index0 : ∀ t : Fin cfg0.N, win0_0.index t = ![t.val % 2, 0] := (by decide +kernel : ∀ t : Fin grid0.N, win0_0.index t = ![t.val % 2, 0])
theorem index1 : ∀ t : Fin cfg0.N, win0_1.index t = ![t.val % 2, t.val / 2] := (by decide +kernel : ∀ t : Fin grid0.N, win0_1.index t = ![t.val % 2, t.val / 2])
theorem index2 : ∀ t : Fin cfg0.N, win0_2.index t = ![t.val / 2, 0, 0] := (by decide +kernel : ∀ t : Fin grid0.N, win0_2.index t = ![t.val / 2, 0, 0])

/-- The block of the normed tokens. -/
theorem blk0 (t : Fin cfg0.N) (a : Fin 2048) (b : Fin 1024) : iblk m c 0 t (ix2 a b) = V m c main_v12 (ix2 (row t a) b) := by
  blk_simp [iblk]
  exact congrArg (V m c main_v12) (by blk_ext [index0, row])

/-- The block of the cotangent. -/
theorem blk1 (t : Fin cfg0.N) (a : Fin 2048) (b : Fin 1024) : iblk m c 1 t (ix2 a b) = V m c main_v13 (ix2 (row t a) (col t b)) := by
  blk_simp [iblk]
  exact congrArg (V m c main_v13) (by blk_ext [index1, row, col])

/-- A point's product, of the arrays. -/
theorem prod_blk (t : Fin cfg0.N) (a b : Fin 1024) :
    prodB (iblk m c 0 t) (iblk m c 1 t) a b = ∑ k : Fin 2048, gradR (V m c main_v12) (V m c main_v13) a (col t b) (row t k) := by
  unfold prodB gradR
  simp only [blk0, blk1]

/-- The two halves' products make up the sum over all tokens. -/
theorem halves (f : Fin 4096 → EReal) (s t : Fin cfg0.N) (hs : s.val % 2 = 0) (ht : t.val % 2 = 1) :
    (∑ k : Fin 2048, f (row s k)) + ∑ k : Fin 2048, f (row t k) = ∑ r : Fin 4096, f r := by
  rw [← Fin.sum_mul_add_fin 2 2048 f, Fin.sum_univ_two]
  refine congrArg₂ (· + ·) (Finset.sum_congr rfl fun k _ => ?_) (Finset.sum_congr rfl fun k _ => ?_)
  · rw [show row s k = ⟨(0 : Fin 2).val * 2048 + k.val, by simp; omega⟩ from Fin.ext (by simp only [row]; rw [hs]; rfl)]
  · rw [show row t k = ⟨(1 : Fin 2).val * 2048 + k.val, by simp; omega⟩ from Fin.ext (by simp only [row]; rw [ht]; rfl)]

/-- The result array. -/
theorem array2 : (dats m 0 c).arrAt 2 cfg0.N = gradA (V m c main_v12) (V m c main_v13) := by
  refine (dats m 0 c).arrAt_eq_of_covers 2 _ (by decide +kernel) fun t hf y => ?_
  blk_simp
  rw [after0_2]
  obtain ⟨p, a, b, rfl⟩ := exists_ix3 (n := 2) (m := 1024) (l := 512) y
  have h1 : t.val % 2 = 1 := (flush0_2 t).mp hf
  have h0 : ¬t.val % 2 = 0 := by omega
  have hp : t.val - 1 < cfg0.N := Nat.lt_of_le_of_lt (Nat.sub_le _ _) t.isLt
  have e0 : (⟨t.val - 1, hp⟩ : Fin cfg0.N).val % 2 = 0 := by show (t.val - 1) % 2 = 0; omega
  have e1 : ¬(⟨t.val - 1, hp⟩ : Fin cfg0.N).val % 2 = 1 := by omega
  rw [outsAt0_B m c t h0 h1]
  dsimp only
  rw [outB]
  have hA := outsAt0_A m c ⟨t.val - 1, hp⟩ e0 e1
  dsimp only at hA
  rw [hA]
  dsimp only
  have hb : p.val * 512 + b.val < 1024 := by omega
  refine Eq.trans (b := gradA (V m c main_v12) (V m c main_v13) (ix3 (blk t p) a b)) ?_ ?_
  · show sout0_A_0 (F := Ideal) _ _ _ _ _ _ _ _ _ _ _ _ _ _ (ix2 a ⟨p.val * 512 + b.val, hb⟩) + prodB _ _ a ⟨p.val * 512 + b.val, hb⟩
      = ∑ r : Fin 4096, gradR (V m c main_v12) (V m c main_v13) a (wcol (blk t p) b) r
    rw [accA, prod_blk, prod_blk,
      show col ⟨t.val - 1, hp⟩ ⟨p.val * 512 + b.val, hb⟩ = wcol (blk t p) b from Fin.ext (by simp only [col, wcol, blk]; omega),
      show col t ⟨p.val * 512 + b.val, hb⟩ = wcol (blk t p) b from Fin.ext (by simp only [col, wcol, blk]; omega)]
    exact halves _ _ _ e0 h1
  · exact congrArg (gradA _ _) (by blk_ext [index2, blk])

/-- The result array as a function of the launch's arguments, and the arguments unchanged. -/
theorem run : θ_run defs (onTc (τ := τ) (main (F := Ideal))) ⟨m, fun _ => 0, ρ⟩ fun r => ∀ c : Dev nD,
      r.2.mem ((c : Thread nD τ).loc main_v14) = gradA (V m c main_v12) (V m c main_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks (F := Ideal) m ρ)
  exact ⟨(h c).1.trans (array2 m c), (h c).2⟩

/-- The normed tokens the host computes are the reference's. -/
theorem entry_h : V m c main_v12 = Cert.WoneReferenceIdeal.Read.val_main_v12 (F := Ideal)
    (m ((c : Thread nD τ).loc main_arg1)) (m ((c : Thread nD τ).loc main_arg2)) := by
  entry_read
  rfl

/-- The cotangent's cast changes nothing over the reals. -/
theorem entry_du : V m c main_v13 = m ((c : Thread nD τ).loc main_arg0) := by
  entry_read
  rfl

end Cert.Proof.Wone

end
-- ==== Proof.Wone.Claim.lean ====
/-
  The first MLP weight's gradient: the kernel's result is the reference's, over the reals, and the reference's frame.
-/
module

public import proofs.«01_k».proof.Defs
public import proofs.«01_k».proof.Proof.Wone.Arrays

@[expose] public section

set_option maxRecDepth 16384

noncomputable section

namespace Cert.Proof.Wone

open Idealize.ShloMosaic Idealize.ShloMosaic.TcCoe Idealize.SL.Sem Cert.Proof.Reads

section Ref

open Cert.WoneReferenceIdeal Cert.WoneReferenceIdeal.Gen Cert.WoneReferenceIdeal.Read

/-- The reference's result at an entry: the same sum, its factors the other way round. -/
theorem ref_grad (x0 : Vec Ideal S4096x4096 .f32) (x1 : Vec Ideal S4096x1024 .f32) (x2 : Vec Ideal S1x1024 .f32)
    (q : Fin 8) (a : Fin 1024) (b : Fin 512) :
    val_main_v17 (F := Ideal) x0 x1 x2 (ix3 q a b) = gradA (val_main_v12 (F := Ideal) x1 x2) x0 (ix3 q a b) := by
  have e : idx_main_v15 (idx_main_v16 (idx_main_v17 (ix3 q a b))) = ix2 (wcol q b) a := by
    funext j
    apply Fin.ext
    fin_cases j
    · show ((a.val * 8 + q.val) * 512 + b.val) % 4096 = q.val * 512 + b.val; omega
    · show ((a.val * 8 + q.val) * 512 + b.val) / 4096 = a.val; omega
  rw [val_main_v17_apply, val_main_v16_apply, val_main_v15_apply, e, val_main_v14_apply]
  refine Finset.sum_congr rfl fun k _ => ?_
  rw [show lidx_main_v14 (ix2 (wcol q b) a) k = ix2 k (wcol q b) from by funext j; fin_cases j <;> rfl,
    show ridx_main_v14 (ix2 (wcol q b) a) k = ix2 k a from by funext j; fin_cases j <;> rfl, mul_comm]
  rfl

variable (m : (ℓ : Loc nD τ sig) → Buf (Elt Ideal) ℓ) (ρ : Dev nD → PrngReg)

/-- The reference's run: its result is the kernel's array formula of the arguments. -/
theorem run_ref : θ_run defs (onTc (τ := τ) (main (F := Ideal))) ⟨m, fun _ => 0, ρ⟩ fun r => ∀ c : Dev nD,
      r.2.mem ((c.tc : Thread nD τ).loc main_v17)
        = gradA (val_main_v12 (F := Ideal) (m ((c.tc : Thread nD τ).loc main_arg1)) (m ((c.tc : Thread nD τ).loc main_arg2)))
          (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.WoneReferenceIdeal.Value.run (F := Ideal) m ρ)
  refine ⟨((h c).1.trans (val_main_v17_eq _ _ _)).trans ?_, (h c).2⟩
  funext i
  obtain ⟨q, a, b, rfl⟩ := exists_ix3 (n := 8) (m := 1024) (l := 512) i
  exact ref_grad _ _ _ q a b

end Ref

/-- The kernel's result is the reference's. -/
theorem algebraic : Cert.algebraic_WoneKernelIdeal_WoneReferenceIdeal := by
  intro m ρ m' ρ' _ hag
  refine ⟨_, run m ρ, (θ_run _ _ _).mono (fun r h c => ?_) (run_ref m' ρ')⟩
  obtain ⟨h0, h1, h2⟩ := hag c
  obtain ⟨k0, k⟩ := h c
  rw [h0, h1, h2] at k0
  refine ⟨k0.trans ?_, k⟩
  rw [entry_h, entry_du]

/-- The reference's frame. -/
theorem frame_ref : Cert.quiescent_WoneReferenceIdeal := fun m ρ _ =>
  (θ_run Cert.WoneReferenceIdeal.defs _ _).mono (fun r h => ⟨fun c => (h c).2,
    Idealize.ShloMosaic.sem_eq_zero_of_no_sems (by decide) r.2⟩) (run_ref m ρ)

end Cert.Proof.Wone

end
-- ==== Proof.Wcq.Block.lean ====
/-
  What one grid point of the query projection's weight's gradient leaves: the product of a block of normed tokens with a block
  of the cotangent over the block's tokens, added to what the points before left.
-/
module

public import proofs.«01_k».proof.Proof.Gen.WcqKernelIdeal.Value
public import proofs.«01_k».proof.Proof.Reads

@[expose] public section

set_option maxRecDepth 16384

noncomputable section

namespace Cert.Proof.Wcq

open Cert.WcqKernelIdeal Cert.WcqKernelIdeal.Gen Idealize.ShloMosaic Idealize.ShloMosaic.TcCoe Idealize.SL.Sem Cert.Proof.Reads

/-- The product of two blocks over the block's tokens. -/
def prodB (x0 : Vec Ideal S1024x1024 .bf16) (x1 : Vec Ideal S1024x512 .bf16) (a : Fin 1024) (b : Fin 512) : EReal :=
  ∑ k : Fin 1024, x0 (ix2 k a) * x1 (ix2 k b)

/-- The stored sum is the accumulator's value plus the block's product. -/
theorem pay_sum (acc : Vec Ideal S1024x512 .f32) (x0 : Vec Ideal S1024x1024 .bf16) (x1 : Vec Ideal S1024x512 .bf16) (a : Fin 1024) (b : Fin 512) :
    k0_pay2 acc (View.ld x0 (Rect.unit ![0, 0] S1024x1024.size inb_S1024x1024_S1024x1024_0_0))
      (View.ld x1 (Rect.unit ![0, 0] S1024x512.size inb_S1024x512_S1024x512_0_0)) (ix2 a b) = acc (ix2 a b) + prodB x0 x1 a b := by
  pointwise [k0_pay2, prodB]

/-- The accumulator starts at zero. -/
theorem pay_zero (a : Fin 1024) (b : Fin 512) : k0_pay1 (F := Ideal) (ix2 a b) = 0 := by
  pointwise [k0_pay1]

variable (c : Dev nD) (i : grid0.Coords)
  (arg3 : Memref sig .tc .vmem S1024x1024 .bf16) (harg3 : arg3.IsWhole)
  (arg4 : Memref sig .tc .vmem S1024x512 .bf16) (harg4 : arg4.IsWhole)
  (arg5 : Memref sig .tc .vmem S1024x512 .f32) (harg5 : arg5.IsWhole)
  (arg6 : Memref sig .tc .vmem S1024x512 .f32) (harg6 : arg6.IsWhole)
  (x0 : Vec Ideal S1024x1024 .bf16) (x1 : Vec Ideal S1024x512 .bf16)

/-- The accumulator after the first point. -/
theorem accA (hc0 : cond0_0 i) (hc1 : ¬cond0_1 i) (a : Fin 1024) (b : Fin 512) :
    sout0_A_0 c i arg3 harg3 arg4 harg4 arg5 harg5 arg6 harg6 hc0 hc1 x0 x1 (ix2 a b) = prodB x0 x1 a b := by
  unfold sout0_A_0
  rw [View.read_writes_junk_eq_canon]
  unfold kernelRun0_A
  dsimp only
  rw [View.canon_cons_unit_zero (by funext j; fin_cases j <;> rfl)]
  sl_unfold_run_names
  simp only [readAt_ld]
  rw [readCov_of_whole, pay_sum, View.ld_unit_zero (by funext j; fin_cases j <;> rfl), pay_zero, zero_add]

/-- The accumulator after a point in between. -/
theorem accB (hc0 : ¬cond0_0 i) (hc1 : ¬cond0_1 i) (acc : Vec Ideal S1024x512 .f32) (a : Fin 1024) (b : Fin 512) :
    sout0_B_0 c i arg3 harg3 arg4 harg4 arg5 harg5 arg6 harg6 hc0 hc1 x0 x1 acc (ix2 a b) = acc (ix2 a b) + prodB x0 x1 a b := by
  unfold sout0_B_0
  rw [View.read_writes_junk_eq_canon]
  unfold kernelRun0_B
  dsimp only
  rw [View.canon_unit_zero (by funext j; fin_cases j <;> rfl)]
  sl_unfold_run_names
  simp only [readAt_ld]
  rw [pay_sum, View.ld_unit_zero (by funext j; fin_cases j <;> rfl)]

/-- The result block after the last point. -/
theorem outC (hc0 : ¬cond0_0 i) (hc1 : cond0_1 i) (acc : Vec Ideal S1024x512 .f32) (a : Fin 1024) (b : Fin 512) :
    out0_C_2 c i arg3 harg3 arg4 harg4 arg5 harg5 arg6 harg6 hc0 hc1 x0 x1 acc (ix2 a b) = acc (ix2 a b) + prodB x0 x1 a b := by
  unfold out0_C_2
  rw [View.read_writes_junk_eq_canon]
  unfold kernelRun0_C
  dsimp only
  rw [View.canon_unit_zero (by funext j; fin_cases j <;> rfl)]
  sl_unfold_run_names
  simp only [readAt_ld]
  rw [readCov_of_whole, View.ld_unit_zero (by funext j; fin_cases j <;> rfl), pay_sum, View.ld_unit_zero (by funext j; fin_cases j <;> rfl)]

end Cert.Proof.Wcq

end
-- ==== Proof.Wcq.Arrays.lean ====
/-
  The gradient of the query projection's weight as a formula of the arrays at the launch: over all tokens, a block of tokens at each point.
-/
module

public import proofs.«01_k».proof.Proof.Wcq.Block
public import proofs.«01_k».proof.Proof.Gen.WcqReferenceIdeal.Read
public import proofs.«01_k».proof.Proof.Gen.WcqReferenceIdeal.Run
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Cert.Proof.Wcq

open Cert.WcqKernelIdeal Cert.WcqKernelIdeal.Gen Idealize.ShloMosaic Idealize.ShloMosaic.TcCoe Idealize.SL.Sem Cert.Proof.Reads

/-- What a token adds to an entry of the gradient. -/
def gradR (h : Vec Ideal S4096x1024 .bf16) (d : Vec Ideal S4096x512 .bf16) (a : Fin 1024) (b : Fin 512) (r : Fin 4096) : EReal :=
  h (ix2 r a) * d (ix2 r b)

/-- The gradient: normed tokens against the cotangent, over all tokens. -/
def gradA (h : Vec Ideal S4096x1024 .bf16) (d : Vec Ideal S4096x512 .bf16) : Vec Ideal S1024x512 .f32 :=
  fun i => ∑ r : Fin 4096, gradR h d (i 0) (i 1) r

variable (m : (ℓ : Loc nD τ sig) → Buf (Elt Ideal) ℓ) (ρ : Dev nD → PrngReg) (c : Dev nD)

/-- A token of point `t`'s block. -/
def row (t : Fin cfg0.N) (a : Fin 1024) : Fin 4096 := ⟨t.val * 1024 + a.val, by have := a.isLt; have := t.isLt; have : cfg0.N = 4 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])

/-- The block of normed tokens. -/
theorem blk0 (t : Fin cfg0.N) (a : Fin 1024) (b : Fin 1024) : iblk m c 0 t (ix2 a b) = V m c main_v12 (ix2 (row t a) b) := by
  blk_simp [iblk]
  exact congrArg (V m c main_v12) (by blk_ext [index0, row])

/-- The block of the cotangent. -/
theorem blk1 (t : Fin cfg0.N) (a : Fin 1024) (b : Fin 512) : iblk m c 1 t (ix2 a b) = V m c main_v13 (ix2 (row t a) b) := by
  blk_simp [iblk]
  exact congrArg (V m c main_v13) (by blk_ext [index1, row])

/-- A point's product, of the arrays. -/
theorem prod_blk (t : Fin cfg0.N) (a : Fin 1024) (b : Fin 512) :
    prodB (iblk m c 0 t) (iblk m c 1 t) a b = ∑ k : Fin 1024, gradR (V m c main_v12) (V m c main_v13) a b (row t k) := by
  unfold prodB gradR
  simp only [blk0, blk1]

/-- The accumulator after a point, of the accumulator before. -/
theorem acc_step (k : ℕ) (hk : k + 1 < cfg0.N) (h0 : ¬(k + 1) % 4 = 0) (h1 : ¬(k + 1) % 4 = 3) (a : Fin 1024) (b : Fin 512) :
    (outsAt0 m c (k + 1) hk).2 (ix2 a b)
      = (outsAt0 m c k (Nat.lt_of_succ_lt hk)).2 (ix2 a b) + prodB (iblk m c 0 ⟨k + 1, hk⟩) (iblk m c 1 ⟨k + 1, hk⟩) a b := by
  have hB := outsAt0_B m c ⟨k + 1, hk⟩ h0 h1
  dsimp only at hB
  rw [hB]
  dsimp only
  rw [accB]
  rfl

/-- The accumulator before the last point: the first three points' products. -/
theorem acc_last (h0 : 0 < cfg0.N) (h1 : 1 < cfg0.N) (h2 : 2 < cfg0.N) (a : Fin 1024) (b : Fin 512) :
    (outsAt0 m c 2 h2).2 (ix2 a b)
      = prodB (iblk m c 0 ⟨0, h0⟩) (iblk m c 1 ⟨0, h0⟩) a b + prodB (iblk m c 0 ⟨1, h1⟩) (iblk m c 1 ⟨1, h1⟩) a b
        + prodB (iblk m c 0 ⟨2, h2⟩) (iblk m c 1 ⟨2, h2⟩) a b := by
  have s0 : (outsAt0 m c 0 h0).2 (ix2 a b) = prodB (iblk m c 0 ⟨0, h0⟩) (iblk m c 1 ⟨0, h0⟩) a b := by
    have hA := outsAt0_A m c ⟨0, h0⟩ (show 0 % 4 = 0 by decide) (show ¬0 % 4 = 3 by decide)
    dsimp only at hA
    rw [hA]
    dsimp only
    rw [accA]
  have s1 : (outsAt0 m c 1 h1).2 (ix2 a b) = (outsAt0 m c 0 h0).2 (ix2 a b) + prodB (iblk m c 0 ⟨1, h1⟩) (iblk m c 1 ⟨1, h1⟩) a b :=
    acc_step m c 0 h1 (by decide) (by decide) a b
  have s2 : (outsAt0 m c 2 h2).2 (ix2 a b) = (outsAt0 m c 1 h1).2 (ix2 a b) + prodB (iblk m c 0 ⟨2, h2⟩) (iblk m c 1 ⟨2, h2⟩) a b :=
    acc_step m c 1 h2 (by decide) (by decide) a b
  rw [s2, s1, s0]

/-- The four points' products make up the sum over all tokens. -/
theorem quarters (f : Fin 4096 → EReal) (h0 : 0 < cfg0.N) (h1 : 1 < cfg0.N) (h2 : 2 < cfg0.N) (h3 : 3 < cfg0.N) :
    (∑ k : Fin 1024, f (row ⟨0, h0⟩ k)) + (∑ k : Fin 1024, f (row ⟨1, h1⟩ k)) + (∑ k : Fin 1024, f (row ⟨2, h2⟩ k))
      + (∑ k : Fin 1024, f (row ⟨3, h3⟩ k)) = ∑ r : Fin 4096, f r := by
  rw [← Fin.sum_mul_add_fin 4 1024 f, Fin.sum_univ_four]
  rfl

/-- The result array. -/
theorem array2 : (dats m 0 c).arrAt 2 cfg0.N = gradA (V m c main_v12) (V m c main_v13) := by
  refine (dats m 0 c).arrAt_eq_of_covers 2 _ (by decide +kernel) fun t hf y => ?_
  blk_simp
  rw [after0_2]
  obtain ⟨a, b, rfl⟩ := exists_ix2 (n := 1024) (m := 512) y
  have hy : (ix2 a b : S1024x512.Idx) = (win0_2.blk t).view.emb (ix2 a b) := by blk_ext [index2]
  obtain ⟨tv, htv⟩ := t
  have h1 : tv % 4 = 3 := (flush0_2 ⟨tv, htv⟩).mp hf
  have hN : cfg0.N = 4 := N_0
  have hv : tv < 4 := lt_of_lt_of_eq htv N_0
  have e : tv = 3 := by omega
  subst e
  have hC := outsAt0_C m c ⟨3, htv⟩ (show ¬3 % 4 = 0 by decide) (show 3 % 4 = 3 by decide)
  dsimp only at hC
  rw [hC]
  dsimp only
  rw [outC]
  refine Eq.trans (b := gradA (V m c main_v12) (V m c main_v13) (ix2 a b)) ?_ ?_
  · show (outsAt0 m c 2 _).2 (ix2 a b) + prodB _ _ a b = ∑ r : Fin 4096, gradR (V m c main_v12) (V m c main_v13) a b r
    rw [acc_last m c (lt_of_lt_of_eq (by decide : 0 < 4) hN.symm) (lt_of_lt_of_eq (by decide : 1 < 4) hN.symm) (lt_of_lt_of_eq (by decide : 2 < 4) hN.symm), prod_blk, prod_blk, prod_blk, prod_blk]
    exact quarters _ _ _ _ _
  · exact congrArg (gradA _ _) hy

/-- The result array as a function of the launch's arguments, and the arguments unchanged. -/
theorem run : θ_run defs (onTc (τ := τ) (main (F := Ideal))) ⟨m, fun _ => 0, ρ⟩ fun r => ∀ c : Dev nD,
      r.2.mem ((c : Thread nD τ).loc main_v14) = gradA (V m c main_v12) (V m c main_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks (F := Ideal) m ρ)
  exact ⟨(h c).1.trans (array2 m c), (h c).2⟩

/-- The normed rows the host computes are the reference's. -/
theorem entry_h : V m c main_v12 = Cert.WcqReferenceIdeal.Read.val_main_v12 (F := Ideal)
    (m ((c : Thread nD τ).loc main_arg1)) (m ((c : Thread nD τ).loc main_arg2)) := by
  entry_read
  rfl

/-- The cotangent's cast changes nothing over the reals. -/
theorem entry_d : V m c main_v13 = m ((c : Thread nD τ).loc main_arg0) := by
  entry_read
  rfl

end Cert.Proof.Wcq

end
-- ==== Proof.Wcq.Claim.lean ====
/-
  The query projection's weight's gradient: the kernel's result is the reference's, over the reals, and the reference's frame.
-/
module

public import proofs.«01_k».proof.Defs
public import proofs.«01_k».proof.Proof.Wcq.Arrays

@[expose] public section

set_option maxRecDepth 16384

noncomputable section

namespace Cert.Proof.Wcq

open Idealize.ShloMosaic Idealize.ShloMosaic.TcCoe Idealize.SL.Sem Cert.Proof.Reads

section Ref

open Cert.WcqReferenceIdeal Cert.WcqReferenceIdeal.Gen Cert.WcqReferenceIdeal.Read

/-- The reference's result at an entry: the same sum, its factors the other way round. -/
theorem ref_grad (x0 : Vec Ideal S4096x512 .f32) (x1 : Vec Ideal S4096x1024 .f32) (x2 : Vec Ideal S1x1024 .f32) (a : Fin 1024) (b : Fin 512) :
    val_main_v15 (F := Ideal) x0 x1 x2 (ix2 a b) = gradA (val_main_v12 (F := Ideal) x1 x2) x0 (ix2 a b) := by
  rw [val_main_v15_apply, show idx_main_v15 (ix2 a b) = ix2 b a from by funext j; fin_cases j <;> rfl, val_main_v14_apply]
  refine Finset.sum_congr rfl fun k _ => ?_
  rw [show lidx_main_v14 (ix2 b a) k = ix2 k b from by funext j; fin_cases j <;> rfl,
    show ridx_main_v14 (ix2 b a) k = ix2 k a from by funext j; fin_cases j <;> rfl, mul_comm]
  rfl

variable (m : (ℓ : Loc nD τ sig) → Buf (Elt Ideal) ℓ) (ρ : Dev nD → PrngReg)

/-- The reference's run: its result is the kernel's array formula of the arguments. -/
theorem run_ref : θ_run defs (onTc (τ := τ) (main (F := Ideal))) ⟨m, fun _ => 0, ρ⟩ fun r => ∀ c : Dev nD,
      r.2.mem ((c.tc : Thread nD τ).loc main_v15)
        = gradA (val_main_v12 (F := Ideal) (m ((c.tc : Thread nD τ).loc main_arg1)) (m ((c.tc : Thread nD τ).loc main_arg2))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.WcqReferenceIdeal.Value.run (F := Ideal) m ρ)
  refine ⟨((h c).1.trans (val_main_v15_eq _ _ _)).trans ?_, (h c).2⟩
  funext i
  obtain ⟨a, b, rfl⟩ := exists_ix2 (n := 1024) (m := 512) i
  exact ref_grad _ _ _ a b

end Ref

/-- The kernel's result is the reference's. -/
theorem algebraic : Cert.algebraic_WcqKernelIdeal_WcqReferenceIdeal := by
  intro m ρ m' ρ' _ hag
  refine ⟨_, run m ρ, (θ_run _ _ _).mono (fun r h c => ?_) (run_ref m' ρ')⟩
  obtain ⟨h0, h1, h2⟩ := hag c
  obtain ⟨k0, k⟩ := h c
  rw [h0, h1, h2] at k0
  refine ⟨k0.trans ?_, k⟩
  rw [entry_h, entry_d]

/-- The reference's frame. -/
theorem frame_ref : Cert.quiescent_WcqReferenceIdeal := fun m ρ _ =>
  (θ_run Cert.WcqReferenceIdeal.defs _ _).mono (fun r h => ⟨fun c => (h c).2,
    Idealize.ShloMosaic.sem_eq_zero_of_no_sems (by decide) r.2⟩) (run_ref m ρ)

end Cert.Proof.Wcq

end
-- ==== Proof.Wco.Block.lean ====
/-
  What one grid point of the cross-attention's output weight's gradient leaves: the product of a block of the heads' outputs with a block
  of the cotangent over the block's tokens, added to what the points before left, and after the last
  point the sum's columns as column blocks.
-/
module

public import proofs.«01_k».proof.Proof.Gen.WcoKernelIdeal.Value
public import proofs.«01_k».proof.Proof.Reads
public import proofs.«01_k».proof.Proof.Index

@[expose] public section

set_option maxRecDepth 16384

noncomputable section

namespace Cert.Proof.Wco

open Cert.WcoKernelIdeal Cert.WcoKernelIdeal.Gen Idealize.ShloMosaic Idealize.ShloMosaic.TcCoe Idealize.SL.Sem Cert.Proof.Reads

/-- The product of two blocks over the block's tokens. -/
def prodB (x0 : Vec Ideal S1024x512 .bf16) (x1 : Vec Ideal S1024x1024 .f32) (a : Fin 512) (b : Fin 1024) : EReal :=
  ∑ k : Fin 1024, x0 (ix2 k a) * x1 (ix2 k b)

/-- The stored sum is the accumulator's value plus the block's product. -/
theorem pay_sum (acc : Vec Ideal S512x1024 .f32) (x0 : Vec Ideal S1024x512 .bf16) (x1 : Vec Ideal S1024x1024 .f32) (a : Fin 512) (b : Fin 1024) :
    k0_pay2 acc (View.ld x0 (Rect.unit ![0, 0] S1024x512.size inb_S1024x512_S1024x512_0_0))
      (View.ld x1 (Rect.unit ![0, 0] S1024x1024.size inb_S1024x1024_S1024x1024_0_0)) (ix2 a b) = acc (ix2 a b) + prodB x0 x1 a b := by
  pointwise [k0_pay2, prodB]

/-- The accumulator starts at zero. -/
theorem pay_zero (a : Fin 512) (b : Fin 1024) : k0_pay1 (F := Ideal) (ix2 a b) = 0 := by
  pointwise [k0_pay1]

/-- Column block 0 of the result. -/
theorem pay_block0 (acc : Vec Ideal S512x1024 .f32) (p : Fin 1) (a : Fin 512) (b : Fin 128) :
    k0_pay5 (View.ld acc (Rect.unit ![0, 0] S512x128.size inb_S512x1024_S512x128_0_0)) (ix3 p a b)
      = acc (ix2 a ⟨0 * 128 + b.val, by omega⟩) := by
  pointwise [k0_pay5]

/-- Column block 1 of the result. -/
theorem pay_block1 (acc : Vec Ideal S512x1024 .f32) (p : Fin 1) (a : Fin 512) (b : Fin 128) :
    k0_pay6 (View.ld acc (Rect.unit ![0, 128] S512x128.size inb_S512x1024_S512x128_0_128)) (ix3 p a b)
      = acc (ix2 a ⟨1 * 128 + b.val, by omega⟩) := by
  pointwise [k0_pay6]

/-- Column block 2 of the result. -/
theorem pay_block2 (acc : Vec Ideal S512x1024 .f32) (p : Fin 1) (a : Fin 512) (b : Fin 128) :
    k0_pay7 (View.ld acc (Rect.unit ![0, 256] S512x128.size inb_S512x1024_S512x128_0_256)) (ix3 p a b)
      = acc (ix2 a ⟨2 * 128 + b.val, by omega⟩) := by
  pointwise [k0_pay7]

/-- Column block 3 of the result. -/
theorem pay_block3 (acc : Vec Ideal S512x1024 .f32) (p : Fin 1) (a : Fin 512) (b : Fin 128) :
    k0_pay8 (View.ld acc (Rect.unit ![0, 384] S512x128.size inb_S512x1024_S512x128_0_384)) (ix3 p a b)
      = acc (ix2 a ⟨3 * 128 + b.val, by omega⟩) := by
  pointwise [k0_pay8]

/-- Column block 4 of the result. -/
theorem pay_block4 (acc : Vec Ideal S512x1024 .f32) (p : Fin 1) (a : Fin 512) (b : Fin 128) :
    k0_pay9 (View.ld acc (Rect.unit ![0, 512] S512x128.size inb_S512x1024_S512x128_0_512)) (ix3 p a b)
      = acc (ix2 a ⟨4 * 128 + b.val, by omega⟩) := by
  pointwise [k0_pay9]

/-- Column block 5 of the result. -/
theorem pay_block5 (acc : Vec Ideal S512x1024 .f32) (p : Fin 1) (a : Fin 512) (b : Fin 128) :
    k0_pay10 (View.ld acc (Rect.unit ![0, 640] S512x128.size inb_S512x1024_S512x128_0_640)) (ix3 p a b)
      = acc (ix2 a ⟨5 * 128 + b.val, by omega⟩) := by
  pointwise [k0_pay10]

/-- Column block 6 of the result. -/
theorem pay_block6 (acc : Vec Ideal S512x1024 .f32) (p : Fin 1) (a : Fin 512) (b : Fin 128) :
    k0_pay3 (View.ld acc (Rect.unit ![0, 768] S512x128.size inb_S512x1024_S512x128_0_768)) (ix3 p a b)
      = acc (ix2 a ⟨6 * 128 + b.val, by omega⟩) := by
  pointwise [k0_pay3]

/-- Column block 7 of the result. -/
theorem pay_block7 (acc : Vec Ideal S512x1024 .f32) (p : Fin 1) (a : Fin 512) (b : Fin 128) :
    k0_pay4 (View.ld acc (Rect.unit ![0, 896] S512x128.size inb_S512x1024_S512x128_0_896)) (ix3 p a b)
      = acc (ix2 a ⟨7 * 128 + b.val, by omega⟩) := by
  pointwise [k0_pay4]

variable (c : Dev nD) (i : grid0.Coords)
  (arg3 : Memref sig .tc .vmem S1024x512 .bf16) (harg3 : arg3.IsWhole)
  (arg4 : Memref sig .tc .vmem S1024x1024 .f32) (harg4 : arg4.IsWhole)
  (arg5 : Memref sig .tc .vmem S8x512x128 .f32) (harg5 : arg5.IsWhole)
  (arg6 : Memref sig .tc .vmem S512x1024 .f32) (harg6 : arg6.IsWhole)
  (x0 : Vec Ideal S1024x512 .bf16) (x1 : Vec Ideal S1024x1024 .f32)

/-- The accumulator after the first point. -/
theorem accA (hc0 : cond0_0 i) (hc1 : ¬cond0_1 i) (a : Fin 512) (b : Fin 1024) :
    sout0_A_0 c i arg3 harg3 arg4 harg4 arg5 harg5 arg6 harg6 hc0 hc1 x0 x1 (ix2 a b) = prodB x0 x1 a b := by
  unfold sout0_A_0
  rw [View.read_writes_junk_eq_canon]
  unfold kernelRun0_A
  dsimp only
  rw [View.canon_cons_unit_zero (by funext j; fin_cases j <;> rfl)]
  sl_unfold_run_names
  simp only [readAt_ld]
  rw [readCov_of_whole, pay_sum, View.ld_unit_zero (by funext j; fin_cases j <;> rfl), pay_zero, zero_add]

/-- The accumulator after a point in between. -/
theorem accB (hc0 : ¬cond0_0 i) (hc1 : ¬cond0_1 i) (acc : Vec Ideal S512x1024 .f32) (a : Fin 512) (b : Fin 1024) :
    sout0_B_0 c i arg3 harg3 arg4 harg4 arg5 harg5 arg6 harg6 hc0 hc1 x0 x1 acc (ix2 a b) = acc (ix2 a b) + prodB x0 x1 a b := by
  unfold sout0_B_0
  rw [View.read_writes_junk_eq_canon]
  unfold kernelRun0_B
  dsimp only
  rw [View.canon_unit_zero (by funext j; fin_cases j <;> rfl)]
  sl_unfold_run_names
  simp only [readAt_ld]
  rw [pay_sum, View.ld_unit_zero (by funext j; fin_cases j <;> rfl)]

/-- The result block after the last point, by column block, row and column. -/
def outG (acc : Vec Ideal S512x1024 .f32) : Vec Ideal S8x512x128 .f32 := fun z =>
  acc (ix2 (z 1) ⟨(z 0).val * 128 + (z 2).val, by have h0 : (z 0).val < 8 := (z 0).isLt; have h2 : (z 2).val < 128 := (z 2).isLt; omega⟩)
    + prodB x0 x1 (z 1) ⟨(z 0).val * 128 + (z 2).val, by have h0 : (z 0).val < 8 := (z 0).isLt; have h2 : (z 2).val < 128 := (z 2).isLt; omega⟩

/-- The result block is that formula. -/
theorem outC (hc0 : ¬cond0_0 i) (hc1 : cond0_1 i) (acc : Vec Ideal S512x1024 .f32) :
    out0_C_2 c i arg3 harg3 arg4 harg4 arg5 harg5 arg6 harg6 hc0 hc1 x0 x1 acc = outG x0 x1 acc := by
  unfold out0_C_2
  rw [View.read_writes_junk_eq_canon]
  refine canon_eq_of_pieces _ _ ?_ (cover0_C_2 (F := Ideal) c i arg3 harg3 arg4 harg4 arg5 harg5 arg6 harg6 hc0 hc1 x0 x1 acc)
  unfold kernelRun0_C
  dsimp only
  intro p hp
  fin_cases hp <;> intro z <;> dsimp only <;> sl_unfold_run_names <;> simp only [readAt_ld, readCov_of_whole]
  · obtain ⟨p, a, b, rfl⟩ := exists_ix3 (n := 1) (m := 512) (l := 128) z
    rw [pay_block7, pay_sum, View.ld_unit_zero (by funext j; fin_cases j <;> rfl)]
    refine Eq.trans (b := outG x0 x1 acc (ix3 7 a b)) rfl (congrArg (outG x0 x1 acc) ?_)
    funext j
    apply Fin.ext
    fin_cases j
    · show 7 = 7 + 1 * p.val; omega
    · show a.val = 0 + 1 * a.val; omega
    · show b.val = 0 + 1 * b.val; omega
  · obtain ⟨p, a, b, rfl⟩ := exists_ix3 (n := 1) (m := 512) (l := 128) z
    rw [pay_block6, pay_sum, View.ld_unit_zero (by funext j; fin_cases j <;> rfl)]
    refine Eq.trans (b := outG x0 x1 acc (ix3 6 a b)) rfl (congrArg (outG x0 x1 acc) ?_)
    funext j
    apply Fin.ext
    fin_cases j
    · show 6 = 6 + 1 * p.val; omega
    · show a.val = 0 + 1 * a.val; omega
    · show b.val = 0 + 1 * b.val; omega
  · obtain ⟨p, a, b, rfl⟩ := exists_ix3 (n := 1) (m := 512) (l := 128) z
    rw [pay_block5, pay_sum, View.ld_unit_zero (by funext j; fin_cases j <;> rfl)]
    refine Eq.trans (b := outG x0 x1 acc (ix3 5 a b)) rfl (congrArg (outG x0 x1 acc) ?_)
    funext j
    apply Fin.ext
    fin_cases j
    · show 5 = 5 + 1 * p.val; omega
    · show a.val = 0 + 1 * a.val; omega
    · show b.val = 0 + 1 * b.val; omega
  · obtain ⟨p, a, b, rfl⟩ := exists_ix3 (n := 1) (m := 512) (l := 128) z
    rw [pay_block4, pay_sum, View.ld_unit_zero (by funext j; fin_cases j <;> rfl)]
    refine Eq.trans (b := outG x0 x1 acc (ix3 4 a b)) rfl (congrArg (outG x0 x1 acc) ?_)
    funext j
    apply Fin.ext
    fin_cases j
    · show 4 = 4 + 1 * p.val; omega
    · show a.val = 0 + 1 * a.val; omega
    · show b.val = 0 + 1 * b.val; omega
  · obtain ⟨p, a, b, rfl⟩ := exists_ix3 (n := 1) (m := 512) (l := 128) z
    rw [pay_block3, pay_sum, View.ld_unit_zero (by funext j; fin_cases j <;> rfl)]
    refine Eq.trans (b := outG x0 x1 acc (ix3 3 a b)) rfl (congrArg (outG x0 x1 acc) ?_)
    funext j
    apply Fin.ext
    fin_cases j
    · show 3 = 3 + 1 * p.val; omega
    · show a.val = 0 + 1 * a.val; omega
    · show b.val = 0 + 1 * b.val; omega
  · obtain ⟨p, a, b, rfl⟩ := exists_ix3 (n := 1) (m := 512) (l := 128) z
    rw [pay_block2, pay_sum, View.ld_unit_zero (by funext j; fin_cases j <;> rfl)]
    refine Eq.trans (b := outG x0 x1 acc (ix3 2 a b)) rfl (congrArg (outG x0 x1 acc) ?_)
    funext j
    apply Fin.ext
    fin_cases j
    · show 2 = 2 + 1 * p.val; omega
    · show a.val = 0 + 1 * a.val; omega
    · show b.val = 0 + 1 * b.val; omega
  · obtain ⟨p, a, b, rfl⟩ := exists_ix3 (n := 1) (m := 512) (l := 128) z
    rw [pay_block1, pay_sum, View.ld_unit_zero (by funext j; fin_cases j <;> rfl)]
    refine Eq.trans (b := outG x0 x1 acc (ix3 1 a b)) rfl (congrArg (outG x0 x1 acc) ?_)
    funext j
    apply Fin.ext
    fin_cases j
    · show 1 = 1 + 1 * p.val; omega
    · show a.val = 0 + 1 * a.val; omega
    · show b.val = 0 + 1 * b.val; omega
  · obtain ⟨p, a, b, rfl⟩ := exists_ix3 (n := 1) (m := 512) (l := 128) z
    rw [pay_block0, pay_sum, View.ld_unit_zero (by funext j; fin_cases j <;> rfl)]
    refine Eq.trans (b := outG x0 x1 acc (ix3 0 a b)) rfl (congrArg (outG x0 x1 acc) ?_)
    funext j
    apply Fin.ext
    fin_cases j
    · show 0 = 0 + 1 * p.val; omega
    · show a.val = 0 + 1 * a.val; omega
    · show b.val = 0 + 1 * b.val; omega

end Cert.Proof.Wco

end
-- ==== Proof.Wco.Arrays.lean ====
/-
  The gradient of the cross-attention's output weight as a formula of the arrays at the launch: over all tokens, a block of tokens at each point.
-/
module

public import proofs.«01_k».proof.Proof.Wco.Block
public import proofs.«01_k».proof.Proof.Gen.WcoReferenceIdeal.Read
public import proofs.«01_k».proof.Proof.Gen.WcoReferenceIdeal.Run
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Cert.Proof.Wco

open Cert.WcoKernelIdeal Cert.WcoKernelIdeal.Gen Idealize.ShloMosaic Idealize.ShloMosaic.TcCoe Idealize.SL.Sem Cert.Proof.Reads

/-- What a token adds to an entry of the gradient. -/
def gradR (h : Vec Ideal S4096x512 .bf16) (d : Vec Ideal S4096x1024 .f32) (a : Fin 512) (b : Fin 1024) (r : Fin 4096) : EReal :=
  h (ix2 r a) * d (ix2 r b)

/-- The column of the weight that column `b` of column block `q` is. -/
def wcol (q : Fin 8) (b : Fin 128) : Fin 1024 := ⟨q.val * 128 + b.val, by omega⟩

/-- The gradient by column block: the heads' outputs against the cotangent, over all tokens. -/
def gradA (h : Vec Ideal S4096x512 .bf16) (d : Vec Ideal S4096x1024 .f32) : Vec Ideal S8x512x128 .f32 :=
  fun i => ∑ r : Fin 4096, gradR h d (i 1) (wcol (i 0) (i 2)) r

variable (m : (ℓ : Loc nD τ sig) → Buf (Elt Ideal) ℓ) (ρ : Dev nD → PrngReg) (c : Dev nD)

/-- A token of point `t`'s block. -/
def row (t : Fin cfg0.N) (a : Fin 1024) : Fin 4096 := ⟨t.val * 1024 + a.val, by have := a.isLt; have := t.isLt; have : cfg0.N = 4 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0, 0] := (by decide +kernel : ∀ t : Fin grid0.N, win0_2.index t = ![0, 0, 0])

/-- The block of the heads' outputs. -/
theorem blk0 (t : Fin cfg0.N) (a : Fin 1024) (b : Fin 512) : iblk m c 0 t (ix2 a b) = V m c main_v0 (ix2 (row t a) b) := by
  blk_simp [iblk]
  exact congrArg (V m c main_v0) (by blk_ext [index0, row])

/-- The block of the cotangent. -/
theorem blk1 (t : Fin cfg0.N) (a : Fin 1024) (b : Fin 1024) : iblk m c 1 t (ix2 a b) = V m c main_arg0 (ix2 (row t a) b) := by
  blk_simp [iblk]
  exact congrArg (V m c main_arg0) (by blk_ext [index1, row])

/-- A point's product, of the arrays. -/
theorem prod_blk (t : Fin cfg0.N) (a : Fin 512) (b : Fin 1024) :
    prodB (iblk m c 0 t) (iblk m c 1 t) a b = ∑ k : Fin 1024, gradR (V m c main_v0) (V m c main_arg0) a b (row t k) := by
  unfold prodB gradR
  simp only [blk0, blk1]

/-- The accumulator after a point, of the accumulator before. -/
theorem acc_step (k : ℕ) (hk : k + 1 < cfg0.N) (h0 : ¬(k + 1) % 4 = 0) (h1 : ¬(k + 1) % 4 = 3) (a : Fin 512) (b : Fin 1024) :
    (outsAt0 m c (k + 1) hk).2 (ix2 a b)
      = (outsAt0 m c k (Nat.lt_of_succ_lt hk)).2 (ix2 a b) + prodB (iblk m c 0 ⟨k + 1, hk⟩) (iblk m c 1 ⟨k + 1, hk⟩) a b := by
  have hB := outsAt0_B m c ⟨k + 1, hk⟩ h0 h1
  dsimp only at hB
  rw [hB]
  dsimp only
  rw [accB]
  rfl

/-- The accumulator before the last point: the first three points' products. -/
theorem acc_last (h0 : 0 < cfg0.N) (h1 : 1 < cfg0.N) (h2 : 2 < cfg0.N) (a : Fin 512) (b : Fin 1024) :
    (outsAt0 m c 2 h2).2 (ix2 a b)
      = prodB (iblk m c 0 ⟨0, h0⟩) (iblk m c 1 ⟨0, h0⟩) a b + prodB (iblk m c 0 ⟨1, h1⟩) (iblk m c 1 ⟨1, h1⟩) a b
        + prodB (iblk m c 0 ⟨2, h2⟩) (iblk m c 1 ⟨2, h2⟩) a b := by
  have s0 : (outsAt0 m c 0 h0).2 (ix2 a b) = prodB (iblk m c 0 ⟨0, h0⟩) (iblk m c 1 ⟨0, h0⟩) a b := by
    have hA := outsAt0_A m c ⟨0, h0⟩ (show 0 % 4 = 0 by decide) (show ¬0 % 4 = 3 by decide)
    dsimp only at hA
    rw [hA]
    dsimp only
    rw [accA]
  have s1 : (outsAt0 m c 1 h1).2 (ix2 a b) = (outsAt0 m c 0 h0).2 (ix2 a b) + prodB (iblk m c 0 ⟨1, h1⟩) (iblk m c 1 ⟨1, h1⟩) a b :=
    acc_step m c 0 h1 (by decide) (by decide) a b
  have s2 : (outsAt0 m c 2 h2).2 (ix2 a b) = (outsAt0 m c 1 h1).2 (ix2 a b) + prodB (iblk m c 0 ⟨2, h2⟩) (iblk m c 1 ⟨2, h2⟩) a b :=
    acc_step m c 1 h2 (by decide) (by decide) a b
  rw [s2, s1, s0]

/-- The four points' products make up the sum over all tokens. -/
theorem quarters (f : Fin 4096 → EReal) (h0 : 0 < cfg0.N) (h1 : 1 < cfg0.N) (h2 : 2 < cfg0.N) (h3 : 3 < cfg0.N) :
    (∑ k : Fin 1024, f (row ⟨0, h0⟩ k)) + (∑ k : Fin 1024, f (row ⟨1, h1⟩ k)) + (∑ k : Fin 1024, f (row ⟨2, h2⟩ k))
      + (∑ k : Fin 1024, f (row ⟨3, h3⟩ k)) = ∑ r : Fin 4096, f r := by
  rw [← Fin.sum_mul_add_fin 4 1024 f, Fin.sum_univ_four]
  rfl

/-- The result array. -/
theorem array2 : (dats m 0 c).arrAt 2 cfg0.N = gradA (V m c main_v0) (V m c main_arg0) := by
  refine (dats m 0 c).arrAt_eq_of_covers 2 _ (by decide +kernel) fun t hf y => ?_
  blk_simp
  rw [after0_2]
  obtain ⟨p, a, b, rfl⟩ := exists_ix3 (n := 8) (m := 512) (l := 128) y
  have hy : (ix3 p a b : S8x512x128.Idx) = (win0_2.blk t).view.emb (ix3 p a b) := by blk_ext [index2]
  obtain ⟨tv, htv⟩ := t
  have h1 : tv % 4 = 3 := (flush0_2 ⟨tv, htv⟩).mp hf
  have hN : cfg0.N = 4 := N_0
  have hv : tv < 4 := lt_of_lt_of_eq htv N_0
  have e : tv = 3 := by omega
  subst e
  have hC := outsAt0_C m c ⟨3, htv⟩ (show ¬3 % 4 = 0 by decide) (show 3 % 4 = 3 by decide)
  dsimp only at hC
  rw [hC]
  dsimp only
  rw [outC]
  refine Eq.trans (b := gradA (V m c main_v0) (V m c main_arg0) (ix3 p a b)) ?_ ?_
  · show (outsAt0 m c 2 _).2 (ix2 a (wcol p b)) + prodB _ _ a (wcol p b) = ∑ r : Fin 4096, gradR (V m c main_v0) (V m c main_arg0) a (wcol p b) r
    rw [acc_last m c (lt_of_lt_of_eq (by decide : 0 < 4) hN.symm) (lt_of_lt_of_eq (by decide : 1 < 4) hN.symm) (lt_of_lt_of_eq (by decide : 2 < 4) hN.symm), prod_blk, prod_blk, prod_blk, prod_blk]
    exact quarters _ _ _ _ _
  · exact congrArg (gradA _ _) hy

/-- The result array as a function of the launch's arguments, and the arguments unchanged. -/
theorem run : θ_run defs (onTc (τ := τ) (main (F := Ideal))) ⟨m, fun _ => 0, ρ⟩ fun r => ∀ c : Dev nD,
      r.2.mem ((c : Thread nD τ).loc main_v1) = gradA (V m c main_v0) (V m c main_arg0)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (Value.run_blocks (F := Ideal) m ρ)
  exact ⟨(h c).1.trans (array2 m c), (h c).2⟩

/-- The cast of the heads' outputs changes nothing over the reals. -/
theorem entry_h : V m c main_v0 = m ((c : Thread nD τ).loc main_arg1) := by
  entry_read
  rfl

end Cert.Proof.Wco

end
-- ==== Proof.Wco.Claim.lean ====
/-
  The cross-attention's output weight's gradient: the kernel's result is the reference's, over the reals, and the reference's frame.
-/
module

public import proofs.«01_k».proof.Defs
public import proofs.«01_k».proof.Proof.Wco.Arrays

@[expose] public section

set_option maxRecDepth 16384

noncomputable section

namespace Cert.Proof.Wco

open Idealize.ShloMosaic Idealize.ShloMosaic.TcCoe Idealize.SL.Sem Cert.Proof.Reads

section Ref

open Cert.WcoReferenceIdeal Cert.WcoReferenceIdeal.Gen Cert.WcoReferenceIdeal.Read

/-- The reference's result at an entry: the same sum, its factors the other way round. -/
theorem ref_grad (x0 : Vec Ideal S4096x1024 .f32) (x1 : Vec Ideal S4096x512 .f32) (q : Fin 8) (a : Fin 512) (b : Fin 128) :
    val_main_v5 (F := Ideal) x0 x1 (ix3 q a b) = gradA x1 x0 (ix3 q a b) := by
  have e : idx_main_v3 (idx_main_v4 (idx_main_v5 (ix3 q a b))) = ix2 (wcol q b) a := by
    funext j
    apply Fin.ext
    fin_cases j
    · show ((a.val * 8 + q.val) * 128 + b.val) % 1024 = q.val * 128 + b.val; omega
    · show ((a.val * 8 + q.val) * 128 + b.val) / 1024 = a.val; omega
  rw [val_main_v5_apply, val_main_v4_apply, val_main_v3_apply, e, val_main_v2_apply]
  refine Finset.sum_congr rfl fun k _ => ?_
  rw [show lidx_main_v2 (ix2 (wcol q b) a) k = ix2 k (wcol q b) from by funext j; fin_cases j <;> rfl,
    show ridx_main_v2 (ix2 (wcol q b) a) k = ix2 k a from by funext j; fin_cases j <;> rfl, mul_comm]
  rfl

variable (m : (ℓ : Loc nD τ sig) → Buf (Elt Ideal) ℓ) (ρ : Dev nD → PrngReg)

/-- The reference's run: its result is the kernel's array formula of the arguments. -/
theorem run_ref : θ_run defs (onTc (τ := τ) (main (F := Ideal))) ⟨m, fun _ => 0, ρ⟩ fun r => ∀ c : Dev nD,
      r.2.mem ((c.tc : Thread nD τ).loc main_v5)
        = gradA (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.WcoReferenceIdeal.Value.run (F := Ideal) m ρ)
  refine ⟨((h c).1.trans (val_main_v5_eq _ _)).trans ?_, (h c).2⟩
  funext i
  obtain ⟨q, a, b, rfl⟩ := exists_ix3 (n := 8) (m := 512) (l := 128) i
  exact ref_grad _ _ q a b

end Ref

/-- The kernel's result is the reference's. -/
theorem algebraic : Cert.algebraic_WcoKernelIdeal_WcoReferenceIdeal := by
  intro m ρ m' ρ' _ hag
  refine ⟨_, run m ρ, (θ_run _ _ _).mono (fun r h c => ?_) (run_ref m' ρ')⟩
  obtain ⟨h0, h1⟩ := hag c
  obtain ⟨k0, k⟩ := h c
  rw [h0, h1] at k0
  refine ⟨k0.trans ?_, k⟩
  rw [entry_h, Cert.WcoKernelIdeal.Gen.V_main_arg0]

/-- The reference's frame. -/
theorem frame_ref : Cert.quiescent_WcoReferenceIdeal := fun m ρ _ =>
  (θ_run Cert.WcoReferenceIdeal.defs _ _).mono (fun r h => ⟨fun c => (h c).2,
    Idealize.ShloMosaic.sem_eq_zero_of_no_sems (by decide) r.2⟩) (run_ref m ρ)

end Cert.Proof.Wco

end
-- ==== Proof.Wckv.Block.lean ====
/-
  What one grid point of the weight of the memory's keys and values, its gradient leaves: the product of a block of normed memory tokens with a block
  of the cotangent over the block's tokens, added to what the points before left.
-/
module

public import proofs.«01_k».proof.Proof.Gen.WckvKernelIdeal.Value
public import proofs.«01_k».proof.Proof.Reads

@[expose] public section

set_option maxRecDepth 16384

noncomputable section

namespace Cert.Proof.Wckv

open Cert.WckvKernelIdeal Cert.WckvKernelIdeal.Gen Idealize.ShloMosaic Idealize.ShloMosaic.TcCoe Idealize.SL.Sem Cert.Proof.Reads

/-- The product of two blocks over the block's tokens. -/
def prodB (x0 : Vec Ideal S512x1024 .bf16) (x1 : Vec Ideal S512x1024 .bf16) (a : Fin 1024) (b : Fin 1024) : EReal :=
  ∑ k : Fin 512, x0 (ix2 k a) * x1 (ix2 k b)

/-- The stored sum is the accumulator's value plus the block's product. -/
theorem pay_sum (acc : Vec Ideal S1024x1024 .f32) (x0 : Vec Ideal S512x1024 .bf16) (x1 : Vec Ideal S512x1024 .bf16) (a : Fin 1024) (b : Fin 1024) :
    k0_pay2 acc (View.ld x0 (Rect.unit ![0, 0] S512x1024.size inb_S512x1024_S512x1024_0_0))
      (View.ld x1 (Rect.unit ![0, 0] S512x1024.size inb_S512x1024_S512x1024_0_0)) (ix2 a b) = acc (ix2 a b) + prodB x0 x1 a b := by
  pointwise [k0_pay2, prodB]

/-- The accumulator starts at zero. -/
theorem pay_zero (a : Fin 1024) (b : Fin 1024) : k0_pay1 (F := Ideal) (ix2 a b) = 0 := by
  pointwise [k0_pay1]

variable (c : Dev nD) (i : grid0.Coords)
  (arg3 : Memref sig .tc .vmem S512x1024 .bf16) (harg3 : arg3.IsWhole)
  (arg4 : Memref sig .tc .vmem S512x1024 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S512x1024 .bf16) (x1 : Vec Ideal S512x1024 .bf16)

/-- The result block after the only point. -/
theorem outA (hc0 : cond0_0 i) (hc1 : cond0_1 i) (a : Fin 1024) (b : Fin 1024) :
    out0_A_2 c i arg3 harg3 arg4 harg4 arg5 harg5 arg6 harg6 hc0 hc1 x0 x1 (ix2 a b) = prodB x0 x1 a b := by
  unfold out0_A_2
  rw [View.read_writes_junk_eq_canon]
  unfold kernelRun0_A
  dsimp only
  rw [View.canon_unit_zero (by funext j; fin_cases j <;> rfl)]
  sl_unfold_run_names
  simp only [readAt_ld]
  rw [readCov_of_whole, View.ld_unit_zero (by funext j; fin_cases j <;> rfl), pay_sum, readCov_of_whole, View.ld_unit_zero (by funext j; fin_cases j <;> rfl), pay_zero, zero_add]

end Cert.Proof.Wckv

end
-- ==== Proof.Wckv.Arrays.lean ====
/-
  The gradient of the weight of the memory's keys and values, its gradient as a formula of the arrays at the launch: over all tokens.
-/
module

public import proofs.«01_k».proof.Proof.Wckv.Block
public import proofs.«01_k».proof.Proof.Gen.WckvReferenceIdeal.Read
public import proofs.«01_k».proof.Proof.Gen.WckvReferenceIdeal.Run
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Cert.Proof.Wckv

open Cert.WckvKernelIdeal Cert.WckvKernelIdeal.Gen Idealize.ShloMosaic Idealize.ShloMosaic.TcCoe Idealize.SL.Sem Cert.Proof.Reads

/-- What a token adds to an entry of the gradient. -/
def gradR (h : Vec Ideal S512x1024 .bf16) (d : Vec Ideal S512x1024 .bf16) (a : Fin 1024) (b : Fin 1024) (r : Fin 512) : EReal :=
  h (ix2 r a) * d (ix2 r b)

/-- The gradient: normed memory tokens against the cotangent, over all tokens. -/
def gradA (h : Vec Ideal S512x1024 .bf16) (d : Vec Ideal S512x1024 .bf16) : Vec Ideal S1024x1024 .f32 :=
  fun i => ∑ r : Fin 512, gradR h d (i 0) (i 1) r

variable (m : (ℓ : Loc nD τ sig) → Buf (Elt Ideal) ℓ) (ρ : Dev nD → PrngReg) (c : Dev nD)

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])

/-- The block of normed memory tokens. -/
theorem blk0 (t : Fin cfg0.N) (a : Fin 512) (b : Fin 1024) : iblk m c 0 t (ix2 a b) = V m c main_v12 (ix2 a b) := by
  blk_simp [iblk]
  exact congrArg (V m c main_v12) (by blk_ext [index0])

/-- The block of the cotangent. -/
theorem blk1 (t : Fin cfg0.N) (a : Fin 512) (b : Fin 1024) : iblk m c 1 t (ix2 a b) = V m c main_v13 (ix2 a b) := by
  blk_simp [iblk]
  exact congrArg (V m c main_v13) (by blk_ext [index1])

/-- A point's product, of the arrays. -/
theorem prod_blk (t : Fin cfg0.N) (a : Fin 1024) (b : Fin 1024) :
    prodB (iblk m c 0 t) (iblk m c 1 t) a b = ∑ k : Fin 512, gradR (V m c main_v12) (V m c main_v13) a b k := by
  unfold prodB gradR
  simp only [blk0, blk1]

/-- The result array. -/
theorem array2 : (dats m 0 c).arrAt 2 cfg0.N = gradA (V m c main_v12) (V m c main_v13) := by
  refine (dats m 0 c).arrAt_eq_of_covers 2 _ (by decide +kernel) fun t hf y => ?_
  blk_simp
  rw [after0_2]
  obtain ⟨a, b, rfl⟩ := exists_ix2 (n := 1024) (m := 1024) y
  unfold outsAt0
  rw [outA, prod_blk]
  exact Eq.trans (b := gradA (V m c main_v12) (V m c main_v13) (ix2 a b)) rfl (congrArg (gradA _ _) (by blk_ext [index2]))

/-- The result array as a function of the launch's arguments, and the arguments unchanged. -/
theorem run : θ_run defs (onTc (τ := τ) (main (F := Ideal))) ⟨m, fun _ => 0, ρ⟩ fun r => ∀ c : Dev nD,
      r.2.mem ((c : Thread nD τ).loc main_v14) = gradA (V m c main_v12) (V m c main_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks (F := Ideal) m ρ)
  exact ⟨(h c).1.trans (array2 m c), (h c).2⟩

/-- The normed rows the host computes are the reference's. -/
theorem entry_h : V m c main_v12 = Cert.WckvReferenceIdeal.Read.val_main_v12 (F := Ideal)
    (m ((c : Thread nD τ).loc main_arg1)) (m ((c : Thread nD τ).loc main_arg2)) := by
  entry_read
  rfl

/-- The cotangent's cast changes nothing over the reals. -/
theorem entry_d : V m c main_v13 = m ((c : Thread nD τ).loc main_arg0) := by
  entry_read
  rfl

end Cert.Proof.Wckv

end
-- ==== Proof.Wckv.Claim.lean ====
/-
  The weight of the memory's keys and values, its gradient: the kernel's result is the reference's, over the reals, and the reference's frame.
-/
module

public import proofs.«01_k».proof.Defs
public import proofs.«01_k».proof.Proof.Wckv.Arrays

@[expose] public section

set_option maxRecDepth 16384

noncomputable section

namespace Cert.Proof.Wckv

open Idealize.ShloMosaic Idealize.ShloMosaic.TcCoe Idealize.SL.Sem Cert.Proof.Reads

section Ref

open Cert.WckvReferenceIdeal Cert.WckvReferenceIdeal.Gen Cert.WckvReferenceIdeal.Read

/-- The reference's result at an entry: the same sum, its factors the other way round. -/
theorem ref_grad (x0 : Vec Ideal S512x1024 .f32) (x1 : Vec Ideal S512x1024 .f32) (x2 : Vec Ideal S1x1024 .f32) (a : Fin 1024) (b : Fin 1024) :
    val_main_v15 (F := Ideal) x0 x1 x2 (ix2 a b) = gradA (val_main_v12 (F := Ideal) x1 x2) x0 (ix2 a b) := by
  rw [val_main_v15_apply, show idx_main_v15 (ix2 a b) = ix2 b a from by funext j; fin_cases j <;> rfl, val_main_v14_apply]
  refine Finset.sum_congr rfl fun k _ => ?_
  rw [show lidx_main_v14 (ix2 b a) k = ix2 k b from by funext j; fin_cases j <;> rfl,
    show ridx_main_v14 (ix2 b a) k = ix2 k a from by funext j; fin_cases j <;> rfl, mul_comm]
  rfl

variable (m : (ℓ : Loc nD τ sig) → Buf (Elt Ideal) ℓ) (ρ : Dev nD → PrngReg)

/-- The reference's run: its result is the kernel's array formula of the arguments. -/
theorem run_ref : θ_run defs (onTc (τ := τ) (main (F := Ideal))) ⟨m, fun _ => 0, ρ⟩ fun r => ∀ c : Dev nD,
      r.2.mem ((c.tc : Thread nD τ).loc main_v15)
        = gradA (val_main_v12 (F := Ideal) (m ((c.tc : Thread nD τ).loc main_arg1)) (m ((c.tc : Thread nD τ).loc main_arg2))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.WckvReferenceIdeal.Value.run (F := Ideal) m ρ)
  refine ⟨((h c).1.trans (val_main_v15_eq _ _ _)).trans ?_, (h c).2⟩
  funext i
  obtain ⟨a, b, rfl⟩ := exists_ix2 (n := 1024) (m := 1024) i
  exact ref_grad _ _ _ a b

end Ref

/-- The kernel's result is the reference's. -/
theorem algebraic : Cert.algebraic_WckvKernelIdeal_WckvReferenceIdeal := by
  intro m ρ m' ρ' _ hag
  refine ⟨_, run m ρ, (θ_run _ _ _).mono (fun r h c => ?_) (run_ref m' ρ')⟩
  obtain ⟨h0, h1, h2⟩ := hag c
  obtain ⟨k0, k⟩ := h c
  rw [h0, h1, h2] at k0
  refine ⟨k0.trans ?_, k⟩
  rw [entry_h, entry_d]

/-- The reference's frame. -/
theorem frame_ref : Cert.quiescent_WckvReferenceIdeal := fun m ρ _ =>
  (θ_run Cert.WckvReferenceIdeal.defs _ _).mono (fun r h => ⟨fun c => (h c).2,
    Idealize.ShloMosaic.sem_eq_zero_of_no_sems (by decide) r.2⟩) (run_ref m ρ)

end Cert.Proof.Wckv

end
-- ==== Proof.Mem.Block.lean ====
/-
  What one grid point of the memory's backward kernel adds to the gradient of the memory norm's gain: over the block's 256 rows,
  the cotangent of the norm's output against the normed row.
-/
module

public import proofs.«01_k».proof.Proof.Gen.MemKernelIdeal.Value
public import proofs.«01_k».proof.Proof.Reads
public import proofs.«01_k».proof.Proof.Norm

@[expose] public section

set_option maxRecDepth 16384

noncomputable section

namespace Cert.Proof.Mem

open Cert.MemKernelIdeal Cert.MemKernelIdeal.Gen Idealize.ShloMosaic Idealize.ShloMosaic.TcCoe Idealize.SL.Sem Cert.Proof.Reads
open Cert.Proof.Norm

/-- The norm's ε, as its word. -/
abbrev eps : EReal := Ideal.ofBits .f32 0x358637BD#32

/-- The model width, as the word the mean divides by. -/
abbrev wid : EReal := Ideal.ofBits .f32 0x44800000#32

/-- What a block adds to the gradient of the gain. -/
def dgB (x0 : Vec Ideal S256x1024 .bf16) (x1 : Vec Ideal S256x1024 .f32) (x3 : Vec Ideal S1024x1024 .bf16) (b : Fin 1024) : EReal :=
  ∑ a : Fin 256, (∑ k : Fin 1024, x0 (ix2 a k) * x3 (ix2 b k)) * (x1 (ix2 a b) * rinv wid eps (fun k => x1 (ix2 a k)))

/-- The stored gradient is what was there plus the block's own sum. -/
theorem pay_dg (x0 : Vec Ideal S256x1024 .bf16) (x1 : Vec Ideal S256x1024 .f32) (x3 : Vec Ideal S1024x1024 .bf16) (acc : Vec Ideal S1x1024 .f32)
    (b : Fin 1024) : k0_pay2 x0 x3 x1 acc (ix2 0 b) = acc (ix2 0 b) + dgB x0 x1 x3 b := by
  pointwise [k0_pay2, dgB, rinv, ms]

/-- The gradient starts at zero. -/
theorem pay_zero (b : Fin 1024) : k0_pay1 (F := Ideal) (ix2 0 b) = 0 := by
  pointwise [k0_pay1]

end Cert.Proof.Mem

end
-- ==== Proof.Mem.Arrays.lean ====
/-
  The gradient of the memory norm's gain as a formula of the arrays at the launch: over all the memory's rows, a block of rows at each point.
-/
module

public import proofs.«01_k».proof.Proof.Mem.Block
public import proofs.«01_k».proof.Proof.Gen.MemReferenceIdeal.Read
public import proofs.«01_k».proof.Proof.Gen.MemReferenceIdeal.Run
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Cert.Proof.Mem

open Cert.MemKernelIdeal Cert.MemKernelIdeal.Gen Idealize.ShloMosaic Idealize.ShloMosaic.TcCoe Idealize.SL.Sem Cert.Proof.Reads
open Cert.Proof.Norm

/-- What a row of the memory adds to the gradient of the gain. -/
def dgR (d : Vec Ideal S512x1024 .bf16) (x : Vec Ideal S512x1024 .f32) (w : Vec Ideal S1024x1024 .bf16) (b : Fin 1024) (r : Fin 512) : EReal :=
  (∑ k : Fin 1024, d (ix2 r k) * w (ix2 b k)) * (x (ix2 r b) * rinv wid eps (fun k => x (ix2 r k)))

/-- The gradient of the gain. -/
def dgA (d : Vec Ideal S512x1024 .bf16) (x : Vec Ideal S512x1024 .f32) (w : Vec Ideal S1024x1024 .bf16) : Vec Ideal S1x1024 .f32 :=
  fun i => ∑ r : Fin 512, dgR d x w (i 1) r

variable (m : (ℓ : Loc nD τ sig) → Buf (Elt Ideal) ℓ) (ρ : Dev nD → PrngReg) (c : Dev nD)

/-- A row of point `t`'s block. -/
def row (t : Fin cfg0.N) (a : Fin 256) : Fin 512 := ⟨t.val * 256 + a.val, by have := a.isLt; have := t.isLt; have : cfg0.N = 2 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index3 : ∀ t : Fin cfg0.N, win0_3.index t = ![0, 0] := (by decide +kernel : ∀ t : Fin grid0.N, win0_3.index t = ![0, 0])

/-- The block of the cotangent. -/
theorem blk0 (t : Fin cfg0.N) (a : Fin 256) (b : Fin 1024) : iblk m c 0 t (ix2 a b) = V m c main_v0 (ix2 (row t a) b) := by
  blk_simp [iblk]
  exact congrArg (V m c main_v0) (by blk_ext [index0, row])

/-- The block of the memory. -/
theorem blk1 (t : Fin cfg0.N) (a : Fin 256) (b : Fin 1024) : iblk m c 1 t (ix2 a b) = V m c main_arg1 (ix2 (row t a) b) := by
  blk_simp [iblk]
  exact congrArg (V m c main_arg1) (by blk_ext [index1, row])

/-- The weight, whole at every point. -/
theorem blk3 (t : Fin cfg0.N) (a b : Fin 1024) : iblk m c 3 t (ix2 a b) = V m c main_v1 (ix2 a b) := by
  blk_simp [iblk]
  exact congrArg (V m c main_v1) (by blk_ext [index3])

/-- What a point adds, of the arrays. -/
theorem dgB_blk (t : Fin cfg0.N) (b : Fin 1024) : dgB (iblk m c 0 t) (iblk m c 1 t) (iblk m c 3 t) b
    = ∑ a : Fin 256, dgR (V m c main_v0) (V m c main_arg1) (V m c main_v1) b (row t a) := by
  unfold dgB dgR
  simp only [blk0, blk1, blk3]

/-- The result array: summed over the blocks and within them. -/
theorem array4 : (dats m 0 c).arrAt 4 cfg0.N = dgA (V m c main_v0) (V m c main_arg1) (V m c main_v1) := by
  refine (dats m 0 c).arrAt_eq_of_after_last 4 ⟨1, by decide⟩ (by decide +kernel) _ fun y => ?_
  obtain ⟨a, b, rfl⟩ := exists_ix2 (n := 1) (m := 1024) y
  obtain rfl : a = 0 := Subsingleton.elim _ _
  refine (congrFun (after0_4 m c ⟨1, by decide⟩) (ix2 0 b)).trans ?_
  refine (Pipeline.eq_sum_fin_of_reset_step_last (fun n h => outsAt0 m c n h (ix2 0 b)) 2 0
    (fun t => dgB (iblk m c 0 t) (iblk m c 1 t) (iblk m c 3 t) b)
    (fun t h => ?_) (fun t h => ?_) (by decide) ⟨1, by decide⟩ (by decide)).trans ?_
  · rw [outsAt0_A m c t h, Value.out_A_4_eq, pay_dg, pay_zero]
  · rw [outsAt0_B m c t h, Value.out_B_4_eq, pay_dg]
  · simp only [dgB_blk, zero_add]
    exact Fin.sum_mul_add_fin 2 256 (dgR (V m c main_v0) (V m c main_arg1) (V m c main_v1) b)

/-- The result array as a function of the launch's arguments, and the arguments unchanged. -/
theorem run : θ_run defs (onTc (τ := τ) (main (F := Ideal))) ⟨m, fun _ => 0, ρ⟩ fun r => ∀ c : Dev nD,
      r.2.mem ((c : Thread nD τ).loc main_v2) = dgA (V m c main_v0) (V m c main_arg1) (V m c main_v1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run_blocks (F := Ideal) m ρ)
  exact ⟨(h c).1.trans (array4 m c), (h c).2⟩

/-- The cotangent's and the weight's casts change nothing over the reals. -/
theorem entry_d : V m c main_v0 = m ((c : Thread nD τ).loc main_arg0) := by
  entry_read
  rfl

theorem entry_w : V m c main_v1 = m ((c : Thread nD τ).loc main_arg3) := by
  entry_read
  rfl

end Cert.Proof.Mem

end
-- ==== Proof.Mem.Claim.lean ====
/-
  The memory norm's gain's gradient: the kernel's result is the reference's, over the reals, and the reference's frame.
-/
module

public import proofs.«01_k».proof.Defs
public import proofs.«01_k».proof.Proof.Mem.Arrays

@[expose] public section

set_option maxRecDepth 16384

noncomputable section

namespace Cert.Proof.Mem

open Idealize.ShloMosaic Idealize.ShloMosaic.TcCoe Idealize.SL.Sem Cert.Proof.Reads Cert.Proof.Norm

section Ref

open Cert.MemReferenceIdeal Cert.MemReferenceIdeal.Gen Cert.MemReferenceIdeal.Read

/-- The normed row, without its gain. -/
theorem ref_hat (x : Vec Ideal S512x1024 .f32) (a : Fin 512) (b : Fin 1024) :
    val_main_v9 (F := Ideal) x (ix2 a b) = x (ix2 a b) * rinv wid eps (fun k => x (ix2 a k)) := by
  rw [val_main_v9_apply, val_main_v8_apply, show idx_main_v8 (ix2 a b) = ix2 a 0 from by funext j; fin_cases j <;> rfl, val_main_v7_apply]
  simp only [val_main_v6_apply, val_main_v5_apply, val_main_v4_apply, val_main_v3_apply, val_main_v2_apply, val_main_v1_apply,
    val_main_v0_apply, val_main_cst_apply, val_main_cst_0_apply, val_main_cst_1_apply,
    show ∀ k, idx_main_v1 (idx_main_v2 (ix2 a 0)) k = ix2 a k from fun k => by funext j; fin_cases j <;> rfl]
  pointwise [rinv, ms]

/-- The cotangent of the norm's output. -/
theorem ref_dh (d : Vec Ideal S512x1024 .f32) (w : Vec Ideal S1024x1024 .f32) (a : Fin 512) (b : Fin 1024) :
    val_main_v13 (F := Ideal) d w (ix2 a b) = ∑ k : Fin 1024, d (ix2 a k) * w (ix2 b k) := by
  rw [val_main_v13_apply]
  simp only [show ∀ k, lidx_main_v13 (ix2 a b) k = ix2 a k from fun k => by funext j; fin_cases j <;> rfl,
    show ∀ k, ridx_main_v13 (ix2 a b) k = ix2 b k from fun k => by funext j; fin_cases j <;> rfl]

/-- The reference's result at an entry: the same sum, its factors the other way round. -/
theorem ref_dg (d x : Vec Ideal S512x1024 .f32) (w : Vec Ideal S1024x1024 .f32) (b : Fin 1024) :
    val_main_v16 (F := Ideal) d x w (ix2 0 b) = ∑ r : Fin 512, dgR d x w b r := by
  rw [val_main_v16_apply, val_main_v15_apply]
  simp only [val_main_v14_apply, val_main_cst_2_apply,
    show ∀ k, idx_main_v15 (idx_main_v16 (ix2 0 b)) k = ix2 k b from fun k => by
      funext j; apply Fin.ext; fin_cases j <;> simp <;> omega, ref_hat, ref_dh]
  pointwise [dgR]
  exact Finset.sum_congr rfl fun k _ => mul_comm _ _

variable (m : (ℓ : Loc nD τ sig) → Buf (Elt Ideal) ℓ) (ρ : Dev nD → PrngReg)

/-- The reference's run: its result is the kernel's array formula of the arguments. -/
theorem run_ref : θ_run defs (onTc (τ := τ) (main (F := Ideal))) ⟨m, fun _ => 0, ρ⟩ fun r => ∀ c : Dev nD,
      r.2.mem ((c.tc : Thread nD τ).loc main_v16)
        = dgA (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.MemReferenceIdeal.Value.run (F := Ideal) m ρ)
  refine ⟨((h c).1.trans (val_main_v16_eq _ _ _)).trans ?_, (h c).2⟩
  funext i
  obtain ⟨a, b, rfl⟩ := exists_ix2 (n := 1) (m := 1024) i
  obtain rfl : a = 0 := Subsingleton.elim _ _
  exact ref_dg _ _ _ b

end Ref

/-- The kernel's result is the reference's. -/
theorem algebraic : Cert.algebraic_MemKernelIdeal_MemReferenceIdeal := by
  intro m ρ m' ρ' _ hag
  refine ⟨_, run m ρ, (θ_run _ _ _).mono (fun r h c => ?_) (run_ref m' ρ')⟩
  obtain ⟨h0, h1, h2, h3⟩ := hag c
  obtain ⟨k0, k⟩ := h c
  rw [h0, h1, h3] at k0
  refine ⟨k0.trans ?_, k⟩
  rw [entry_d, entry_w, Cert.MemKernelIdeal.Gen.V_main_arg1]

/-- The reference's frame. -/
theorem frame_ref : Cert.quiescent_MemReferenceIdeal := fun m ρ _ =>
  (θ_run Cert.MemReferenceIdeal.defs _ _).mono (fun r h => ⟨fun c => (h c).2,
    Idealize.ShloMosaic.sem_eq_zero_of_no_sems (by decide) r.2⟩) (run_ref m ρ)

end Cert.Proof.Mem

end
-- ==== Proof.Wout.Block.lean ====
/-
  What one grid point of the output projection's weight's gradient leaves: the product of a block of the two mixers' outputs, side by
  side, with a block of the cotangent over the block's tokens, added to what the points before left. The body adds one half of the rows
  at a time, the rows of each mixer's own columns.
-/
module

public import proofs.«01_k».proof.Proof.Gen.WoutKernelIdeal.Value
public import proofs.«01_k».proof.Proof.Reads

@[expose] public section

set_option maxRecDepth 16384

noncomputable section

namespace Cert.Proof.Wout

open Cert.WoutKernelIdeal Cert.WoutKernelIdeal.Gen Idealize.ShloMosaic Idealize.ShloMosaic.TcCoe Idealize.SL.Sem Cert.Proof.Reads

/-- An entry of two arrays of 512 columns set side by side. -/
def cat {n : ℕ} (p q : (⟨2, ![n, 512]⟩ : Shape).Idx → EReal) (k : Fin n) (a : Fin 1024) : EReal :=
  if h : a.val < 512 then p (ix2 k ⟨a.val, h⟩) else q (ix2 k ⟨a.val - 512, by have := a.isLt; omega⟩)

theorem cat_left {n : ℕ} (p q : (⟨2, ![n, 512]⟩ : Shape).Idx → EReal) (k : Fin n) (a : Fin 512) (h : 0 + a.val < 1024) :
    cat p q k ⟨0 + a.val, h⟩ = p (ix2 k a) := by
  have e : 0 + a.val < 512 := by have := a.isLt; omega
  unfold cat
  rw [dif_pos e]
  exact congrArg (fun z => p (ix2 k z)) (Fin.ext (Nat.zero_add _))

theorem cat_right {n : ℕ} (p q : (⟨2, ![n, 512]⟩ : Shape).Idx → EReal) (k : Fin n) (a : Fin 512) (h : 512 + a.val < 1024) :
    cat p q k ⟨512 + a.val, h⟩ = q (ix2 k a) := by
  have e : ¬512 + a.val < 512 := by omega
  unfold cat
  rw [dif_neg e]
  exact congrArg (fun z => q (ix2 k z)) (Fin.ext (Nat.add_sub_cancel_left 512 a.val))

/-- The product of two blocks over the block's tokens. -/
def prodB (x0 x1 : Vec Ideal S1024x512 .bf16) (x2 : Vec Ideal S1024x1024 .f32) (a b : Fin 1024) : EReal :=
  ∑ k : Fin 1024, cat x0 x1 k a * x2 (ix2 k b)

/-- The accumulator after a point that found `acc` there. -/
def sumB (acc : Vec Ideal S1024x1024 .f32) (x0 x1 : Vec Ideal S1024x512 .bf16) (x2 : Vec Ideal S1024x1024 .f32) : Vec Ideal S1024x1024 .f32 :=
  fun y => acc y + prodB x0 x1 x2 (y 0) (y 1)

/-- The stored upper half is what was there plus the product with the first mixer's columns. -/
theorem pay_upper (acc : Vec Ideal S512x1024 .f32) (x0 : Vec Ideal S1024x512 .bf16) (x2 : Vec Ideal S1024x1024 .f32) (a : Fin 512) (b : Fin 1024) :
    k0_pay2 acc x0 x2 (ix2 a b) = acc (ix2 a b) + ∑ k : Fin 1024, x0 (ix2 k a) * x2 (ix2 k b) := by
  pointwise [k0_pay2]

/-- The stored lower half is what was there plus the product with the second mixer's columns. -/
theorem pay_lower (acc : Vec Ideal S512x1024 .f32) (x1 : Vec Ideal S1024x512 .bf16) (x2 : Vec Ideal S1024x1024 .f32) (a : Fin 512) (b : Fin 1024) :
    k0_pay3 acc x1 x2 (ix2 a b) = acc (ix2 a b) + ∑ k : Fin 1024, x1 (ix2 k a) * x2 (ix2 k b) := by
  pointwise [k0_pay3]

/-- The accumulator starts at zero. -/
theorem pay_zero (y : S1024x1024.Idx) : k0_pay1 (F := Ideal) y = 0 := by
  obtain ⟨a, b, rfl⟩ := exists_ix2 (n := 1024) (m := 1024) y
  pointwise [k0_pay1]

/-- The upper half of the accumulator. -/
theorem upper_eq (acc : Vec Ideal S1024x1024 .f32) (x0 x1 : Vec Ideal S1024x512 .bf16) (x2 : Vec Ideal S1024x1024 .f32)
    (z : S512x1024.Idx) :
    k0_pay2 (View.ld acc (Rect.unit (s := S1024x1024) ![0, 0] ![512, 1024] inb_S1024x1024_S512x1024_0_0)) x0 x2 z
      = sumB acc x0 x1 x2 ((Rect.unit (s := S1024x1024) ![0, 0] ![512, 1024] inb_S1024x1024_S512x1024_0_0).emb z) := by
  obtain ⟨a, b, rfl⟩ := exists_ix2 (n := 512) (m := 1024) z
  have h : 0 + a.val < 1024 := by have := a.isLt; omega
  rw [pay_upper]
  have e := emb_rows (n := 1024) (m := 1024) (w := 512) (o := 0) inb_S1024x1024_S512x1024_0_0 a b h
  refine Eq.trans ?_ (congrArg (sumB acc x0 x1 x2) e).symm
  show acc ((Rect.unit (s := S1024x1024) ![0, 0] ![512, 1024] inb_S1024x1024_S512x1024_0_0).emb (ix2 a b)) + _
    = acc (ix2 ⟨0 + a.val, h⟩ b) + ∑ k : Fin 1024, cat x0 x1 k ⟨0 + a.val, h⟩ * x2 (ix2 k b)
  simp only [cat_left]
  exact congrArg (fun i => acc i + _) e

/-- The lower half of the accumulator. -/
theorem lower_eq (acc : Vec Ideal S1024x1024 .f32) (x0 x1 : Vec Ideal S1024x512 .bf16) (x2 : Vec Ideal S1024x1024 .f32)
    (z : S512x1024.Idx) :
    k0_pay3 (View.ld acc (Rect.unit (s := S1024x1024) ![512, 0] ![512, 1024] inb_S1024x1024_S512x1024_512_0)) x1 x2 z
      = sumB acc x0 x1 x2 ((Rect.unit (s := S1024x1024) ![512, 0] ![512, 1024] inb_S1024x1024_S512x1024_512_0).emb z) := by
  obtain ⟨a, b, rfl⟩ := exists_ix2 (n := 512) (m := 1024) z
  have h : 512 + a.val < 1024 := by have := a.isLt; omega
  rw [pay_lower]
  have e := emb_rows (n := 1024) (m := 1024) (w := 512) (o := 512) inb_S1024x1024_S512x1024_512_0 a b h
  refine Eq.trans ?_ (congrArg (sumB acc x0 x1 x2) e).symm
  show acc ((Rect.unit (s := S1024x1024) ![512, 0] ![512, 1024] inb_S1024x1024_S512x1024_512_0).emb (ix2 a b)) + _
    = acc (ix2 ⟨512 + a.val, h⟩ b) + ∑ k : Fin 1024, cat x0 x1 k ⟨512 + a.val, h⟩ * x2 (ix2 k b)
  simp only [cat_right]
  exact congrArg (fun i => acc i + _) e

/-- The two stores of a point that found `acc` in the accumulator. -/
def halves (acc : Vec Ideal S1024x1024 .f32) (x0 x1 : Vec Ideal S1024x512 .bf16) (x2 : Vec Ideal S1024x1024 .f32) :
    List (View.Piece (Elt Ideal) S1024x1024 .f32) :=
  [⟨Rect.unit (s := S1024x1024) ![512, 0] ![512, 1024] inb_S1024x1024_S512x1024_512_0,
      k0_pay3 (View.ld acc (Rect.unit (s := S1024x1024) ![512, 0] ![512, 1024] inb_S1024x1024_S512x1024_512_0)) x1 x2⟩,
    ⟨Rect.unit (s := S1024x1024) ![0, 0] ![512, 1024] inb_S1024x1024_S512x1024_0_0,
      k0_pay2 (View.ld acc (Rect.unit (s := S1024x1024) ![0, 0] ![512, 1024] inb_S1024x1024_S512x1024_0_0)) x0 x2⟩]

/-- They agree with the sum. -/
theorem halves_agree (acc : Vec Ideal S1024x1024 .f32) (x0 x1 : Vec Ideal S1024x512 .bf16) (x2 : Vec Ideal S1024x1024 .f32) :
    ∀ p ∈ halves acc x0 x1 x2, ∀ z : p.1.shape.Idx, p.2 z = sumB acc x0 x1 x2 (p.1.emb z) := by
  intro p hp
  simp only [halves, List.mem_cons, List.mem_nil_iff, or_false] at hp
  rcases hp with rfl | rfl <;> intro z
  · exact lower_eq acc x0 x1 x2 z
  · exact upper_eq acc x0 x1 x2 z

/-- They cover the accumulator. -/
theorem halves_cover (acc : Vec Ideal S1024x1024 .f32) (x0 x1 : Vec Ideal S1024x512 .bf16) (x2 : Vec Ideal S1024x1024 .f32) :
    ∀ y, ∃ p ∈ halves acc x0 x1 x2, y ∈ p.1.set := by
  intro y
  obtain ⟨a, b, rfl⟩ := exists_ix2 (n := 1024) (m := 1024) y
  by_cases h : a.val < 512
  · have h' : 0 + (⟨a.val, h⟩ : Fin 512).val < 1024 := by have := a.isLt; simp only; omega
    refine ⟨_, List.mem_cons_of_mem _ List.mem_cons_self, ?_⟩
    have e := emb_rows (n := 1024) (m := 1024) (w := 512) (o := 0) inb_S1024x1024_S512x1024_0_0 ⟨a.val, h⟩ b h'
    rw [show (ix2 a b : S1024x1024.Idx) = ix2 ⟨0 + (⟨a.val, h⟩ : Fin 512).val, h'⟩ b from
      congrArg (fun z => ix2 z b) (Fin.ext (Nat.zero_add _).symm), ← e]
    exact (Rect.unit (s := S1024x1024) ![0, 0] ![512, 1024] inb_S1024x1024_S512x1024_0_0).idx_mem (ix2 ⟨a.val, h⟩ b)
  · have h' : 512 + (⟨a.val - 512, by have := a.isLt; omega⟩ : Fin 512).val < 1024 := by have := a.isLt; simp only; omega
    refine ⟨_, List.mem_cons_self, ?_⟩
    have e := emb_rows (n := 1024) (m := 1024) (w := 512) (o := 512) inb_S1024x1024_S512x1024_512_0 ⟨a.val - 512, by have := a.isLt; omega⟩ b h'
    rw [show (ix2 a b : S1024x1024.Idx) = ix2 ⟨512 + (⟨a.val - 512, by have := a.isLt; omega⟩ : Fin 512).val, h'⟩ b from
      congrArg (fun z => ix2 z b) (Fin.ext (by show a.val = 512 + (a.val - 512); omega)), ← e]
    exact (Rect.unit (s := S1024x1024) ![512, 0] ![512, 1024] inb_S1024x1024_S512x1024_512_0).idx_mem (ix2 ⟨a.val - 512, by have := a.isLt; omega⟩ b)

/-- A load of the lower half does not see a store of the upper half. -/
theorem skip_upper {sig : RefSig} {κ : Kind} {sp : Space} (v : View sig κ sp S1024x1024 .f32) (x : Vec Ideal S512x1024 .f32)
    (M : List (View.Piece (Elt Ideal) S1024x1024 .f32)) :
    v.readCov (⟨(Rect.unit (s := S1024x1024) ![0, 0] ![512, 1024] inb_S1024x1024_S512x1024_0_0), x⟩ :: M)
        (Rect.unit (s := S1024x1024) ![512, 0] ![512, 1024] inb_S1024x1024_S512x1024_512_0).toLoadRect
      = v.readCov M (Rect.unit (s := S1024x1024) ![512, 0] ![512, 1024] inb_S1024x1024_S512x1024_512_0).toLoadRect :=
  View.readCov_cons_of_disjoint v ⟨(Rect.unit (s := S1024x1024) ![0, 0] ![512, 1024] inb_S1024x1024_S512x1024_0_0), x⟩ M
    (Rect.unit (s := S1024x1024) ![512, 0] ![512, 1024] inb_S1024x1024_S512x1024_512_0).toLoadRect
    (Rect.unit_disjoint (inb := inb_S1024x1024_S512x1024_0_0) (inb' := inb_S1024x1024_S512x1024_512_0) 0 (Or.inl (by decide)))

/-- A load of a whole square block is the block. -/
theorem ld_square {e : EltTy} (X : Vec Ideal S1024x1024 e) :
    View.ld X (Rect.unit (s := S1024x1024) ![0, 0] ![1024, 1024] inb_S1024x1024_S1024x1024_0_0) = X :=
  View.ld_unit_zero (by funext j; fin_cases j <;> rfl) _ X

/-- A load of a whole narrow block is the block. -/
theorem ld_narrow {e : EltTy} (X : Vec Ideal S1024x512 e) :
    View.ld X (Rect.unit (s := S1024x512) ![0, 0] ![1024, 512] inb_S1024x512_S1024x512_0_0) = X :=
  View.ld_unit_zero (by funext j; fin_cases j <;> rfl) _ X

/-- What the two stores leave over an older store of the whole accumulator. -/
theorem halves_front (acc : Vec Ideal S1024x1024 .f32) (x0 x1 : Vec Ideal S1024x512 .bf16) (x2 : Vec Ideal S1024x1024 .f32) (w : Vec Ideal S1024x1024 .f32) :
    View.canon (Val := Elt Ideal) (s := S1024x1024) (e := .f32)
      [⟨Rect.unit (s := S1024x1024) ![512, 0] ![512, 1024] inb_S1024x1024_S512x1024_512_0,
          k0_pay3 (View.ld acc (Rect.unit (s := S1024x1024) ![512, 0] ![512, 1024] inb_S1024x1024_S512x1024_512_0)) x1 x2⟩,
        ⟨Rect.unit (s := S1024x1024) ![0, 0] ![512, 1024] inb_S1024x1024_S512x1024_0_0,
          k0_pay2 (View.ld acc (Rect.unit (s := S1024x1024) ![0, 0] ![512, 1024] inb_S1024x1024_S512x1024_0_0)) x0 x2⟩,
        ⟨Rect.unit (s := S1024x1024) ![0, 0] ![1024, 1024] inb_S1024x1024_S1024x1024_0_0, w⟩] = sumB acc x0 x1 x2 :=
  canon_eq_of_front _ (halves acc x0 x1 x2) [⟨Rect.unit (s := S1024x1024) ![0, 0] ![1024, 1024] inb_S1024x1024_S1024x1024_0_0, w⟩]
    (halves_agree acc x0 x1 x2) (halves_cover acc x0 x1 x2)

/-- What a load of the whole accumulator reads after the two stores. -/
theorem halves_load {sig : RefSig} {κ : Kind} {sp : Space} (v : View sig κ sp S1024x1024 .f32) (acc : Vec Ideal S1024x1024 .f32) (x0 x1 : Vec Ideal S1024x512 .bf16) (x2 : Vec Ideal S1024x1024 .f32) :
    v.readCov (Val := Elt Ideal)
      [⟨Rect.unit (s := S1024x1024) ![512, 0] ![512, 1024] inb_S1024x1024_S512x1024_512_0,
          k0_pay3 (View.ld acc (Rect.unit (s := S1024x1024) ![512, 0] ![512, 1024] inb_S1024x1024_S512x1024_512_0)) x1 x2⟩,
        ⟨Rect.unit (s := S1024x1024) ![0, 0] ![512, 1024] inb_S1024x1024_S512x1024_0_0,
          k0_pay2 (View.ld acc (Rect.unit (s := S1024x1024) ![0, 0] ![512, 1024] inb_S1024x1024_S512x1024_0_0)) x0 x2⟩]
      (Rect.unit (s := S1024x1024) ![0, 0] ![1024, 1024] inb_S1024x1024_S1024x1024_0_0).toLoadRect = sumB acc x0 x1 x2 :=
  (readCov_eq_of_pieces v _ (halves acc x0 x1 x2) (halves_agree acc x0 x1 x2) (halves_cover acc x0 x1 x2) _).trans (ld_square _)

variable (c : Dev nD) (i : grid0.Coords)
  (arg2 : Memref sig .tc .vmem S1024x512 .bf16) (harg2 : arg2.IsWhole)
  (arg3 : Memref sig .tc .vmem S1024x512 .bf16) (harg3 : arg3.IsWhole)
  (arg4 : Memref sig .tc .vmem S1024x1024 .f32) (harg4 : arg4.IsWhole)
  (arg5 : Memref sig .tc .vmem S1024x1024 .f32) (harg5 : arg5.IsWhole)
  (arg6 : Memref sig .tc .vmem S1024x1024 .f32) (harg6 : arg6.IsWhole)
  (x0 x1 : Vec Ideal S1024x512 .bf16) (x2 : Vec Ideal S1024x1024 .f32)

/-- The accumulator after the first point. -/
theorem accA (hc0 : cond0_0 i) (hc1 : ¬cond0_1 i) (a b : Fin 1024) :
    sout0_A_0 c i arg2 harg2 arg3 harg3 arg4 harg4 arg5 harg5 arg6 harg6 hc0 hc1 x0 x1 x2 (ix2 a b) = prodB x0 x1 x2 a b := by
  unfold sout0_A_0
  rw [View.read_writes_junk_eq_canon]
  unfold kernelRun0_A
  dsimp only
  sl_unfold_run_names
  simp only [readAt_ld]
  rw [readCov_of_whole, skip_upper, readCov_of_whole]
  rw [ld_square, ld_narrow, ld_narrow]
  have hz : ∀ y, k0_pay1 (F := Ideal) y = 0 := pay_zero
  generalize (k0_pay1 (F := Ideal)) = z at hz ⊢
  refine (congrFun (halves_front z x0 x1 x2 z) (ix2 a b)).trans ?_
  show z (ix2 a b) + prodB x0 x1 x2 a b = _
  rw [hz, zero_add]

/-- The accumulator after a point in between. -/
theorem accB (hc0 : ¬cond0_0 i) (hc1 : ¬cond0_1 i) (acc : Vec Ideal S1024x1024 .f32) (a b : Fin 1024) :
    sout0_B_0 c i arg2 harg2 arg3 harg3 arg4 harg4 arg5 harg5 arg6 harg6 hc0 hc1 x0 x1 x2 acc (ix2 a b) = acc (ix2 a b) + prodB x0 x1 x2 a b := by
  unfold sout0_B_0
  rw [View.read_writes_junk_eq_canon]
  unfold kernelRun0_B
  dsimp only
  sl_unfold_run_names
  simp only [readAt_ld]
  rw [ld_square, ld_narrow, ld_narrow]
  exact congrFun (canon_eq_of_pieces (sumB acc x0 x1 x2) (halves acc x0 x1 x2) (halves_agree _ _ _ _) (halves_cover _ _ _ _)) (ix2 a b)

/-- The result block after the last point. -/
theorem outC (hc0 : ¬cond0_0 i) (hc1 : cond0_1 i) (acc : Vec Ideal S1024x1024 .f32) (a b : Fin 1024) :
    out0_C_3 c i arg2 harg2 arg3 harg3 arg4 harg4 arg5 harg5 arg6 harg6 hc0 hc1 x0 x1 x2 acc (ix2 a b) = acc (ix2 a b) + prodB x0 x1 x2 a b := by
  unfold out0_C_3
  rw [View.read_writes_junk_eq_canon]
  unfold kernelRun0_C
  dsimp only
  sl_unfold_run_names
  simp only [readAt_ld]
  rw [View.canon_unit_zero (by funext j; fin_cases j <;> rfl)]
  rw [ld_square, ld_narrow, ld_narrow]
  exact congrFun (halves_load arg6.view acc x0 x1 x2) (ix2 a b)

end Cert.Proof.Wout

end
-- ==== Proof.Wout.Arrays.lean ====
/-
  The gradient of the mixer's output projection's weight as a formula of the arrays at the launch: over all tokens, a block of tokens at each point.
-/
module

public import proofs.«01_k».proof.Proof.Wout.Block
public import proofs.«01_k».proof.Proof.Gen.WoutReferenceIdeal.Read
public import proofs.«01_k».proof.Proof.Gen.WoutReferenceIdeal.Run
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Cert.Proof.Wout

open Cert.WoutKernelIdeal Cert.WoutKernelIdeal.Gen Idealize.ShloMosaic Idealize.ShloMosaic.TcCoe Idealize.SL.Sem Cert.Proof.Reads

/-- What a token adds to an entry of the gradient. -/
def gradR (p q : Vec Ideal S4096x512 .bf16) (d : Vec Ideal S4096x1024 .f32) (a b : Fin 1024) (r : Fin 4096) : EReal :=
  cat p q r a * d (ix2 r b)

/-- The gradient: the two mixers' outputs side by side against the cotangent, over all tokens. -/
def gradA (p q : Vec Ideal S4096x512 .bf16) (d : Vec Ideal S4096x1024 .f32) : Vec Ideal S1024x1024 .f32 :=
  fun i => ∑ r : Fin 4096, gradR p q d (i 0) (i 1) r

variable (m : (ℓ : Loc nD τ sig) → Buf (Elt Ideal) ℓ) (ρ : Dev nD → PrngReg) (c : Dev nD)

/-- A token of point `t`'s block. -/
def row (t : Fin cfg0.N) (a : Fin 1024) : Fin 4096 := ⟨t.val * 1024 + a.val, by have := a.isLt; have := t.isLt; have : cfg0.N = 4 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])

/-- The block of the first mixer's outputs. -/
theorem blk0 (t : Fin cfg0.N) (a : Fin 1024) (b : Fin 512) : iblk m c 0 t (ix2 a b) = V m c main_v0 (ix2 (row t a) b) := by
  blk_simp [iblk]
  exact congrArg (V m c main_v0) (by blk_ext [index0, row])

/-- The block of the second mixer's outputs. -/
theorem blk1 (t : Fin cfg0.N) (a : Fin 1024) (b : Fin 512) : iblk m c 1 t (ix2 a b) = V m c main_v1 (ix2 (row t a) b) := by
  blk_simp [iblk]
  exact congrArg (V m c main_v1) (by blk_ext [index1, row])

/-- The block of the cotangent. -/
theorem blk2 (t : Fin cfg0.N) (a b : Fin 1024) : iblk m c 2 t (ix2 a b) = V m c main_arg0 (ix2 (row t a) b) := by
  blk_simp [iblk]
  exact congrArg (V m c main_arg0) (by blk_ext [index2, row])

/-- Blocks side by side are a block of the arrays side by side. -/
theorem cat_blk (t : Fin cfg0.N) (k a : Fin 1024) :
    cat (iblk m c 0 t) (iblk m c 1 t) k a = cat (V m c main_v0) (V m c main_v1) (row t k) a := by
  unfold cat
  split
  · exact blk0 m c t k _
  · exact blk1 m c t k _

/-- A point's product, of the arrays. -/
theorem prod_blk (t : Fin cfg0.N) (a b : Fin 1024) :
    prodB (iblk m c 0 t) (iblk m c 1 t) (iblk m c 2 t) a b
      = ∑ k : Fin 1024, gradR (V m c main_v0) (V m c main_v1) (V m c main_arg0) a b (row t k) := by
  unfold prodB gradR
  refine Finset.sum_congr rfl fun k _ => ?_
  rw [cat_blk, blk2]

/-- The accumulator after a point, of the accumulator before. -/
theorem acc_step (k : ℕ) (hk : k + 1 < cfg0.N) (h0 : ¬(k + 1) % 4 = 0) (h1 : ¬(k + 1) % 4 = 3) (a b : Fin 1024) :
    (outsAt0 m c (k + 1) hk).2 (ix2 a b)
      = (outsAt0 m c k (Nat.lt_of_succ_lt hk)).2 (ix2 a b) + prodB (iblk m c 0 ⟨k + 1, hk⟩) (iblk m c 1 ⟨k + 1, hk⟩) (iblk m c 2 ⟨k + 1, hk⟩) a b := by
  have hB := outsAt0_B m c ⟨k + 1, hk⟩ h0 h1
  dsimp only at hB
  rw [hB]
  dsimp only
  rw [accB]
  rfl

/-- The accumulator before the last point: the first three points' products. -/
theorem acc_last (h0 : 0 < cfg0.N) (h1 : 1 < cfg0.N) (h2 : 2 < cfg0.N) (a b : Fin 1024) :
    (outsAt0 m c 2 h2).2 (ix2 a b)
      = prodB (iblk m c 0 ⟨0, h0⟩) (iblk m c 1 ⟨0, h0⟩) (iblk m c 2 ⟨0, h0⟩) a b + prodB (iblk m c 0 ⟨1, h1⟩) (iblk m c 1 ⟨1, h1⟩) (iblk m c 2 ⟨1, h1⟩) a b
        + prodB (iblk m c 0 ⟨2, h2⟩) (iblk m c 1 ⟨2, h2⟩) (iblk m c 2 ⟨2, h2⟩) a b := by
  have s0 : (outsAt0 m c 0 h0).2 (ix2 a b) = prodB (iblk m c 0 ⟨0, h0⟩) (iblk m c 1 ⟨0, h0⟩) (iblk m c 2 ⟨0, h0⟩) a b := by
    have hA := outsAt0_A m c ⟨0, h0⟩ (show 0 % 4 = 0 by decide) (show ¬0 % 4 = 3 by decide)
    dsimp only at hA
    rw [hA]
    dsimp only
    rw [accA]
  have s1 : (outsAt0 m c 1 h1).2 (ix2 a b) = (outsAt0 m c 0 h0).2 (ix2 a b) + prodB (iblk m c 0 ⟨1, h1⟩) (iblk m c 1 ⟨1, h1⟩) (iblk m c 2 ⟨1, h1⟩) a b :=
    acc_step m c 0 h1 (by decide) (by decide) a b
  have s2 : (outsAt0 m c 2 h2).2 (ix2 a b) = (outsAt0 m c 1 h1).2 (ix2 a b) + prodB (iblk m c 0 ⟨2, h2⟩) (iblk m c 1 ⟨2, h2⟩) (iblk m c 2 ⟨2, h2⟩) a b :=
    acc_step m c 1 h2 (by decide) (by decide) a b
  rw [s2, s1, s0]

/-- The four points' products make up the sum over all tokens. -/
theorem quarters (f : Fin 4096 → EReal) (h0 : 0 < cfg0.N) (h1 : 1 < cfg0.N) (h2 : 2 < cfg0.N) (h3 : 3 < cfg0.N) :
    (∑ k : Fin 1024, f (row ⟨0, h0⟩ k)) + (∑ k : Fin 1024, f (row ⟨1, h1⟩ k)) + (∑ k : Fin 1024, f (row ⟨2, h2⟩ k))
      + (∑ k : Fin 1024, f (row ⟨3, h3⟩ k)) = ∑ r : Fin 4096, f r := by
  rw [← Fin.sum_mul_add_fin 4 1024 f, Fin.sum_univ_four]
  rfl

/-- The result array. -/
theorem array3 : (dats m 0 c).arrAt 3 cfg0.N = gradA (V m c main_v0) (V m c main_v1) (V m c main_arg0) := by
  refine (dats m 0 c).arrAt_eq_of_covers 3 _ (by decide +kernel) fun t hf y => ?_
  blk_simp
  rw [after0_3]
  obtain ⟨a, b, rfl⟩ := exists_ix2 (n := 1024) (m := 1024) y
  have hy : (ix2 a b : S1024x1024.Idx) = (win0_3.blk t).view.emb (ix2 a b) := by blk_ext [index3]
  obtain ⟨tv, htv⟩ := t
  have h1 : tv % 4 = 3 := (flush0_3 ⟨tv, htv⟩).mp hf
  have hN : cfg0.N = 4 := N_0
  have hv : tv < 4 := lt_of_lt_of_eq htv N_0
  have e : tv = 3 := by omega
  subst e
  have hC := outsAt0_C m c ⟨3, htv⟩ (show ¬3 % 4 = 0 by decide) (show 3 % 4 = 3 by decide)
  dsimp only at hC
  rw [hC]
  dsimp only
  rw [outC]
  refine Eq.trans (b := gradA (V m c main_v0) (V m c main_v1) (V m c main_arg0) (ix2 a b)) ?_ ?_
  · show (outsAt0 m c 2 _).2 (ix2 a b) + prodB _ _ _ a b = ∑ r : Fin 4096, gradR (V m c main_v0) (V m c main_v1) (V m c main_arg0) a b r
    rw [acc_last m c (lt_of_lt_of_eq (by decide : 0 < 4) hN.symm) (lt_of_lt_of_eq (by decide : 1 < 4) hN.symm) (lt_of_lt_of_eq (by decide : 2 < 4) hN.symm), prod_blk, prod_blk, prod_blk, prod_blk]
    exact quarters _ _ _ _ _
  · exact congrArg (gradA _ _ _) hy

/-- The result array as a function of the launch's arguments, and the arguments unchanged. -/
theorem run : θ_run defs (onTc (τ := τ) (main (F := Ideal))) ⟨m, fun _ => 0, ρ⟩ fun r => ∀ c : Dev nD,
      r.2.mem ((c : Thread nD τ).loc main_v2) = gradA (V m c main_v0) (V m c main_v1) (V m c main_arg0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks (F := Ideal) m ρ)
  exact ⟨(h c).1.trans (array3 m c), (h c).2⟩

/-- The casts of the mixers' outputs change nothing over the reals. -/
theorem entry_p : V m c main_v0 = m ((c : Thread nD τ).loc main_arg1) := by
  entry_read
  rfl

theorem entry_q : V m c main_v1 = m ((c : Thread nD τ).loc main_arg2) := by
  entry_read
  rfl

/-- The cotangent enters as it was launched. -/
theorem entry_d : V m c main_arg0 = m ((c : Thread nD τ).loc main_arg0) := by
  entry_read
  rfl

end Cert.Proof.Wout

end
-- ==== Proof.Wout.Claim.lean ====
/-
  The mixer's output projection's weight's gradient: the kernel's result is the reference's, over the reals, and the reference's frame.
-/
module

public import proofs.«01_k».proof.Defs
public import proofs.«01_k».proof.Proof.Wout.Arrays

@[expose] public section

set_option maxRecDepth 16384

noncomputable section

namespace Cert.Proof.Wout

open Idealize.ShloMosaic Idealize.ShloMosaic.TcCoe Idealize.SL.Sem Cert.Proof.Reads

section Ref

open Cert.WoutReferenceIdeal Cert.WoutReferenceIdeal.Gen Cert.WoutReferenceIdeal.Read

/-- The reference's two arrays set side by side, at an entry. -/
theorem side (x1 x2 : Vec Ideal S4096x512 .f32) (r : Fin 4096) (a : Fin 1024) :
    val_main_v1 (F := Ideal) x1 x2 (ix2 r a) = cat x1 x2 r a := by
  unfold val_main_v1 cat
  split
  · rename_i h
    exact concatenate_pair_apply_left (t := S4096x1024) 1 x1 x2 concatenates_S4096x512_S4096x512_S4096x1024_d1 (ix2 r a) rfl
      (ix2 r ⟨a.val, h⟩) fun b => by fin_cases b <;> rfl
  · rename_i h
    refine concatenate_pair_apply_right (t := S4096x1024) 1 x1 x2 concatenates_S4096x512_S4096x512_S4096x1024_d1 (ix2 r a) rfl rfl
      (ix2 r ⟨a.val - 512, by have := a.isLt; omega⟩) (fun b hb => ?_) (Nat.sub_add_cancel (Nat.le_of_not_lt h))
    fin_cases b
    · rfl
    · exact absurd rfl hb

/-- The reference's result at an entry: the same sum, its factors the other way round. -/
theorem ref_grad (x0 : Vec Ideal S4096x1024 .f32) (x1 x2 : Vec Ideal S4096x512 .f32) (a b : Fin 1024) :
    val_main_v4 (F := Ideal) x0 x1 x2 (ix2 a b) = gradA x1 x2 x0 (ix2 a b) := by
  rw [val_main_v4_apply, show idx_main_v4 (ix2 a b) = ix2 b a from by funext j; fin_cases j <;> rfl, val_main_v3_apply]
  refine Finset.sum_congr rfl fun k _ => ?_
  rw [show lidx_main_v3 (ix2 b a) k = ix2 k b from by funext j; fin_cases j <;> rfl,
    show ridx_main_v3 (ix2 b a) k = ix2 k a from by funext j; fin_cases j <;> rfl, side, mul_comm]
  rfl

variable (m : (ℓ : Loc nD τ sig) → Buf (Elt Ideal) ℓ) (ρ : Dev nD → PrngReg)

/-- The reference's run: its result is the kernel's array formula of the arguments. -/
theorem run_ref : θ_run defs (onTc (τ := τ) (main (F := Ideal))) ⟨m, fun _ => 0, ρ⟩ fun r => ∀ c : Dev nD,
      r.2.mem ((c.tc : Thread nD τ).loc main_v4)
        = gradA (m ((c.tc : Thread nD τ).loc main_arg1)) (m ((c.tc : Thread nD τ).loc main_arg2)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.WoutReferenceIdeal.Value.run (F := Ideal) m ρ)
  refine ⟨((h c).1.trans (val_main_v4_eq _ _ _)).trans ?_, (h c).2⟩
  funext i
  obtain ⟨a, b, rfl⟩ := exists_ix2 (n := 1024) (m := 1024) i
  exact ref_grad _ _ _ a b

end Ref

/-- The kernel's result is the reference's. -/
theorem algebraic : Cert.algebraic_WoutKernelIdeal_WoutReferenceIdeal := by
  intro m ρ m' ρ' _ hag
  refine ⟨_, run m ρ, (θ_run _ _ _).mono (fun r h c => ?_) (run_ref m' ρ')⟩
  obtain ⟨h0, h1, h2⟩ := hag c
  obtain ⟨k0, k⟩ := h c
  rw [h0, h1, h2] at k0
  refine ⟨k0.trans ?_, k⟩
  rw [entry_p, entry_q, entry_d]

/-- The reference's frame. -/
theorem frame_ref : Cert.quiescent_WoutReferenceIdeal := fun m ρ _ =>
  (θ_run Cert.WoutReferenceIdeal.defs _ _).mono (fun r h => ⟨fun c => (h c).2,
    Idealize.ShloMosaic.sem_eq_zero_of_no_sems (by decide) r.2⟩) (run_ref m ρ)

end Cert.Proof.Wout

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.MlpKernel
public import proofs.«01_k».proof.Proof.Gen.MlpKernel.Skeleton
public import proofs.«01_k».proof.Proof.Gen.MlpKernel.Launch
public import proofs.«01_k».proof.Proof.Gen.MlpKernel.Points
public import proofs.«01_k».proof.Proof.Gen.MlpKernel.Frame
public import proofs.«01_k».proof.Proof.Gen.MlpKernelIdeal
public import proofs.«01_k».proof.Proof.Gen.MlpKernelIdeal.Skeleton
public import proofs.«01_k».proof.Proof.Gen.MlpKernelIdeal.Launch
public import proofs.«01_k».proof.Proof.Gen.MlpKernelIdeal.Points
public import proofs.«01_k».proof.Proof.Gen.MlpKernelIdeal.Frame
public import proofs.«01_k».proof.Proof.Gen.MlpReferenceIdeal
public import proofs.«01_k».proof.Proof.Gen.FwdKernel
public import proofs.«01_k».proof.Proof.Gen.FwdKernel.Skeleton
public import proofs.«01_k».proof.Proof.Gen.FwdKernel.Launch
public import proofs.«01_k».proof.Proof.Gen.FwdKernel.Points
public import proofs.«01_k».proof.Proof.Gen.FwdKernel.Frame
public import proofs.«01_k».proof.Proof.Gen.FwdKernelIdeal
public import proofs.«01_k».proof.Proof.Gen.FwdKernelIdeal.Skeleton
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.FwdReferenceIdeal
public import proofs.«01_k».proof.Proof.Gen.WtwoKernel
public import proofs.«01_k».proof.Proof.Gen.WtwoKernel.Skeleton
public import proofs.«01_k».proof.Proof.Gen.WtwoKernel.Launch
public import proofs.«01_k».proof.Proof.Gen.WtwoKernel.Points
public import proofs.«01_k».proof.Proof.Gen.WtwoKernel.Frame
public import proofs.«01_k».proof.Proof.Gen.WtwoKernelIdeal
public import proofs.«01_k».proof.Proof.Gen.WtwoKernelIdeal.Skeleton
public import proofs.«01_k».proof.Proof.Gen.WtwoKernelIdeal.Launch
public import proofs.«01_k».proof.Proof.Gen.WtwoKernelIdeal.Points
public import proofs.«01_k».proof.Proof.Gen.WtwoKernelIdeal.Frame
public import proofs.«01_k».proof.Proof.Gen.WtwoReferenceIdeal
public import proofs.«01_k».proof.Proof.Gen.WoneKernel
public import proofs.«01_k».proof.Proof.Gen.WoneKernel.Skeleton
public import proofs.«01_k».proof.Proof.Gen.WoneKernel.Launch
public import proofs.«01_k».proof.Proof.Gen.WoneKernel.Points
public import proofs.«01_k».proof.Proof.Gen.WoneKernel.Frame
public import proofs.«01_k».proof.Proof.Gen.WoneKernelIdeal
public import proofs.«01_k».proof.Proof.Gen.WoneKernelIdeal.Skeleton
public import proofs.«01_k».proof.Proof.Gen.WoneKernelIdeal.Launch
public import proofs.«01_k».proof.Proof.Gen.WoneKernelIdeal.Points
public import proofs.«01_k».proof.Proof.Gen.WoneKernelIdeal.Frame
public import proofs.«01_k».proof.Proof.Gen.WoneReferenceIdeal
public import proofs.«01_k».proof.Proof.Gen.WcqKernel
public import proofs.«01_k».proof.Proof.Gen.WcqKernel.Skeleton
public import proofs.«01_k».proof.Proof.Gen.WcqKernel.Launch
public import proofs.«01_k».proof.Proof.Gen.WcqKernel.Points
public import proofs.«01_k».proof.Proof.Gen.WcqKernel.Frame
public import proofs.«01_k».proof.Proof.Gen.WcqKernelIdeal
public import proofs.«01_k».proof.Proof.Gen.WcqKernelIdeal.Skeleton
public import proofs.«01_k».proof.Proof.Gen.WcqKernelIdeal.Launch
public import proofs.«01_k».proof.Proof.Gen.WcqKernelIdeal.Points
public import proofs.«01_k».proof.Proof.Gen.WcqKernelIdeal.Frame
public import proofs.«01_k».proof.Proof.Gen.WcqReferenceIdeal
public import proofs.«01_k».proof.Proof.Gen.WcoKernel
public import proofs.«01_k».proof.Proof.Gen.WcoKernel.Skeleton
public import proofs.«01_k».proof.Proof.Gen.WcoKernel.Launch
public import proofs.«01_k».proof.Proof.Gen.WcoKernel.Points
public import proofs.«01_k».proof.Proof.Gen.WcoKernel.Frame
public import proofs.«01_k».proof.Proof.Gen.WcoKernelIdeal
public import proofs.«01_k».proof.Proof.Gen.WcoKernelIdeal.Skeleton
public import proofs.«01_k».proof.Proof.Gen.WcoKernelIdeal.Launch
public import proofs.«01_k».proof.Proof.Gen.WcoKernelIdeal.Points
public import proofs.«01_k».proof.Proof.Gen.WcoKernelIdeal.Frame
public import proofs.«01_k».proof.Proof.Gen.WcoReferenceIdeal
public import proofs.«01_k».proof.Proof.Gen.WckvKernel
public import proofs.«01_k».proof.Proof.Gen.WckvKernel.Skeleton
public import proofs.«01_k».proof.Proof.Gen.WckvKernel.Launch
public import proofs.«01_k».proof.Proof.Gen.WckvKernel.Points
public import proofs.«01_k».proof.Proof.Gen.WckvKernel.Frame
public import proofs.«01_k».proof.Proof.Gen.WckvKernelIdeal
public import proofs.«01_k».proof.Proof.Gen.WckvKernelIdeal.Skeleton
public import proofs.«01_k».proof.Proof.Gen.WckvKernelIdeal.Launch
public import proofs.«01_k».proof.Proof.Gen.WckvKernelIdeal.Points
public import proofs.«01_k».proof.Proof.Gen.WckvKernelIdeal.Frame
public import proofs.«01_k».proof.Proof.Gen.WckvReferenceIdeal
public import proofs.«01_k».proof.Proof.Gen.MemKernel
public import proofs.«01_k».proof.Proof.Gen.MemKernel.Skeleton
public import proofs.«01_k».proof.Proof.Gen.MemKernel.Launch
public import proofs.«01_k».proof.Proof.Gen.MemKernel.Points
public import proofs.«01_k».proof.Proof.Gen.MemKernel.Frame
public import proofs.«01_k».proof.Proof.Gen.MemKernelIdeal
public import proofs.«01_k».proof.Proof.Gen.MemKernelIdeal.Skeleton
public import proofs.«01_k».proof.Proof.Gen.MemKernelIdeal.Launch
public import proofs.«01_k».proof.Proof.Gen.MemKernelIdeal.Points
public import proofs.«01_k».proof.Proof.Gen.MemKernelIdeal.Frame
public import proofs.«01_k».proof.Proof.Gen.MemReferenceIdeal
public import proofs.«01_k».proof.Proof.Gen.WoutKernel
public import proofs.«01_k».proof.Proof.Gen.WoutKernel.Skeleton
public import proofs.«01_k».proof.Proof.Gen.WoutKernel.Launch
public import proofs.«01_k».proof.Proof.Gen.WoutKernel.Points
public import proofs.«01_k».proof.Proof.Gen.WoutKernel.Frame
public import proofs.«01_k».proof.Proof.Gen.WoutKernelIdeal
public import proofs.«01_k».proof.Proof.Gen.WoutKernelIdeal.Skeleton
public import proofs.«01_k».proof.Proof.Gen.WoutKernelIdeal.Launch
public import proofs.«01_k».proof.Proof.Gen.WoutKernelIdeal.Points
public import proofs.«01_k».proof.Proof.Gen.WoutKernelIdeal.Frame
public import proofs.«01_k».proof.Proof.Gen.WoutReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MlpKernelIdeal.Value
public import proofs.«01_k».proof.Proof.Gen.MlpReferenceIdeal.Run
public import proofs.«01_k».proof.Proof.Gen.MlpReferenceIdeal.Read
public import proofs.«01_k».proof.Proof.Gen.FwdKernelIdeal.Value
public import proofs.«01_k».proof.Proof.Gen.FwdReferenceIdeal.Run
public import proofs.«01_k».proof.Proof.Gen.FwdReferenceIdeal.Read
public import proofs.«01_k».proof.Proof.Gen.WtwoKernelIdeal.Value
public import proofs.«01_k».proof.Proof.Gen.WtwoReferenceIdeal.Run
public import proofs.«01_k».proof.Proof.Gen.WtwoReferenceIdeal.Read
public import proofs.«01_k».proof.Proof.Gen.WoneKernelIdeal.Value
public import proofs.«01_k».proof.Proof.Gen.WoneReferenceIdeal.Run
public import proofs.«01_k».proof.Proof.Gen.WoneReferenceIdeal.Read
public import proofs.«01_k».proof.Proof.Gen.WcqKernelIdeal.Value
public import proofs.«01_k».proof.Proof.Gen.WcqReferenceIdeal.Run
public import proofs.«01_k».proof.Proof.Gen.WcqReferenceIdeal.Read
public import proofs.«01_k».proof.Proof.Gen.WcoKernelIdeal.Value
public import proofs.«01_k».proof.Proof.Gen.WcoReferenceIdeal.Run
public import proofs.«01_k».proof.Proof.Gen.WcoReferenceIdeal.Read
public import proofs.«01_k».proof.Proof.Gen.WckvKernelIdeal.Value
public import proofs.«01_k».proof.Proof.Gen.WckvReferenceIdeal.Run
public import proofs.«01_k».proof.Proof.Gen.WckvReferenceIdeal.Read
public import proofs.«01_k».proof.Proof.Gen.MemKernelIdeal.Value
public import proofs.«01_k».proof.Proof.Gen.MemReferenceIdeal.Run
public import proofs.«01_k».proof.Proof.Gen.MemReferenceIdeal.Read
public import proofs.«01_k».proof.Proof.Gen.WoutKernelIdeal.Value
public import proofs.«01_k».proof.Proof.Gen.WoutReferenceIdeal.Run
public import proofs.«01_k».proof.Proof.Gen.WoutReferenceIdeal.Read
public import proofs.«01_k».proof.Proof.Xattn.Frame
public import proofs.«01_k».proof.Proof.Xattn.Claim
public import proofs.«01_k».proof.Proof.Mlp.Claim
public import proofs.«01_k».proof.Proof.Fwd.Claim
public import proofs.«01_k».proof.Proof.Wtwo.Claim
public import proofs.«01_k».proof.Proof.Wone.Claim
public import proofs.«01_k».proof.Proof.Wcq.Claim
public import proofs.«01_k».proof.Proof.Wco.Claim
public import proofs.«01_k».proof.Proof.Wckv.Claim
public import proofs.«01_k».proof.Proof.Mem.Claim
public import proofs.«01_k».proof.Proof.Wout.Claim
public import Idealize.ShloMosaic.Adequacy
public import Idealize.ShloMosaic.Init

@[expose] public section

noncomputable section

namespace Cert.Proof

open Idealize.ShloMosaic Idealize.SL.Sem

theorem claim : Cert.Claim := ⟨
  Cert.Kernel.Gen.facts, Cert.KernelIdeal.Gen.facts, Cert.ReferenceIdeal.Gen.facts, Cert.MlpKernel.Gen.facts,
  Cert.MlpKernelIdeal.Gen.facts, Cert.MlpReferenceIdeal.Gen.facts, Cert.FwdKernel.Gen.facts,
  Cert.FwdKernelIdeal.Gen.facts, Cert.FwdReferenceIdeal.Gen.facts, Cert.WtwoKernel.Gen.facts,
  Cert.WtwoKernelIdeal.Gen.facts, Cert.WtwoReferenceIdeal.Gen.facts, Cert.WoneKernel.Gen.facts,
  Cert.WoneKernelIdeal.Gen.facts, Cert.WoneReferenceIdeal.Gen.facts, Cert.WcqKernel.Gen.facts,
  Cert.WcqKernelIdeal.Gen.facts, Cert.WcqReferenceIdeal.Gen.facts, Cert.WcoKernel.Gen.facts,
  Cert.WcoKernelIdeal.Gen.facts, Cert.WcoReferenceIdeal.Gen.facts, Cert.WckvKernel.Gen.facts,
  Cert.WckvKernelIdeal.Gen.facts, Cert.WckvReferenceIdeal.Gen.facts, Cert.MemKernel.Gen.facts,
  Cert.MemKernelIdeal.Gen.facts, Cert.MemReferenceIdeal.Gen.facts, Cert.WoutKernel.Gen.facts,
  Cert.WoutKernelIdeal.Gen.facts, Cert.WoutReferenceIdeal.Gen.facts, Xattn.facts_pre,
  fun m ρ _ => Cert.Kernel.Gen.frame m ρ, fun m ρ _ => Cert.KernelIdeal.Gen.frame m ρ,
  fun m ρ _ => Cert.KernelIdeal.Gen.frame m ρ, Xattn.frame_ref, fun m ρ _ => Xattn.frame_ref m ρ trivial,
  fun m ρ _ => Cert.MlpKernel.Gen.frame m ρ, fun m ρ _ => Cert.MlpKernelIdeal.Gen.frame m ρ, Mlp.frame_ref,
  fun m ρ _ => Cert.FwdKernel.Gen.frame m ρ, fun m ρ _ => Cert.FwdKernelIdeal.Gen.frame m ρ, Fwd.frame_ref,
  fun m ρ _ => Cert.WtwoKernel.Gen.frame m ρ, fun m ρ _ => Cert.WtwoKernelIdeal.Gen.frame m ρ, Wtwo.frame_ref,
  fun m ρ _ => Cert.WoneKernel.Gen.frame m ρ, fun m ρ _ => Cert.WoneKernelIdeal.Gen.frame m ρ, Wone.frame_ref,
  fun m ρ _ => Cert.WcqKernel.Gen.frame m ρ, fun m ρ _ => Cert.WcqKernelIdeal.Gen.frame m ρ, Wcq.frame_ref,
  fun m ρ _ => Cert.WcoKernel.Gen.frame m ρ, fun m ρ _ => Cert.WcoKernelIdeal.Gen.frame m ρ, Wco.frame_ref,
  fun m ρ _ => Cert.WckvKernel.Gen.frame m ρ, fun m ρ _ => Cert.WckvKernelIdeal.Gen.frame m ρ, Wckv.frame_ref,
  fun m ρ _ => Cert.MemKernel.Gen.frame m ρ, fun m ρ _ => Cert.MemKernelIdeal.Gen.frame m ρ, Mem.frame_ref,
  fun m ρ _ => Cert.WoutKernel.Gen.frame m ρ, fun m ρ _ => Cert.WoutKernelIdeal.Gen.frame m ρ, Wout.frame_ref,
  trivial, Xattn.algebraic, trivial, Mlp.algebraic, trivial, Fwd.algebraic, trivial, Wtwo.algebraic, trivial,
  Wone.algebraic, trivial, Wcq.algebraic, trivial, Wco.algebraic, trivial, Wckv.algebraic, trivial, Mem.algebraic,
  trivial, Wout.algebraic⟩

end Cert.Proof

end
